-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S6x8192 : Shape := ⟨2, ![6, 8192]⟩
abbrev S6 : Shape := ⟨1, ![6]⟩
abbrev S8192x32000 : Shape := ⟨2, ![8192, 32000]⟩
abbrev S64x32000 : Shape := ⟨2, ![64, 32000]⟩
abbrev S6x4096 : Shape := ⟨2, ![6, 4096]⟩
abbrev S6x4 : Shape := ⟨2, ![6, 4]⟩
abbrev S_ : Shape := ⟨0, ![]⟩

class Facts : Prop where
  bcast_S_S6x4 : S_.BroadcastsInDim S6x4 (![] : Fin 0 → Fin S6x4.rank)

variable [Facts]

def fn {F : FTy → Type} [FloatOps F] (main_arg0 : FVec F S6x8192 .fp8e4m3) (main_arg1 : FVec F S6 .f32) (main_arg2 : FVec F S8192x32000 .fp8e4m3) (main_arg3 : FVec F S64x32000 .f32) (main_arg4 : IVec S6x4096 32) (main_arg5 : IVec S6 32) (main_arg6 : FVec F S6 .f32) (main_arg7 : FVec F S6 .f32) (main_arg8 : FVec F S6 .f32) (main_arg9 : IVec S6x4 32) : IVec S6x4 1 :=
  let main_c : IVec S_ 32 := constantI S_ 32 0#32
  let main_v0 : IVec S6x4 32 := broadcastInDim S6x4 ![] bcast_S_S6x4 main_c
  let main_v1 : IVec S6x4 1 := cmpi .sge main_arg9 main_v0
  let main_c_0 : IVec S_ 32 := constantI S_ 32 32000#32
  let main_v2 : IVec S6x4 32 := broadcastInDim S6x4 ![] bcast_S_S6x4 main_c_0
  let main_v3 : IVec S6x4 1 := cmpi .slt main_arg9 main_v2
  let main_v4 : IVec S6x4 1 := andi main_v1 main_v3
  main_v4
-- ==== Kernel.lean ====
abbrev S6x8192 : Shape := ⟨2, ![6, 8192]⟩
abbrev S6 : Shape := ⟨1, ![6]⟩
abbrev S8192x32000 : Shape := ⟨2, ![8192, 32000]⟩
abbrev S64x32000 : Shape := ⟨2, ![64, 32000]⟩
abbrev S6x4096 : Shape := ⟨2, ![6, 4096]⟩
abbrev S6x4 : Shape := ⟨2, ![6, 4]⟩
abbrev S4x6 : Shape := ⟨2, ![4, 6]⟩
abbrev S6x32000 : Shape := ⟨2, ![6, 32000]⟩
abbrev S16x2048x1280 : Shape := ⟨3, ![16, 2048, 1280]⟩
abbrev S4x64x1280 : Shape := ⟨3, ![4, 64, 1280]⟩
abbrev S16x8192 : Shape := ⟨2, ![16, 8192]⟩
abbrev S2048x128 : Shape := ⟨2, ![2048, 128]⟩
abbrev S16 : Shape := ⟨1, ![16]⟩
abbrev S4 : Shape := ⟨1, ![4]⟩
abbrev S2 : Shape := ⟨1, ![2]⟩
abbrev S3 : Shape := ⟨1, ![3]⟩
abbrev S1 : Shape := ⟨1, ![1]⟩
abbrev S_ : Shape := ⟨0, ![]⟩
abbrev S1x64x1280 : Shape := ⟨3, ![1, 64, 1280]⟩
abbrev S64x1280 : Shape := ⟨2, ![64, 1280]⟩
abbrev S1x2048x1280 : Shape := ⟨3, ![1, 2048, 1280]⟩
abbrev S2048x1280 : Shape := ⟨2, ![2048, 1280]⟩
abbrev S8x128 : Shape := ⟨2, ![8, 128]⟩
abbrev S2x128 : Shape := ⟨2, ![2, 128]⟩
abbrev S6x128 : Shape := ⟨2, ![6, 128]⟩
abbrev S16x128 : Shape := ⟨2, ![16, 128]⟩
abbrev S256x512 : Shape := ⟨2, ![256, 512]⟩
abbrev S128x512 : Shape := ⟨2, ![128, 512]⟩
abbrev S1x512 : Shape := ⟨2, ![1, 512]⟩
abbrev S256x128 : Shape := ⟨2, ![256, 128]⟩
abbrev S8x1280 : Shape := ⟨2, ![8, 1280]⟩
abbrev S6x1280 : Shape := ⟨2, ![6, 1280]⟩
abbrev S16x256 : Shape := ⟨2, ![16, 256]⟩
abbrev S1x256x1280 : Shape := ⟨3, ![1, 256, 1280]⟩
abbrev S256x1280 : Shape := ⟨2, ![256, 1280]⟩
abbrev S16x1280 : Shape := ⟨2, ![16, 1280]⟩
abbrev S1x1x1280 : Shape := ⟨3, ![1, 1, 1280]⟩
abbrev S1x1280 : Shape := ⟨2, ![1, 1280]⟩
abbrev S8 : Shape := ⟨1, ![8]⟩
abbrev S8x1 : Shape := ⟨2, ![8, 1]⟩
abbrev S8x6 : Shape := ⟨2, ![8, 6]⟩
abbrev S1x6 : Shape := ⟨2, ![1, 6]⟩
abbrev S1x1 : Shape := ⟨2, ![1, 1]⟩
abbrev S6x1 : Shape := ⟨2, ![6, 1]⟩
abbrev S6x6 : Shape := ⟨2, ![6, 6]⟩

abbrev nBuf : Space → Nat
  | .hbm => 15
  | .vmem => 9
  | .smem => 6
  | _ => 0

abbrev bufTy : (tb : Table) → Fin (tcTables nBuf tb) → BufTy
  | .hbm, ⟨0, _⟩ => ⟨S6x8192, .fp8e4m3⟩
  | .hbm, ⟨1, _⟩ => ⟨S6, .f32⟩
  | .hbm, ⟨2, _⟩ => ⟨S8192x32000, .fp8e4m3⟩
  | .hbm, ⟨3, _⟩ => ⟨S64x32000, .f32⟩
  | .hbm, ⟨4, _⟩ => ⟨S6x4096, .i32⟩
  | .hbm, ⟨5, _⟩ => ⟨S6, .i32⟩
  | .hbm, ⟨6, _⟩ => ⟨S6, .f32⟩
  | .hbm, ⟨7, _⟩ => ⟨S6, .f32⟩
  | .hbm, ⟨8, _⟩ => ⟨S6, .f32⟩
  | .hbm, ⟨9, _⟩ => ⟨S6x4, .i32⟩
  | .hbm, ⟨10, _⟩ => ⟨S4x6, .i32⟩
  | .hbm, ⟨11, _⟩ => ⟨S6, .f32⟩
  | .hbm, ⟨12, _⟩ => ⟨S4x6, .f32⟩
  | .hbm, ⟨13, _⟩ => ⟨S6x32000, .f32⟩
  | .hbm, ⟨14, _⟩ => ⟨S6x4, .f32⟩
  | .local _ .vmem, ⟨0, _⟩ => ⟨S16x2048x1280, .fp8e4m3⟩
  | .local _ .vmem, ⟨1, _⟩ => ⟨S4x64x1280, .f32⟩
  | .local _ .vmem, ⟨2, _⟩ => ⟨S16x8192, .bf16⟩
  | .local _ .vmem, ⟨3, _⟩ => ⟨S6x8192, .fp8e4m3⟩
  | .local _ .vmem, ⟨4, _⟩ => ⟨S6x4096, .i32⟩
  | .local _ .vmem, ⟨5, _⟩ => ⟨S2048x128, .f32⟩
  | .local _ .vmem, ⟨6, _⟩ => ⟨S6x32000, .f32⟩
  | .local _ .vmem, ⟨7, _⟩ => ⟨S4x6, .f32⟩
  | .local _ .vmem, ⟨8, _⟩ => ⟨S6, .f32⟩
  | .local _ .smem, ⟨0, _⟩ => ⟨S6, .f32⟩
  | .local _ .smem, ⟨1, _⟩ => ⟨S6, .i32⟩
  | .local _ .smem, ⟨2, _⟩ => ⟨S6, .f32⟩
  | .local _ .smem, ⟨3, _⟩ => ⟨S6, .f32⟩
  | .local _ .smem, ⟨4, _⟩ => ⟨S6, .f32⟩
  | .local _ .smem, ⟨5, _⟩ => ⟨S4x6, .i32⟩
  | _, _ => ⟨S6x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.smem, 0, rfl⟩
abbrev cc0_scratch10 : Ref sig .tc := ⟨.smem, 1, rfl⟩
abbrev cc0_scratch11 : Ref sig .tc := ⟨.smem, 2, rfl⟩
abbrev cc0_scratch12 : Ref sig .tc := ⟨.smem, 3, rfl⟩
abbrev cc0_scratch13 : Ref sig .tc := ⟨.smem, 4, rfl⟩
abbrev cc0_scratch14 : Ref sig .tc := ⟨.smem, 5, rfl⟩

abbrev nD : Nat := 1
abbrev τ : Topo := Topo.v7x

variable {F : FTy → Type} [FloatOps F]

abbrev grid0 : Pipeline.Grid := .none

def k0_off1 (c0_i32_2 : BitVec 32) : Fin 1 → Nat :=
  let c4_i32_3 : BitVec 32 := 4#32
  let v16 : BitVec 32 := Scalar.remsi c0_i32_2 c4_i32_3
  ![v16.toNat]
def k0_off2 (c0_i32_2 : BitVec 32) : Fin 3 → Nat :=
  let c4_i32_3 : BitVec 32 := 4#32
  let v16 : BitVec 32 := Scalar.remsi c0_i32_2 c4_i32_3
  let c0_i32_4 : BitVec 32 := 0#32
  let c0_i32_5 : BitVec 32 := 0#32
  ![v16.toNat, 0, 0]
def k0_off3 (c0_i32_8 : BitVec 32) (c0_i32_11 : BitVec 32) : Fin 1 → Nat :=
  let c4_i32_9 : BitVec 32 := 4#32
  let v22 : BitVec 32 := Scalar.remsi c0_i32_8 c4_i32_9
  let c4_i32_10 : BitVec 32 := 4#32
  let v23 : BitVec 32 := Scalar.muli v22 c4_i32_10
  let v24 : BitVec 32 := Scalar.addi v23 c0_i32_11
  ![v24.toNat]
def k0_off4 (c0_i32_8 : BitVec 32) (c0_i32_11 : BitVec 32) : Fin 3 → Nat :=
  let c4_i32_9 : BitVec 32 := 4#32
  let v22 : BitVec 32 := Scalar.remsi c0_i32_8 c4_i32_9
  let c4_i32_10 : BitVec 32 := 4#32
  let v23 : BitVec 32 := Scalar.muli v22 c4_i32_10
  let v24 : BitVec 32 := Scalar.addi v23 c0_i32_11
  let c0_i32_12 : BitVec 32 := 0#32
  let c0_i32_13 : BitVec 32 := 0#32
  ![v24.toNat, 0, 0]
@[reducible] def k0_t1_loop : Scf.Loop 32 :=
  let c0_i32_352 : BitVec 32 := 0#32
  let c8_i32 : BitVec 32 := 8#32
  let v706 : BitVec 32 := Scalar.addi c0_i32_352 c8_i32
  let c1_i32_353 : BitVec 32 := 1#32
  ⟨c0_i32_352, v706, c1_i32_353⟩
def k0_mult1 (k0_t1 : Fin k0_t1_loop.trips) : BitVec 32 :=
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  v1365
def k0_off5 (k0_t1 : Fin k0_t1_loop.trips) : Fin 2 → Nat :=
  let c0_668 : Index := 0#32
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  let v1369 : BitVec 32 := v1365
  let v1370 : Index := Scalar.indexCast v1369
  ![0, v1370.toNat]
def k0_mult2 (k0_t1 : Fin k0_t1_loop.trips) : BitVec 32 :=
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  v1365
def k0_off6 (k0_t1 : Fin k0_t1_loop.trips) : Fin 2 → Nat :=
  let c1_675 : Index := 1#32
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  let v1397 : BitVec 32 := v1365
  let v1398 : Index := Scalar.indexCast v1397
  ![1, v1398.toNat]
def k0_mult3 (k0_t1 : Fin k0_t1_loop.trips) : BitVec 32 :=
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  v1365
def k0_off7 (k0_t1 : Fin k0_t1_loop.trips) : Fin 2 → Nat :=
  let c2_685 : Index := 2#32
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  let v1425 : BitVec 32 := v1365
  let v1426 : Index := Scalar.indexCast v1425
  ![2, v1426.toNat]
def k0_mult4 (k0_t1 : Fin k0_t1_loop.trips) : BitVec 32 :=
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  v1365
def k0_off8 (k0_t1 : Fin k0_t1_loop.trips) : Fin 2 → Nat :=
  let c3_695 : Index := 3#32
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  let v1453 : BitVec 32 := v1365
  let v1454 : Index := Scalar.indexCast v1453
  ![3, v1454.toNat]
def k0_mult5 (k0_t1 : Fin k0_t1_loop.trips) : BitVec 32 :=
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  v1365
def k0_off9 (k0_t1 : Fin k0_t1_loop.trips) : Fin 2 → Nat :=
  let c4_705 : Index := 4#32
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  let v1481 : BitVec 32 := v1365
  let v1482 : Index := Scalar.indexCast v1481
  ![4, v1482.toNat]
def k0_mult6 (k0_t1 : Fin k0_t1_loop.trips) : BitVec 32 :=
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  v1365
def k0_off10 (k0_t1 : Fin k0_t1_loop.trips) : Fin 2 → Nat :=
  let c5_715 : Index := 5#32
  let c0_i32_352 : BitVec 32 := 0#32
  let c1_i32_353 : BitVec 32 := 1#32
  let arg33 : BitVec 32 := Scf.iv c0_i32_352 c1_i32_353 k0_t1
  let c512_i32 : BitVec 32 := 512#32
  let v1365 : BitVec 32 := Scalar.muli arg33 c512_i32
  let v1509 : BitVec 32 := v1365
  let v1510 : Index := Scalar.indexCast v1509
  ![5, v1510.toNat]
@[reducible] def k0_t2_loop : Scf.Loop 32 :=
  let c0_i32_404 : BitVec 32 := 0#32
  let c25_i32 : BitVec 32 := 25#32
  let v833 : BitVec 32 := Scalar.addi c0_i32_404 c25_i32
  let c1_i32_405 : BitVec 32 := 1#32
  ⟨c0_i32_404, v833, c1_i32_405⟩
def k0_off11 (k0_t2 : Fin k0_t2_loop.trips) : Fin 1 → Nat :=
  let c0_i32_404 : BitVec 32 := 0#32
  let c1_i32_405 : BitVec 32 := 1#32
  let arg33 : BitVec 32 := Scf.iv c0_i32_404 c1_i32_405 k0_t2
  let c4_i32_671 : BitVec 32 := 4#32
  let v1368 : BitVec 32 := Scalar.remsi arg33 c4_i32_671
  ![v1368.toNat]
def k0_off12 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_671 : BitVec 32 := 4#32
  let v1368 : BitVec 32 := Scalar.remsi arg33 c4_i32_671
  let c0_i32_673 : BitVec 32 := 0#32
  let c0_i32_674 : BitVec 32 := 0#32
  ![v1368.toNat, 0, 0]
def k0_off13 (k0_t2 : Fin k0_t2_loop.trips) : Fin 2 → Nat :=
  let c0_i32_675 : BitVec 32 := 0#32
  let c0_i32_404 : BitVec 32 := 0#32
  let c1_i32_405 : BitVec 32 := 1#32
  let arg33 : BitVec 32 := Scf.iv c0_i32_404 c1_i32_405 k0_t2
  let c1280_i32_672 : BitVec 32 := 1280#32
  let v1369 : BitVec 32 := Scalar.muli arg33 c1280_i32_672
  ![0, v1369.toNat]
def k0_off14 (k0_t2 : Fin k0_t2_loop.trips) (c0_i32_678 : BitVec 32) : Fin 1 → Nat :=
  let c0_i32_404 : BitVec 32 := 0#32
  let c1_i32_405 : BitVec 32 := 1#32
  let arg33 : BitVec 32 := Scf.iv c0_i32_404 c1_i32_405 k0_t2
  let c4_i32_676 : BitVec 32 := 4#32
  let v1375 : BitVec 32 := Scalar.remsi arg33 c4_i32_676
  let c4_i32_677 : BitVec 32 := 4#32
  let v1376 : BitVec 32 := Scalar.muli v1375 c4_i32_677
  let v1377 : BitVec 32 := Scalar.addi v1376 c0_i32_678
  ![v1377.toNat]
def k0_off15 (k0_t2 : Fin k0_t2_loop.trips) (c0_i32_678 : BitVec 32) : Fin 3 → Nat :=
  let c0_i32_404 : BitVec 32 := 0#32
  let c1_i32_405 : BitVec 32 := 1#32
  let arg33 : BitVec 32 := Scf.iv c0_i32_404 c1_i32_405 k0_t2
  let c4_i32_676 : BitVec 32 := 4#32
  let v1375 : BitVec 32 := Scalar.remsi arg33 c4_i32_676
  let c4_i32_677 : BitVec 32 := 4#32
  let v1376 : BitVec 32 := Scalar.muli v1375 c4_i32_677
  let v1377 : BitVec 32 := Scalar.addi v1376 c0_i32_678
  let c0_i32_680 : BitVec 32 := 0#32
  let c0_i32_681 : BitVec 32 := 0#32
  ![v1377.toNat, 0, 0]
def k0_off16 (k0_t2 : Fin k0_t2_loop.trips) : Fin 2 → Nat :=
  let c0_i32_682 : BitVec 32 := 0#32
  let c0_i32_404 : BitVec 32 := 0#32
  let c1_i32_405 : BitVec 32 := 1#32
  let arg33 : BitVec 32 := Scf.iv c0_i32_404 c1_i32_405 k0_t2
  let c1280_i32_679 : BitVec 32 := 1280#32
  let v1378 : BitVec 32 := Scalar.muli arg33 c1280_i32_679
  ![0, v1378.toNat]
def k0_cond1 (k0_t2 : Fin k0_t2_loop.trips) : BitVec 1 :=
  let c0_i32_404 : BitVec 32 := 0#32
  let c1_i32_405 : BitVec 32 := 1#32
  let arg33 : BitVec 32 := Scf.iv c0_i32_404 c1_i32_405 k0_t2
  let c1_i32_683 : BitVec 32 := 1#32
  let v1384 : BitVec 1 := Scalar.cmpi .sge arg33 c1_i32_683
  let c1_i32_684 : BitVec 32 := 1#32
  let v1385 : BitVec 32 := Scalar.subi arg33 c1_i32_684
  let c4_i32_685 : BitVec 32 := 4#32
  let v1386 : BitVec 32 := Scalar.addi v1385 c4_i32_685
  let c25_i32_686 : BitVec 32 := 25#32
  let v1387 : BitVec 1 := Scalar.cmpi .slt v1386 c25_i32_686
  let v1388 : BitVec 1 := Scalar.andi v1384 v1387
  let v1389 : BitVec 32 := Scalar.extui v1388
  let c0_i32_687 : BitVec 32 := 0#32
  let v1390 : BitVec 1 := Scalar.cmpi .ne v1389 c0_i32_687
  v1390

def k0_off17 (k0_t2 : Fin k0_t2_loop.trips) : Fin 1 → Nat :=
  let c0_i32_404 : BitVec 32 := 0#32
  let c1_i32_405 : BitVec 32 := 1#32
  let arg33 : BitVec 32 := Scf.iv c0_i32_404 c1_i32_405 k0_t2
  let c1_i32_1035 : BitVec 32 := 1#32
  let v2353 : BitVec 32 := Scalar.subi arg33 c1_i32_1035
  let c4_i32_1036 : BitVec 32 := 4#32
  let v2354 : BitVec 32 := Scalar.addi v2353 c4_i32_1036
  let c4_i32_1037 : BitVec 32 := 4#32
  let v2355 : BitVec 32 := Scalar.remsi v2354 c4_i32_1037
  ![v2355.toNat]
def k0_off18 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c1_i32_1035 : BitVec 32 := 1#32
  let v2353 : BitVec 32 := Scalar.subi arg33 c1_i32_1035
  let c4_i32_1036 : BitVec 32 := 4#32
  let v2354 : BitVec 32 := Scalar.addi v2353 c4_i32_1036
  let c4_i32_1037 : BitVec 32 := 4#32
  let v2355 : BitVec 32 := Scalar.remsi v2354 c4_i32_1037
  let c0_i32_1039 : BitVec 32 := 0#32
  let c0_i32_1040 : BitVec 32 := 0#32
  ![v2355.toNat, 0, 0]
def k0_off19 (k0_t2 : Fin k0_t2_loop.trips) : Fin 2 → Nat :=
  let c0_i32_1041 : BitVec 32 := 0#32
  let c0_i32_404 : BitVec 32 := 0#32
  let c1_i32_405 : BitVec 32 := 1#32
  let arg33 : BitVec 32 := Scf.iv c0_i32_404 c1_i32_405 k0_t2
  let c1_i32_1035 : BitVec 32 := 1#32
  let v2353 : BitVec 32 := Scalar.subi arg33 c1_i32_1035
  let c4_i32_1036 : BitVec 32 := 4#32
  let v2354 : BitVec 32 := Scalar.addi v2353 c4_i32_1036
  let c1280_i32_1038 : BitVec 32 := 1280#32
  let v2356 : BitVec 32 := Scalar.muli v2354 c1280_i32_1038
  ![0, v2356.toNat]
def k0_off20 (k0_t2 : Fin k0_t2_loop.trips) : Fin 1 → Nat :=
  let c0_i32_404 : BitVec 32 := 0#32
  let c1_i32_405 : BitVec 32 := 1#32
  let arg33 : BitVec 32 := Scf.iv c0_i32_404 c1_i32_405 k0_t2
  let c1_i32_1042 : BitVec 32 := 1#32
  let v2362 : BitVec 32 := Scalar.subi arg33 c1_i32_1042
  let c4_i32_1043 : BitVec 32 := 4#32
  let v2363 : BitVec 32 := Scalar.addi v2362 c4_i32_1043
  let c4_i32_1044 : BitVec 32 := 4#32
  let v2364 : BitVec 32 := Scalar.remsi v2363 c4_i32_1044
  let c4_i32_1045 : BitVec 32 := 4#32
  let v2365 : BitVec 32 := Scalar.muli v2364 c4_i32_1045
  let c3_i32_1046 : BitVec 32 := 3#32
  let v2366 : BitVec 32 := Scalar.addi v2365 c3_i32_1046
  ![v2366.toNat]
def k0_off21 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c1_i32_1042 : BitVec 32 := 1#32
  let v2362 : BitVec 32 := Scalar.subi arg33 c1_i32_1042
  let c4_i32_1043 : BitVec 32 := 4#32
  let v2363 : BitVec 32 := Scalar.addi v2362 c4_i32_1043
  let c4_i32_1044 : BitVec 32 := 4#32
  let v2364 : BitVec 32 := Scalar.remsi v2363 c4_i32_1044
  let c4_i32_1045 : BitVec 32 := 4#32
  let v2365 : BitVec 32 := Scalar.muli v2364 c4_i32_1045
  let c3_i32_1046 : BitVec 32 := 3#32
  let v2366 : BitVec 32 := Scalar.addi v2365 c3_i32_1046
  let c0_i32_1048 : BitVec 32 := 0#32
  let c0_i32_1049 : BitVec 32 := 0#32
  ![v2366.toNat, 0, 0]
def k0_off22 (k0_t2 : Fin k0_t2_loop.trips) : Fin 2 → Nat :=
  let c6144_i32_1050 : BitVec 32 := 6144#32
  let c0_i32_404 : BitVec 32 := 0#32
  let c1_i32_405 : BitVec 32 := 1#32
  let arg33 : BitVec 32 := Scf.iv c0_i32_404 c1_i32_405 k0_t2
  let c1_i32_1042 : BitVec 32 := 1#32
  let v2362 : BitVec 32 := Scalar.subi arg33 c1_i32_1042
  let c4_i32_1043 : BitVec 32 := 4#32
  let v2363 : BitVec 32 := Scalar.addi v2362 c4_i32_1043
  let c1280_i32_1047 : BitVec 32 := 1280#32
  let v2367 : BitVec 32 := Scalar.muli v2363 c1280_i32_1047
  ![6144, v2367.toNat]
def k0_cond2 (k0_t2 : Fin k0_t2_loop.trips) : BitVec 1 :=
  let c0_i32_404 : BitVec 32 := 0#32
  let c1_i32_405 : BitVec 32 := 1#32
  let arg33 : BitVec 32 := Scf.iv c0_i32_404 c1_i32_405 k0_t2
  let c1_i32_688 : BitVec 32 := 1#32
  let v1391 : BitVec 1 := Scalar.cmpi .sge arg33 c1_i32_688
  let v1392 : BitVec 32 := Scalar.extui v1391
  let c0_i32_689 : BitVec 32 := 0#32
  let v1393 : BitVec 1 := Scalar.cmpi .ne v1392 c0_i32_689
  v1393

def k0_off23 (k0_t2 : Fin k0_t2_loop.trips) : Fin 2 → Nat :=
  let c0_i32_1038 : BitVec 32 := 0#32
  let c0_i32_404 : BitVec 32 := 0#32
  let c1_i32_405 : BitVec 32 := 1#32
  let arg33 : BitVec 32 := Scf.iv c0_i32_404 c1_i32_405 k0_t2
  let c1_i32_1035 : BitVec 32 := 1#32
  let v2353 : BitVec 32 := Scalar.subi arg33 c1_i32_1035
  let c1280_i32_1036 : BitVec 32 := 1280#32
  let v2354 : BitVec 32 := Scalar.muli v2353 c1280_i32_1036
  ![0, v2354.toNat]
def k0_off24 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1397 : Index := Scalar.indexCast v1395
  let c0_694 : Index := 0#32
  let c0_695 : Index := 0#32
  ![v1397.toNat, 0, 0]
def k0_off25 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1402 : Index := Scalar.indexCast v1365
  let c0_697 : Index := 0#32
  let c0_698 : Index := 0#32
  ![v1402.toNat, 0, 0]
def k0_off26 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1409 : Index := Scalar.indexCast v1365
  let c1_699 : Index := 1#32
  let c0_700 : Index := 0#32
  ![v1409.toNat, 1, 0]
def k0_off27 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1416 : Index := Scalar.indexCast v1395
  let c256_703 : Index := 256#32
  let c0_704 : Index := 0#32
  ![v1416.toNat, 256, 0]
def k0_off28 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1421 : Index := Scalar.indexCast v1365
  let c2_706 : Index := 2#32
  let c0_707 : Index := 0#32
  ![v1421.toNat, 2, 0]
def k0_off29 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1428 : Index := Scalar.indexCast v1365
  let c3_708 : Index := 3#32
  let c0_709 : Index := 0#32
  ![v1428.toNat, 3, 0]
def k0_off30 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1435 : Index := Scalar.indexCast v1395
  let c512_712 : Index := 512#32
  let c0_713 : Index := 0#32
  ![v1435.toNat, 512, 0]
def k0_off31 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1440 : Index := Scalar.indexCast v1365
  let c4_715 : Index := 4#32
  let c0_716 : Index := 0#32
  ![v1440.toNat, 4, 0]
def k0_off32 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1447 : Index := Scalar.indexCast v1365
  let c5_717 : Index := 5#32
  let c0_718 : Index := 0#32
  ![v1447.toNat, 5, 0]
def k0_off33 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1454 : Index := Scalar.indexCast v1395
  let c768_721 : Index := 768#32
  let c0_722 : Index := 0#32
  ![v1454.toNat, 768, 0]
def k0_off34 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1459 : Index := Scalar.indexCast v1365
  let c6 : Index := 6#32
  let c0_724 : Index := 0#32
  ![v1459.toNat, 6, 0]
def k0_off35 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1466 : Index := Scalar.indexCast v1365
  let c7 : Index := 7#32
  let c0_725 : Index := 0#32
  ![v1466.toNat, 7, 0]
def k0_off36 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1473 : Index := Scalar.indexCast v1395
  let c1024_728 : Index := 1024#32
  let c0_729 : Index := 0#32
  ![v1473.toNat, 1024, 0]
def k0_off37 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1478 : Index := Scalar.indexCast v1365
  let c8 : Index := 8#32
  let c0_731 : Index := 0#32
  ![v1478.toNat, 8, 0]
def k0_off38 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1485 : Index := Scalar.indexCast v1365
  let c9 : Index := 9#32
  let c0_732 : Index := 0#32
  ![v1485.toNat, 9, 0]
def k0_off39 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1492 : Index := Scalar.indexCast v1395
  let c1280_735 : Index := 1280#32
  let c0_736 : Index := 0#32
  ![v1492.toNat, 1280, 0]
def k0_off40 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1497 : Index := Scalar.indexCast v1365
  let c10 : Index := 10#32
  let c0_738 : Index := 0#32
  ![v1497.toNat, 10, 0]
def k0_off41 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1504 : Index := Scalar.indexCast v1365
  let c11 : Index := 11#32
  let c0_739 : Index := 0#32
  ![v1504.toNat, 11, 0]
def k0_off42 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1511 : Index := Scalar.indexCast v1395
  let c1536_742 : Index := 1536#32
  let c0_743 : Index := 0#32
  ![v1511.toNat, 1536, 0]
def k0_off43 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1516 : Index := Scalar.indexCast v1365
  let c12 : Index := 12#32
  let c0_745 : Index := 0#32
  ![v1516.toNat, 12, 0]
def k0_off44 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1523 : Index := Scalar.indexCast v1365
  let c13 : Index := 13#32
  let c0_746 : Index := 0#32
  ![v1523.toNat, 13, 0]
def k0_off45 (k0_t2 : Fin k0_t2_loop.trips) (c0_i32_691 : BitVec 32) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let c4_i32_690 : BitVec 32 := 4#32
  let v1394 : BitVec 32 := Scalar.muli v1365 c4_i32_690
  let v1395 : BitVec 32 := Scalar.addi v1394 c0_i32_691
  let v1530 : Index := Scalar.indexCast v1395
  let c1792_749 : Index := 1792#32
  let c0_750 : Index := 0#32
  ![v1530.toNat, 1792, 0]
def k0_off46 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1535 : Index := Scalar.indexCast v1365
  let c14 : Index := 14#32
  let c0_752 : Index := 0#32
  ![v1535.toNat, 14, 0]
def k0_off47 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1542 : Index := Scalar.indexCast v1365
  let c15 : Index := 15#32
  let c0_753 : Index := 0#32
  ![v1542.toNat, 15, 0]
def k0_off48 (k0_t2 : Fin k0_t2_loop.trips) : Fin 2 → Nat :=
  let c2048_i32_760 : BitVec 32 := 2048#32
  let c0_i32_404 : BitVec 32 := 0#32
  let c1_i32_405 : BitVec 32 := 1#32
  let arg33 : BitVec 32 := Scf.iv c0_i32_404 c1_i32_405 k0_t2
  let c1280_i32_757 : BitVec 32 := 1280#32
  let v1551 : BitVec 32 := Scalar.muli arg33 c1280_i32_757
  ![2048, v1551.toNat]
def k0_cond3 (k0_t2 : Fin k0_t2_loop.trips) : BitVec 1 :=
  let c0_i32_404 : BitVec 32 := 0#32
  let c1_i32_405 : BitVec 32 := 1#32
  let arg33 : BitVec 32 := Scf.iv c0_i32_404 c1_i32_405 k0_t2
  let c4_i32_761 : BitVec 32 := 4#32
  let v1557 : BitVec 32 := Scalar.addi arg33 c4_i32_761
  let c25_i32_762 : BitVec 32 := 25#32
  let v1558 : BitVec 1 := Scalar.cmpi .slt v1557 c25_i32_762
  let v1559 : BitVec 32 := Scalar.extui v1558
  let c0_i32_763 : BitVec 32 := 0#32
  let v1560 : BitVec 1 := Scalar.cmpi .ne v1559 c0_i32_763
  v1560

def k0_off49 (k0_t2 : Fin k0_t2_loop.trips) : Fin 1 → Nat :=
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c4_i32_1036 : BitVec 32 := 4#32
  let v2354 : BitVec 32 := Scalar.remsi v2353 c4_i32_1036
  let c4_i32_1037 : BitVec 32 := 4#32
  let v2355 : BitVec 32 := Scalar.muli v2354 c4_i32_1037
  let c0_i32_1038 : BitVec 32 := 0#32
  let v2356 : BitVec 32 := Scalar.addi v2355 c0_i32_1038
  ![v2356.toNat]
def k0_off50 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c4_i32_1036 : BitVec 32 := 4#32
  let v2354 : BitVec 32 := Scalar.remsi v2353 c4_i32_1036
  let c4_i32_1037 : BitVec 32 := 4#32
  let v2355 : BitVec 32 := Scalar.muli v2354 c4_i32_1037
  let c0_i32_1038 : BitVec 32 := 0#32
  let v2356 : BitVec 32 := Scalar.addi v2355 c0_i32_1038
  let c0_i32_1040 : BitVec 32 := 0#32
  let c0_i32_1041 : BitVec 32 := 0#32
  ![v2356.toNat, 0, 0]
def k0_off51 (k0_t2 : Fin k0_t2_loop.trips) : Fin 2 → Nat :=
  let c0_i32_1042 : BitVec 32 := 0#32
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c1280_i32_1039 : BitVec 32 := 1280#32
  let v2357 : BitVec 32 := Scalar.muli v2353 c1280_i32_1039
  ![0, v2357.toNat]
def k0_off52 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1569 : Index := Scalar.indexCast v1365
  let c16 : Index := 16#32
  let c0_771 : Index := 0#32
  ![v1569.toNat, 16, 0]
def k0_off53 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1576 : Index := Scalar.indexCast v1365
  let c17 : Index := 17#32
  let c0_772 : Index := 0#32
  ![v1576.toNat, 17, 0]
def k0_off54 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1588 : Index := Scalar.indexCast v1365
  let c18 : Index := 18#32
  let c0_778 : Index := 0#32
  ![v1588.toNat, 18, 0]
def k0_off55 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1595 : Index := Scalar.indexCast v1365
  let c19 : Index := 19#32
  let c0_779 : Index := 0#32
  ![v1595.toNat, 19, 0]
def k0_off56 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1607 : Index := Scalar.indexCast v1365
  let c20 : Index := 20#32
  let c0_785 : Index := 0#32
  ![v1607.toNat, 20, 0]
def k0_off57 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1614 : Index := Scalar.indexCast v1365
  let c21 : Index := 21#32
  let c0_786 : Index := 0#32
  ![v1614.toNat, 21, 0]
def k0_off58 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1626 : Index := Scalar.indexCast v1365
  let c22 : Index := 22#32
  let c0_792 : Index := 0#32
  ![v1626.toNat, 22, 0]
def k0_off59 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1633 : Index := Scalar.indexCast v1365
  let c23 : Index := 23#32
  let c0_793 : Index := 0#32
  ![v1633.toNat, 23, 0]
def k0_off60 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1645 : Index := Scalar.indexCast v1365
  let c24 : Index := 24#32
  let c0_799 : Index := 0#32
  ![v1645.toNat, 24, 0]
def k0_off61 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1652 : Index := Scalar.indexCast v1365
  let c25 : Index := 25#32
  let c0_800 : Index := 0#32
  ![v1652.toNat, 25, 0]
def k0_off62 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1664 : Index := Scalar.indexCast v1365
  let c26 : Index := 26#32
  let c0_806 : Index := 0#32
  ![v1664.toNat, 26, 0]
def k0_off63 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1671 : Index := Scalar.indexCast v1365
  let c27 : Index := 27#32
  let c0_807 : Index := 0#32
  ![v1671.toNat, 27, 0]
def k0_off64 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1683 : Index := Scalar.indexCast v1365
  let c28 : Index := 28#32
  let c0_813 : Index := 0#32
  ![v1683.toNat, 28, 0]
def k0_off65 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1690 : Index := Scalar.indexCast v1365
  let c29 : Index := 29#32
  let c0_814 : Index := 0#32
  ![v1690.toNat, 29, 0]
def k0_off66 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1702 : Index := Scalar.indexCast v1365
  let c30 : Index := 30#32
  let c0_820 : Index := 0#32
  ![v1702.toNat, 30, 0]
def k0_off67 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1709 : Index := Scalar.indexCast v1365
  let c31 : Index := 31#32
  let c0_821 : Index := 0#32
  ![v1709.toNat, 31, 0]
def k0_off68 (k0_t2 : Fin k0_t2_loop.trips) : Fin 2 → Nat :=
  let c4096_i32_828 : BitVec 32 := 4096#32
  let c0_i32_404 : BitVec 32 := 0#32
  let c1_i32_405 : BitVec 32 := 1#32
  let arg33 : BitVec 32 := Scf.iv c0_i32_404 c1_i32_405 k0_t2
  let c1280_i32_825 : BitVec 32 := 1280#32
  let v1718 : BitVec 32 := Scalar.muli arg33 c1280_i32_825
  ![4096, v1718.toNat]
def k0_cond4 (k0_t2 : Fin k0_t2_loop.trips) : BitVec 1 :=
  let c0_i32_404 : BitVec 32 := 0#32
  let c1_i32_405 : BitVec 32 := 1#32
  let arg33 : BitVec 32 := Scf.iv c0_i32_404 c1_i32_405 k0_t2
  let c4_i32_829 : BitVec 32 := 4#32
  let v1724 : BitVec 32 := Scalar.addi arg33 c4_i32_829
  let c25_i32_830 : BitVec 32 := 25#32
  let v1725 : BitVec 1 := Scalar.cmpi .slt v1724 c25_i32_830
  let v1726 : BitVec 32 := Scalar.extui v1725
  let c0_i32_831 : BitVec 32 := 0#32
  let v1727 : BitVec 1 := Scalar.cmpi .ne v1726 c0_i32_831
  v1727

def k0_off69 (k0_t2 : Fin k0_t2_loop.trips) : Fin 1 → Nat :=
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c4_i32_1036 : BitVec 32 := 4#32
  let v2354 : BitVec 32 := Scalar.remsi v2353 c4_i32_1036
  let c4_i32_1037 : BitVec 32 := 4#32
  let v2355 : BitVec 32 := Scalar.muli v2354 c4_i32_1037
  let c1_i32_1038 : BitVec 32 := 1#32
  let v2356 : BitVec 32 := Scalar.addi v2355 c1_i32_1038
  ![v2356.toNat]
def k0_off70 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c4_i32_1036 : BitVec 32 := 4#32
  let v2354 : BitVec 32 := Scalar.remsi v2353 c4_i32_1036
  let c4_i32_1037 : BitVec 32 := 4#32
  let v2355 : BitVec 32 := Scalar.muli v2354 c4_i32_1037
  let c1_i32_1038 : BitVec 32 := 1#32
  let v2356 : BitVec 32 := Scalar.addi v2355 c1_i32_1038
  let c0_i32_1040 : BitVec 32 := 0#32
  let c0_i32_1041 : BitVec 32 := 0#32
  ![v2356.toNat, 0, 0]
def k0_off71 (k0_t2 : Fin k0_t2_loop.trips) : Fin 2 → Nat :=
  let c2048_i32_1042 : BitVec 32 := 2048#32
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c1280_i32_1039 : BitVec 32 := 1280#32
  let v2357 : BitVec 32 := Scalar.muli v2353 c1280_i32_1039
  ![2048, v2357.toNat]
def k0_off72 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1736 : Index := Scalar.indexCast v1365
  let c32 : Index := 32#32
  let c0_839 : Index := 0#32
  ![v1736.toNat, 32, 0]
def k0_off73 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1743 : Index := Scalar.indexCast v1365
  let c33 : Index := 33#32
  let c0_840 : Index := 0#32
  ![v1743.toNat, 33, 0]
def k0_off74 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1755 : Index := Scalar.indexCast v1365
  let c34 : Index := 34#32
  let c0_846 : Index := 0#32
  ![v1755.toNat, 34, 0]
def k0_off75 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1762 : Index := Scalar.indexCast v1365
  let c35 : Index := 35#32
  let c0_847 : Index := 0#32
  ![v1762.toNat, 35, 0]
def k0_off76 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1774 : Index := Scalar.indexCast v1365
  let c36 : Index := 36#32
  let c0_853 : Index := 0#32
  ![v1774.toNat, 36, 0]
def k0_off77 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1781 : Index := Scalar.indexCast v1365
  let c37 : Index := 37#32
  let c0_854 : Index := 0#32
  ![v1781.toNat, 37, 0]
def k0_off78 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1793 : Index := Scalar.indexCast v1365
  let c38 : Index := 38#32
  let c0_860 : Index := 0#32
  ![v1793.toNat, 38, 0]
def k0_off79 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1800 : Index := Scalar.indexCast v1365
  let c39 : Index := 39#32
  let c0_861 : Index := 0#32
  ![v1800.toNat, 39, 0]
def k0_off80 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1812 : Index := Scalar.indexCast v1365
  let c40 : Index := 40#32
  let c0_867 : Index := 0#32
  ![v1812.toNat, 40, 0]
def k0_off81 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1819 : Index := Scalar.indexCast v1365
  let c41 : Index := 41#32
  let c0_868 : Index := 0#32
  ![v1819.toNat, 41, 0]
def k0_off82 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1831 : Index := Scalar.indexCast v1365
  let c42 : Index := 42#32
  let c0_874 : Index := 0#32
  ![v1831.toNat, 42, 0]
def k0_off83 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1838 : Index := Scalar.indexCast v1365
  let c43 : Index := 43#32
  let c0_875 : Index := 0#32
  ![v1838.toNat, 43, 0]
def k0_off84 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1850 : Index := Scalar.indexCast v1365
  let c44 : Index := 44#32
  let c0_881 : Index := 0#32
  ![v1850.toNat, 44, 0]
def k0_off85 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1857 : Index := Scalar.indexCast v1365
  let c45 : Index := 45#32
  let c0_882 : Index := 0#32
  ![v1857.toNat, 45, 0]
def k0_off86 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1869 : Index := Scalar.indexCast v1365
  let c46 : Index := 46#32
  let c0_888 : Index := 0#32
  ![v1869.toNat, 46, 0]
def k0_off87 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1876 : Index := Scalar.indexCast v1365
  let c47 : Index := 47#32
  let c0_889 : Index := 0#32
  ![v1876.toNat, 47, 0]
def k0_off88 (k0_t2 : Fin k0_t2_loop.trips) : Fin 2 → Nat :=
  let c6144_i32_896 : BitVec 32 := 6144#32
  let c0_i32_404 : BitVec 32 := 0#32
  let c1_i32_405 : BitVec 32 := 1#32
  let arg33 : BitVec 32 := Scf.iv c0_i32_404 c1_i32_405 k0_t2
  let c1280_i32_893 : BitVec 32 := 1280#32
  let v1885 : BitVec 32 := Scalar.muli arg33 c1280_i32_893
  ![6144, v1885.toNat]
def k0_cond5 (k0_t2 : Fin k0_t2_loop.trips) : BitVec 1 :=
  let c0_i32_404 : BitVec 32 := 0#32
  let c1_i32_405 : BitVec 32 := 1#32
  let arg33 : BitVec 32 := Scf.iv c0_i32_404 c1_i32_405 k0_t2
  let c4_i32_897 : BitVec 32 := 4#32
  let v1891 : BitVec 32 := Scalar.addi arg33 c4_i32_897
  let c25_i32_898 : BitVec 32 := 25#32
  let v1892 : BitVec 1 := Scalar.cmpi .slt v1891 c25_i32_898
  let v1893 : BitVec 32 := Scalar.extui v1892
  let c0_i32_899 : BitVec 32 := 0#32
  let v1894 : BitVec 1 := Scalar.cmpi .ne v1893 c0_i32_899
  v1894

def k0_off89 (k0_t2 : Fin k0_t2_loop.trips) : Fin 1 → Nat :=
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c4_i32_1036 : BitVec 32 := 4#32
  let v2354 : BitVec 32 := Scalar.remsi v2353 c4_i32_1036
  let c4_i32_1037 : BitVec 32 := 4#32
  let v2355 : BitVec 32 := Scalar.muli v2354 c4_i32_1037
  let c2_i32_1038 : BitVec 32 := 2#32
  let v2356 : BitVec 32 := Scalar.addi v2355 c2_i32_1038
  ![v2356.toNat]
def k0_off90 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c4_i32_1036 : BitVec 32 := 4#32
  let v2354 : BitVec 32 := Scalar.remsi v2353 c4_i32_1036
  let c4_i32_1037 : BitVec 32 := 4#32
  let v2355 : BitVec 32 := Scalar.muli v2354 c4_i32_1037
  let c2_i32_1038 : BitVec 32 := 2#32
  let v2356 : BitVec 32 := Scalar.addi v2355 c2_i32_1038
  let c0_i32_1040 : BitVec 32 := 0#32
  let c0_i32_1041 : BitVec 32 := 0#32
  ![v2356.toNat, 0, 0]
def k0_off91 (k0_t2 : Fin k0_t2_loop.trips) : Fin 2 → Nat :=
  let c4096_i32_1042 : BitVec 32 := 4096#32
  let c0_i32_404 : BitVec 32 := 0#32
  let c1_i32_405 : BitVec 32 := 1#32
  let arg33 : BitVec 32 := Scf.iv c0_i32_404 c1_i32_405 k0_t2
  let c4_i32_1035 : BitVec 32 := 4#32
  let v2353 : BitVec 32 := Scalar.addi arg33 c4_i32_1035
  let c1280_i32_1039 : BitVec 32 := 1280#32
  let v2357 : BitVec 32 := Scalar.muli v2353 c1280_i32_1039
  ![4096, v2357.toNat]
def k0_off92 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1903 : Index := Scalar.indexCast v1365
  let c48 : Index := 48#32
  let c0_907 : Index := 0#32
  ![v1903.toNat, 48, 0]
def k0_off93 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1910 : Index := Scalar.indexCast v1365
  let c49 : Index := 49#32
  let c0_908 : Index := 0#32
  ![v1910.toNat, 49, 0]
def k0_off94 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1922 : Index := Scalar.indexCast v1365
  let c50 : Index := 50#32
  let c0_914 : Index := 0#32
  ![v1922.toNat, 50, 0]
def k0_off95 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1929 : Index := Scalar.indexCast v1365
  let c51 : Index := 51#32
  let c0_915 : Index := 0#32
  ![v1929.toNat, 51, 0]
def k0_off96 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1941 : Index := Scalar.indexCast v1365
  let c52 : Index := 52#32
  let c0_921 : Index := 0#32
  ![v1941.toNat, 52, 0]
def k0_off97 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1948 : Index := Scalar.indexCast v1365
  let c53 : Index := 53#32
  let c0_922 : Index := 0#32
  ![v1948.toNat, 53, 0]
def k0_off98 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1960 : Index := Scalar.indexCast v1365
  let c54 : Index := 54#32
  let c0_928 : Index := 0#32
  ![v1960.toNat, 54, 0]
def k0_off99 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1967 : Index := Scalar.indexCast v1365
  let c55 : Index := 55#32
  let c0_929 : Index := 0#32
  ![v1967.toNat, 55, 0]
def k0_off100 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1979 : Index := Scalar.indexCast v1365
  let c56 : Index := 56#32
  let c0_935 : Index := 0#32
  ![v1979.toNat, 56, 0]
def k0_off101 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1986 : Index := Scalar.indexCast v1365
  let c57 : Index := 57#32
  let c0_936 : Index := 0#32
  ![v1986.toNat, 57, 0]
def k0_off102 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v1998 : Index := Scalar.indexCast v1365
  let c58 : Index := 58#32
  let c0_942 : Index := 0#32
  ![v1998.toNat, 58, 0]
def k0_off103 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v2005 : Index := Scalar.indexCast v1365
  let c59 : Index := 59#32
  let c0_943 : Index := 0#32
  ![v2005.toNat, 59, 0]
def k0_off104 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v2017 : Index := Scalar.indexCast v1365
  let c60 : Index := 60#32
  let c0_949 : Index := 0#32
  ![v2017.toNat, 60, 0]
def k0_off105 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v2024 : Index := Scalar.indexCast v1365
  let c61 : Index := 61#32
  let c0_950 : Index := 0#32
  ![v2024.toNat, 61, 0]
def k0_off106 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v2036 : Index := Scalar.indexCast v1365
  let c62 : Index := 62#32
  let c0_956 : Index := 0#32
  ![v2036.toNat, 62, 0]
def k0_off107 (k0_t2 : Fin k0_t2_loop.trips) : Fin 3 → Nat :=
  let c0_i32_404 : BitVec 32 := 0#32
  let c1_i32_405 : BitVec 32 := 1#32
  let arg33 : BitVec 32 := Scf.iv c0_i32_404 c1_i32_405 k0_t2
  let c4_i32_668 : BitVec 32 := 4#32
  let v1365 : BitVec 32 := Scalar.remsi arg33 c4_i32_668
  let v2043 : Index := Scalar.indexCast v1365
  let c63 : Index := 63#32
  let c0_957 : Index := 0#32
  ![v2043.toNat, 63, 0]
def k0_off108 (k0_t2 : Fin k0_t2_loop.trips) (c0_i32_958 : BitVec 32) : Fin 2 → Nat :=
  let c0_i32_404 : BitVec 32 := 0#32
  let c1_i32_405 : BitVec 32 := 1#32
  let arg33 : BitVec 32 := Scf.iv c0_i32_404 c1_i32_405 k0_t2
  let c10_i32 : BitVec 32 := 10#32
  let v2052 : BitVec 32 := Scalar.muli arg33 c10_i32
  let v2053 : BitVec 32 := Scalar.addi v2052 c0_i32_958
  let v2054 : Index := Scalar.indexCast v2053
  let c0_959 : Index := 0#32
  ![v2054.toNat, 0]
def k0_off109 (k0_t2 : Fin k0_t2_loop.trips) (c0_i32_1015 : BitVec 32) : Fin 2 → Nat :=
  let c0_1016 : Index := 0#32
  let c0_i32_404 : BitVec 32 := 0#32
  let c1_i32_405 : BitVec 32 := 1#32
  let arg33 : BitVec 32 := Scf.iv c0_i32_404 c1_i32_405 k0_t2
  let c1280_i32_1014 : BitVec 32 := 1280#32
  let v2241 : BitVec 32 := Scalar.muli arg33 c1280_i32_1014
  let v2242 : BitVec 32 := Scalar.addi v2241 c0_i32_1015
  let v2243 : Index := Scalar.indexCast v2242
  ![0, v2243.toNat]
def k0_mult7 (v862 : BitVec 32) : BitVec 32 :=
  let c_m128_i32 : BitVec 32 := 4294967168#32
  let v863 : BitVec 32 := Scalar.andi v862 c_m128_i32
  v863

def k0_off110 (v862 : BitVec 32) : Fin 2 → Nat :=
  let c0_419 : Index := 0#32
  let c_m128_i32 : BitVec 32 := 4294967168#32
  let v863 : BitVec 32 := Scalar.andi v862 c_m128_i32
  let v864 : BitVec 32 := v863
  let v865 : Index := Scalar.indexCast v864
  ![0, v865.toNat]

def k0_chk1 (v862 : BitVec 32) : Prop :=
  (128 ∣ (k0_mult7 v862).toNat) ∧
  (∀ a, (k0_off110 v862) a + S6x128.size a ≤ S6x32000.size a)
theorem k0_mult7_dvd : ∀ (v862 : BitVec 32) (k0_hw1 : k0_chk1 v862), 128 ∣ (k0_mult7 v862).toNat := fun v862 k0_hw1 => k0_hw1.1
theorem k0_off110_inb : ∀ (v862 : BitVec 32) (k0_hw1 : k0_chk1 v862), ∀ a, (k0_off110 v862) a + S6x128.size a ≤ S6x32000.size a := fun v862 k0_hw1 => k0_hw1.2

def k0_mult8 (v876 : BitVec 32) : BitVec 32 :=
  let c_m128_i32_423 : BitVec 32 := 4294967168#32
  let v877 : BitVec 32 := Scalar.andi v876 c_m128_i32_423
  v877

def k0_off111 (v876 : BitVec 32) : Fin 2 → Nat :=
  let c0_424 : Index := 0#32
  let c_m128_i32_423 : BitVec 32 := 4294967168#32
  let v877 : BitVec 32 := Scalar.andi v876 c_m128_i32_423
  let v878 : BitVec 32 := v877
  let v879 : Index := Scalar.indexCast v878
  ![0, v879.toNat]

def k0_chk2 (v876 : BitVec 32) : Prop :=
  (128 ∣ (k0_mult8 v876).toNat) ∧
  (∀ a, (k0_off111 v876) a + S6x128.size a ≤ S6x32000.size a)
theorem k0_mult8_dvd : ∀ (v876 : BitVec 32) (k0_hw2 : k0_chk2 v876), 128 ∣ (k0_mult8 v876).toNat := fun v876 k0_hw2 => k0_hw2.1
theorem k0_off111_inb : ∀ (v876 : BitVec 32) (k0_hw2 : k0_chk2 v876), ∀ a, (k0_off111 v876) a + S6x128.size a ≤ S6x32000.size a := fun v876 k0_hw2 => k0_hw2.2

def k0_mult9 (v890 : BitVec 32) : BitVec 32 :=
  let c_m128_i32_428 : BitVec 32 := 4294967168#32
  let v891 : BitVec 32 := Scalar.andi v890 c_m128_i32_428
  v891

def k0_off112 (v890 : BitVec 32) : Fin 2 → Nat :=
  let c0_429 : Index := 0#32
  let c_m128_i32_428 : BitVec 32 := 4294967168#32
  let v891 : BitVec 32 := Scalar.andi v890 c_m128_i32_428
  let v892 : BitVec 32 := v891
  let v893 : Index := Scalar.indexCast v892
  ![0, v893.toNat]

def k0_chk3 (v890 : BitVec 32) : Prop :=
  (128 ∣ (k0_mult9 v890).toNat) ∧
  (∀ a, (k0_off112 v890) a + S6x128.size a ≤ S6x32000.size a)
theorem k0_mult9_dvd : ∀ (v890 : BitVec 32) (k0_hw3 : k0_chk3 v890), 128 ∣ (k0_mult9 v890).toNat := fun v890 k0_hw3 => k0_hw3.1
theorem k0_off112_inb : ∀ (v890 : BitVec 32) (k0_hw3 : k0_chk3 v890), ∀ a, (k0_off112 v890) a + S6x128.size a ≤ S6x32000.size a := fun v890 k0_hw3 => k0_hw3.2

def k0_mult10 (v904 : BitVec 32) : BitVec 32 :=
  let c_m128_i32_433 : BitVec 32 := 4294967168#32
  let v905 : BitVec 32 := Scalar.andi v904 c_m128_i32_433
  v905

def k0_off113 (v904 : BitVec 32) : Fin 2 → Nat :=
  let c0_434 : Index := 0#32
  let c_m128_i32_433 : BitVec 32 := 4294967168#32
  let v905 : BitVec 32 := Scalar.andi v904 c_m128_i32_433
  let v906 : BitVec 32 := v905
  let v907 : Index := Scalar.indexCast v906
  ![0, v907.toNat]

def k0_chk4 (v904 : BitVec 32) : Prop :=
  (128 ∣ (k0_mult10 v904).toNat) ∧
  (∀ a, (k0_off113 v904) a + S6x128.size a ≤ S6x32000.size a)
theorem k0_mult10_dvd : ∀ (v904 : BitVec 32) (k0_hw4 : k0_chk4 v904), 128 ∣ (k0_mult10 v904).toNat := fun v904 k0_hw4 => k0_hw4.1
theorem k0_off113_inb : ∀ (v904 : BitVec 32) (k0_hw4 : k0_chk4 v904), ∀ a, (k0_off113 v904) a + S6x128.size a ≤ S6x32000.size a := fun v904 k0_hw4 => k0_hw4.2

def k0_mult11 (v918 : BitVec 32) : BitVec 32 :=
  let c_m128_i32_438 : BitVec 32 := 4294967168#32
  let v919 : BitVec 32 := Scalar.andi v918 c_m128_i32_438
  v919

def k0_off114 (v918 : BitVec 32) : Fin 2 → Nat :=
  let c0_439 : Index := 0#32
  let c_m128_i32_438 : BitVec 32 := 4294967168#32
  let v919 : BitVec 32 := Scalar.andi v918 c_m128_i32_438
  let v920 : BitVec 32 := v919
  let v921 : Index := Scalar.indexCast v920
  ![0, v921.toNat]

def k0_chk5 (v918 : BitVec 32) : Prop :=
  (128 ∣ (k0_mult11 v918).toNat) ∧
  (∀ a, (k0_off114 v918) a + S6x128.size a ≤ S6x32000.size a)
theorem k0_mult11_dvd : ∀ (v918 : BitVec 32) (k0_hw5 : k0_chk5 v918), 128 ∣ (k0_mult11 v918).toNat := fun v918 k0_hw5 => k0_hw5.1
theorem k0_off114_inb : ∀ (v918 : BitVec 32) (k0_hw5 : k0_chk5 v918), ∀ a, (k0_off114 v918) a + S6x128.size a ≤ S6x32000.size a := fun v918 k0_hw5 => k0_hw5.2

def k0_mult12 (v932 : BitVec 32) : BitVec 32 :=
  let c_m128_i32_443 : BitVec 32 := 4294967168#32
  let v933 : BitVec 32 := Scalar.andi v932 c_m128_i32_443
  v933

def k0_off115 (v932 : BitVec 32) : Fin 2 → Nat :=
  let c0_444 : Index := 0#32
  let c_m128_i32_443 : BitVec 32 := 4294967168#32
  let v933 : BitVec 32 := Scalar.andi v932 c_m128_i32_443
  let v934 : BitVec 32 := v933
  let v935 : Index := Scalar.indexCast v934
  ![0, v935.toNat]

def k0_chk6 (v932 : BitVec 32) : Prop :=
  (128 ∣ (k0_mult12 v932).toNat) ∧
  (∀ a, (k0_off115 v932) a + S6x128.size a ≤ S6x32000.size a)
theorem k0_mult12_dvd : ∀ (v932 : BitVec 32) (k0_hw6 : k0_chk6 v932), 128 ∣ (k0_mult12 v932).toNat := fun v932 k0_hw6 => k0_hw6.1
theorem k0_off115_inb : ∀ (v932 : BitVec 32) (k0_hw6 : k0_chk6 v932), ∀ a, (k0_off115 v932) a + S6x128.size a ≤ S6x32000.size a := fun v932 k0_hw6 => k0_hw6.2

def k0_mult13 (v961 : BitVec 32) : BitVec 32 :=
  let c_m128_i32_454 : BitVec 32 := 4294967168#32
  let v962 : BitVec 32 := Scalar.andi v961 c_m128_i32_454
  v962

def k0_off116 (v961 : BitVec 32) : Fin 2 → Nat :=
  let c0_455 : Index := 0#32
  let c_m128_i32_454 : BitVec 32 := 4294967168#32
  let v962 : BitVec 32 := Scalar.andi v961 c_m128_i32_454
  let v963 : BitVec 32 := v962
  let v964 : Index := Scalar.indexCast v963
  ![0, v964.toNat]

def k0_chk7 (v961 : BitVec 32) : Prop :=
  (128 ∣ (k0_mult13 v961).toNat) ∧
  (∀ a, (k0_off116 v961) a + S6x128.size a ≤ S6x32000.size a)
theorem k0_mult13_dvd : ∀ (v961 : BitVec 32) (k0_hw7 : k0_chk7 v961), 128 ∣ (k0_mult13 v961).toNat := fun v961 k0_hw7 => k0_hw7.1
theorem k0_off116_inb : ∀ (v961 : BitVec 32) (k0_hw7 : k0_chk7 v961), ∀ a, (k0_off116 v961) a + S6x128.size a ≤ S6x32000.size a := fun v961 k0_hw7 => k0_hw7.2

def k0_mult14 (v975 : BitVec 32) : BitVec 32 :=
  let c_m128_i32_459 : BitVec 32 := 4294967168#32
  let v976 : BitVec 32 := Scalar.andi v975 c_m128_i32_459
  v976

def k0_off117 (v975 : BitVec 32) : Fin 2 → Nat :=
  let c0_460 : Index := 0#32
  let c_m128_i32_459 : BitVec 32 := 4294967168#32
  let v976 : BitVec 32 := Scalar.andi v975 c_m128_i32_459
  let v977 : BitVec 32 := v976
  let v978 : Index := Scalar.indexCast v977
  ![0, v978.toNat]

def k0_chk8 (v975 : BitVec 32) : Prop :=
  (128 ∣ (k0_mult14 v975).toNat) ∧
  (∀ a, (k0_off117 v975) a + S6x128.size a ≤ S6x32000.size a)
theorem k0_mult14_dvd : ∀ (v975 : BitVec 32) (k0_hw8 : k0_chk8 v975), 128 ∣ (k0_mult14 v975).toNat := fun v975 k0_hw8 => k0_hw8.1
theorem k0_off117_inb : ∀ (v975 : BitVec 32) (k0_hw8 : k0_chk8 v975), ∀ a, (k0_off117 v975) a + S6x128.size a ≤ S6x32000.size a := fun v975 k0_hw8 => k0_hw8.2

def k0_mult15 (v989 : BitVec 32) : BitVec 32 :=
  let c_m128_i32_464 : BitVec 32 := 4294967168#32
  let v990 : BitVec 32 := Scalar.andi v989 c_m128_i32_464
  v990

def k0_off118 (v989 : BitVec 32) : Fin 2 → Nat :=
  let c0_465 : Index := 0#32
  let c_m128_i32_464 : BitVec 32 := 4294967168#32
  let v990 : BitVec 32 := Scalar.andi v989 c_m128_i32_464
  let v991 : BitVec 32 := v990
  let v992 : Index := Scalar.indexCast v991
  ![0, v992.toNat]

def k0_chk9 (v989 : BitVec 32) : Prop :=
  (128 ∣ (k0_mult15 v989).toNat) ∧
  (∀ a, (k0_off118 v989) a + S6x128.size a ≤ S6x32000.size a)
theorem k0_mult15_dvd : ∀ (v989 : BitVec 32) (k0_hw9 : k0_chk9 v989), 128 ∣ (k0_mult15 v989).toNat := fun v989 k0_hw9 => k0_hw9.1
theorem k0_off118_inb : ∀ (v989 : BitVec 32) (k0_hw9 : k0_chk9 v989), ∀ a, (k0_off118 v989) a + S6x128.size a ≤ S6x32000.size a := fun v989 k0_hw9 => k0_hw9.2

def k0_mult16 (v1003 : BitVec 32) : BitVec 32 :=
  let c_m128_i32_469 : BitVec 32 := 4294967168#32
  let v1004 : BitVec 32 := Scalar.andi v1003 c_m128_i32_469
  v1004

def k0_off119 (v1003 : BitVec 32) : Fin 2 → Nat :=
  let c0_470 : Index := 0#32
  let c_m128_i32_469 : BitVec 32 := 4294967168#32
  let v1004 : BitVec 32 := Scalar.andi v1003 c_m128_i32_469
  let v1005 : BitVec 32 := v1004
  let v1006 : Index := Scalar.indexCast v1005
  ![0, v1006.toNat]

def k0_chk10 (v1003 : BitVec 32) : Prop :=
  (128 ∣ (k0_mult16 v1003).toNat) ∧
  (∀ a, (k0_off119 v1003) a + S6x128.size a ≤ S6x32000.size a)
theorem k0_mult16_dvd : ∀ (v1003 : BitVec 32) (k0_hw10 : k0_chk10 v1003), 128 ∣ (k0_mult16 v1003).toNat := fun v1003 k0_hw10 => k0_hw10.1
theorem k0_off119_inb : ∀ (v1003 : BitVec 32) (k0_hw10 : k0_chk10 v1003), ∀ a, (k0_off119 v1003) a + S6x128.size a ≤ S6x32000.size a := fun v1003 k0_hw10 => k0_hw10.2

def k0_mult17 (v1017 : BitVec 32) : BitVec 32 :=
  let c_m128_i32_474 : BitVec 32 := 4294967168#32
  let v1018 : BitVec 32 := Scalar.andi v1017 c_m128_i32_474
  v1018

def k0_off120 (v1017 : BitVec 32) : Fin 2 → Nat :=
  let c0_475 : Index := 0#32
  let c_m128_i32_474 : BitVec 32 := 4294967168#32
  let v1018 : BitVec 32 := Scalar.andi v1017 c_m128_i32_474
  let v1019 : BitVec 32 := v1018
  let v1020 : Index := Scalar.indexCast v1019
  ![0, v1020.toNat]

def k0_chk11 (v1017 : BitVec 32) : Prop :=
  (128 ∣ (k0_mult17 v1017).toNat) ∧
  (∀ a, (k0_off120 v1017) a + S6x128.size a ≤ S6x32000.size a)
theorem k0_mult17_dvd : ∀ (v1017 : BitVec 32) (k0_hw11 : k0_chk11 v1017), 128 ∣ (k0_mult17 v1017).toNat := fun v1017 k0_hw11 => k0_hw11.1
theorem k0_off120_inb : ∀ (v1017 : BitVec 32) (k0_hw11 : k0_chk11 v1017), ∀ a, (k0_off120 v1017) a + S6x128.size a ≤ S6x32000.size a := fun v1017 k0_hw11 => k0_hw11.2

def k0_mult18 (v1031 : BitVec 32) : BitVec 32 :=
  let c_m128_i32_479 : BitVec 32 := 4294967168#32
  let v1032 : BitVec 32 := Scalar.andi v1031 c_m128_i32_479
  v1032

def k0_off121 (v1031 : BitVec 32) : Fin 2 → Nat :=
  let c0_480 : Index := 0#32
  let c_m128_i32_479 : BitVec 32 := 4294967168#32
  let v1032 : BitVec 32 := Scalar.andi v1031 c_m128_i32_479
  let v1033 : BitVec 32 := v1032
  let v1034 : Index := Scalar.indexCast v1033
  ![0, v1034.toNat]

def k0_chk12 (v1031 : BitVec 32) : Prop :=
  (128 ∣ (k0_mult18 v1031).toNat) ∧
  (∀ a, (k0_off121 v1031) a + S6x128.size a ≤ S6x32000.size a)
theorem k0_mult18_dvd : ∀ (v1031 : BitVec 32) (k0_hw12 : k0_chk12 v1031), 128 ∣ (k0_mult18 v1031).toNat := fun v1031 k0_hw12 => k0_hw12.1
theorem k0_off121_inb : ∀ (v1031 : BitVec 32) (k0_hw12 : k0_chk12 v1031), ∀ a, (k0_off121 v1031) a + S6x128.size a ≤ S6x32000.size a := fun v1031 k0_hw12 => k0_hw12.2

def k0_mult19 (v1060 : BitVec 32) : BitVec 32 :=
  let c_m128_i32_490 : BitVec 32 := 4294967168#32
  let v1061 : BitVec 32 := Scalar.andi v1060 c_m128_i32_490
  v1061

def k0_off122 (v1060 : BitVec 32) : Fin 2 → Nat :=
  let c0_491 : Index := 0#32
  let c_m128_i32_490 : BitVec 32 := 4294967168#32
  let v1061 : BitVec 32 := Scalar.andi v1060 c_m128_i32_490
  let v1062 : BitVec 32 := v1061
  let v1063 : Index := Scalar.indexCast v1062
  ![0, v1063.toNat]

def k0_chk13 (v1060 : BitVec 32) : Prop :=
  (128 ∣ (k0_mult19 v1060).toNat) ∧
  (∀ a, (k0_off122 v1060) a + S6x128.size a ≤ S6x32000.size a)
theorem k0_mult19_dvd : ∀ (v1060 : BitVec 32) (k0_hw13 : k0_chk13 v1060), 128 ∣ (k0_mult19 v1060).toNat := fun v1060 k0_hw13 => k0_hw13.1
theorem k0_off122_inb : ∀ (v1060 : BitVec 32) (k0_hw13 : k0_chk13 v1060), ∀ a, (k0_off122 v1060) a + S6x128.size a ≤ S6x32000.size a := fun v1060 k0_hw13 => k0_hw13.2

def k0_mult20 (v1074 : BitVec 32) : BitVec 32 :=
  let c_m128_i32_495 : BitVec 32 := 4294967168#32
  let v1075 : BitVec 32 := Scalar.andi v1074 c_m128_i32_495
  v1075

def k0_off123 (v1074 : BitVec 32) : Fin 2 → Nat :=
  let c0_496 : Index := 0#32
  let c_m128_i32_495 : BitVec 32 := 4294967168#32
  let v1075 : BitVec 32 := Scalar.andi v1074 c_m128_i32_495
  let v1076 : BitVec 32 := v1075
  let v1077 : Index := Scalar.indexCast v1076
  ![0, v1077.toNat]

def k0_chk14 (v1074 : BitVec 32) : Prop :=
  (128 ∣ (k0_mult20 v1074).toNat) ∧
  (∀ a, (k0_off123 v1074) a + S6x128.size a ≤ S6x32000.size a)
theorem k0_mult20_dvd : ∀ (v1074 : BitVec 32) (k0_hw14 : k0_chk14 v1074), 128 ∣ (k0_mult20 v1074).toNat := fun v1074 k0_hw14 => k0_hw14.1
theorem k0_off123_inb : ∀ (v1074 : BitVec 32) (k0_hw14 : k0_chk14 v1074), ∀ a, (k0_off123 v1074) a + S6x128.size a ≤ S6x32000.size a := fun v1074 k0_hw14 => k0_hw14.2

def k0_mult21 (v1088 : BitVec 32) : BitVec 32 :=
  let c_m128_i32_500 : BitVec 32 := 4294967168#32
  let v1089 : BitVec 32 := Scalar.andi v1088 c_m128_i32_500
  v1089

def k0_off124 (v1088 : BitVec 32) : Fin 2 → Nat :=
  let c0_501 : Index := 0#32
  let c_m128_i32_500 : BitVec 32 := 4294967168#32
  let v1089 : BitVec 32 := Scalar.andi v1088 c_m128_i32_500
  let v1090 : BitVec 32 := v1089
  let v1091 : Index := Scalar.indexCast v1090
  ![0, v1091.toNat]

def k0_chk15 (v1088 : BitVec 32) : Prop :=
  (128 ∣ (k0_mult21 v1088).toNat) ∧
  (∀ a, (k0_off124 v1088) a + S6x128.size a ≤ S6x32000.size a)
theorem k0_mult21_dvd : ∀ (v1088 : BitVec 32) (k0_hw15 : k0_chk15 v1088), 128 ∣ (k0_mult21 v1088).toNat := fun v1088 k0_hw15 => k0_hw15.1
theorem k0_off124_inb : ∀ (v1088 : BitVec 32) (k0_hw15 : k0_chk15 v1088), ∀ a, (k0_off124 v1088) a + S6x128.size a ≤ S6x32000.size a := fun v1088 k0_hw15 => k0_hw15.2

def k0_mult22 (v1102 : BitVec 32) : BitVec 32 :=
  let c_m128_i32_505 : BitVec 32 := 4294967168#32
  let v1103 : BitVec 32 := Scalar.andi v1102 c_m128_i32_505
  v1103

def k0_off125 (v1102 : BitVec 32) : Fin 2 → Nat :=
  let c0_506 : Index := 0#32
  let c_m128_i32_505 : BitVec 32 := 4294967168#32
  let v1103 : BitVec 32 := Scalar.andi v1102 c_m128_i32_505
  let v1104 : BitVec 32 := v1103
  let v1105 : Index := Scalar.indexCast v1104
  ![0, v1105.toNat]

def k0_chk16 (v1102 : BitVec 32) : Prop :=
  (128 ∣ (k0_mult22 v1102).toNat) ∧
  (∀ a, (k0_off125 v1102) a + S6x128.size a ≤ S6x32000.size a)
theorem k0_mult22_dvd : ∀ (v1102 : BitVec 32) (k0_hw16 : k0_chk16 v1102), 128 ∣ (k0_mult22 v1102).toNat := fun v1102 k0_hw16 => k0_hw16.1
theorem k0_off125_inb : ∀ (v1102 : BitVec 32) (k0_hw16 : k0_chk16 v1102), ∀ a, (k0_off125 v1102) a + S6x128.size a ≤ S6x32000.size a := fun v1102 k0_hw16 => k0_hw16.2

def k0_mult23 (v1116 : BitVec 32) : BitVec 32 :=
  let c_m128_i32_510 : BitVec 32 := 4294967168#32
  let v1117 : BitVec 32 := Scalar.andi v1116 c_m128_i32_510
  v1117

def k0_off126 (v1116 : BitVec 32) : Fin 2 → Nat :=
  let c0_511 : Index := 0#32
  let c_m128_i32_510 : BitVec 32 := 4294967168#32
  let v1117 : BitVec 32 := Scalar.andi v1116 c_m128_i32_510
  let v1118 : BitVec 32 := v1117
  let v1119 : Index := Scalar.indexCast v1118
  ![0, v1119.toNat]

def k0_chk17 (v1116 : BitVec 32) : Prop :=
  (128 ∣ (k0_mult23 v1116).toNat) ∧
  (∀ a, (k0_off126 v1116) a + S6x128.size a ≤ S6x32000.size a)
theorem k0_mult23_dvd : ∀ (v1116 : BitVec 32) (k0_hw17 : k0_chk17 v1116), 128 ∣ (k0_mult23 v1116).toNat := fun v1116 k0_hw17 => k0_hw17.1
theorem k0_off126_inb : ∀ (v1116 : BitVec 32) (k0_hw17 : k0_chk17 v1116), ∀ a, (k0_off126 v1116) a + S6x128.size a ≤ S6x32000.size a := fun v1116 k0_hw17 => k0_hw17.2

def k0_mult24 (v1130 : BitVec 32) : BitVec 32 :=
  let c_m128_i32_515 : BitVec 32 := 4294967168#32
  let v1131 : BitVec 32 := Scalar.andi v1130 c_m128_i32_515
  v1131

def k0_off127 (v1130 : BitVec 32) : Fin 2 → Nat :=
  let c0_516 : Index := 0#32
  let c_m128_i32_515 : BitVec 32 := 4294967168#32
  let v1131 : BitVec 32 := Scalar.andi v1130 c_m128_i32_515
  let v1132 : BitVec 32 := v1131
  let v1133 : Index := Scalar.indexCast v1132
  ![0, v1133.toNat]

def k0_chk18 (v1130 : BitVec 32) : Prop :=
  (128 ∣ (k0_mult24 v1130).toNat) ∧
  (∀ a, (k0_off127 v1130) a + S6x128.size a ≤ S6x32000.size a)
theorem k0_mult24_dvd : ∀ (v1130 : BitVec 32) (k0_hw18 : k0_chk18 v1130), 128 ∣ (k0_mult24 v1130).toNat := fun v1130 k0_hw18 => k0_hw18.1
theorem k0_off127_inb : ∀ (v1130 : BitVec 32) (k0_hw18 : k0_chk18 v1130), ∀ a, (k0_off127 v1130) a + S6x128.size a ≤ S6x32000.size a := fun v1130 k0_hw18 => k0_hw18.2

def k0_mult25 (v1159 : BitVec 32) : BitVec 32 :=
  let c_m128_i32_526 : BitVec 32 := 4294967168#32
  let v1160 : BitVec 32 := Scalar.andi v1159 c_m128_i32_526
  v1160

def k0_off128 (v1159 : BitVec 32) : Fin 2 → Nat :=
  let c0_527 : Index := 0#32
  let c_m128_i32_526 : BitVec 32 := 4294967168#32
  let v1160 : BitVec 32 := Scalar.andi v1159 c_m128_i32_526
  let v1161 : BitVec 32 := v1160
  let v1162 : Index := Scalar.indexCast v1161
  ![0, v1162.toNat]

def k0_chk19 (v1159 : BitVec 32) : Prop :=
  (128 ∣ (k0_mult25 v1159).toNat) ∧
  (∀ a, (k0_off128 v1159) a + S6x128.size a ≤ S6x32000.size a)
theorem k0_mult25_dvd : ∀ (v1159 : BitVec 32) (k0_hw19 : k0_chk19 v1159), 128 ∣ (k0_mult25 v1159).toNat := fun v1159 k0_hw19 => k0_hw19.1
theorem k0_off128_inb : ∀ (v1159 : BitVec 32) (k0_hw19 : k0_chk19 v1159), ∀ a, (k0_off128 v1159) a + S6x128.size a ≤ S6x32000.size a := fun v1159 k0_hw19 => k0_hw19.2

def k0_mult26 (v1173 : BitVec 32) : BitVec 32 :=
  let c_m128_i32_531 : BitVec 32 := 4294967168#32
  let v1174 : BitVec 32 := Scalar.andi v1173 c_m128_i32_531
  v1174

def k0_off129 (v1173 : BitVec 32) : Fin 2 → Nat :=
  let c0_532 : Index := 0#32
  let c_m128_i32_531 : BitVec 32 := 4294967168#32
  let v1174 : BitVec 32 := Scalar.andi v1173 c_m128_i32_531
  let v1175 : BitVec 32 := v1174
  let v1176 : Index := Scalar.indexCast v1175
  ![0, v1176.toNat]

def k0_chk20 (v1173 : BitVec 32) : Prop :=
  (128 ∣ (k0_mult26 v1173).toNat) ∧
  (∀ a, (k0_off129 v1173) a + S6x128.size a ≤ S6x32000.size a)
theorem k0_mult26_dvd : ∀ (v1173 : BitVec 32) (k0_hw20 : k0_chk20 v1173), 128 ∣ (k0_mult26 v1173).toNat := fun v1173 k0_hw20 => k0_hw20.1
theorem k0_off129_inb : ∀ (v1173 : BitVec 32) (k0_hw20 : k0_chk20 v1173), ∀ a, (k0_off129 v1173) a + S6x128.size a ≤ S6x32000.size a := fun v1173 k0_hw20 => k0_hw20.2

def k0_mult27 (v1187 : BitVec 32) : BitVec 32 :=
  let c_m128_i32_536 : BitVec 32 := 4294967168#32
  let v1188 : BitVec 32 := Scalar.andi v1187 c_m128_i32_536
  v1188

def k0_off130 (v1187 : BitVec 32) : Fin 2 → Nat :=
  let c0_537 : Index := 0#32
  let c_m128_i32_536 : BitVec 32 := 4294967168#32
  let v1188 : BitVec 32 := Scalar.andi v1187 c_m128_i32_536
  let v1189 : BitVec 32 := v1188
  let v1190 : Index := Scalar.indexCast v1189
  ![0, v1190.toNat]

def k0_chk21 (v1187 : BitVec 32) : Prop :=
  (128 ∣ (k0_mult27 v1187).toNat) ∧
  (∀ a, (k0_off130 v1187) a + S6x128.size a ≤ S6x32000.size a)
theorem k0_mult27_dvd : ∀ (v1187 : BitVec 32) (k0_hw21 : k0_chk21 v1187), 128 ∣ (k0_mult27 v1187).toNat := fun v1187 k0_hw21 => k0_hw21.1
theorem k0_off130_inb : ∀ (v1187 : BitVec 32) (k0_hw21 : k0_chk21 v1187), ∀ a, (k0_off130 v1187) a + S6x128.size a ≤ S6x32000.size a := fun v1187 k0_hw21 => k0_hw21.2

def k0_mult28 (v1201 : BitVec 32) : BitVec 32 :=
  let c_m128_i32_541 : BitVec 32 := 4294967168#32
  let v1202 : BitVec 32 := Scalar.andi v1201 c_m128_i32_541
  v1202

def k0_off131 (v1201 : BitVec 32) : Fin 2 → Nat :=
  let c0_542 : Index := 0#32
  let c_m128_i32_541 : BitVec 32 := 4294967168#32
  let v1202 : BitVec 32 := Scalar.andi v1201 c_m128_i32_541
  let v1203 : BitVec 32 := v1202
  let v1204 : Index := Scalar.indexCast v1203
  ![0, v1204.toNat]

def k0_chk22 (v1201 : BitVec 32) : Prop :=
  (128 ∣ (k0_mult28 v1201).toNat) ∧
  (∀ a, (k0_off131 v1201) a + S6x128.size a ≤ S6x32000.size a)
theorem k0_mult28_dvd : ∀ (v1201 : BitVec 32) (k0_hw22 : k0_chk22 v1201), 128 ∣ (k0_mult28 v1201).toNat := fun v1201 k0_hw22 => k0_hw22.1
theorem k0_off131_inb : ∀ (v1201 : BitVec 32) (k0_hw22 : k0_chk22 v1201), ∀ a, (k0_off131 v1201) a + S6x128.size a ≤ S6x32000.size a := fun v1201 k0_hw22 => k0_hw22.2

def k0_mult29 (v1215 : BitVec 32) : BitVec 32 :=
  let c_m128_i32_546 : BitVec 32 := 4294967168#32
  let v1216 : BitVec 32 := Scalar.andi v1215 c_m128_i32_546
  v1216

def k0_off132 (v1215 : BitVec 32) : Fin 2 → Nat :=
  let c0_547 : Index := 0#32
  let c_m128_i32_546 : BitVec 32 := 4294967168#32
  let v1216 : BitVec 32 := Scalar.andi v1215 c_m128_i32_546
  let v1217 : BitVec 32 := v1216
  let v1218 : Index := Scalar.indexCast v1217
  ![0, v1218.toNat]

def k0_chk23 (v1215 : BitVec 32) : Prop :=
  (128 ∣ (k0_mult29 v1215).toNat) ∧
  (∀ a, (k0_off132 v1215) a + S6x128.size a ≤ S6x32000.size a)
theorem k0_mult29_dvd : ∀ (v1215 : BitVec 32) (k0_hw23 : k0_chk23 v1215), 128 ∣ (k0_mult29 v1215).toNat := fun v1215 k0_hw23 => k0_hw23.1
theorem k0_off132_inb : ∀ (v1215 : BitVec 32) (k0_hw23 : k0_chk23 v1215), ∀ a, (k0_off132 v1215) a + S6x128.size a ≤ S6x32000.size a := fun v1215 k0_hw23 => k0_hw23.2

def k0_mult30 (v1229 : BitVec 32) : BitVec 32 :=
  let c_m128_i32_551 : BitVec 32 := 4294967168#32
  let v1230 : BitVec 32 := Scalar.andi v1229 c_m128_i32_551
  v1230

def k0_off133 (v1229 : BitVec 32) : Fin 2 → Nat :=
  let c0_552 : Index := 0#32
  let c_m128_i32_551 : BitVec 32 := 4294967168#32
  let v1230 : BitVec 32 := Scalar.andi v1229 c_m128_i32_551
  let v1231 : BitVec 32 := v1230
  let v1232 : Index := Scalar.indexCast v1231
  ![0, v1232.toNat]

def k0_chk24 (v1229 : BitVec 32) : Prop :=
  (128 ∣ (k0_mult30 v1229).toNat) ∧
  (∀ a, (k0_off133 v1229) a + S6x128.size a ≤ S6x32000.size a)
theorem k0_mult30_dvd : ∀ (v1229 : BitVec 32) (k0_hw24 : k0_chk24 v1229), 128 ∣ (k0_mult30 v1229).toNat := fun v1229 k0_hw24 => k0_hw24.1
theorem k0_off133_inb : ∀ (v1229 : BitVec 32) (k0_hw24 : k0_chk24 v1229), ∀ a, (k0_off133 v1229) a + S6x128.size a ≤ S6x32000.size a := fun v1229 k0_hw24 => k0_hw24.2
-- ==== ReferenceIdeal.lean ====
abbrev S6x8192 : Shape := ⟨2, ![6, 8192]⟩
abbrev S6 : Shape := ⟨1, ![6]⟩
abbrev S8192x32000 : Shape := ⟨2, ![8192, 32000]⟩
abbrev S64x32000 : Shape := ⟨2, ![64, 32000]⟩
abbrev S6x4096 : Shape := ⟨2, ![6, 4096]⟩
abbrev S6x4 : Shape := ⟨2, ![6, 4]⟩
abbrev S6x64x128 : Shape := ⟨3, ![6, 64, 128]⟩
abbrev S64x6x128 : Shape := ⟨3, ![64, 6, 128]⟩
abbrev S64x128x32000 : Shape := ⟨3, ![64, 128, 32000]⟩
abbrev S64x6x32000 : Shape := ⟨3, ![64, 6, 32000]⟩
abbrev S64x1x32000 : Shape := ⟨3, ![64, 1, 32000]⟩
abbrev S_ : Shape := ⟨0, ![]⟩
abbrev S6x32000 : Shape := ⟨2, ![6, 32000]⟩
abbrev S6x1 : Shape := ⟨2, ![6, 1]⟩
abbrev S4096 : Shape := ⟨1, ![4096]⟩
abbrev S1x4096 : Shape := ⟨2, ![1, 4096]⟩
abbrev S6x4096x1 : Shape := ⟨3, ![6, 4096, 1]⟩
abbrev S32000 : Shape := ⟨1, ![32000]⟩
abbrev S1x1x32000 : Shape := ⟨3, ![1, 1, 32000]⟩
abbrev S6x4096x32000 : Shape := ⟨3, ![6, 4096, 32000]⟩
abbrev S6x4x1 : Shape := ⟨3, ![6, 4, 1]⟩
abbrev S1 : Shape := ⟨1, ![1]⟩
abbrev S1x1x1 : Shape := ⟨3, ![1, 1, 1]⟩

abbrev nBuf : Space → Nat
  | .hbm => 99
  | .vmem => 4
  | .smem => 0
  | _ => 0

abbrev bufTy : (tb : Table) → Fin (tcTables nBuf tb) → BufTy
  | .hbm, ⟨0, _⟩ => ⟨S6x8192, .fp8e4m3⟩
  | .hbm, ⟨1, _⟩ => ⟨S6, .f32⟩
  | .hbm, ⟨2, _⟩ => ⟨S8192x32000, .fp8e4m3⟩
  | .hbm, ⟨3, _⟩ => ⟨S64x32000, .f32⟩
  | .hbm, ⟨4, _⟩ => ⟨S6x4096, .i32⟩
  | .hbm, ⟨5, _⟩ => ⟨S6, .i32⟩
  | .hbm, ⟨6, _⟩ => ⟨S6, .f32⟩
  | .hbm, ⟨7, _⟩ => ⟨S6, .f32⟩
  | .hbm, ⟨8, _⟩ => ⟨S6, .f32⟩
  | .hbm, ⟨9, _⟩ => ⟨S6x4, .i32⟩
  | .hbm, ⟨10, _⟩ => ⟨S6x8192, .bf16⟩
  | .hbm, ⟨11, _⟩ => ⟨S8192x32000, .bf16⟩
  | .hbm, ⟨12, _⟩ => ⟨S6x64x128, .bf16⟩
  | .hbm, ⟨13, _⟩ => ⟨S64x6x128, .bf16⟩
  | .hbm, ⟨14, _⟩ => ⟨S64x128x32000, .bf16⟩
  | .hbm, ⟨15, _⟩ => ⟨S64x6x32000, .f32⟩
  | .hbm, ⟨16, _⟩ => ⟨S64x1x32000, .f32⟩
  | .hbm, ⟨17, _⟩ => ⟨S64x6x32000, .f32⟩
  | .hbm, ⟨18, _⟩ => ⟨S64x6x32000, .f32⟩
  | .hbm, ⟨19, _⟩ => ⟨S_, .f32⟩
  | .hbm, ⟨20, _⟩ => ⟨S6x32000, .f32⟩
  | .hbm, ⟨21, _⟩ => ⟨S6x1, .f32⟩
  | .hbm, ⟨22, _⟩ => ⟨S6x32000, .f32⟩
  | .hbm, ⟨23, _⟩ => ⟨S6x32000, .f32⟩
  | .hbm, ⟨24, _⟩ => ⟨S4096, .i32⟩
  | .hbm, ⟨25, _⟩ => ⟨S1x4096, .i32⟩
  | .hbm, ⟨26, _⟩ => ⟨S6x1, .i32⟩
  | .hbm, ⟨27, _⟩ => ⟨S6x4096, .i32⟩
  | .hbm, ⟨28, _⟩ => ⟨S6x4096, .i32⟩
  | .hbm, ⟨29, _⟩ => ⟨S6x4096, .i1⟩
  | .hbm, ⟨30, _⟩ => ⟨S6x4096x1, .i32⟩
  | .hbm, ⟨31, _⟩ => ⟨S32000, .i32⟩
  | .hbm, ⟨32, _⟩ => ⟨S1x1x32000, .i32⟩
  | .hbm, ⟨33, _⟩ => ⟨S6x4096x32000, .i32⟩
  | .hbm, ⟨34, _⟩ => ⟨S6x4096x32000, .i32⟩
  | .hbm, ⟨35, _⟩ => ⟨S6x4096x32000, .i1⟩
  | .hbm, ⟨36, _⟩ => ⟨S6x4096x1, .i1⟩
  | .hbm, ⟨37, _⟩ => ⟨S6x4096x32000, .i1⟩
  | .hbm, ⟨38, _⟩ => ⟨S6x4096x32000, .i1⟩
  | .hbm, ⟨39, _⟩ => ⟨S6x4096x32000, .f32⟩
  | .hbm, ⟨40, _⟩ => ⟨S_, .f32⟩
  | .hbm, ⟨41, _⟩ => ⟨S6x32000, .f32⟩
  | .hbm, ⟨42, _⟩ => ⟨S_, .f32⟩
  | .hbm, ⟨43, _⟩ => ⟨S6x32000, .f32⟩
  | .hbm, ⟨44, _⟩ => ⟨S6x32000, .i1⟩
  | .hbm, ⟨45, _⟩ => ⟨S6x1, .f32⟩
  | .hbm, ⟨46, _⟩ => ⟨S_, .f32⟩
  | .hbm, ⟨47, _⟩ => ⟨S6x32000, .f32⟩
  | .hbm, ⟨48, _⟩ => ⟨S6x32000, .i1⟩
  | .hbm, ⟨49, _⟩ => ⟨S6x32000, .f32⟩
  | .hbm, ⟨50, _⟩ => ⟨S6x32000, .f32⟩
  | .hbm, ⟨51, _⟩ => ⟨S6x32000, .f32⟩
  | .hbm, ⟨52, _⟩ => ⟨S6x32000, .f32⟩
  | .hbm, ⟨53, _⟩ => ⟨S6x32000, .f32⟩
  | .hbm, ⟨54, _⟩ => ⟨S6x32000, .f32⟩
  | .hbm, ⟨55, _⟩ => ⟨S6x1, .f32⟩
  | .hbm, ⟨56, _⟩ => ⟨S6x32000, .f32⟩
  | .hbm, ⟨57, _⟩ => ⟨S6x32000, .f32⟩
  | .hbm, ⟨58, _⟩ => ⟨S6x32000, .f32⟩
  | .hbm, ⟨59, _⟩ => ⟨S6x32000, .f32⟩
  | .hbm, ⟨60, _⟩ => ⟨S6x1, .f32⟩
  | .hbm, ⟨61, _⟩ => ⟨S6x32000, .f32⟩
  | .hbm, ⟨62, _⟩ => ⟨S6x32000, .f32⟩
  | .hbm, ⟨63, _⟩ => ⟨S6x32000, .f32⟩
  | .hbm, ⟨64, _⟩ => ⟨S_, .f32⟩
  | .hbm, ⟨65, _⟩ => ⟨S6, .f32⟩
  | .hbm, ⟨66, _⟩ => ⟨S6x1, .f32⟩
  | .hbm, ⟨67, _⟩ => ⟨S6x32000, .f32⟩
  | .hbm, ⟨68, _⟩ => ⟨S6x32000, .f32⟩
  | .hbm, ⟨69, _⟩ => ⟨S6x32000, .f32⟩
  | .hbm, ⟨70, _⟩ => ⟨S_, .f32⟩
  | .hbm, ⟨71, _⟩ => ⟨S6, .f32⟩
  | .hbm, ⟨72, _⟩ => ⟨S6, .f32⟩
  | .hbm, ⟨73, _⟩ => ⟨S6, .f32⟩
  | .hbm, ⟨74, _⟩ => ⟨S_, .i32⟩
  | .hbm, ⟨75, _⟩ => ⟨S6x4, .i32⟩
  | .hbm, ⟨76, _⟩ => ⟨S6x4, .i1⟩
  | .hbm, ⟨77, _⟩ => ⟨S_, .i32⟩
  | .hbm, ⟨78, _⟩ => ⟨S6x4, .i32⟩
  | .hbm, ⟨79, _⟩ => ⟨S6x4, .i32⟩
  | .hbm, ⟨80, _⟩ => ⟨S6x4, .i32⟩
  | .hbm, ⟨81, _⟩ => ⟨S6x4x1, .i32⟩
  | .hbm, ⟨82, _⟩ => ⟨S1, .i32⟩
  | .hbm, ⟨83, _⟩ => ⟨S_, .i32⟩
  | .hbm, ⟨84, _⟩ => ⟨S6x4x1, .i32⟩
  | .hbm, ⟨85, _⟩ => ⟨S6x4x1, .i1⟩
  | .hbm, ⟨86, _⟩ => ⟨S1x1x1, .i32⟩
  | .hbm, ⟨87, _⟩ => ⟨S6x4x1, .i32⟩
  | .hbm, ⟨88, _⟩ => ⟨S6x4x1, .i1⟩
  | .hbm, ⟨89, _⟩ => ⟨S6x4x1, .i1⟩
  | .hbm, ⟨90, _⟩ => ⟨S_, .i1⟩
  | .hbm, ⟨91, _⟩ => ⟨S6x4, .i1⟩
  | .hbm, ⟨92, _⟩ => ⟨S6x4, .f32⟩
  | .hbm, ⟨93, _⟩ => ⟨S_, .f32⟩
  | .hbm, ⟨94, _⟩ => ⟨S6x4, .f32⟩
  | .hbm, ⟨95, _⟩ => ⟨S6x4, .f32⟩
  | .hbm, ⟨96, _⟩ => ⟨S6x1, .f32⟩
  | .hbm, ⟨97, _⟩ => ⟨S6x4, .f32⟩
  | .hbm, ⟨98, _⟩ => ⟨S6x4, .f32⟩
  | .local _ .vmem, ⟨0, _⟩ => ⟨S6x8192, .fp8e4m3⟩
  | .local _ .vmem, ⟨1, _⟩ => ⟨S8192x32000, .fp8e4m3⟩
  | .local _ .vmem, ⟨2, _⟩ => ⟨S6x8192, .bf16⟩
  | .local _ .vmem, ⟨3, _⟩ => ⟨S8192x32000, .bf16⟩
  | _, _ => ⟨S6x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x32000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Run.Base.lean ====
/-
  The ring of weight tiles and the ring of scale tiles: what a slot holds, what it means for a copy into it to be
  under way, and one lemma per kind of step (start a copy, wait for it, load from a slot).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Batch
public import Idealize.ShloMosaic.Lib.Ring
public import Idealize.ShloMosaic.Lib.ShareLeaves
public import Idealize.ShloMosaic.Lib.ValueLayout
public import Idealize.ShloMosaic.Lib.Tactic
public import Idealize.ShloMosaic.Lib.Pointwise.Index

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof: the pipeline library's beside the counters of the transfers. -/
local notation "𝕄" => MT nD τ sig Unit (Elt F) ℕ (Pipeline.UD sig nD τ) ℕ

/-- The weakest precondition of a piece of the body on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Steps over whole buffers -/

/-- A load: the continuation runs at what the memref reads. -/
theorem ld (c : Dev nD) {α : Type} {cs : CoreSpace} {s : Shape} {e : EltTy} {m : Memref sig .tc cs s e} {r : LoadRect s}
    {hl : m.view.LoadsAt r} {k : (r.shape.Idx → Elt F e) → Prog (TpuEff nD τ sig (Elt F) Λ₀ .tc) α} {Q : α → sProp 𝕄}
    {q : PosShare TreeShare} {f : Buf (Elt F) (m.view.loc (c : Thread nD τ))} :
    (m.view.loc (c : Thread nD τ) ↦{q} f)
      ⊢ iprop(((m.view.loc (c : Thread nD τ) ↦{q} f) -∗ WP c (k (m.view.readAt (Elt F) r f)) Q)
        -∗ WP c (Prog.lift (.load m r hl) >>= k) Q) :=
  wp_load Variants.none (c : Thread nD τ) none Set.univ (Finset.subset_univ _)

/-- A store: the buffer holds the payload over what it held. -/
theorem st (c : Dev nD) {α : Type} {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {k : PUnit → Prog (TpuEff nD τ sig (Elt F) Λ₀ .tc) α} {Q : α → sProp 𝕄}
    {f : Buf (Elt F) ((m.access r).loc (c : Thread nD τ))} :
    ((m.access r).loc (c : Thread nD τ) ↦{fullShare} f)
      ⊢ iprop((((m.access r).loc (c : Thread nD τ) ↦{fullShare} ((m.access r).write (Elt F) f w Finset.univ)) -∗ WP c (k ⟨⟩) Q)
        -∗ WP c (Prog.lift (.store m r w Finset.univ hx hm) >>= k) Q) := by
  rw [show (Prog.lift (.store m r w Finset.univ hx hm) >>= k : Prog (TpuEff nD τ sig (Elt F) Λ₀ .tc) α)
    = .op (.store m r w Finset.univ hx hm) k from Prog.bind_lift _ _]
  exact wp_store Variants.none (c : Thread nD τ) none Set.univ (Finset.subset_univ _)

/-! ## Copies -/

/-- Where the counters of the transfers live in the algebra. -/
abbrev EC : UEmb Counters 𝕄 := countersEmb (U := Pipeline.UD sig nD τ)

/-- DMA semaphore number `n`. -/
def cell (n : ℕ) : SemLoc sig := .dma ⟨n % 31, Nat.mod_lt _ (by decide)⟩

/-- The waits made so far, whatever they are: no wait in this body answers to another core. -/
def Ow (c : Dev nD) : sProp 𝕄 := iprop(∃ W, owes (c : Thread nD τ) 0 W)

/-- A copy under way: at its wait the destination comes back with contents of which `P` holds, and the source as it was. -/
def Fly (c : Dev nD) (sm : SemLoc sig) (N : ℕ) (ℓd : Loc nD τ sig) (Sd : Finset (Idx ℓd)) (P : Buf (Elt F) ℓd → Prop)
    (ℓs : Loc nD τ sig) (q : PosShare TreeShare) (fs : Buf (Elt F) ℓs) : sProp 𝕄 :=
  iprop(∃ S : Finset (Idx ℓs), Transfers.Flight EC (c : Thread nD τ) sm () N
      iprop((∃ f, (ℓd ↦[Sd]{fullShare} f) ∗ ⌜P f⌝) ∗ (ℓs ↦[S]{q} fs)) ∗ (ℓs ↦[Finset.univ \ S]{q} fs))

/-- A copy that has landed: the destination, the semaphore at zero, the source. -/
def Land (c : Dev nD) (sm : SemLoc sig) (ℓd : Loc nD τ sig) (Sd : Finset (Idx ℓd)) (P : Buf (Elt F) ℓd → Prop)
    (ℓs : Loc nD τ sig) (q : PosShare TreeShare) (fs : Buf (Elt F) ℓs) : sProp 𝕄 :=
  iprop((∃ f, (ℓd ↦[Sd]{fullShare} f) ∗ ⌜P f⌝) ∗ semVal ((c : Thread nD τ), sm) 0 ∗ (ℓs ↦{q} fs))

/-- Starting a copy. -/
theorem issue (c : Dev nD) {α : Type} {sp sp' : Space} {s : Shape} {e : EltTy}
    {src : Memref sig .tc sp s e} {dst : Memref sig .tc sp' s e} {sm sm' : SemLoc sig}
    {hsrc : src.view.WordExact} {hdst : dst.view.WordExact} {hsem : DmaTarget.Typed (nD := nD) (τ := τ) (p := .tc) sp sm (.here dst)}
    {k : PUnit → Prog (TpuEff nD τ sig (Elt F) Λ₀ .tc) α} {Q : α → sProp 𝕄}
    {q : PosShare TreeShare} {fs : Buf (Elt F) (src.view.loc (c : Thread nD τ))}
    {Sd : Finset (Idx (dst.view.loc (c : Thread nD τ)))} {P P' : Buf (Elt F) (dst.view.loc (c : Thread nD τ)) → Prop}
    (N : ℕ) (hN : dst.view.amount sm = N) (hN0 : 0 < N) (hsm : sm = sm') (hSd : dst.view.set ⊆ Sd)
    (hP : ∀ fd, P (dst.view.write (Elt F) fd (src.view.read (Elt F) fs) Finset.univ)) :
    Land c sm' (dst.view.loc (c : Thread nD τ)) Sd P' (src.view.loc (c : Thread nD τ)) q fs
      ⊢ iprop((Fly c sm' N (dst.view.loc (c : Thread nD τ)) Sd P (src.view.loc (c : Thread nD τ)) q fs -∗ WP c (k ⟨⟩) Q)
        -∗ WP c (Prog.lift (.enqueueDma src (.here dst) sm hsrc hdst hsem) >>= k) Q) := by
  subst hsm
  rw [show (Prog.lift (.enqueueDma src (.here dst) sm hsrc hdst hsem) >>= k : Prog (TpuEff nD τ sig (Elt F) Λ₀ .tc) α)
    = .op (.enqueueDma src (.here dst) sm hsrc hdst hsem) k from Prog.bind_lift _ _]
  unfold Land Fly
  iintro ⟨⟨%fd, Hd, -⟩, Hsem, Hs⟩ Hk
  have hsplit := (pointsTo_split_subset (nD := nD) (τ := τ) (sig := sig) (Ix := Unit) (Val := Elt F) (Name := ℕ)
    (U := Pipeline.UD sig nD τ) (Lvl := ℕ) (ℓ := src.view.loc (c : Thread nD τ)) (q := q) (f := fs)
    (Finset.subset_univ src.view.set)).1
  ihave H2 := hsplit $$ Hs
  icases H2 with ⟨Hs, Hc⟩
  iapply (Transfers.wp_dmaLocal EC Variants.none (c : Thread nD τ) none () N hN hN0 hSd) $$ [Hs Hd Hsem]
  · isplitl [Hs]; · iexact Hs
    isplitl [Hd]; · iexact Hd
    iexact Hsem
  iintro HF
  iapply Hk
  iexists src.view.set
  isplitl [HF]
  · iapply (Transfers.Flight_mono EC (c : Thread nD τ) ?_) $$ HF
    iintro ⟨H1, H2⟩
    isplitl [H1]
    · iexists _
      isplitl [H1]; · iexact H1
      ipureintro
      exact hP fd
    iexact H2
  iexact Hc

/-- Waiting for a copy. -/
theorem await (c : Dev nD) {α : Type} {sp sp' : Space} {s s' : Shape} {e e' : EltTy} {sem : DmaSem sig} {sm : SemLoc sig}
    {srcw : Memref sig .tc sp' s' e'} {dstw : Memref sig .tc sp s e} {hsrc : srcw.view.WordExact} {hdst : dstw.view.WordExact}
    {k : PUnit → Prog (TpuEff nD τ sig (Elt F) Λ₀ .tc) α} {Q : α → sProp 𝕄} {N : ℕ} (hN : dstw.view.dmaCredit = N)
    {ℓd : Loc nD τ sig} {Sd : Finset (Idx ℓd)} {P : Buf (Elt F) ℓd → Prop}
    {ℓs : Loc nD τ sig} {q : PosShare TreeShare} {fs : Buf (Elt F) ℓs} (hsm : SemLoc.dma sem = sm) :
    iprop(Fly c sm N ℓd Sd P ℓs q fs ∗ Ow (F := F) c)
      ⊢ iprop((iprop(Land c sm ℓd Sd P ℓs q fs ∗ Ow (F := F) c) -∗ WP c (k ⟨⟩) Q)
        -∗ WP c (Prog.lift (.waitDma2 sem srcw dstw hsrc hdst) >>= k) Q) := by
  subst hsm
  rw [show (Prog.lift (.waitDma2 sem srcw dstw hsrc hdst) >>= k : Prog (TpuEff nD τ sig (Elt F) Λ₀ .tc) α)
    = .op (.waitDma2 sem srcw dstw hsrc hdst) k from Prog.bind_lift _ _]
  unfold Land Fly Ow
  iintro ⟨⟨%S, HF, Hc⟩, %W, HW⟩ Hk
  iapply (Transfers.wp_waitLocal EC Variants.none (c : Thread nD τ) none () hN) $$ [HF HW]
  · isplitl [HF]; · iexact HF
    iexact HW
  iintro ⟨⟨Hd, Hs⟩, Hsem, HW⟩
  iapply Hk
  isplitr [HW]
  · isplitl [Hd]; · iexact Hd
    isplitl [Hsem]; · iexact Hsem
    have hsplit := (pointsTo_split_subset (nD := nD) (τ := τ) (sig := sig) (Ix := Unit) (Val := Elt F) (Name := ℕ)
      (U := Pipeline.UD sig nD τ) (Lvl := ℕ) (ℓ := ℓs) (q := q) (f := fs)
      (Finset.subset_univ S)).2
    iapply hsplit
    isplitl [Hs]; · iexact Hs
    iexact Hc
  iexists _
  iexact HW

/-- The semaphore a one-word slice of a run of semaphores names. -/
theorem sem_slice {n base : ℕ} (hb : base + (⟨1, ![n]⟩ : Shape).numel ≤ 31) {o : Fin 1 → ℕ} {j : ℕ}
    (h : ∀ a, o a + S1.size a ≤ (⟨1, ![n]⟩ : Shape).size a) (sq : S1.Squeezes S_) (ho : o = ![j]) :
    (SemLoc.dma (((SemArray.consecutive (n := sig.nDmaSem) base ⟨1, ![n]⟩ hb).slice (Rect.unit (s := ⟨1, ![n]⟩) o S1.size h)).squeeze S_ sq).sem
      : SemLoc sig) = cell (base + j) := by
  subst ho
  have hj : j + 1 ≤ n := h 0
  have hn : (⟨1, ![n]⟩ : Shape).numel = n := by simp [Shape.numel]
  unfold cell
  congr 1
  apply Fin.ext
  show base + _ = (base + j) % 31
  rw [Nat.mod_eq_of_lt (by omega)]
  congr 1
  rw [Shape.rowMajor_val_one]
  rw [Rect.emb_apply]
  have hz : ∀ z : Fin 1, j + 1 * z.val = j := by intro z; omega
  exact hz _

/-! ## The ring of weight blocks

Tile `t` (columns `1280 * t` to `1280 * t + 1279` of the weight) comes in four blocks of 2048 rows; block `q` goes to slot
`4 * (t % 4) + q`. -/

/-- An index of the weight array; coordinates out of range wrap. -/
def ixW (i j : ℕ) : S8192x32000.Idx := ix2 ⟨i % 8192, Nat.mod_lt _ (by decide)⟩ ⟨j % 32000, Nat.mod_lt _ (by decide)⟩
/-- An index of the array of weight scales; coordinates out of range wrap. -/
def ixS (i j : ℕ) : S64x32000.Idx := ix2 ⟨i % 64, Nat.mod_lt _ (by decide)⟩ ⟨j % 32000, Nat.mod_lt _ (by decide)⟩

/-- The weight array on core `c`, and the buffer of its sixteen slots. -/
abbrev whL (c : Dev nD) : Loc nD τ sig := (Memref.whole main_arg2).view.loc (c : Thread nD τ)
abbrev wL (c : Dev nD) : Loc nD τ sig := (Memref.whole cc0_scratch0).view.loc (c : Thread nD τ)
/-- The scales on core `c`, and the buffer of their four slots. -/
abbrev shL (c : Dev nD) : Loc nD τ sig := (Memref.whole main_arg3).view.loc (c : Thread nD τ)
abbrev sL (c : Dev nD) : Loc nD τ sig := (Memref.whole cc0_scratch1).view.loc (c : Thread nD τ)

/-- The elements of slot `j`. -/
def wslot (c : Dev nD) (j : ℕ) : Finset (Idx (wL c)) := Finset.univ.filter fun y : S16x2048x1280.Idx => (y 0).val = j
def sslot (c : Dev nD) (j : ℕ) : Finset (Idx (sL c)) := Finset.univ.filter fun y : S4x64x1280.Idx => (y 0).val = j

/-- Slot `j` holds block `q` of tile `t`. -/
def WHolds (c : Dev nD) (fw : Buf (Elt F) (whL c)) (t q : ℕ) (f : Buf (Elt F) (wL c)) : Prop :=
  ∀ y : S16x2048x1280.Idx, (y 0).val = 4 * (t % 4) + q → f y = fw (ixW (2048 * q + (y 1).val) (1280 * t + (y 2).val))
def SHolds (c : Dev nD) (fs : Buf (Elt F) (shL c)) (t : ℕ) (f : Buf (Elt F) (sL c)) : Prop :=
  ∀ y : S4x64x1280.Idx, (y 0).val = t % 4 → f y = fs (ixS (y 1).val (1280 * t + (y 2).val))

/-- The share of the weight array that travels with slot `j`. -/
def wsh (j : ℕ) : PosShare TreeShare := ShareLeaves.leaf 4 fullShare ⟨j % 16, Nat.mod_lt _ (by decide)⟩
def ssh (j : ℕ) : PosShare TreeShare := ShareLeaves.leaf 2 fullShare ⟨j % 4, Nat.mod_lt _ (by decide)⟩

/-- The bytes a block's copy credits. -/
def NW : ℕ := (((Memref.whole cc0_scratch0).slice (Rect.unit (s := S16x2048x1280) ![0, 0, 0] S1x2048x1280.size (by decide)) (fun _ => rfl)).squeeze
  S2048x1280 squeezes_S1x2048x1280_S2048x1280).view.dmaCredit
def NS : ℕ := (((Memref.whole cc0_scratch1).slice (Rect.unit (s := S4x64x1280) ![0, 0, 0] S1x64x1280.size (by decide)) (fun _ => rfl)).squeeze
  S64x1280 squeezes_S1x64x1280_S64x1280).view.dmaCredit

/-- Block `q` of tile `t` under way to its slot; landed there; the slot free. -/
def WF (c : Dev nD) (fw : Buf (Elt F) (whL c)) (t q : ℕ) : sProp 𝕄 :=
  Fly c (cell (4 * (t % 4) + q)) NW (wL c) (wslot c (4 * (t % 4) + q)) (WHolds c fw t q) (whL c) (wsh (4 * (t % 4) + q)) fw
def WLd (c : Dev nD) (fw : Buf (Elt F) (whL c)) (t q : ℕ) : sProp 𝕄 :=
  Land c (cell (4 * (t % 4) + q)) (wL c) (wslot c (4 * (t % 4) + q)) (WHolds c fw t q) (whL c) (wsh (4 * (t % 4) + q)) fw
def WFree (c : Dev nD) (fw : Buf (Elt F) (whL c)) (p q : ℕ) : sProp 𝕄 :=
  Land c (cell (4 * p + q)) (wL c) (wslot c (4 * p + q)) (fun _ => True) (whL c) (wsh (4 * p + q)) fw
def SF (c : Dev nD) (fs : Buf (Elt F) (shL c)) (t : ℕ) : sProp 𝕄 :=
  Fly c (cell (16 + t % 4)) NS (sL c) (sslot c (t % 4)) (SHolds c fs t) (shL c) (ssh (t % 4)) fs
def SLd (c : Dev nD) (fs : Buf (Elt F) (shL c)) (t : ℕ) : sProp 𝕄 :=
  Land c (cell (16 + t % 4)) (sL c) (sslot c (t % 4)) (SHolds c fs t) (shL c) (ssh (t % 4)) fs
def SFree (c : Dev nD) (fs : Buf (Elt F) (shL c)) (p : ℕ) : sProp 𝕄 :=
  Land c (cell (16 + p)) (sL c) (sslot c p) (fun _ => True) (shL c) (ssh p) fs

theorem Land_mono (c : Dev nD) {sm : SemLoc sig} {ℓd : Loc nD τ sig} {Sd : Finset (Idx ℓd)} {P P' : Buf (Elt F) ℓd → Prop}
    {ℓs : Loc nD τ sig} {q : PosShare TreeShare} {fs : Buf (Elt F) ℓs} (h : ∀ f, P f → P' f) :
    Land c sm ℓd Sd P ℓs q fs ⊢ Land c sm ℓd Sd P' ℓs q fs := by
  unfold Land
  iintro ⟨⟨%f, Hd, %hf⟩, H⟩
  isplitl [Hd]
  · iexists f
    isplitl [Hd]; · iexact Hd
    ipureintro; exact h f hf
  iexact H

theorem WLd_free (c : Dev nD) (fw : Buf (Elt F) (whL c)) (t q : ℕ) : WLd c fw t q ⊢ WFree c fw (t % 4) q :=
  Land_mono c fun _ _ => trivial
theorem SLd_free (c : Dev nD) (fs : Buf (Elt F) (shL c)) (t : ℕ) : SLd c fs t ⊢ SFree c fs (t % 4) :=
  Land_mono c fun _ _ => trivial

/-- A slot of the weight buffer, squeezed. -/
abbrev wdst {o : Fin 3 → ℕ} (h : ∀ a, o a + S1x2048x1280.size a ≤ S16x2048x1280.size a) : Memref sig .tc .vmem S2048x1280 .fp8e4m3 :=
  ((Memref.whole cc0_scratch0).slice (Rect.unit (s := S16x2048x1280) o S1x2048x1280.size h) (fun _ => rfl)).squeeze
    S2048x1280 squeezes_S1x2048x1280_S2048x1280
/-- A block of the weight array. -/
abbrev wsrc {o : Fin 2 → ℕ} (h : ∀ a, o a + S2048x1280.size a ≤ S8192x32000.size a) : Memref sig .tc .hbm S2048x1280 .fp8e4m3 :=
  (Memref.whole main_arg2).slice (Rect.unit (s := S8192x32000) o S2048x1280.size h) (fun _ => rfl)

set_option backward.isDefEq.respectTransparency.types false

/-- A rank-2 index matched with a leading unit axis. -/
theorem unsq {a b : ℕ} (h : (⟨2, ![a, b]⟩ : Shape).numel = (⟨3, ![1, a, b]⟩ : Shape).numel) (x : Fin a) (y : Fin b) :
    Shape.reshapeEquiv h (ix2 x y) = ix3 (⟨0, Nat.one_pos⟩ : Fin 1) x y :=
  ValueIdx.reshapeEquiv_ix2_1ab h x y

theorem wdst_emb {j : ℕ} (h : ∀ a, (![j, 0, 0] : Fin 3 → ℕ) a + S1x2048x1280.size a ≤ S16x2048x1280.size a) (a : Fin 2048) (b : Fin 1280) :
    (wdst h).view.emb (ix2 a b) = (ix3 ⟨j, h 0⟩ a b : S16x2048x1280.Idx) := by
  show (Rect.unit (s := S16x2048x1280) ![j, 0, 0] S1x2048x1280.size h).emb (Shape.reshapeEquiv _ (ix2 a b)) = _
  rw [unsq]
  funext i
  apply Fin.ext
  rw [Rect.emb_apply]
  fin_cases i
  · show j + 1 * 0 = j; omega
  · show 0 + 1 * a.val = a.val; omega
  · show 0 + 1 * b.val = b.val; omega

theorem wsrc_emb {i j : ℕ} (h : ∀ a, (![i, j] : Fin 2 → ℕ) a + S2048x1280.size a ≤ S8192x32000.size a) (a : Fin 2048) (b : Fin 1280) :
    (wsrc h).view.emb (ix2 a b) = ixW (i + a.val) (j + b.val) := by
  have h0 : i + 2048 ≤ 8192 := h 0
  have h1 : j + 1280 ≤ 32000 := h 1
  show (Rect.unit (s := S8192x32000) ![i, j] S2048x1280.size h).emb (ix2 a b) = _
  funext r
  apply Fin.ext
  rw [Rect.emb_apply]
  fin_cases r
  · show i + 1 * a.val = (i + a.val) % 8192; omega
  · show j + 1 * b.val = (j + b.val) % 32000; omega

theorem wdst_set (c : Dev nD) {j : ℕ} (h : ∀ a, (![j, 0, 0] : Fin 3 → ℕ) a + S1x2048x1280.size a ≤ S16x2048x1280.size a) :
    (wdst h).view.set ⊆ wslot c j := by
  intro y hy
  obtain ⟨x, -, rfl⟩ := Finset.mem_map.mp hy
  refine Finset.mem_filter.mpr ⟨Finset.mem_univ _, ?_⟩
  obtain ⟨a, b, rfl⟩ : ∃ a b, x = ix2 a b := ⟨x 0, x 1, (ix2_eta x).symm⟩
  rw [wdst_emb]; rfl

theorem wdst_write (c : Dev nD) {t q : ℕ} (h : ∀ a, (![4 * (t % 4) + q, 0, 0] : Fin 3 → ℕ) a + S1x2048x1280.size a ≤ S16x2048x1280.size a)
    (h' : ∀ a, (![2048 * q, 1280 * t] : Fin 2 → ℕ) a + S2048x1280.size a ≤ S8192x32000.size a) (fw : Buf (Elt F) (whL c)) (fd : Buf (Elt F) (wL c)) :
    WHolds c fw t q ((wdst h).view.write (Elt F) fd ((wsrc h').view.read (Elt F) fw) Finset.univ) := by
  intro y hy
  have e : y = (wdst h).view.emb (ix2 (y 1) (y 2)) := by
    rw [wdst_emb]
    conv_lhs => rw [← ix3_eta y]
    congr 1
    exact Fin.ext hy
  rw [e, View.write_emb, if_pos (Finset.mem_univ _), View.read_apply, wsrc_emb, wdst_emb]
  rfl

/-- Starting the copy of a block. -/
theorem w_issue (c : Dev nD) {α : Type} {fw : Buf (Elt F) (whL c)} (t q : ℕ)
    {oS : Fin 1 → ℕ} {oD : Fin 3 → ℕ} {oW : Fin 2 → ℕ}
    {hS : ∀ a, oS a + S1.size a ≤ S16.size a} {hD : ∀ a, oD a + S1x2048x1280.size a ≤ S16x2048x1280.size a}
    {hW : ∀ a, oW a + S2048x1280.size a ≤ S8192x32000.size a}
    (eS : oS = ![4 * (t % 4) + q]) (eD : oD = ![4 * (t % 4) + q, 0, 0]) (eW : oW = ![2048 * q, 1280 * t])
    {hsrc} {hdst} {hsem} {k : PUnit → Prog (TpuEff nD τ sig (Elt F) Λ₀ .tc) α} {Q : α → sProp 𝕄} :
    WFree c fw (t % 4) q
      ⊢ iprop((WF c fw t q -∗ WP c (k ⟨⟩) Q)
        -∗ WP c (Prog.lift (.enqueueDma (wsrc hW) (.here (wdst hD))
          (.dma ((cc0_scratch15.slice (Rect.unit (s := S16) oS S1.size hS)).squeeze S_ squeezes_S1_S_).sem) hsrc hdst hsem) >>= k) Q) := by
  subst eD eW
  exact issue c (src := wsrc hW) (dst := wdst hD) NW rfl (View.dmaCredit_pos _ (by decide)) ((sem_slice _ hS _ eS).trans (by rw [Nat.zero_add]))
    (wdst_set c hD) (wdst_write c hD hW fw)

/-- Waiting for a block. -/
theorem w_await (c : Dev nD) {α : Type} {fw : Buf (Elt F) (whL c)} {t q : ℕ}
    {oS : Fin 1 → ℕ} {oD : Fin 3 → ℕ} {oW : Fin 2 → ℕ}
    {hS : ∀ a, oS a + S1.size a ≤ S16.size a} {hD : ∀ a, oD a + S1x2048x1280.size a ≤ S16x2048x1280.size a}
    {hW : ∀ a, oW a + S2048x1280.size a ≤ S8192x32000.size a}
    (eS : oS = ![4 * (t % 4) + q])
    {hsrc} {hdst} {k : PUnit → Prog (TpuEff nD τ sig (Elt F) Λ₀ .tc) α} {Q : α → sProp 𝕄} :
    iprop(WF c fw t q ∗ Ow (F := F) c)
      ⊢ iprop((iprop(WLd c fw t q ∗ Ow (F := F) c) -∗ WP c (k ⟨⟩) Q)
        -∗ WP c (Prog.lift (.waitDma2
          ((cc0_scratch15.slice (Rect.unit (s := S16) oS S1.size hS)).squeeze S_ squeezes_S1_S_).sem (wsrc hW) (wdst hD) hsrc hdst) >>= k) Q) :=
  await c (srcw := wsrc hW) (dstw := wdst hD) rfl ((sem_slice _ hS _ eS).trans (by rw [Nat.zero_add]))

/-- What a load of 256 rows of a landed block reads: rows `2048 * q + r` on of tile `t`. -/
def wblk {c : Dev nD} (fw : Buf (Elt F) (whL c)) (t q r : ℕ) : S1x256x1280.Idx → Elt F .fp8e4m3 :=
  fun x => fw (ixW (2048 * q + (r + (x 1).val)) (1280 * t + (x 2).val))

/-- Loading 256 rows of a landed block. -/
theorem w_load (c : Dev nD) {α : Type} {fw : Buf (Elt F) (whL c)} {t q : ℕ} {o : Fin 3 → ℕ} [I : ClosedOff o]
    {h : ∀ a, o a + S1x256x1280.size a ≤ S16x2048x1280.size a} {hl}
    (e : I.form = ![4 * (t % 4) + q, I.form 1, 0])
    {k : (S1x256x1280.Idx → Elt F .fp8e4m3) → Prog (TpuEff nD τ sig (Elt F) Λ₀ .tc) α} {Q : α → sProp 𝕄} :
    WLd c fw t q
      ⊢ iprop((WLd c fw t q -∗ WP c (k (wblk fw t q (I.form 1))) Q)
        -∗ WP c (Prog.lift (.load (Memref.whole cc0_scratch0) (Rect.unit (s := S16x2048x1280) o S1x256x1280.size h).toLoadRect hl) >>= k) Q) := by
  obtain ⟨φ, hφ⟩ := I
  change φ = ![4 * (t % 4) + q, φ 1, 0] at e
  show _ ⊢ iprop((_ -∗ WP c (k (wblk fw t q (φ 1))) Q) -∗ _)
  subst hφ
  generalize o 1 = r at e
  subst e
  rw [show (Prog.lift (.load (Memref.whole cc0_scratch0) (Rect.unit (s := S16x2048x1280) _ S1x256x1280.size h).toLoadRect hl) >>= k
      : Prog (TpuEff nD τ sig (Elt F) Λ₀ .tc) α)
    = .op (.load (Memref.whole cc0_scratch0) (Rect.unit (s := S16x2048x1280) _ S1x256x1280.size h).toLoadRect hl) k from Prog.bind_lift _ _]
  have hidx : ∀ x : S1x256x1280.Idx, ((Rect.unit (s := S16x2048x1280) ![4 * (t % 4) + q, r, 0] S1x256x1280.size h).emb x 0).val = 4 * (t % 4) + q
      ∧ ((Rect.unit (s := S16x2048x1280) ![4 * (t % 4) + q, r, 0] S1x256x1280.size h).emb x 1).val = r + (x 1).val
      ∧ ((Rect.unit (s := S16x2048x1280) ![4 * (t % 4) + q, r, 0] S1x256x1280.size h).emb x 2).val = (x 2).val := by
    intro x
    refine ⟨?_, ?_, ?_⟩ <;> rw [Rect.emb_apply]
    · have : (x 0).val < 1 := (x 0).isLt
      show 4 * (t % 4) + q + 1 * (x 0).val = _; omega
    · show r + 1 * (x 1).val = _; omega
    · show 0 + 1 * (x 2).val = _; omega
  unfold WLd Land
  iintro ⟨⟨%f, Hd, %hf⟩, Hs, Hw⟩ Hk
  have hv : (Memref.whole cc0_scratch0).view.readAt (Elt F) (Rect.unit (s := S16x2048x1280) ![4 * (t % 4) + q, r, 0] S1x256x1280.size h).toLoadRect f
      = wblk fw t q r := by
    funext x
    refine (hf _ (hidx x).1).trans ?_
    unfold wblk
    rw [(hidx x).2.1, (hidx x).2.2]
  iapply (wp_load Variants.none (c : Thread nD τ) none Set.univ (S := wslot c (4 * (t % 4) + q)) ?_) $$ Hd
  · intro y hy
    obtain ⟨x, hx, rfl⟩ := Finset.mem_map.mp hy
    have hx : x ∈ (Rect.unit (s := S16x2048x1280) ![4 * (t % 4) + q, r, 0] S1x256x1280.size h).set := hx
    rw [← Rect.map_emb_univ] at hx
    obtain ⟨z, -, rfl⟩ := Finset.mem_map.mp hx
    exact Finset.mem_filter.mpr ⟨Finset.mem_univ _, (hidx z).1⟩
  rw [hv]
  iintro Hd
  iapply Hk
  isplitl [Hd]
  · iexists f
    isplitl [Hd]; · iexact Hd
    ipureintro; exact hf
  isplitl [Hs]; · iexact Hs
  iexact Hw

/-! ## The ring of scale tiles: tile `t` goes to slot `t % 4` -/

/-- A slot of the buffer of scales, squeezed. -/
abbrev sdst {o : Fin 3 → ℕ} (h : ∀ a, o a + S1x64x1280.size a ≤ S4x64x1280.size a) : Memref sig .tc .vmem S64x1280 .f32 :=
  ((Memref.whole cc0_scratch1).slice (Rect.unit (s := S4x64x1280) o S1x64x1280.size h) (fun _ => rfl)).squeeze
    S64x1280 squeezes_S1x64x1280_S64x1280
/-- A block of the array of scales. -/
abbrev ssrc {o : Fin 2 → ℕ} (h : ∀ a, o a + S64x1280.size a ≤ S64x32000.size a) : Memref sig .tc .hbm S64x1280 .f32 :=
  (Memref.whole main_arg3).slice (Rect.unit (s := S64x32000) o S64x1280.size h) (fun _ => rfl)

theorem sdst_emb {j : ℕ} (h : ∀ a, (![j, 0, 0] : Fin 3 → ℕ) a + S1x64x1280.size a ≤ S4x64x1280.size a) (a : Fin 64) (b : Fin 1280) :
    (sdst h).view.emb (ix2 a b) = (ix3 ⟨j, h 0⟩ a b : S4x64x1280.Idx) := by
  show (Rect.unit (s := S4x64x1280) ![j, 0, 0] S1x64x1280.size h).emb (Shape.reshapeEquiv _ (ix2 a b)) = _
  rw [unsq]
  funext i
  apply Fin.ext
  rw [Rect.emb_apply]
  fin_cases i
  · show j + 1 * 0 = j; omega
  · show 0 + 1 * a.val = a.val; omega
  · show 0 + 1 * b.val = b.val; omega

theorem ssrc_emb {i j : ℕ} (h : ∀ a, (![i, j] : Fin 2 → ℕ) a + S64x1280.size a ≤ S64x32000.size a) (a : Fin 64) (b : Fin 1280) :
    (ssrc h).view.emb (ix2 a b) = ixS (i + a.val) (j + b.val) := by
  have h0 : i + 64 ≤ 64 := h 0
  have h1 : j + 1280 ≤ 32000 := h 1
  show (Rect.unit (s := S64x32000) ![i, j] S64x1280.size h).emb (ix2 a b) = _
  funext r
  apply Fin.ext
  rw [Rect.emb_apply]
  fin_cases r
  · show i + 1 * a.val = (i + a.val) % 64; omega
  · show j + 1 * b.val = (j + b.val) % 32000; omega

theorem sdst_set (c : Dev nD) {j : ℕ} (h : ∀ a, (![j, 0, 0] : Fin 3 → ℕ) a + S1x64x1280.size a ≤ S4x64x1280.size a) :
    (sdst h).view.set ⊆ sslot c j := by
  intro y hy
  obtain ⟨x, -, rfl⟩ := Finset.mem_map.mp hy
  refine Finset.mem_filter.mpr ⟨Finset.mem_univ _, ?_⟩
  obtain ⟨a, b, rfl⟩ : ∃ a b, x = ix2 a b := ⟨x 0, x 1, (ix2_eta x).symm⟩
  rw [sdst_emb]; rfl

theorem sdst_write (c : Dev nD) {t : ℕ} (h : ∀ a, (![t % 4, 0, 0] : Fin 3 → ℕ) a + S1x64x1280.size a ≤ S4x64x1280.size a)
    (h' : ∀ a, (![0, 1280 * t] : Fin 2 → ℕ) a + S64x1280.size a ≤ S64x32000.size a) (fs : Buf (Elt F) (shL c)) (fd : Buf (Elt F) (sL c)) :
    SHolds c fs t ((sdst h).view.write (Elt F) fd ((ssrc h').view.read (Elt F) fs) Finset.univ) := by
  intro y hy
  have e : y = (sdst h).view.emb (ix2 (y 1) (y 2)) := by
    rw [sdst_emb]
    conv_lhs => rw [← ix3_eta y]
    congr 1
    exact Fin.ext hy
  rw [e, View.write_emb, if_pos (Finset.mem_univ _), View.read_apply, ssrc_emb, sdst_emb, Nat.zero_add]
  rfl

/-- Starting the copy of a tile's scales. -/
theorem s_issue (c : Dev nD) {α : Type} {fs : Buf (Elt F) (shL c)} (t : ℕ)
    {oS : Fin 1 → ℕ} {oD : Fin 3 → ℕ} {oW : Fin 2 → ℕ}
    {hS : ∀ a, oS a + S1.size a ≤ S4.size a} {hD : ∀ a, oD a + S1x64x1280.size a ≤ S4x64x1280.size a}
    {hW : ∀ a, oW a + S64x1280.size a ≤ S64x32000.size a}
    (eS : oS = ![t % 4]) (eD : oD = ![t % 4, 0, 0]) (eW : oW = ![0, 1280 * t])
    {hsrc} {hdst} {hsem} {k : PUnit → Prog (TpuEff nD τ sig (Elt F) Λ₀ .tc) α} {Q : α → sProp 𝕄} :
    SFree c fs (t % 4)
      ⊢ iprop((SF c fs t -∗ WP c (k ⟨⟩) Q)
        -∗ WP c (Prog.lift (.enqueueDma (ssrc hW) (.here (sdst hD))
          (.dma ((cc0_scratch16.slice (Rect.unit (s := S4) oS S1.size hS)).squeeze S_ squeezes_S1_S_).sem) hsrc hdst hsem) >>= k) Q) := by
  subst eD eW
  exact issue c (src := ssrc hW) (dst := sdst hD) NS rfl (View.dmaCredit_pos _ (by decide)) (sem_slice _ hS _ eS)
    (sdst_set c hD) (sdst_write c hD hW fs)

/-- Waiting for a tile's scales. -/
theorem s_await (c : Dev nD) {α : Type} {fs : Buf (Elt F) (shL c)} {t : ℕ}
    {oS : Fin 1 → ℕ} {oD : Fin 3 → ℕ} {oW : Fin 2 → ℕ}
    {hS : ∀ a, oS a + S1.size a ≤ S4.size a} {hD : ∀ a, oD a + S1x64x1280.size a ≤ S4x64x1280.size a}
    {hW : ∀ a, oW a + S64x1280.size a ≤ S64x32000.size a}
    (eS : oS = ![t % 4])
    {hsrc} {hdst} {k : PUnit → Prog (TpuEff nD τ sig (Elt F) Λ₀ .tc) α} {Q : α → sProp 𝕄} :
    iprop(SF c fs t ∗ Ow (F := F) c)
      ⊢ iprop((iprop(SLd c fs t ∗ Ow (F := F) c) -∗ WP c (k ⟨⟩) Q)
        -∗ WP c (Prog.lift (.waitDma2
          ((cc0_scratch16.slice (Rect.unit (s := S4) oS S1.size hS)).squeeze S_ squeezes_S1_S_).sem (ssrc hW) (sdst hD) hsrc hdst) >>= k) Q) :=
  await c (srcw := ssrc hW) (dstw := sdst hD) rfl (sem_slice _ hS _ eS)

/-- What a load of one row of a landed block reads: row `r` of tile `t`. -/
def sblk {c : Dev nD} (fs : Buf (Elt F) (shL c)) (t r : ℕ) : S1x1x1280.Idx → Elt F .f32 :=
  fun x => fs (ixS (r + (x 1).val) (1280 * t + (x 2).val))

/-- Loading one row of a landed block. -/
theorem s_load (c : Dev nD) {α : Type} {fs : Buf (Elt F) (shL c)} {t : ℕ} {o : Fin 3 → ℕ} [I : ClosedOff o]
    {h : ∀ a, o a + S1x1x1280.size a ≤ S4x64x1280.size a} {hl}
    (e : I.form = ![t % 4, I.form 1, 0])
    {k : (S1x1x1280.Idx → Elt F .f32) → Prog (TpuEff nD τ sig (Elt F) Λ₀ .tc) α} {Q : α → sProp 𝕄} :
    SLd c fs t
      ⊢ iprop((SLd c fs t -∗ WP c (k (sblk fs t (I.form 1))) Q)
        -∗ WP c (Prog.lift (.load (Memref.whole cc0_scratch1) (Rect.unit (s := S4x64x1280) o S1x1x1280.size h).toLoadRect hl) >>= k) Q) := by
  obtain ⟨φ, hφ⟩ := I
  change φ = ![t % 4, φ 1, 0] at e
  show _ ⊢ iprop((_ -∗ WP c (k (sblk fs t (φ 1))) Q) -∗ _)
  subst hφ
  generalize o 1 = r at e
  subst e
  rw [show (Prog.lift (.load (Memref.whole cc0_scratch1) (Rect.unit (s := S4x64x1280) _ S1x1x1280.size h).toLoadRect hl) >>= k
      : Prog (TpuEff nD τ sig (Elt F) Λ₀ .tc) α)
    = .op (.load (Memref.whole cc0_scratch1) (Rect.unit (s := S4x64x1280) _ S1x1x1280.size h).toLoadRect hl) k from Prog.bind_lift _ _]
  have hidx : ∀ x : S1x1x1280.Idx, ((Rect.unit (s := S4x64x1280) ![t % 4, r, 0] S1x1x1280.size h).emb x 0).val = t % 4
      ∧ ((Rect.unit (s := S4x64x1280) ![t % 4, r, 0] S1x1x1280.size h).emb x 1).val = r + (x 1).val
      ∧ ((Rect.unit (s := S4x64x1280) ![t % 4, r, 0] S1x1x1280.size h).emb x 2).val = (x 2).val := by
    intro x
    refine ⟨?_, ?_, ?_⟩ <;> rw [Rect.emb_apply]
    · have : (x 0).val < 1 := (x 0).isLt
      show t % 4 + 1 * (x 0).val = _; omega
    · show r + 1 * (x 1).val = _; omega
    · show 0 + 1 * (x 2).val = _; omega
  unfold SLd Land
  iintro ⟨⟨%f, Hd, %hf⟩, Hs, Hw⟩ Hk
  have hv : (Memref.whole cc0_scratch1).view.readAt (Elt F) (Rect.unit (s := S4x64x1280) ![t % 4, r, 0] S1x1x1280.size h).toLoadRect f
      = sblk fs t r := by
    funext x
    refine (hf _ (hidx x).1).trans ?_
    unfold sblk
    rw [(hidx x).2.1, (hidx x).2.2]
  iapply (wp_load Variants.none (c : Thread nD τ) none Set.univ (S := sslot c (t % 4)) ?_) $$ Hd
  · intro y hy
    obtain ⟨x, hx, rfl⟩ := Finset.mem_map.mp hy
    have hx : x ∈ (Rect.unit (s := S4x64x1280) ![t % 4, r, 0] S1x1x1280.size h).set := hx
    rw [← Rect.map_emb_univ] at hx
    obtain ⟨z, -, rfl⟩ := Finset.mem_map.mp hx
    exact Finset.mem_filter.mpr ⟨Finset.mem_univ _, (hidx z).1⟩
  rw [hv]
  iintro Hd
  iapply Hk
  isplitl [Hd]
  · iexists f
    isplitl [Hd]; · iexact Hd
    ipureintro; exact hf
  isplitl [Hs]; · iexact Hs
  iexact Hw

end Cert.Kernel.Hand

end
-- ==== Proof.Run.Out.lean ====
/-
  The logits in the core's memory and their way out: columns computed so far, columns whose copy to the result has been
  started, and the batch of twenty-five copies on one semaphore.
-/
module

public import proofs.«01_k».proof.Proof.Run.Base

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- The logits in the core's memory, and the result they go to. -/
abbrev zL (c : Dev nD) : Loc nD τ sig := (Memref.whole cc0_scratch6).view.loc (c : Thread nD τ)
abbrev zhL (c : Dev nD) : Loc nD τ sig := (Memref.whole main_v1_2).view.loc (c : Thread nD τ)

/-- The columns of tile `t`; the columns from tile `n` on; the columns before it. -/
def zcol (t : ℕ) : Finset S6x32000.Idx := Finset.univ.filter fun y : S6x32000.Idx => 1280 * t ≤ (y 1).val ∧ (y 1).val < 1280 * (t + 1)
def zge (n : ℕ) : Finset S6x32000.Idx := Finset.univ.filter fun y : S6x32000.Idx => 1280 * n ≤ (y 1).val
def zlt (n : ℕ) : Finset S6x32000.Idx := Finset.univ.filter fun y : S6x32000.Idx => (y 1).val < 1280 * n

theorem zcol_sub (n : ℕ) : zcol n ⊆ zge n := fun y hy =>
  Finset.mem_filter.mpr ⟨Finset.mem_univ _, (Finset.mem_filter.mp hy).2.1⟩
/-- A points-to over two disjoint sets of elements, taken apart and put together. -/
theorem pts_split {ℓ : Loc nD τ sig} {A B C : Finset (Idx ℓ)} {q : PosShare TreeShare} {f : Buf (Elt F) ℓ}
    (h : ∀ y, y ∈ A ↔ y ∈ B ∨ y ∈ C) (hd : ∀ y, y ∈ B → y ∉ C) :
    (ℓ ↦[A]{q} f : sProp 𝕄) ⊣⊢ iprop((ℓ ↦[B]{q} f) ∗ ℓ ↦[C]{q} f) := by
  have e : A = B ∪ C := by ext y; rw [h, Finset.mem_union]
  rw [e]
  exact pointsTo_union (Finset.disjoint_left.mpr fun y hb hc => hd y hb hc)
theorem zge_split (n : ℕ) (y : S6x32000.Idx) : y ∈ zge n ↔ y ∈ zcol n ∨ y ∈ zge (n + 1) := by
  simp only [zge, zcol, Finset.mem_filter, Finset.mem_univ, true_and]; omega
theorem zge_disj (n : ℕ) (y : S6x32000.Idx) (h : y ∈ zcol n) : y ∉ zge (n + 1) := by
  simp only [zge, zcol, Finset.mem_filter, Finset.mem_univ, true_and] at *; omega
theorem zlt_split (n : ℕ) (y : S6x32000.Idx) : y ∈ zlt (n + 1) ↔ y ∈ zlt n ∨ y ∈ zcol n := by
  simp only [zlt, zcol, Finset.mem_filter, Finset.mem_univ, true_and]; omega
theorem zlt_disj (n : ℕ) (y : S6x32000.Idx) (h : y ∈ zlt n) : y ∉ zcol n := by
  simp only [zlt, zcol, Finset.mem_filter, Finset.mem_univ, true_and] at *; omega
theorem zge_zero : zge 0 = Finset.univ := by ext y; simp [zge]
theorem zlt_zero : zlt 0 = ∅ := by ext y; simp [zlt]
theorem zlt_all : zlt 25 = Finset.univ := by
  ext y; simp only [zlt, Finset.mem_filter, Finset.mem_univ, true_and, iff_true]
  have : (y 1).val < 32000 := (y 1).isLt
  omega

/-- The bytes a tile's copy out credits. -/
def NZ : ℕ := ((Memref.whole main_v1_2).slice (Rect.unit (s := S6x32000) ![0, 0] S6x1280.size (by decide)) (fun _ => rfl)).view.dmaCredit

/-- What the copy out of tile `t` delivers: the result's columns at the logits `Zf`, and the columns it read. -/
def OutD (c : Dev nD) (Zf : S6x32000.Idx → Elt F .f32) (t : ℕ) : sProp 𝕄 :=
  iprop((∃ f : Buf (Elt F) (zhL c), (zhL c ↦[zcol t]{fullShare} f) ∗ ⌜∀ y ∈ zcol t, f y = Zf y⌝) ∗ (zL c ↦[zcol t]{fullShare.right} Zf))

theorem storable_out (ℓ ℓ' : Loc nD τ sig) (S : Finset (Idx ℓ)) (S' : Finset (Idx ℓ')) (P : Buf (Elt F) ℓ → Prop) (q : PosShare TreeShare)
    (g : Buf (Elt F) ℓ') : Storable (upEmb : UEmb _ 𝕄) iprop((∃ f : Buf (Elt F) ℓ, (ℓ ↦[S]{fullShare} f) ∗ ⌜P f⌝) ∗ (ℓ' ↦[S']{q} g)) := by
  infer_instance

instance (c : Dev nD) (Zf : S6x32000.Idx → Elt F .f32) (t : ℕ) : Storable (upEmb : UEmb _ 𝕄) (OutD c Zf t) := by
  unfold OutD
  exact storable_out (zhL c) (zL c) (zcol t) (zcol t) _ _ _

/-- The copies of the tiles before `n` are under way; the logits are in memory for the columns before `C`. -/
def Out (c : Dev nD) (Zf : S6x32000.Idx → Elt F .f32) (n C : ℕ) : sProp 𝕄 :=
  iprop((∃ f : Buf (Elt F) (zL c), (zL c ↦[zge n]{fullShare} f) ∗ ⌜∀ y : S6x32000.Idx, (y 1).val < C → f y = Zf y⌝)
    ∗ (zL c ↦[zlt n]{fullShare.left} Zf) ∗ (∃ g : Buf (Elt F) (zhL c), zhL c ↦[zge n]{fullShare} g)
    ∗ Transfers.Batch EC (c : Thread nD τ) (cell 28) () NZ (fun t : Fin 25 => OutD c Zf t.val) n 0)

/-- A tile's columns of the result, and of the logits in memory. -/
abbrev zdst {o : Fin 2 → ℕ} (h : ∀ a, o a + S6x1280.size a ≤ S6x32000.size a) : Memref sig .tc .hbm S6x1280 .f32 :=
  (Memref.whole main_v1_2).slice (Rect.unit (s := S6x32000) o S6x1280.size h) (fun _ => rfl)
abbrev zsrc {o : Fin 2 → ℕ} (h : ∀ a, o a + S6x1280.size a ≤ S6x32000.size a) : Memref sig .tc .vmem S6x1280 .f32 :=
  (Memref.whole cc0_scratch6).slice (Rect.unit (s := S6x32000) o S6x1280.size h) (fun _ => rfl)

theorem zrect_mem {s0 s1 : ℕ} {o : ℕ} (h : ∀ a, (![0, o] : Fin 2 → ℕ) a + (⟨2, ![6, s1]⟩ : Shape).size a ≤ S6x32000.size a) (y : S6x32000.Idx) :
    y ∈ (Rect.unit (s := S6x32000) ![0, o] (⟨2, ![6, s1]⟩ : Shape).size h).set ↔ o ≤ (y 1).val ∧ (y 1).val < o + s1 := by
  have h1 : o + s1 ≤ 32000 := h 1
  rw [← Rect.map_emb_univ]
  constructor
  · intro hy
    obtain ⟨x, -, rfl⟩ := Finset.mem_map.mp hy
    have hx : (x 1).val < s1 := (x 1).isLt
    rw [Rect.emb_apply]
    show o ≤ o + 1 * (x 1).val ∧ o + 1 * (x 1).val < o + s1
    omega
  · rintro ⟨ha, hb⟩
    refine Finset.mem_map.mpr ⟨ix2 (y 0) ⟨(y 1).val - o, by omega⟩, Finset.mem_univ _, ?_⟩
    funext i
    apply Fin.ext
    rw [Rect.emb_apply]
    fin_cases i
    · show 0 + 1 * (y 0).val = (y 0).val; omega
    · show o + 1 * ((y 1).val - o) = (y 1).val; omega

theorem zcol_eq {t : ℕ} (h : ∀ a, (![0, 1280 * t] : Fin 2 → ℕ) a + S6x1280.size a ≤ S6x32000.size a) :
    (Rect.unit (s := S6x32000) ![0, 1280 * t] S6x1280.size h).set = zcol t := by
  ext y
  refine (zrect_mem (s0 := 0) (s1 := 1280) h y).trans ?_
  simp only [zcol, Finset.mem_filter, Finset.mem_univ, true_and]; omega

/-- Starting the copy out of tile `n`. -/
theorem z_issue (c : Dev nD) {α : Type} {Zf : S6x32000.Idx → Elt F .f32} (n : ℕ) {C : ℕ} (hn : n < 25) (hC : 1280 * (n + 1) ≤ C)
    {oS : Fin 1 → ℕ} {o : Fin 2 → ℕ}
    {hS : ∀ a, oS a + S1.size a ≤ S3.size a} {h h' : ∀ a, o a + S6x1280.size a ≤ S6x32000.size a}
    (eS : oS = ![0]) (eo : o = ![0, 1280 * n])
    {hsrc} {hdst} {hsem} {k : PUnit → Prog (TpuEff nD τ sig (Elt F) Λ₀ .tc) α} {Q : α → sProp 𝕄} :
    Out c Zf n C
      ⊢ iprop((Out c Zf (n + 1) C -∗ WP c (k ⟨⟩) Q)
        -∗ WP c (Prog.lift (.enqueueDma (zsrc h) (.here (zdst h'))
          (.dma ((cc0_scratch19.slice (Rect.unit (s := S3) oS S1.size hS)).squeeze S_ squeezes_S1_S_).sem) hsrc hdst hsem) >>= k) Q) := by
  subst eo
  have hsm : SemLoc.dma (((cc0_scratch19.slice (Rect.unit (s := S3) oS S1.size hS)).squeeze S_ squeezes_S1_S_).sem) = cell 28 := sem_slice _ hS _ eS
  rw [Prog.bind_lift]
  unfold Out
  rw [← hsm]
  iintro ⟨⟨%f, Hz, %hf⟩, Hl, ⟨%g, Hg⟩, HB⟩ Hk
  have hs1 := (pts_split (ℓ := zL c) (q := fullShare) (f := f) (zge_split n) (zge_disj n)).1
  have hs2 := (pts_split (ℓ := zhL c) (q := fullShare) (f := g) (zge_split n) (zge_disj n)).1
  have hc : ∀ y ∈ zcol n, f y = Zf y := fun y hy => hf y (by have := (Finset.mem_filter.mp hy).2.2; omega)
  have hcg := pointsTo_congr (nD := nD) (τ := τ) (sig := sig) (Ix := Unit) (Val := Elt F) (Name := ℕ)
    (U := Pipeline.UD sig nD τ) (Lvl := ℕ) (ℓ := zL c) (q := fullShare) (I := zcol n) (f := f) (g := Zf) hc
  have hs3 := (pointsTo_share (nD := nD) (τ := τ) (sig := sig) (Ix := Unit) (Val := Elt F) (Name := ℕ)
    (U := Pipeline.UD sig nD τ) (Lvl := ℕ) (ℓ := zL c) (I := zcol n) (f := Zf) (PosShare.mem_left_op_right fullShare)).1
  have hs4 := (pts_split (ℓ := zL c) (q := fullShare.left) (f := Zf) (zlt_split n) (zlt_disj n)).2
  ihave H1 := hs1 $$ Hz
  icases H1 with ⟨Hc, Hz⟩
  ihave Hc := (Entails.of_eq hcg) $$ Hc
  ihave H2 := hs2 $$ Hg
  icases H2 with ⟨Hd, Hg⟩
  ihave H3 := hs3 $$ Hc
  icases H3 with ⟨HcL, HcR⟩
  have hset : (zsrc h).view.set = zcol n := by rw [View.set_slice_whole]; exact zcol_eq h
  have hset' : (zdst h').view.set ⊆ zcol n := by rw [View.set_slice_whole]; exact (zcol_eq h').subset
  have hw := fun (hj : n < 25) hD => Transfers.wp_dmaBatch (nD := nD) (τ := τ) (sig := sig) (Ix := Unit) (Val := Elt F) (Name := ℕ) (U := Pipeline.UD sig nD τ)
    (Lvl := ℕ) (defs := defs₀ (F := F)) EC Variants.none (c : Thread nD τ) none (Q := Q) (src := zsrc h) (via := ReadAs.same) (dst := zdst h')
    (sm := .dma ((cc0_scratch19.slice (Rect.unit (s := S3) oS S1.size hS)).squeeze S_ squeezes_S1_S_).sem)
    (hsrc := hsrc) (hdst := hdst) (hsem := hsem) (k := k) (q := fullShare.right) (fs := Zf) (fd := g) (Sd := zcol n)
    (D := fun t : Fin 25 => OutD c Zf t.val) (j := n) (u := 0) () NZ rfl hset' hj (Nat.zero_le _) hD
  rw [hset] at hw
  iapply (hw hn ?_) $$ [HcR Hd HB]
  · unfold OutD
    iintro ⟨Ha, Hb⟩
    isplitl [Ha]
    · iexists _
      isplitl [Ha]; · iexact Ha
      ipureintro
      intro y hy
      have hy' : y ∈ (zdst h').view.set := by rw [View.set_slice_whole, zcol_eq h']; exact hy
      obtain ⟨x, -, rfl⟩ := Finset.mem_map.mp hy'
      rw [View.write_emb, if_pos (Finset.mem_univ _)]
      rfl
    iexact Hb
  · isplitl [HcR]; · iexact HcR
    isplitl [Hd]; · iexact Hd
    iexact HB
  iintro HB
  iapply Hk
  isplitl [Hz]
  · iexists f
    isplitl [Hz]; · iexact Hz
    ipureintro; exact hf
  isplitl [Hl HcL]
  · iapply hs4
    isplitl [Hl]; · iexact Hl
    iexact HcL
  isplitl [Hg]
  · iexists g
    iexact Hg
  iexact HB

/-- Loading 128 columns of the logits not yet on their way: some value. -/
theorem z_load (c : Dev nD) {α : Type} {Zf : S6x32000.Idx → Elt F .f32} {n C C' : ℕ} (hC : 1280 * n ≤ C')
    {o : Fin 2 → ℕ} {h : ∀ a, o a + S6x128.size a ≤ S6x32000.size a} (eo : o = ![0, C']) {hl}
    {k : (S6x128.Idx → Elt F .f32) → Prog (TpuEff nD τ sig (Elt F) Λ₀ .tc) α} {Q : α → sProp 𝕄} :
    Out c Zf n C
      ⊢ iprop((∀ v, Out c Zf n C -∗ WP c (k v) Q)
        -∗ WP c (Prog.lift (.load (Memref.whole cc0_scratch6) (Rect.unit (s := S6x32000) o S6x128.size h).toLoadRect hl) >>= k) Q) := by
  subst eo
  rw [show (Prog.lift (.load (Memref.whole cc0_scratch6) (Rect.unit (s := S6x32000) _ S6x128.size h).toLoadRect hl) >>= k
      : Prog (TpuEff nD τ sig (Elt F) Λ₀ .tc) α)
    = .op (.load (Memref.whole cc0_scratch6) (Rect.unit (s := S6x32000) _ S6x128.size h).toLoadRect hl) k from Prog.bind_lift _ _]
  unfold Out
  iintro ⟨⟨%f, Hz, %hf⟩, H⟩ Hk
  iapply (wp_load Variants.none (c : Thread nD τ) none Set.univ (S := zge n) ?_) $$ Hz
  · intro y hy
    obtain ⟨x, hx, rfl⟩ := Finset.mem_map.mp hy
    have hx := (zrect_mem (s0 := 0) (s1 := 128) h x).mp hx
    exact Finset.mem_filter.mpr ⟨Finset.mem_univ _, le_trans hC hx.1⟩
  iintro Hz
  iapply Hk
  isplitl [Hz]
  · iexists f
    isplitl [Hz]; · iexact Hz
    ipureintro; exact hf
  iexact H

/-- Storing the next 128 columns of the logits. -/
theorem z_store (c : Dev nD) {α : Type} {Zf : S6x32000.Idx → Elt F .f32} {n C : ℕ} (hC : 1280 * n ≤ C)
    {o : Fin 2 → ℕ} {h : ∀ a, o a + S6x128.size a ≤ S6x32000.size a} (eo : o = ![0, C])
    {w : S6x128.Idx → Elt F .f32} (hw : ∀ x : S6x128.Idx, ∀ y : S6x32000.Idx, (y 0).val = (x 0).val → (y 1).val = C + (x 1).val → w x = Zf y) {hx} {hm}
    {k : PUnit → Prog (TpuEff nD τ sig (Elt F) Λ₀ .tc) α} {Q : α → sProp 𝕄} :
    Out c Zf n C
      ⊢ iprop((Out c Zf n (C + 128) -∗ WP c (k ⟨⟩) Q)
        -∗ WP c (Prog.lift (.store (Memref.whole cc0_scratch6) (Rect.unit (s := S6x32000) o S6x128.size h) w Finset.univ hx hm) >>= k) Q) := by
  subst eo
  rw [Prog.bind_lift]
  unfold Out
  iintro ⟨⟨%f, Hz, %hf⟩, H⟩ Hk
  iapply (wp_store Variants.none (c : Thread nD τ) none Set.univ (m := Memref.whole cc0_scratch6)
    (r := Rect.unit (s := S6x32000) ![0, C] S6x128.size h) (S := zge n) ?_) $$ Hz
  · intro y hy
    have hy : y ∈ ((View.whole cc0_scratch6).slice (Rect.unit (s := S6x32000) ![0, C] S6x128.size h)).set := hy
    rw [View.set_slice_whole] at hy
    have hx := (zrect_mem (s0 := 0) (s1 := 128) h y).mp hy
    exact Finset.mem_filter.mpr ⟨Finset.mem_univ _, le_trans hC hx.1⟩
  iintro Hz
  iapply Hk
  isplitl [Hz]
  · iexists _
    isplitl [Hz]; · iexact Hz
    ipureintro
    intro y hy
    by_cases hin : y ∈ ((Memref.whole cc0_scratch6).access (Rect.unit (s := S6x32000) ![0, C] S6x128.size h)).set
    · obtain ⟨x, -, rfl⟩ := Finset.mem_map.mp hin
      rw [View.write_emb, if_pos (Finset.mem_univ _)]
      refine hw x _ ?_ ?_
      · show ((Rect.unit (s := S6x32000) ![0, C] S6x128.size h).emb x 0).val = _
        rw [Rect.emb_apply]; show 0 + 1 * (x 0).val = _; omega
      · show ((Rect.unit (s := S6x32000) ![0, C] S6x128.size h).emb x 1).val = _
        rw [Rect.emb_apply]; show C + 1 * (x 1).val = _; omega
    · rw [View.write_of_not_mem (h := hin)]
      apply hf
      by_contra hge
      apply hin
      show y ∈ ((View.whole cc0_scratch6).slice (Rect.unit (s := S6x32000) ![0, C] S6x128.size h)).set
      rw [View.set_slice_whole]
      exact (zrect_mem (s0 := 0) (s1 := 128) h y).mpr ⟨by omega, hy⟩
  iexact H

end Cert.Kernel.Hand

end
-- ==== Proof.Run.Vals.lean ====
/-
  What one tile of the vocabulary computes: thirty-two products of 256 rows, accumulated for the even and for the odd
  half of a scale block, then the penalties on each group of 128 columns, then the running maximum and the running sum.
-/
module

public import proofs.«01_k».proof.Proof.Run.Out

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- The prepared activations, and the counts, in the core's memory. -/
abbrev lhsL (c : Dev nD) : Loc nD τ sig := (Memref.whole cc0_scratch2).view.loc (c : Thread nD τ)
abbrev cntL (c : Dev nD) : Loc nD τ sig := (Memref.whole cc0_scratch5).view.loc (c : Thread nD τ)

/-- 256 columns of the prepared activations, from column `j`. -/
def lblk (L : S16x8192.Idx → Elt F .bf16) (j : ℕ) : Vec F S16x256 .bf16 :=
  fun x => L (ix2 ⟨(x 0).val % 16, Nat.mod_lt _ (by decide)⟩ ⟨(j + (x 1).val) % 8192, Nat.mod_lt _ (by decide)⟩)

/-- Eight rows of the counts, 256 rows apart, from row `r`. -/
def cblk (C : S2048x128.Idx → Elt F .f32) (r : ℕ) : Vec F S8x128 .f32 :=
  fun x => C (ix2 ⟨(r + 256 * (x 0).val) % 2048, Nat.mod_lt _ (by decide)⟩ ⟨(x 1).val % 128, Nat.mod_lt _ (by decide)⟩)

/-- Loading 256 columns of the prepared activations. -/
theorem l_load (c : Dev nD) {α : Type} {q : PosShare TreeShare} {L : Buf (Elt F) (lhsL c)} {j : ℕ}
    {h : ∀ a, (![0, j] : Fin 2 → ℕ) a + S16x256.size a ≤ S16x8192.size a} {hl}
    {k : Vec F S16x256 .bf16 → Prog (TpuEff nD τ sig (Elt F) Λ₀ .tc) α} {Q : α → sProp 𝕄} :
    (lhsL c ↦{q} L)
      ⊢ iprop(((lhsL c ↦{q} L) -∗ WP c (k (lblk L j)) Q)
        -∗ WP c (Prog.lift (.load (Memref.whole cc0_scratch2) (Rect.unit (s := S16x8192) ![0, j] S16x256.size h).toLoadRect hl) >>= k) Q) := by
  have hv : (Memref.whole cc0_scratch2).view.readAt (Elt F) (Rect.unit (s := S16x8192) ![0, j] S16x256.size h).toLoadRect L = lblk L j := by
    funext x
    show L _ = L _
    congr 1
    have h1 : j + 256 ≤ 8192 := h 1
    have hx0 : (x 0).val < 16 := (x 0).isLt
    have hx1 : (x 1).val < 256 := (x 1).isLt
    funext i
    apply Fin.ext
    fin_cases i
    · show 0 + 1 * (x 0).val = (x 0).val % 16; omega
    · show j + 1 * (x 1).val = (j + (x 1).val) % 8192; omega
  rw [← hv]
  exact ld c

/-- Loading eight rows of the counts. -/
theorem c_load (c : Dev nD) {α : Type} {q : PosShare TreeShare} {C : Buf (Elt F) (cntL c)} {o : Fin 2 → ℕ} (r : ℕ)
    {h : ∀ a, S8x128.size a = 0 ∨ o a + (![256, 1] : Fin 2 → ℕ) a * (S8x128.size a - 1) < S2048x128.size a} {hl} (e : o = ![r, 0])
    {k : Vec F S8x128 .f32 → Prog (TpuEff nD τ sig (Elt F) Λ₀ .tc) α} {Q : α → sProp 𝕄} :
    (cntL c ↦{q} C)
      ⊢ iprop(((cntL c ↦{q} C) -∗ WP c (k (cblk C r)) Q)
        -∗ WP c (Prog.lift (.load (Memref.whole cc0_scratch5) (⟨o, S8x128.size, ![256, 1], h⟩ : LoadRect S2048x128) hl) >>= k) Q) := by
  subst e
  have hv : (Memref.whole cc0_scratch5).view.readAt (Elt F) (⟨![r, 0], S8x128.size, ![256, 1], h⟩ : LoadRect S2048x128) C = cblk C r := by
    funext x
    show C _ = C _
    congr 1
    have h1 : 8 = 0 ∨ r + 256 * (8 - 1) < 2048 := h 0
    have hx0 : (x 0).val < 8 := (x 0).isLt
    have hx1 : (x 1).val < 128 := (x 1).isLt
    funext i
    apply Fin.ext
    fin_cases i
    · show r + 256 * (x 0).val = (r + 256 * (x 0).val) % 2048; omega
    · show 0 + 1 * (x 1).val = (x 1).val % 128; omega
  rw [← hv]
  exact ld c

variable {c : Dev nD} (fw : Buf (Elt F) (whL c)) (fs : Buf (Elt F) (shL c)) (L : S16x8192.Idx → Elt F .bf16)
  (C : S2048x128.Idx → Elt F .f32) (xs pr fr re : FVec F S8x128 .f32)

/-- The product of block `b`: 256 columns of the activations with 256 rows of tile `t`. -/
def prodB (t b : ℕ) : FVec F S16x1280 .f32 :=
  matmul dot_S16x256_S256x1280_S16x1280_1_0_0_1_n_n none (lblk L (256 * b))
    (shapeCast S256x1280 (wblk fw t (b / 8) (256 * (b % 8))) shapeCasts_S1x256x1280_S256x1280) (constant S16x1280 .f32 0x00000000#32)

/-- Row `r` of the scales of tile `t`, on eight rows. -/
def sclB (t r : ℕ) : FVec F S8x1280 .f32 :=
  broadcastTo S8x1280 (shapeCast S1x1280 (sblk fs t r) shapeCasts_S1x1x1280_S1x1280) broadcasts_S1x1280_S8x1280

/-- The running sums over the even and over the odd scale blocks, after `n` blocks of 256 rows. -/
def accE (t : ℕ) : ℕ → FVec F S8x1280 .f32
  | 0 => k0_pay12
  | n + 1 => addf (accE t n) (mulf (extractStridedSlice S8x1280 ![0, 0] (prodB fw L t n) slices_S16x1280_o0_0_S8x1280) (sclB fs t (2 * n)))
def accO (t : ℕ) : ℕ → FVec F S8x1280 .f32
  | 0 => k0_pay13
  | n + 1 => addf (accO t n) (mulf (extractStridedSlice S8x1280 ![8, 0] (prodB fw L t n) slices_S16x1280_o8_0_S8x1280) (sclB fs t (2 * n + 1)))

/-- The unscaled logits of tile `t`. -/
def zraw (t : ℕ) : FVec F S8x1280 .f32 := addf (accE fw fs L t 32) (accO fw fs L t 32)

theorem slices_g (g : Fin 10) : S8x1280.Slices ![0, 128 * g.val] S8x128 := by revert g; decide

/-- The penalties on 128 columns of logits with their counts. -/
def penal (v : FVec F S8x128 .f32) (n : FVec F S8x128 .f32) : FVec F S8x128 .f32 :=
  subf (subf (select (cmpf .ogt n (broadcast S8x128 (Scalar.ofBits .f32 0x00000000#32 : F .f32)))
      (select (cmpf .ogt v (broadcast S8x128 (Scalar.ofBits .f32 0x00000000#32 : F .f32))) (divf v re) (mulf v re)) v)
      (mulf n fr))
    (select (cmpf .ogt n (broadcast S8x128 (Scalar.ofBits .f32 0x00000000#32 : F .f32))) pr (broadcast S8x128 (Scalar.ofBits .f32 0x00000000#32 : F .f32)))

/-- Group `g` of tile `t`, from the unscaled logits. -/
def zgrp' (z : FVec F S8x1280 .f32) (t : ℕ) (g : Fin 10) : FVec F S8x128 .f32 :=
  penal pr fr re (mulf (extractStridedSlice S8x128 ![0, 128 * g.val] z (slices_g g)) xs) (cblk C (10 * t + g.val))

/-- The logits of tile `t`, group `g`: 128 columns, on eight rows. -/
def zgrp (t : ℕ) (g : Fin 10) : FVec F S8x128 .f32 := zgrp' C xs pr fr re (zraw fw fs L t) t g

/-- The running maximum and sum after one more tile. -/
def msStep (z : Fin 10 → FVec F S8x128 .f32) (a : FVec F S8x128 .f32 × FVec F S8x128 .f32) : FVec F S8x128 .f32 × FVec F S8x128 .f32 :=
  (k0_pay118 a.1 (z 0) (z 1) (z 2) (z 3) (z 4) (z 5) (z 6) (z 7) (z 8) (z 9),
    k0_pay208 (z 8) (z 9) (k0_pay118 a.1 (z 0) (z 1) (z 2) (z 3) (z 4) (z 5) (z 6) (z 7) (z 8) (z 9))
      (k0_pay119 a.1 a.2 (z 0) (z 1) (z 2) (z 3) (z 4) (z 5) (z 6) (z 7) (z 8) (z 9))
      (k0_pay120 a.1 (z 0) (z 1) (z 2) (z 3) (z 4) (z 5) (z 6) (z 7) (z 8) (z 9)))

/-- The running maximum and sum before tile `t`. -/
def msAt : ℕ → FVec F S8x128 .f32 × FVec F S8x128 .f32
  | 0 => (k0_pay206, k0_pay207)
  | t + 1 => msStep (zgrp fw fs L C xs pr fr re t) (msAt t)

/-- The logits the kernel leaves. -/
def Zfin : S6x32000.Idx → Elt F .f32 := fun y =>
  zgrp fw fs L C xs pr fr re ((y 1).val / 1280) ⟨(y 1).val % 1280 / 128, by omega⟩
    (ix2 (⟨(y 0).val % 8, Nat.mod_lt _ (by decide)⟩ : Fin 8) (⟨(y 1).val % 128, Nat.mod_lt _ (by decide)⟩ : Fin 128))

/-- The first six of eight rows. -/
def top6 (v : FVec F S8x128 .f32) : FVec F S6x128 .f32 := extractStridedSlice S6x128 ![0, 0] v slices_S8x128_o0_0_S6x128

theorem Zfin_at {t : ℕ} (g : Fin 10) (x : S6x128.Idx) (y : S6x32000.Idx) (h0 : (y 0).val = (x 0).val) (h1 : (y 1).val = 1280 * t + 128 * g.val + (x 1).val) :
    top6 (zgrp fw fs L C xs pr fr re t g) x = Zfin fw fs L C xs pr fr re y := by
  have hg : g.val < 10 := g.isLt
  have hx : (x 1).val < 128 := (x 1).isLt
  have hx0 : (x 0).val < 6 := (x 0).isLt
  unfold Zfin
  have ht : (y 1).val / 1280 = t := by omega
  have hg' : (⟨(y 1).val % 1280 / 128, by omega⟩ : Fin 10) = g := Fin.ext (by show (y 1).val % 1280 / 128 = g.val; omega)
  rw [ht, hg']
  unfold top6
  show zgrp fw fs L C xs pr fr re t g _ = _
  congr 1
  funext i
  apply Fin.ext
  fin_cases i
  · show 0 + (x 0).val = (y 0).val % 8; omega
  · show 0 + (x 1).val = (y 1).val % 128; omega

end Cert.Kernel.Hand

end
-- ==== Proof.Run.Ring.lean ====
/-
  One trip of the loop over the vocabulary's tiles: wait for the tile's scales and weight blocks, start the copies of later
  tiles and of the tile before, compute, and store the tile's logits.
-/
module

public import proofs.«01_k».proof.Proof.Run.Vals

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- Block `q` of tile `t` under way, or, past the last tile, its slot free. -/
def WFx (c : Dev nD) (fw : Buf (Elt F) (whL c)) (t q : ℕ) : sProp 𝕄 := if t < 25 then WF c fw t q else WFree c fw (t % 4) q
def SFx (c : Dev nD) (fs : Buf (Elt F) (shL c)) (t : ℕ) : sProp 𝕄 := if t < 25 then SF c fs t else SFree c fs (t % 4)
/-- What trip `k` finds of the last block and of the scales of tile `k + 3`: on the first trip their copies are under way
    (the prologue started them), later their slots are free. -/
def L3 (c : Dev nD) (fw : Buf (Elt F) (whL c)) (k : ℕ) : sProp 𝕄 := if k = 0 then WFx c fw 3 3 else WFree c fw ((k + 3) % 4) 3
def L3s (c : Dev nD) (fs : Buf (Elt F) (shL c)) (k : ℕ) : sProp 𝕄 := if k = 0 then SFx c fs 3 else SFree c fs ((k + 3) % 4)

theorem WFx_lt {c : Dev nD} (fw : Buf (Elt F) (whL c)) {t q : ℕ} (h : t < 25) : WFx c fw t q = WF c fw t q := if_pos h
theorem SFx_lt {c : Dev nD} (fs : Buf (Elt F) (shL c)) {t : ℕ} (h : t < 25) : SFx c fs t = SF c fs t := if_pos h
theorem WFx_ge {c : Dev nD} (fw : Buf (Elt F) (whL c)) {t q : ℕ} (h : ¬ t < 25) : WFx c fw t q = WFree c fw (t % 4) q := if_neg h
theorem SFx_ge {c : Dev nD} (fs : Buf (Elt F) (shL c)) {t : ℕ} (h : ¬ t < 25) : SFx c fs t = SFree c fs (t % 4) := if_neg h

theorem WLd_next {c : Dev nD} (fw : Buf (Elt F) (whL c)) (t q : ℕ) : WLd c fw t q ⊢ WFree c fw ((t + 4) % 4) q := by
  rw [Nat.add_mod_right]; exact WLd_free c fw t q
theorem SLd_next {c : Dev nD} (fs : Buf (Elt F) (shL c)) (t : ℕ) : SLd c fs t ⊢ SFree c fs ((t + 4) % 4) := by
  rw [Nat.add_mod_right]; exact SLd_free c fs t

theorem cond1_iff : ∀ k : Fin k0_t2_loop.trips, k0_cond1 k = 1#1 ↔ 1 ≤ k.val ∧ k.val + 3 < 25 := by decide +kernel
theorem cond2_iff : ∀ k : Fin k0_t2_loop.trips, k0_cond2 k = 1#1 ↔ 1 ≤ k.val := by decide +kernel
theorem cond3_iff : ∀ k : Fin k0_t2_loop.trips, k0_cond3 k = 1#1 ↔ k.val + 4 < 25 := by decide +kernel
theorem cond4_iff : ∀ k : Fin k0_t2_loop.trips, k0_cond4 k = 1#1 ↔ k.val + 4 < 25 := by decide +kernel
theorem cond5_iff : ∀ k : Fin k0_t2_loop.trips, k0_cond5 k = 1#1 ↔ k.val + 4 < 25 := by decide +kernel
theorem trips_eq : k0_t2_loop.trips = 25 := by decide +kernel
/-- The column offset of tile `k`'s copy out of the tile before. -/
theorem off23_form : ∀ k : Fin k0_t2_loop.trips, 1 ≤ k.val → k0_off23 k = ![0, 1280 * (k.val - 1)] := by decide +kernel

theorem off1 {o : Fin 1 → ℕ} {a a' : ℕ} (h : o = ![a]) (ha : a = a') : o = ![a'] := ha ▸ h
theorem off2 {o : Fin 2 → ℕ} {a a' b b' : ℕ} (h : o = ![a, b]) (ha : a = a') (hb : b = b') : o = ![a', b'] := ha ▸ hb ▸ h
theorem off3 {o : Fin 3 → ℕ} {a a' b b' d d' : ℕ} (h : o = ![a, b, d]) (ha : a = a') (hb : b = b') (hd : d = d') : o = ![a', b', d'] :=
  ha ▸ hb ▸ hd ▸ h

/-- A conditional with the same outcome on both sides. -/
theorem dite_join (c : Dev nD) {α β : Type} {P : Prop} [Decidable P] {A : P → Prog (TpuEff nD τ sig (Elt F) Λ₀ .tc) β}
    {B : ¬ P → Prog (TpuEff nD τ sig (Elt F) Λ₀ .tc) β} {kk : β → Prog (TpuEff nD τ sig (Elt F) Λ₀ .tc) α} {Q : α → sProp 𝕄} {R G : sProp 𝕄}
    (hA : ∀ h, R ⊢ iprop(G -∗ WP c (A h >>= kk) Q)) (hB : ∀ h, R ⊢ iprop(G -∗ WP c (B h >>= kk) Q)) :
    R ⊢ iprop(G -∗ WP c ((if h : P then A h else B h) >>= kk) Q) := by
  by_cases h : P
  · rw [dif_pos h]; exact hA h
  · rw [dif_neg h]; exact hB h

/-- The copies a trip starts once the last block of the tile before has been read. -/
theorem fetch3 (c : Dev nD) {α β : Type} {fw : Buf (Elt F) (whL c)} {fs : Buf (Elt F) (shL c)} (k : Fin k0_t2_loop.trips)
    {A : k0_cond1 k = 1#1 → Prog (TpuEff nD τ sig (Elt F) Λ₀ .tc) β} {B : Prog (TpuEff nD τ sig (Elt F) Λ₀ .tc) β} {kk : β → Prog (TpuEff nD τ sig (Elt F) Λ₀ .tc) α} {Q : α → sProp 𝕄}
    (hA : ∀ h, iprop(WFree c fw ((k.val + 3) % 4) 3 ∗ SFree c fs ((k.val + 3) % 4))
      ⊢ iprop((iprop(WF c fw (k.val + 3) 3 ∗ SF c fs (k.val + 3)) -∗ WP c (B >>= kk) Q) -∗ WP c (A h >>= kk) Q)) :
    iprop(L3 c fw k.val ∗ L3s c fs k.val)
      ⊢ iprop((iprop(WFx c fw (k.val + 3) 3 ∗ SFx c fs (k.val + 3)) -∗ WP c (B >>= kk) Q)
        -∗ WP c ((if h : k0_cond1 k = 1#1 then A h else B) >>= kk) Q) := by
  refine dite_join c (fun h => ?_) (fun h => ?_)
  · have hk := (cond1_iff k).mp h
    rw [L3, L3s, if_neg (by omega), if_neg (by omega), WFx_lt _ hk.2, SFx_lt _ hk.2]
    exact hA h
  · have hk := mt (cond1_iff k).mpr h
    by_cases h0 : k.val = 0
    · rw [L3, L3s, if_pos h0, if_pos h0, h0]
      iintro H Hk
      iapply Hk
      iexact H
    · rw [L3, L3s, if_neg h0, if_neg h0, WFx_ge _ (by omega), SFx_ge _ (by omega)]
      iintro H Hk
      iapply Hk
      iexact H

/-- The copy a trip starts once block `q` of its tile has been read. -/
theorem fetch4 (c : Dev nD) {α β : Type} {fw : Buf (Elt F) (whL c)} (t q : ℕ) {P : Prop} [Decidable P] (hP : P ↔ t + 4 < 25)
    {A : P → Prog (TpuEff nD τ sig (Elt F) Λ₀ .tc) β} {B : Prog (TpuEff nD τ sig (Elt F) Λ₀ .tc) β} {kk : β → Prog (TpuEff nD τ sig (Elt F) Λ₀ .tc) α} {Q : α → sProp 𝕄}
    (hA : ∀ h, WFree c fw ((t + 4) % 4) q ⊢ iprop((WF c fw (t + 4) q -∗ WP c (B >>= kk) Q) -∗ WP c (A h >>= kk) Q)) :
    WLd c fw t q ⊢ iprop((WFx c fw (t + 4) q -∗ WP c (B >>= kk) Q) -∗ WP c ((if h : P then A h else B) >>= kk) Q) := by
  refine (WLd_next fw t q).trans ?_
  refine dite_join c (fun h => ?_) (fun h => ?_)
  · rw [WFx_lt _ (hP.mp h)]
    exact hA h
  · rw [WFx_ge _ (mt hP.mpr h)]
    iintro H Hk
    iapply Hk
    iexact H

/-- The copy out of the tile before. -/
theorem flush (c : Dev nD) {α β : Type} {Zf : S6x32000.Idx → Elt F .f32} (k : Fin k0_t2_loop.trips)
    {A : k0_cond2 k = 1#1 → Prog (TpuEff nD τ sig (Elt F) Λ₀ .tc) β} {B : Prog (TpuEff nD τ sig (Elt F) Λ₀ .tc) β} {kk : β → Prog (TpuEff nD τ sig (Elt F) Λ₀ .tc) α} {Q : α → sProp 𝕄}
    (hA : ∀ h, 1 ≤ k.val → Out c Zf (k.val - 1) (1280 * k.val)
      ⊢ iprop((Out c Zf (k.val - 1 + 1) (1280 * k.val) -∗ WP c (B >>= kk) Q) -∗ WP c (A h >>= kk) Q)) :
    Out c Zf (k.val - 1) (1280 * k.val)
      ⊢ iprop((Out c Zf k.val (1280 * k.val) -∗ WP c (B >>= kk) Q) -∗ WP c ((if h : k0_cond2 k = 1#1 then A h else B) >>= kk) Q) := by
  refine dite_join c (fun h => ?_) (fun h => ?_)
  · have hk := (cond2_iff k).mp h
    have := hA h hk
    rwa [Nat.sub_add_cancel hk] at this
  · have hk : k.val = 0 := by have := mt (cond2_iff k).mpr h; omega
    rw [hk]
    iintro H Hk
    iapply Hk
    iexact H

end Cert.Kernel.Hand

end
-- ==== Proof.Run.P6.lean ====
/-
  The parts of a trip that only load and multiply.
-/
module

public import proofs.«01_k».proof.Proof.Run.Ring

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- A load of a landed block, with its row given. -/
theorem w_load' (c : Dev nD) {α : Type} {fw : Buf (Elt F) (whL c)} {t q : ℕ} {o : Fin 3 → ℕ} [I : ClosedOff o] (r : ℕ)
    {h : ∀ a, o a + S1x256x1280.size a ≤ S16x2048x1280.size a} {hl}
    (e : I.form = ![4 * (t % 4) + q, r, 0])
    {k : (S1x256x1280.Idx → Elt F .fp8e4m3) → Prog (TpuEff nD τ sig (Elt F) Λ₀ .tc) α} {Q : α → sProp 𝕄} :
    WLd c fw t q
      ⊢ iprop((WLd c fw t q -∗ WP c (k (wblk fw t q r)) Q)
        -∗ WP c (Prog.lift (.load (Memref.whole cc0_scratch0) (Rect.unit (s := S16x2048x1280) o S1x256x1280.size h).toLoadRect hl) >>= k) Q) := by
  have h1 : I.form 1 = r := by rw [e]; rfl
  have := w_load (I := I) (h := h) (hl := hl) (k := k) (Q := Q) (fw := fw) c (t := t) (q := q) (by rw [h1]; exact e)
  rw [h1] at this
  exact this

theorem s_load' (c : Dev nD) {α : Type} {fs : Buf (Elt F) (shL c)} {t : ℕ} {o : Fin 3 → ℕ} [I : ClosedOff o] (r : ℕ)
    {h : ∀ a, o a + S1x1x1280.size a ≤ S4x64x1280.size a} {hl}
    (e : I.form = ![t % 4, r, 0])
    {k : (S1x1x1280.Idx → Elt F .f32) → Prog (TpuEff nD τ sig (Elt F) Λ₀ .tc) α} {Q : α → sProp 𝕄} :
    SLd c fs t
      ⊢ iprop((SLd c fs t -∗ WP c (k (sblk fs t r)) Q)
        -∗ WP c (Prog.lift (.load (Memref.whole cc0_scratch1) (Rect.unit (s := S4x64x1280) o S1x1x1280.size h).toLoadRect hl) >>= k) Q) := by
  have h1 : I.form 1 = r := by rw [e]; rfl
  have := s_load (I := I) (h := h) (hl := hl) (k := k) (Q := Q) (fs := fs) c (t := t) (by rw [h1]; exact e)
  rw [h1] at this
  exact this

variable {c : Dev nD} (fw : Buf (Elt F) (whL c)) (fs : Buf (Elt F) (shL c)) (L : Buf (Elt F) (lhsL c))
  (C : Buf (Elt F) (cntL c))

/-- What the products of block `q` of tile `t` read: the activations, the weight block and the scales. -/
def Ops (t q : ℕ) : sProp 𝕄 := iprop((lhsL c ↦{fullShare} L) ∗ WLd c fw t q ∗ SLd c fs t)

theorem run_part6 (k : Fin k0_t2_loop.trips) (v1365 v1395 : BitVec 32) {α : Type} {kk : _ → Prog (TpuEff nD τ sig (Elt F) Λ₀ .tc) α} {Q : α → sProp 𝕄} :
    Ops fw fs L k.val 0 ⊢ iprop((Ops fw fs L k.val 0 -∗ WP c (kk ⟨(accE fw fs L k.val 2), (accO fw fs L k.val 2), (lblk L 512)⟩) Q)
      -∗ WP c (k0_part6 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 (accE fw fs L k.val 0) (accO fw fs L k.val 0) v1395 >>= kk) Q) := by
  rw [k0_part6_eq_skeleton]
  unfold k0_part6_skel Ops
  simp only [Prog.bind_assoc, Prog.bind_ret, Prog.pure_eq_ret]
  iintro ⟨HL, HW, HS⟩ HK
  iapply (l_load c) $$ HL; iintro HL
  iapply (w_load' c 0 rfl) $$ HW; iintro HW
  iapply (s_load' c 0 rfl) $$ HS; iintro HS
  iapply (s_load' c 1 rfl) $$ HS; iintro HS
  iapply (l_load c) $$ HL; iintro HL
  iapply (w_load' c 256 rfl) $$ HW; iintro HW
  iapply (s_load' c 2 rfl) $$ HS; iintro HS
  iapply (s_load' c 3 rfl) $$ HS; iintro HS
  iapply (l_load c) $$ HL; iintro HL
  iapply HK
  isplitl [HL]; · iexact HL
  isplitl [HW]; · iexact HW
  iexact HS

theorem run_part7 (k : Fin k0_t2_loop.trips) (v1365 v1395 : BitVec 32) {α : Type} {kk : _ → Prog (TpuEff nD τ sig (Elt F) Λ₀ .tc) α} {Q : α → sProp 𝕄} :
    Ops fw fs L k.val 0 ⊢ iprop((Ops fw fs L k.val 0 -∗ WP c (kk ⟨(accE fw fs L k.val 4), (accO fw fs L k.val 4), (lblk L 1024), (shapeCast S256x1280 (wblk fw k.val 0 1024) shapeCasts_S1x256x1280_S256x1280)⟩) Q)
      -∗ WP c (k0_part7 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1395 (accE fw fs L k.val 2) (accO fw fs L k.val 2) (lblk L 512) >>= kk) Q) := by
  rw [k0_part7_eq_skeleton]
  unfold k0_part7_skel Ops
  simp only [Prog.bind_assoc, Prog.bind_ret, Prog.pure_eq_ret]
  iintro ⟨HL, HW, HS⟩ HK
  iapply (w_load' c 512 rfl) $$ HW; iintro HW
  iapply (s_load' c 4 rfl) $$ HS; iintro HS
  iapply (s_load' c 5 rfl) $$ HS; iintro HS
  iapply (l_load c) $$ HL; iintro HL
  iapply (w_load' c 768 rfl) $$ HW; iintro HW
  iapply (s_load' c 6 rfl) $$ HS; iintro HS
  iapply (s_load' c 7 rfl) $$ HS; iintro HS
  iapply (l_load c) $$ HL; iintro HL
  iapply (w_load' c 1024 rfl) $$ HW; iintro HW
  iapply HK
  isplitl [HL]; · iexact HL
  isplitl [HW]; · iexact HW
  iexact HS

theorem run_part8 (k : Fin k0_t2_loop.trips) (v1365 v1395 : BitVec 32) {α : Type} {kk : _ → Prog (TpuEff nD τ sig (Elt F) Λ₀ .tc) α} {Q : α → sProp 𝕄} :
    Ops fw fs L k.val 0 ⊢ iprop((Ops fw fs L k.val 0 -∗ WP c (kk ⟨(accE fw fs L k.val 6), (accO fw fs L k.val 6), (prodB fw L k.val 6), (extractStridedSlice S8x1280 ![0, 0] (prodB fw L k.val 6) slices_S16x1280_o0_0_S8x1280)⟩) Q)
      -∗ WP c (k0_part8 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1395 (accE fw fs L k.val 4) (accO fw fs L k.val 4) (lblk L 1024) (shapeCast S256x1280 (wblk fw k.val 0 1024) shapeCasts_S1x256x1280_S256x1280) >>= kk) Q) := by
  rw [k0_part8_eq_skeleton]
  unfold k0_part8_skel Ops
  simp only [Prog.bind_assoc, Prog.bind_ret, Prog.pure_eq_ret]
  iintro ⟨HL, HW, HS⟩ HK
  iapply (s_load' c 8 rfl) $$ HS; iintro HS
  iapply (s_load' c 9 rfl) $$ HS; iintro HS
  iapply (l_load c) $$ HL; iintro HL
  iapply (w_load' c 1280 rfl) $$ HW; iintro HW
  iapply (s_load' c 10 rfl) $$ HS; iintro HS
  iapply (s_load' c 11 rfl) $$ HS; iintro HS
  iapply (l_load c) $$ HL; iintro HL
  iapply (w_load' c 1536 rfl) $$ HW; iintro HW
  iapply HK
  isplitl [HL]; · iexact HL
  isplitl [HW]; · iexact HW
  iexact HS

theorem run_part9 (k : Fin k0_t2_loop.trips) (arg33 v1365 v1395 : BitVec 32) {α : Type} {kk : _ → Prog (TpuEff nD τ sig (Elt F) Λ₀ .tc) α} {Q : α → sProp 𝕄} :
    Ops fw fs L k.val 0 ⊢ iprop((Ops fw fs L k.val 0 -∗ WP c (kk ⟨(accE fw fs L k.val 8), (accO fw fs L k.val 8)⟩) Q)
      -∗ WP c (k0_part9 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k arg33 v1365 v1395 (accE fw fs L k.val 6) (accO fw fs L k.val 6) (prodB fw L k.val 6) (extractStridedSlice S8x1280 ![0, 0] (prodB fw L k.val 6) slices_S16x1280_o0_0_S8x1280) >>= kk) Q) := by
  rw [k0_part9_eq_skeleton]
  unfold k0_part9_skel Ops
  simp only [Prog.bind_assoc, Prog.bind_ret, Prog.pure_eq_ret]
  iintro ⟨HL, HW, HS⟩ HK
  iapply (s_load' c 12 rfl) $$ HS; iintro HS
  iapply (s_load' c 13 rfl) $$ HS; iintro HS
  iapply (l_load c) $$ HL; iintro HL
  iapply (w_load' c 1792 rfl) $$ HW; iintro HW
  iapply (s_load' c 14 rfl) $$ HS; iintro HS
  iapply (s_load' c 15 rfl) $$ HS; iintro HS
  iapply HK
  isplitl [HL]; · iexact HL
  isplitl [HW]; · iexact HW
  iexact HS

theorem run_part11 (k : Fin k0_t2_loop.trips) (v1365 v1562 : BitVec 32) {α : Type} {kk : _ → Prog (TpuEff nD τ sig (Elt F) Λ₀ .tc) α} {Q : α → sProp 𝕄} :
    Ops fw fs L k.val 1 ⊢ iprop((Ops fw fs L k.val 1 -∗ WP c (kk ⟨(accO fw fs L k.val 11), (accE fw fs L k.val 12), (extractStridedSlice S8x1280 ![8, 0] (prodB fw L k.val 11) slices_S16x1280_o8_0_S8x1280)⟩) Q)
      -∗ WP c (k0_part11 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1562 (accO fw fs L k.val 9) (prodB fw L k.val 9) (accE fw fs L k.val 10) >>= kk) Q) := by
  rw [k0_part11_eq_skeleton]
  unfold k0_part11_skel Ops
  simp only [Prog.bind_assoc, Prog.bind_ret, Prog.pure_eq_ret]
  iintro ⟨HL, HW, HS⟩ HK
  iapply (s_load' c 19 rfl) $$ HS; iintro HS
  iapply (l_load c) $$ HL; iintro HL
  iapply (w_load' c 512 rfl) $$ HW; iintro HW
  iapply (s_load' c 20 rfl) $$ HS; iintro HS
  iapply (s_load' c 21 rfl) $$ HS; iintro HS
  iapply (l_load c) $$ HL; iintro HL
  iapply (w_load' c 768 rfl) $$ HW; iintro HW
  iapply (s_load' c 22 rfl) $$ HS; iintro HS
  iapply HK
  isplitl [HL]; · iexact HL
  isplitl [HW]; · iexact HW
  iexact HS

theorem run_part12 (k : Fin k0_t2_loop.trips) (v1365 v1562 : BitVec 32) {α : Type} {kk : _ → Prog (TpuEff nD τ sig (Elt F) Λ₀ .tc) α} {Q : α → sProp 𝕄} :
    Ops fw fs L k.val 1 ⊢ iprop((Ops fw fs L k.val 1 -∗ WP c (kk ⟨(accO fw fs L k.val 13), (accE fw fs L k.val 14), (mulf (extractStridedSlice S8x1280 ![8, 0] (prodB fw L k.val 13) slices_S16x1280_o8_0_S8x1280) (sclB fs k.val 27))⟩) Q)
      -∗ WP c (k0_part12 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1562 (accO fw fs L k.val 11) (accE fw fs L k.val 12) (extractStridedSlice S8x1280 ![8, 0] (prodB fw L k.val 11) slices_S16x1280_o8_0_S8x1280) >>= kk) Q) := by
  rw [k0_part12_eq_skeleton]
  unfold k0_part12_skel Ops
  simp only [Prog.bind_assoc, Prog.bind_ret, Prog.pure_eq_ret]
  iintro ⟨HL, HW, HS⟩ HK
  iapply (s_load' c 23 rfl) $$ HS; iintro HS
  iapply (l_load c) $$ HL; iintro HL
  iapply (w_load' c 1024 rfl) $$ HW; iintro HW
  iapply (s_load' c 24 rfl) $$ HS; iintro HS
  iapply (s_load' c 25 rfl) $$ HS; iintro HS
  iapply (l_load c) $$ HL; iintro HL
  iapply (w_load' c 1280 rfl) $$ HW; iintro HW
  iapply (s_load' c 26 rfl) $$ HS; iintro HS
  iapply (s_load' c 27 rfl) $$ HS; iintro HS
  iapply HK
  isplitl [HL]; · iexact HL
  isplitl [HW]; · iexact HW
  iexact HS

theorem run_part13 (k : Fin k0_t2_loop.trips) (arg33 v1365 v1562 : BitVec 32) {α : Type} {kk : _ → Prog (TpuEff nD τ sig (Elt F) Λ₀ .tc) α} {Q : α → sProp 𝕄} :
    Ops fw fs L k.val 1 ⊢ iprop((Ops fw fs L k.val 1 -∗ WP c (kk ⟨(accE fw fs L k.val 16), (accO fw fs L k.val 16), (Scalar.remsi arg33 4#32), 4#32⟩) Q)
      -∗ WP c (k0_part13 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k arg33 v1365 v1562 (accO fw fs L k.val 13) (accE fw fs L k.val 14) (mulf (extractStridedSlice S8x1280 ![8, 0] (prodB fw L k.val 13) slices_S16x1280_o8_0_S8x1280) (sclB fs k.val 27)) >>= kk) Q) := by
  rw [k0_part13_eq_skeleton]
  unfold k0_part13_skel Ops
  simp only [Prog.bind_assoc, Prog.bind_ret, Prog.pure_eq_ret]
  iintro ⟨HL, HW, HS⟩ HK
  iapply (l_load c) $$ HL; iintro HL
  iapply (w_load' c 1536 rfl) $$ HW; iintro HW
  iapply (s_load' c 28 rfl) $$ HS; iintro HS
  iapply (s_load' c 29 rfl) $$ HS; iintro HS
  iapply (l_load c) $$ HL; iintro HL
  iapply (w_load' c 1792 rfl) $$ HW; iintro HW
  iapply (s_load' c 30 rfl) $$ HS; iintro HS
  iapply (s_load' c 31 rfl) $$ HS; iintro HS
  iapply HK
  isplitl [HL]; · iexact HL
  isplitl [HW]; · iexact HW
  iexact HS

end Cert.Kernel.Hand

end
-- ==== Proof.Run.P22.lean ====
/-
  The last parts of a trip: the penalties on each group of columns, and the stores of the logits.
-/
module

public import proofs.«01_k».proof.Proof.Run.P6

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

variable {c : Dev nD} (fw : Buf (Elt F) (whL c)) (fs : Buf (Elt F) (shL c)) (L : Buf (Elt F) (lhsL c))
  (C : Buf (Elt F) (cntL c))

theorem run_part22 (v737 v768 v799 v830 : FVec F S8x128 .f32) (k : Fin k0_t2_loop.trips) (arg33 v1365 : BitVec 32) {α : Type} {kk : _ → Prog (TpuEff nD τ sig (Elt F) Λ₀ .tc) α} {Q : α → sProp 𝕄} :
    iprop(Ops fw fs L k.val 3 ∗ (cntL c ↦{fullShare} C)) ⊢ iprop((iprop(Ops fw fs L k.val 3 ∗ (cntL c ↦{fullShare} C))
        -∗ WP c (kk ⟨(zraw fw fs L k.val), (zgrp fw fs L C v737 v768 v799 v830 k.val 0), k0_pay88 v737 (accE fw fs L k.val 31) (accO fw fs L k.val 31) (lblk L 7936) (wblk fw k.val 3 1792) (sblk fs k.val 62) (sblk fs k.val 63), (cblk C (10 * k.val + 1)), k0_pay89⟩) Q)
      -∗ WP c (k0_part22 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v737 v768 v799 v830 k arg33 v1365 (accE fw fs L k.val 31) (accO fw fs L k.val 31) (lblk L 7936) >>= kk) Q) := by
  rw [k0_part22_eq_skeleton]
  unfold k0_part22_skel Ops
  simp only [Prog.bind_assoc, Prog.bind_ret, Prog.pure_eq_ret]
  iintro ⟨⟨HL, HW, HS⟩, HC⟩ HK
  iapply (w_load' c 1792 rfl) $$ HW; iintro HW
  iapply (s_load' c 62 rfl) $$ HS; iintro HS
  iapply (s_load' c 63 rfl) $$ HS; iintro HS
  iapply (c_load c (10 * k.val + 0) (k0_off108_eq k 0)) $$ HC; iintro HC
  iapply (c_load c (10 * k.val + 1) (k0_off108_eq k 1)) $$ HC; iintro HC
  iapply HK
  isplitl [HL HW HS]
  · isplitl [HL]; · iexact HL
    isplitl [HW]; · iexact HW
    iexact HS
  iexact HC

theorem run_part23 (v737 v768 v799 v830 : FVec F S8x128 .f32) (k : Fin k0_t2_loop.trips) (arg33 : BitVec 32) {α : Type} {kk : _ → Prog (TpuEff nD τ sig (Elt F) Λ₀ .tc) α} {Q : α → sProp 𝕄} :
    (cntL c ↦{fullShare} C) ⊢ iprop(((cntL c ↦{fullShare} C) -∗ WP c (kk ⟨(zgrp fw fs L C v737 v768 v799 v830 k.val 1), (zgrp fw fs L C v737 v768 v799 v830 k.val 2), k0_pay92 (cblk C (10 * k.val + 3)), k0_pay93 v737 v799 v830 (zraw fw fs L k.val) (cblk C (10 * k.val + 3))⟩) Q)
      -∗ WP c (k0_part23 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v737 v768 v799 v830 k arg33 (zraw fw fs L k.val) (k0_pay88 v737 (accE fw fs L k.val 31) (accO fw fs L k.val 31) (lblk L 7936) (wblk fw k.val 3 1792) (sblk fs k.val 62) (sblk fs k.val 63)) (cblk C (10 * k.val + 1)) k0_pay89 >>= kk) Q) := by
  rw [k0_part23_eq_skeleton]
  unfold k0_part23_skel
  simp only [Prog.bind_assoc, Prog.bind_ret, Prog.pure_eq_ret]
  iintro HC HK
  iapply (c_load c (10 * k.val + 2) (k0_off108_eq k 2)) $$ HC; iintro HC
  iapply (c_load c (10 * k.val + 3) (k0_off108_eq k 3)) $$ HC; iintro HC
  iapply HK
  iexact HC

theorem run_part24 (v737 v768 v799 v830 : FVec F S8x128 .f32) (k : Fin k0_t2_loop.trips) (arg33 : BitVec 32) {α : Type} {kk : _ → Prog (TpuEff nD τ sig (Elt F) Λ₀ .tc) α} {Q : α → sProp 𝕄} :
    (cntL c ↦{fullShare} C) ⊢ iprop(((cntL c ↦{fullShare} C) -∗ WP c (kk ⟨(zgrp fw fs L C v737 v768 v799 v830 k.val 3), (zgrp fw fs L C v737 v768 v799 v830 k.val 4), (zgrp fw fs L C v737 v768 v799 v830 k.val 5), k0_pay97 v737 (zraw fw fs L k.val), (Scalar.addi (Scalar.muli arg33 10#32) 6#32)⟩) Q)
      -∗ WP c (k0_part24 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v737 v768 v799 v830 k arg33 (zraw fw fs L k.val) (k0_pay92 (cblk C (10 * k.val + 3))) (k0_pay93 v737 v799 v830 (zraw fw fs L k.val) (cblk C (10 * k.val + 3))) >>= kk) Q) := by
  rw [k0_part24_eq_skeleton]
  unfold k0_part24_skel
  simp only [Prog.bind_assoc, Prog.bind_ret, Prog.pure_eq_ret]
  iintro HC HK
  iapply (c_load c (10 * k.val + 4) (k0_off108_eq k 4)) $$ HC; iintro HC
  iapply (c_load c (10 * k.val + 5) (k0_off108_eq k 5)) $$ HC; iintro HC
  iapply HK
  iexact HC

theorem run_part25 (v737 v768 v799 v830 : FVec F S8x128 .f32) (k : Fin k0_t2_loop.trips) (arg33 v2167 : BitVec 32) {α : Type} {kk : _ → Prog (TpuEff nD τ sig (Elt F) Λ₀ .tc) α} {Q : α → sProp 𝕄} :
    (cntL c ↦{fullShare} C) ⊢ iprop(((cntL c ↦{fullShare} C) -∗ WP c (kk ⟨(zgrp fw fs L C v737 v768 v799 v830 k.val 6), (zgrp fw fs L C v737 v768 v799 v830 k.val 7), k0_pay100 v737 (zraw fw fs L k.val), (cblk C (10 * k.val + 8)), k0_pay101 (cblk C (10 * k.val + 8)), k0_pay102 v737 (zraw fw fs L k.val), k0_pay103 v737 v830 (zraw fw fs L k.val)⟩) Q)
      -∗ WP c (k0_part25 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v737 v768 v799 v830 k arg33 (zraw fw fs L k.val) (k0_pay97 v737 (zraw fw fs L k.val)) v2167 >>= kk) Q) := by
  rw [k0_part25_eq_skeleton]
  unfold k0_part25_skel
  simp only [Prog.bind_assoc, Prog.bind_ret, Prog.pure_eq_ret]
  iintro HC HK
  iapply (c_load c (10 * k.val + 6) (k0_off108_eq k 6)) $$ HC; iintro HC
  iapply (c_load c (10 * k.val + 7) (k0_off108_eq k 7)) $$ HC; iintro HC
  iapply (c_load c (10 * k.val + 8) (k0_off108_eq k 8)) $$ HC; iintro HC
  iapply HK
  iexact HC

theorem run_part26 (v737 v768 v799 v830 : FVec F S8x128 .f32) {Zf : S6x32000.Idx → Elt F .f32} (z : Fin 10 → FVec F S8x128 .f32) (k : Fin k0_t2_loop.trips)
    (hZ : ∀ (g : Fin 10) (x : S6x128.Idx) (y : S6x32000.Idx), (y 0).val = (x 0).val → (y 1).val = 1280 * k.val + 128 * g.val + (x 1).val → top6 (z g) x = Zf y)
    (arg33 : BitVec 32) {α : Type} {kk : _ → Prog (TpuEff nD τ sig (Elt F) Λ₀ .tc) α} {Q : α → sProp 𝕄} :
    iprop((cntL c ↦{fullShare} C) ∗ Out c Zf k.val (1280 * k.val + 0)) ⊢ iprop((iprop((cntL c ↦{fullShare} C) ∗ Out c Zf k.val (1280 * k.val + 256)) -∗ WP c (kk ⟨(zgrp fw fs L C v737 v768 v799 v830 k.val 8), (zgrp fw fs L C v737 v768 v799 v830 k.val 9), k0_pay108 (z 2), Scalar.muli arg33 1280#32, 256#32⟩) Q)
      -∗ WP c (k0_part26 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v737 v768 v799 v830 k arg33 (zraw fw fs L k.val) (z 0) (z 1) (z 2) (k0_pay100 v737 (zraw fw fs L k.val)) (cblk C (10 * k.val + 8)) (k0_pay101 (cblk C (10 * k.val + 8))) (k0_pay102 v737 (zraw fw fs L k.val)) (k0_pay103 v737 v830 (zraw fw fs L k.val)) >>= kk) Q) := by
  rw [k0_part26_eq_skeleton]
  unfold k0_part26_skel
  simp only [Prog.bind_assoc, Prog.bind_ret, Prog.pure_eq_ret]
  iintro ⟨HC, HO⟩ HK
  iapply (c_load c (10 * k.val + 9) (k0_off108_eq k 9)) $$ HC; iintro HC
  iapply (z_load c (n := k.val) (by omega) (k0_off109_eq k 0)) $$ HO
  iintro %v0 HO
  iapply (z_store c (n := k.val) (C := 1280 * k.val + 0) (by omega) (k0_off109_eq k 0)
    (fun x y h0 h1 => by unfold k0_pay106; simp only [shapeCast_self]; exact hZ 0 x y h0 (h1.trans rfl))) $$ HO
  iintro HO
  iapply (z_load c (n := k.val) (by omega) (k0_off109_eq k 1)) $$ HO
  iintro %v1 HO
  iapply (z_store c (n := k.val) (C := 1280 * k.val + 128) (by omega) (k0_off109_eq k 1)
    (fun x y h0 h1 => by unfold k0_pay107; simp only [shapeCast_self]; exact hZ 1 x y h0 (h1.trans rfl))) $$ HO
  iintro HO
  iapply HK
  isplitl [HC]; · iexact HC
  iexact HO

theorem run_part27 {Zf : S6x32000.Idx → Elt F .f32} (z : Fin 10 → FVec F S8x128 .f32) (k : Fin k0_t2_loop.trips)
    (hZ : ∀ (g : Fin 10) (x : S6x128.Idx) (y : S6x32000.Idx), (y 0).val = (x 0).val → (y 1).val = 1280 * k.val + 128 * g.val + (x 1).val → top6 (z g) x = Zf y)
    (arg33 c1 c2 : BitVec 32) {α : Type} {kk : _ → Prog (TpuEff nD τ sig (Elt F) Λ₀ .tc) α} {Q : α → sProp 𝕄} :
    Out c Zf k.val (1280 * k.val + 256) ⊢ iprop((Out c Zf k.val (1280 * k.val + 896) -∗ WP c (kk (k0_pay114 (z 7))) Q)
      -∗ WP c (k0_part27 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k arg33 (z 3) (z 4) (z 5) (z 6) (z 7) (k0_pay108 (z 2)) c1 c2 >>= kk) Q) := by
  rw [k0_part27_eq_skeleton]
  unfold k0_part27_skel
  simp only [Prog.bind_assoc, Prog.bind_ret, Prog.pure_eq_ret]
  iintro HO HK
  iapply (z_load c (n := k.val) (by omega) (k0_off109_eq k 2)) $$ HO
  iintro %v2 HO
  iapply (z_store c (n := k.val) (C := 1280 * k.val + 256) (by omega) (k0_off109_eq k 2)
    (fun x y h0 h1 => by unfold k0_pay109 k0_pay108; simp only [shapeCast_self]; exact hZ 2 x y h0 (h1.trans rfl))) $$ HO
  iintro HO
  iapply (z_load c (n := k.val) (by omega) (k0_off109_eq k 3)) $$ HO
  iintro %v3 HO
  iapply (z_store c (n := k.val) (C := 1280 * k.val + 384) (by omega) (k0_off109_eq k 3)
    (fun x y h0 h1 => by unfold k0_pay110; simp only [shapeCast_self]; exact hZ 3 x y h0 (h1.trans rfl))) $$ HO
  iintro HO
  iapply (z_load c (n := k.val) (by omega) (k0_off109_eq k 4)) $$ HO
  iintro %v4 HO
  iapply (z_store c (n := k.val) (C := 1280 * k.val + 512) (by omega) (k0_off109_eq k 4)
    (fun x y h0 h1 => by unfold k0_pay111; simp only [shapeCast_self]; exact hZ 4 x y h0 (h1.trans rfl))) $$ HO
  iintro HO
  iapply (z_load c (n := k.val) (by omega) (k0_off109_eq k 5)) $$ HO
  iintro %v5 HO
  iapply (z_store c (n := k.val) (C := 1280 * k.val + 640) (by omega) (k0_off109_eq k 5)
    (fun x y h0 h1 => by unfold k0_pay112; simp only [shapeCast_self]; exact hZ 5 x y h0 (h1.trans rfl))) $$ HO
  iintro HO
  iapply (z_load c (n := k.val) (by omega) (k0_off109_eq k 6)) $$ HO
  iintro %v6 HO
  iapply (z_store c (n := k.val) (C := 1280 * k.val + 768) (by omega) (k0_off109_eq k 6)
    (fun x y h0 h1 => by unfold k0_pay113; simp only [shapeCast_self]; exact hZ 6 x y h0 (h1.trans rfl))) $$ HO
  iintro HO
  iapply (z_load c (n := k.val) (by omega) (k0_off109_eq k 7)) $$ HO
  iintro %v7 HO
  iapply HK
  iexact HO

theorem run_part28 {Zf : S6x32000.Idx → Elt F .f32} (z : Fin 10 → FVec F S8x128 .f32) (k : Fin k0_t2_loop.trips)
    (hZ : ∀ (g : Fin 10) (x : S6x128.Idx) (y : S6x32000.Idx), (y 0).val = (x 0).val → (y 1).val = 1280 * k.val + 128 * g.val + (x 1).val → top6 (z g) x = Zf y)
    (arg33 : BitVec 32) (a b : FVec F S8x128 .f32) {α : Type} {kk : _ → Prog (TpuEff nD τ sig (Elt F) Λ₀ .tc) α} {Q : α → sProp 𝕄} :
    Out c Zf k.val (1280 * k.val + 896) ⊢ iprop((Out c Zf k.val (1280 * (k.val + 1)) -∗ WP c (kk ⟨k0_pay118 a (z 0) (z 1) (z 2) (z 3) (z 4) (z 5) (z 6) (z 7) (z 8) (z 9),
        k0_pay119 a b (z 0) (z 1) (z 2) (z 3) (z 4) (z 5) (z 6) (z 7) (z 8) (z 9), k0_pay120 a (z 0) (z 1) (z 2) (z 3) (z 4) (z 5) (z 6) (z 7) (z 8) (z 9)⟩) Q)
      -∗ WP c (k0_part28 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k a b arg33 (z 0) (z 1) (z 2) (z 3) (z 4) (z 5) (z 6) (z 7) (z 8) (z 9) (k0_pay114 (z 7)) >>= kk) Q) := by
  rw [k0_part28_eq_skeleton]
  unfold k0_part28_skel
  simp only [Prog.bind_assoc, Prog.bind_ret, Prog.pure_eq_ret]
  iintro HO HK
  iapply (z_store c (n := k.val) (C := 1280 * k.val + 896) (by omega) (k0_off109_eq k 7)
    (fun x y h0 h1 => by unfold k0_pay115 k0_pay114; simp only [shapeCast_self]; exact hZ 7 x y h0 (h1.trans rfl))) $$ HO
  iintro HO
  iapply (z_load c (n := k.val) (by omega) (k0_off109_eq k 8)) $$ HO
  iintro %v8 HO
  iapply (z_store c (n := k.val) (C := 1280 * k.val + 1024) (by omega) (k0_off109_eq k 8)
    (fun x y h0 h1 => by unfold k0_pay116; simp only [shapeCast_self]; exact hZ 8 x y h0 (h1.trans rfl))) $$ HO
  iintro HO
  iapply (z_load c (n := k.val) (by omega) (k0_off109_eq k 9)) $$ HO
  iintro %v9 HO
  iapply (z_store c (n := k.val) (C := 1280 * k.val + 1152) (by omega) (k0_off109_eq k 9)
    (fun x y h0 h1 => by unfold k0_pay117; simp only [shapeCast_self]; exact hZ 9 x y h0 (h1.trans rfl))) $$ HO
  iintro HO
  iapply HK
  rw [show 1280 * (k.val + 1) = 1280 * k.val + 1152 + 128 by omega]
  iexact HO

end Cert.Kernel.Hand

end
-- ==== Proof.Run.P10.lean ====
/-
  The parts of a trip that wait for the next block of weights, and start the block of a later tile.
-/
module

public import proofs.«01_k».proof.Proof.Run.P6

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

variable {c : Dev nD} (fw : Buf (Elt F) (whL c)) (fs : Buf (Elt F) (shL c)) (L : Buf (Elt F) (lhsL c))
  (C : Buf (Elt F) (cntL c))

theorem run_part10 (k : Fin k0_t2_loop.trips) (arg33 v1365 : BitVec 32) {α : Type} {kk : _ → Prog (TpuEff nD τ sig (Elt F) Λ₀ .tc) α} {Q : α → sProp 𝕄} :
    iprop(Ops fw fs L k.val 0 ∗ WF c fw k.val 1 ∗ Ow (F := F) c) ⊢ iprop((iprop(Ops fw fs L k.val 1 ∗ WFx c fw (k.val + 4) 0 ∗ Ow (F := F) c)
        -∗ WP c (kk ⟨(Scalar.addi (Scalar.muli v1365 4#32) 1#32), (accO fw fs L k.val 9), (prodB fw L k.val 9), (accE fw fs L k.val 10)⟩) Q)
      -∗ WP c (k0_part10 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k arg33 v1365 (accE fw fs L k.val 8) (accO fw fs L k.val 8) >>= kk) Q) := by
  rw [k0_part10_eq_skeleton]
  unfold k0_part10_skel Ops
  simp only [Prog.bind_assoc, Prog.bind_ret, Prog.pure_eq_ret]
  iintro ⟨⟨HL, HV, HS⟩, HW, HE⟩ HK
  iapply (w_await c (t := k.val) (q := 1) (k0_off14_eq k 1)) $$ [HW HE]
  · isplitl [HW]; · iexact HW
    iexact HE
  iintro ⟨HW, HE⟩
  iapply (fetch4 c k.val 0 (cond3_iff k) ?_) $$ HV
  · intro h
    simp only [Prog.bind_assoc]
    iintro H Hk
    iapply (w_issue c (k.val + 4) 0 (k0_off49_eq k) (k0_off50_eq k) (off2 (k0_off51_eq k) rfl (by omega))) $$ H
    iexact Hk
  iintro HV
  iapply (l_load c) $$ HL; iintro HL
  iapply (w_load' c 0 rfl) $$ HW; iintro HW
  iapply (s_load' c 16 rfl) $$ HS; iintro HS
  iapply (s_load' c 17 rfl) $$ HS; iintro HS
  iapply (l_load c) $$ HL; iintro HL
  iapply (w_load' c 256 rfl) $$ HW; iintro HW
  iapply (s_load' c 18 rfl) $$ HS; iintro HS

  iapply HK
  isplitl [HL HW HS]
  · isplitl [HL]; · iexact HL
    isplitl [HW]; · iexact HW
    iexact HS
  isplitl [HV]; · iexact HV
  iexact HE

theorem run_part14 (k : Fin k0_t2_loop.trips) (arg33 v1365 c1 c2 : BitVec 32) {α : Type} {kk : _ → Prog (TpuEff nD τ sig (Elt F) Λ₀ .tc) α} {Q : α → sProp 𝕄} :
    iprop(Ops fw fs L k.val 1 ∗ WF c fw k.val 2 ∗ Ow (F := F) c) ⊢ iprop((iprop(Ops fw fs L k.val 2 ∗ WFx c fw (k.val + 4) 1 ∗ Ow (F := F) c)
        -∗ WP c (kk ⟨(Scalar.addi (Scalar.muli v1365 4#32) 2#32), (accE fw fs L k.val 17), (accO fw fs L k.val 17), (lblk L 4352)⟩) Q)
      -∗ WP c (k0_part14 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k arg33 v1365 (accE fw fs L k.val 16) (accO fw fs L k.val 16) c1 c2 >>= kk) Q) := by
  rw [k0_part14_eq_skeleton]
  unfold k0_part14_skel Ops
  simp only [Prog.bind_assoc, Prog.bind_ret, Prog.pure_eq_ret]
  iintro ⟨⟨HL, HV, HS⟩, HW, HE⟩ HK
  iapply (w_await c (t := k.val) (q := 2) (k0_off14_eq k 2)) $$ [HW HE]
  · isplitl [HW]; · iexact HW
    iexact HE
  iintro ⟨HW, HE⟩
  iapply (fetch4 c k.val 1 (cond4_iff k) ?_) $$ HV
  · intro h
    simp only [Prog.bind_assoc]
    iintro H Hk
    iapply (w_issue c (k.val + 4) 1 (k0_off69_eq k) (k0_off70_eq k) (off2 (k0_off71_eq k) rfl (by omega))) $$ H
    iexact Hk
  iintro HV
  iapply (l_load c) $$ HL; iintro HL
  iapply (w_load' c 0 rfl) $$ HW; iintro HW
  iapply (s_load' c 32 rfl) $$ HS; iintro HS
  iapply (s_load' c 33 rfl) $$ HS; iintro HS
  iapply (l_load c) $$ HL; iintro HL

  iapply HK
  isplitl [HL HW HS]
  · isplitl [HL]; · iexact HL
    isplitl [HW]; · iexact HW
    iexact HS
  isplitl [HV]; · iexact HV
  iexact HE

theorem run_part18 (k : Fin k0_t2_loop.trips) (arg33 v1365 : BitVec 32) {α : Type} {kk : _ → Prog (TpuEff nD τ sig (Elt F) Λ₀ .tc) α} {Q : α → sProp 𝕄} :
    iprop(Ops fw fs L k.val 2 ∗ WF c fw k.val 3 ∗ Ow (F := F) c) ⊢ iprop((iprop(Ops fw fs L k.val 3 ∗ WFx c fw (k.val + 4) 2 ∗ Ow (F := F) c)
        -∗ WP c (kk ⟨(accO fw fs L k.val 24), (Scalar.addi (Scalar.muli v1365 4#32) 3#32), (accE fw fs L k.val 25), (extractStridedSlice S8x1280 ![8, 0] (prodB fw L k.val 24) slices_S16x1280_o8_0_S8x1280)⟩) Q)
      -∗ WP c (k0_part18 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k arg33 v1365 (accE fw fs L k.val 23) (accO fw fs L k.val 23) (prodB fw L k.val 23) (mulf (extractStridedSlice S8x1280 ![0, 0] (prodB fw L k.val 23) slices_S16x1280_o0_0_S8x1280) (sclB fs k.val 46)) >>= kk) Q) := by
  rw [k0_part18_eq_skeleton]
  unfold k0_part18_skel Ops
  simp only [Prog.bind_assoc, Prog.bind_ret, Prog.pure_eq_ret]
  iintro ⟨⟨HL, HV, HS⟩, HW, HE⟩ HK
  iapply (s_load' c 47 rfl) $$ HS; iintro HS
  iapply (w_await c (t := k.val) (q := 3) (k0_off14_eq k 3)) $$ [HW HE]
  · isplitl [HW]; · iexact HW
    iexact HE
  iintro ⟨HW, HE⟩
  iapply (fetch4 c k.val 2 (cond5_iff k) ?_) $$ HV
  · intro h
    simp only [Prog.bind_assoc]
    iintro H Hk
    iapply (w_issue c (k.val + 4) 2 (k0_off89_eq k) (k0_off90_eq k) (off2 (k0_off91_eq k) rfl (by omega))) $$ H
    iexact Hk
  iintro HV
  iapply (l_load c) $$ HL; iintro HL
  iapply (w_load' c 0 rfl) $$ HW; iintro HW
  iapply (s_load' c 48 rfl) $$ HS; iintro HS

  iapply HK
  isplitl [HL HW HS]
  · isplitl [HL]; · iexact HL
    isplitl [HW]; · iexact HW
    iexact HS
  isplitl [HV]; · iexact HV
  iexact HE

end Cert.Kernel.Hand

end
-- ==== Proof.Run.P15.lean ====
/-
  The parts of a trip that only load and multiply.
-/
module

public import proofs.«01_k».proof.Proof.Run.P6

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

variable {c : Dev nD} (fw : Buf (Elt F) (whL c)) (fs : Buf (Elt F) (shL c)) (L : Buf (Elt F) (lhsL c))
  (C : Buf (Elt F) (cntL c))

theorem run_part15 (k : Fin k0_t2_loop.trips) (v1365 v1729 : BitVec 32) {α : Type} {kk : _ → Prog (TpuEff nD τ sig (Elt F) Λ₀ .tc) α} {Q : α → sProp 𝕄} :
    Ops fw fs L k.val 2 ⊢ iprop((Ops fw fs L k.val 2 -∗ WP c (kk ⟨(accE fw fs L k.val 19), (accO fw fs L k.val 19), (prodB fw L k.val 19)⟩) Q)
      -∗ WP c (k0_part15 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1729 (accE fw fs L k.val 17) (accO fw fs L k.val 17) (lblk L 4352) >>= kk) Q) := by
  rw [k0_part15_eq_skeleton]
  unfold k0_part15_skel Ops
  simp only [Prog.bind_assoc, Prog.bind_ret, Prog.pure_eq_ret]
  iintro ⟨HL, HW, HS⟩ HK
  iapply (w_load' c 256 rfl) $$ HW; iintro HW
  iapply (s_load' c 34 rfl) $$ HS; iintro HS
  iapply (s_load' c 35 rfl) $$ HS; iintro HS
  iapply (l_load c) $$ HL; iintro HL
  iapply (w_load' c 512 rfl) $$ HW; iintro HW
  iapply (s_load' c 36 rfl) $$ HS; iintro HS
  iapply (s_load' c 37 rfl) $$ HS; iintro HS
  iapply (l_load c) $$ HL; iintro HL
  iapply (w_load' c 768 rfl) $$ HW; iintro HW
  iapply HK
  isplitl [HL]; · iexact HL
  isplitl [HW]; · iexact HW
  iexact HS

theorem run_part16 (k : Fin k0_t2_loop.trips) (v1365 v1729 : BitVec 32) {α : Type} {kk : _ → Prog (TpuEff nD τ sig (Elt F) Λ₀ .tc) α} {Q : α → sProp 𝕄} :
    Ops fw fs L k.val 2 ⊢ iprop((Ops fw fs L k.val 2 -∗ WP c (kk ⟨(accE fw fs L k.val 21), (accO fw fs L k.val 21), (prodB fw L k.val 21), (extractStridedSlice S8x1280 ![0, 0] (prodB fw L k.val 21) slices_S16x1280_o0_0_S8x1280)⟩) Q)
      -∗ WP c (k0_part16 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1729 (accE fw fs L k.val 19) (accO fw fs L k.val 19) (prodB fw L k.val 19) >>= kk) Q) := by
  rw [k0_part16_eq_skeleton]
  unfold k0_part16_skel Ops
  simp only [Prog.bind_assoc, Prog.bind_ret, Prog.pure_eq_ret]
  iintro ⟨HL, HW, HS⟩ HK
  iapply (s_load' c 38 rfl) $$ HS; iintro HS
  iapply (s_load' c 39 rfl) $$ HS; iintro HS
  iapply (l_load c) $$ HL; iintro HL
  iapply (w_load' c 1024 rfl) $$ HW; iintro HW
  iapply (s_load' c 40 rfl) $$ HS; iintro HS
  iapply (s_load' c 41 rfl) $$ HS; iintro HS
  iapply (l_load c) $$ HL; iintro HL
  iapply (w_load' c 1280 rfl) $$ HW; iintro HW
  iapply HK
  isplitl [HL]; · iexact HL
  isplitl [HW]; · iexact HW
  iexact HS

theorem run_part17 (k : Fin k0_t2_loop.trips) (v1365 v1729 : BitVec 32) {α : Type} {kk : _ → Prog (TpuEff nD τ sig (Elt F) Λ₀ .tc) α} {Q : α → sProp 𝕄} :
    Ops fw fs L k.val 2 ⊢ iprop((Ops fw fs L k.val 2 -∗ WP c (kk ⟨(accE fw fs L k.val 23), (accO fw fs L k.val 23), (prodB fw L k.val 23), (mulf (extractStridedSlice S8x1280 ![0, 0] (prodB fw L k.val 23) slices_S16x1280_o0_0_S8x1280) (sclB fs k.val 46))⟩) Q)
      -∗ WP c (k0_part17 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1729 (accE fw fs L k.val 21) (accO fw fs L k.val 21) (prodB fw L k.val 21) (extractStridedSlice S8x1280 ![0, 0] (prodB fw L k.val 21) slices_S16x1280_o0_0_S8x1280) >>= kk) Q) := by
  rw [k0_part17_eq_skeleton]
  unfold k0_part17_skel Ops
  simp only [Prog.bind_assoc, Prog.bind_ret, Prog.pure_eq_ret]
  iintro ⟨HL, HW, HS⟩ HK
  iapply (s_load' c 42 rfl) $$ HS; iintro HS
  iapply (s_load' c 43 rfl) $$ HS; iintro HS
  iapply (l_load c) $$ HL; iintro HL
  iapply (w_load' c 1536 rfl) $$ HW; iintro HW
  iapply (s_load' c 44 rfl) $$ HS; iintro HS
  iapply (s_load' c 45 rfl) $$ HS; iintro HS
  iapply (l_load c) $$ HL; iintro HL
  iapply (w_load' c 1792 rfl) $$ HW; iintro HW
  iapply (s_load' c 46 rfl) $$ HS; iintro HS
  iapply HK
  isplitl [HL]; · iexact HL
  isplitl [HW]; · iexact HW
  iexact HS

theorem run_part19 (k : Fin k0_t2_loop.trips) (v1365 v1896 : BitVec 32) {α : Type} {kk : _ → Prog (TpuEff nD τ sig (Elt F) Λ₀ .tc) α} {Q : α → sProp 𝕄} :
    Ops fw fs L k.val 3 ⊢ iprop((Ops fw fs L k.val 3 -∗ WP c (kk ⟨(accO fw fs L k.val 26), (accE fw fs L k.val 27), (extractStridedSlice S8x1280 ![8, 0] (prodB fw L k.val 26) slices_S16x1280_o8_0_S8x1280), (shapeCast S1x1280 (sblk fs k.val 53) shapeCasts_S1x1x1280_S1x1280)⟩) Q)
      -∗ WP c (k0_part19 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 (accO fw fs L k.val 24) v1896 (accE fw fs L k.val 25) (extractStridedSlice S8x1280 ![8, 0] (prodB fw L k.val 24) slices_S16x1280_o8_0_S8x1280) >>= kk) Q) := by
  rw [k0_part19_eq_skeleton]
  unfold k0_part19_skel Ops
  simp only [Prog.bind_assoc, Prog.bind_ret, Prog.pure_eq_ret]
  iintro ⟨HL, HW, HS⟩ HK
  iapply (s_load' c 49 rfl) $$ HS; iintro HS
  iapply (l_load c) $$ HL; iintro HL
  iapply (w_load' c 256 rfl) $$ HW; iintro HW
  iapply (s_load' c 50 rfl) $$ HS; iintro HS
  iapply (s_load' c 51 rfl) $$ HS; iintro HS
  iapply (l_load c) $$ HL; iintro HL
  iapply (w_load' c 512 rfl) $$ HW; iintro HW
  iapply (s_load' c 52 rfl) $$ HS; iintro HS
  iapply (s_load' c 53 rfl) $$ HS; iintro HS
  iapply HK
  isplitl [HL]; · iexact HL
  isplitl [HW]; · iexact HW
  iexact HS

theorem run_part20 (k : Fin k0_t2_loop.trips) (v1365 v1896 : BitVec 32) {α : Type} {kk : _ → Prog (TpuEff nD τ sig (Elt F) Λ₀ .tc) α} {Q : α → sProp 𝕄} :
    Ops fw fs L k.val 3 ⊢ iprop((Ops fw fs L k.val 3 -∗ WP c (kk ⟨(accE fw fs L k.val 29), (accO fw fs L k.val 29)⟩) Q)
      -∗ WP c (k0_part20 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1896 (accO fw fs L k.val 26) (accE fw fs L k.val 27) (extractStridedSlice S8x1280 ![8, 0] (prodB fw L k.val 26) slices_S16x1280_o8_0_S8x1280) (shapeCast S1x1280 (sblk fs k.val 53) shapeCasts_S1x1x1280_S1x1280) >>= kk) Q) := by
  rw [k0_part20_eq_skeleton]
  unfold k0_part20_skel Ops
  simp only [Prog.bind_assoc, Prog.bind_ret, Prog.pure_eq_ret]
  iintro ⟨HL, HW, HS⟩ HK
  iapply (l_load c) $$ HL; iintro HL
  iapply (w_load' c 768 rfl) $$ HW; iintro HW
  iapply (s_load' c 54 rfl) $$ HS; iintro HS
  iapply (s_load' c 55 rfl) $$ HS; iintro HS
  iapply (l_load c) $$ HL; iintro HL
  iapply (w_load' c 1024 rfl) $$ HW; iintro HW
  iapply (s_load' c 56 rfl) $$ HS; iintro HS
  iapply (s_load' c 57 rfl) $$ HS; iintro HS
  iapply HK
  isplitl [HL]; · iexact HL
  isplitl [HW]; · iexact HW
  iexact HS

theorem run_part21 (k : Fin k0_t2_loop.trips) (v1365 v1896 : BitVec 32) {α : Type} {kk : _ → Prog (TpuEff nD τ sig (Elt F) Λ₀ .tc) α} {Q : α → sProp 𝕄} :
    Ops fw fs L k.val 3 ⊢ iprop((Ops fw fs L k.val 3 -∗ WP c (kk ⟨(accE fw fs L k.val 31), (accO fw fs L k.val 31), (lblk L 7936)⟩) Q)
      -∗ WP c (k0_part21 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 k v1365 v1896 (accE fw fs L k.val 29) (accO fw fs L k.val 29) >>= kk) Q) := by
  rw [k0_part21_eq_skeleton]
  unfold k0_part21_skel Ops
  simp only [Prog.bind_assoc, Prog.bind_ret, Prog.pure_eq_ret]
  iintro ⟨HL, HW, HS⟩ HK
  iapply (l_load c) $$ HL; iintro HL
  iapply (w_load' c 1280 rfl) $$ HW; iintro HW
  iapply (s_load' c 58 rfl) $$ HS; iintro HS
  iapply (s_load' c 59 rfl) $$ HS; iintro HS
  iapply (l_load c) $$ HL; iintro HL
  iapply (w_load' c 1536 rfl) $$ HW; iintro HW
  iapply (s_load' c 60 rfl) $$ HS; iintro HS
  iapply (s_load' c 61 rfl) $$ HS; iintro HS
  iapply (l_load c) $$ HL; iintro HL
  iapply HK
  isplitl [HL]; · iexact HL
  isplitl [HW]; · iexact HW
  iexact HS

end Cert.Kernel.Hand

end
-- ==== Proof.Run.Tile.lean ====
/-
  One trip of the loop over the vocabulary's tiles.
-/
module

public import proofs.«01_k».proof.Proof.Run.P22
public import proofs.«01_k».proof.Proof.Run.P10
public import proofs.«01_k».proof.Proof.Run.P15

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

variable {c : Dev nD} (fw : Buf (Elt F) (whL c)) (fs : Buf (Elt F) (shL c)) (L : Buf (Elt F) (lhsL c))
  (C : Buf (Elt F) (cntL c))

set_option maxHeartbeats 4000000 in
theorem trip (k : Fin k0_t2_loop.trips) (acc : FVec F S8x128 .f32 × FVec F S8x128 .f32)
    (v168 : IVec S8x128 32) (v737 v768 v799 v800 : FVec F S8x128 .f32) (v802 : IVec S8x128 1) (v803 v808 v813 v818 v823 v828 : Elt F .f32)
    {Q : FVec F S8x128 .f32 × FVec F S8x128 .f32 → sProp 𝕄} :
    iprop(WF c fw k.val 0 ∗ WF c fw k.val 1 ∗ WF c fw k.val 2 ∗ WF c fw k.val 3 ∗ SF c fs k.val ∗ (L3 c fw k.val ∗ L3s c fs k.val)
        ∗ Out c (Zfin fw fs L C v737 v768 v799 (k0_pay205 v168 v800 v802 v803 v808 v813 v818 v823 v828)) (k.val - 1) (1280 * k.val) ∗ Ow (F := F) c ∗ (lhsL c ↦{fullShare} L) ∗ (cntL c ↦{fullShare} C))
      ⊢ iprop((iprop(WFx c fw (k.val + 4) 0 ∗ WFx c fw (k.val + 4) 1 ∗ WFx c fw (k.val + 4) 2 ∗ WFree c fw ((k.val + 4) % 4) 3
          ∗ (WFx c fw (k.val + 3) 3 ∗ SFx c fs (k.val + 3)) ∗ SFree c fs ((k.val + 4) % 4)
          ∗ Out c (Zfin fw fs L C v737 v768 v799 (k0_pay205 v168 v800 v802 v803 v808 v813 v818 v823 v828)) k.val (1280 * (k.val + 1)) ∗ Ow (F := F) c ∗ (lhsL c ↦{fullShare} L) ∗ (cntL c ↦{fullShare} C))
          -∗ Q (msStep (zgrp fw fs L C v737 v768 v799 (k0_pay205 v168 v800 v802 v803 v808 v813 v818 v823 v828) k.val) acc))
        -∗ WP c (k0_t2_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v737 v768 v799 v800 v802 v803 v808 v813 v818 v823 v828 k acc) Q) := by
  obtain ⟨a, b⟩ := acc
  have hZ := fun g x y h0 h1 => Zfin_at fw fs L C v737 v768 v799 (k0_pay205 v168 v800 v802 v803 v808 v813 v818 v823 v828) (t := k.val) g x y h0 h1
  have hk : k.val < 25 := trips_eq ▸ k.isLt
  unfold k0_t2_body
  iintro ⟨HW0, HW1, HW2, HW3, HS, HL3, HO, HE, HL, HC⟩ HK
  rw [k0_part5_eq_skeleton]; unfold k0_part5_skel
  simp only [Prog.bind_assoc, Prog.bind_ret, Prog.pure_eq_ret]
  iapply (s_await c (ClosedOff.eq (off := k0_off11 k))) $$ [HS HE]
  · isplitl [HS]; · iexact HS
    iexact HE
  iintro ⟨HS, HE⟩
  iapply (w_await c (t := k.val) (q := 0) (k0_off14_eq k 0)) $$ [HW0 HE]
  · isplitl [HW0]; · iexact HW0
    iexact HE
  iintro ⟨HW0, HE⟩
  iapply (fetch3 c k ?_) $$ HL3
  · intro h
    simp only [Prog.bind_assoc]
    iintro ⟨H1, H2⟩ Hk
    iapply (s_issue c (k.val + 3) (k0_off17_eq k) (k0_off18_eq k) (off2 (k0_off19_eq k) rfl (by omega))) $$ H2
    iintro H2
    iapply (w_issue c (k.val + 3) 3 (k0_off20_eq k) (k0_off21_eq k) (off2 (k0_off22_eq k) rfl (by omega))) $$ H1
    iintro H1
    iapply Hk
    isplitl [H1]; · iexact H1
    iexact H2
  iintro HL3
  iapply (flush c k ?_) $$ HO
  · intro h hk1
    simp only [Prog.bind_assoc]
    iintro H Hk
    iapply (z_issue c (k.val - 1) (by omega) (by omega) rfl (off23_form k hk1)) $$ H
    iexact Hk
  iintro HO
  simp only [Prog.bind_assoc, Prog.bind_ret, Prog.pure_eq_ret]
  ihave HQ : Ops fw fs L k.val 0 $$ [HL HW0 HS]
  · unfold Ops
    isplitl [HL]; · iexact HL
    isplitl [HW0]; · iexact HW0
    iexact HS
  iapply (run_part6 fw fs L k _ _) $$ HQ
  iintro HQ
  dsimp only
  iapply (run_part7 fw fs L k _ _) $$ HQ
  iintro HQ
  dsimp only
  iapply (run_part8 fw fs L k _ _) $$ HQ
  iintro HQ
  dsimp only
  iapply (run_part9 fw fs L k _ _ _) $$ HQ
  iintro HQ
  dsimp only
  iapply (run_part10 fw fs L k _ _) $$ [HQ HW1 HE]
  · isplitl [HQ]; · iexact HQ
    isplitl [HW1]; · iexact HW1
    iexact HE
  iintro ⟨HQ, HW0, HE⟩
  dsimp only
  iapply (run_part11 fw fs L k _ _) $$ HQ
  iintro HQ
  dsimp only
  iapply (run_part12 fw fs L k _ _) $$ HQ
  iintro HQ
  dsimp only
  iapply (run_part13 fw fs L k _ _ _) $$ HQ
  iintro HQ
  dsimp only
  iapply (run_part14 fw fs L k _ _ _ _) $$ [HQ HW2 HE]
  · isplitl [HQ]; · iexact HQ
    isplitl [HW2]; · iexact HW2
    iexact HE
  iintro ⟨HQ, HW1, HE⟩
  dsimp only
  iapply (run_part15 fw fs L k _ _) $$ HQ
  iintro HQ
  dsimp only
  iapply (run_part16 fw fs L k _ _) $$ HQ
  iintro HQ
  dsimp only
  iapply (run_part17 fw fs L k _ _) $$ HQ
  iintro HQ
  dsimp only
  iapply (run_part18 fw fs L k _ _) $$ [HQ HW3 HE]
  · isplitl [HQ]; · iexact HQ
    isplitl [HW3]; · iexact HW3
    iexact HE
  iintro ⟨HQ, HW2, HE⟩
  dsimp only
  iapply (run_part19 fw fs L k _ _) $$ HQ
  iintro HQ
  dsimp only
  iapply (run_part20 fw fs L k _ _) $$ HQ
  iintro HQ
  dsimp only
  iapply (run_part21 fw fs L k _ _) $$ HQ
  iintro HQ
  dsimp only
  iapply (run_part22 fw fs L C _ _ _ _ k _ _) $$ [HQ HC]
  · isplitl [HQ]; · iexact HQ
    iexact HC
  iintro ⟨HQ, HC⟩
  dsimp only
  iapply (run_part23 fw fs L C _ _ _ _ k _) $$ HC
  iintro HC
  dsimp only
  iapply (run_part24 fw fs L C _ _ _ _ k _) $$ HC
  iintro HC
  dsimp only
  iapply (run_part25 fw fs L C _ _ _ _ k _ _) $$ HC
  iintro HC
  dsimp only
  iapply (run_part26 fw fs L C _ _ _ _ _ k hZ _) $$ [HC HO]
  · isplitl [HC]; · iexact HC
    iexact HO
  iintro ⟨HC, HO⟩
  dsimp only
  iapply (run_part27 _ k hZ _ _ _) $$ HO
  iintro HO
  iapply (run_part28 _ k hZ _ _ _) $$ HO
  iintro HO
  unfold Ops WP
  icases HQ with ⟨HL, HW3, HS⟩
  dsimp only
  rw [wp_ret]
  imodintro
  unfold msStep
  dsimp only
  iapply HK
  isplitl [HW0]; · iexact HW0
  isplitl [HW1]; · iexact HW1
  isplitl [HW2]; · iexact HW2
  isplitl [HW3]
  · iapply (WLd_next fw k.val 3)
    iexact HW3
  isplitl [HL3]; · iexact HL3
  isplitl [HS]
  · iapply (SLd_next fs k.val)
    iexact HS
  isplitl [HO]; · iexact HO
  isplitl [HE]; · iexact HE
  isplitl [HL]; · iexact HL
  iexact HC

variable (xs pr fr re : FVec F S8x128 .f32)

/-- The tiles in flight before trip `k`. -/
def Ring (c : Dev nD) (fw : Buf (Elt F) (whL c)) (fs : Buf (Elt F) (shL c)) (k : ℕ) : sProp 𝕄 :=
  iprop((WFx c fw k 0 ∗ WFx c fw k 1 ∗ WFx c fw k 2 ∗ WFx c fw k 3)
    ∗ (WFx c fw (k + 1) 0 ∗ WFx c fw (k + 1) 1 ∗ WFx c fw (k + 1) 2 ∗ WFx c fw (k + 1) 3)
    ∗ (WFx c fw (k + 2) 0 ∗ WFx c fw (k + 2) 1 ∗ WFx c fw (k + 2) 2 ∗ WFx c fw (k + 2) 3)
    ∗ (WFx c fw (k + 3) 0 ∗ WFx c fw (k + 3) 1 ∗ WFx c fw (k + 3) 2 ∗ L3 c fw k)
    ∗ SFx c fs k ∗ SFx c fs (k + 1) ∗ SFx c fs (k + 2) ∗ L3s c fs k)

/-- What holds before trip `k`: the running maximum and sum are those of the tiles before. -/
def Inv (k : ℕ) (a : FVec F S8x128 .f32 × FVec F S8x128 .f32) : sProp 𝕄 :=
  iprop(⌜a = msAt fw fs L C xs pr fr re k⌝ ∗ Ring c fw fs k ∗ Out c (Zfin fw fs L C xs pr fr re) (k - 1) (1280 * k)
    ∗ Ow (F := F) c ∗ (lhsL c ↦{fullShare} L) ∗ (cntL c ↦{fullShare} C))

theorem trip_inv (k : Fin k0_t2_loop.trips) (acc : FVec F S8x128 .f32 × FVec F S8x128 .f32)
    (v168 : IVec S8x128 32) (v737 v768 v799 v800 : FVec F S8x128 .f32) (v802 : IVec S8x128 1) (v803 v808 v813 v818 v823 v828 : Elt F .f32) :
    Inv fw fs L C v737 v768 v799 (k0_pay205 v168 v800 v802 v803 v808 v813 v818 v823 v828) k.val acc
      ⊢ WP c (k0_t2_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v737 v768 v799 v800 v802 v803 v808 v813 v818 v823 v828 k acc)
        (Inv fw fs L C v737 v768 v799 (k0_pay205 v168 v800 v802 v803 v808 v813 v818 v823 v828) (k.val + 1)) := by
  have hk : k.val < 25 := trips_eq ▸ k.isLt
  unfold Inv Ring
  rw [WFx_lt fw hk, WFx_lt fw hk, WFx_lt fw hk, WFx_lt fw hk, SFx_lt fs hk]
  iintro ⟨%ha, ⟨⟨A0, A1, A2, A3⟩, ⟨B0, B1, B2, B3⟩, ⟨C0, C1, C2, C3⟩, ⟨D0, D1, D2, D3⟩, S0, S1, S2, S3⟩, HO, HE, HL, HC⟩
  subst ha
  iapply (trip fw fs L C k _ v168 v737 v768 v799 v800 v802 v803 v808 v813 v818 v823 v828) $$ [A0 A1 A2 A3 S0 D3 S3 HO HE HL HC]
  · isplitl [A0]; · iexact A0
    isplitl [A1]; · iexact A1
    isplitl [A2]; · iexact A2
    isplitl [A3]; · iexact A3
    isplitl [S0]; · iexact S0
    isplitl [D3 S3]
    · isplitl [D3]; · iexact D3
      iexact S3
    isplitl [HO]; · iexact HO
    isplitl [HE]; · iexact HE
    isplitl [HL]; · iexact HL
    iexact HC
  iintro ⟨A0, A1, A2, A3, ⟨D3, S3⟩, S0, HO, HE, HL, HC⟩
  rw [L3, L3s, if_neg (Nat.succ_ne_zero k.val), if_neg (Nat.succ_ne_zero k.val)]
  isplitr [B0 B1 B2 B3 C0 C1 C2 C3 D0 D1 D2 D3 A0 A1 A2 A3 S0 S1 S2 S3 HO HE HL HC]
  · ipureintro
    rfl
  isplitr [HO HE HL HC]
  · isplitl [B0 B1 B2 B3]
    · isplitl [B0]; · iexact B0
      isplitl [B1]; · iexact B1
      isplitl [B2]; · iexact B2
      iexact B3
    isplitl [C0 C1 C2 C3]
    · isplitl [C0]; · iexact C0
      isplitl [C1]; · iexact C1
      isplitl [C2]; · iexact C2
      iexact C3
    isplitl [D0 D1 D2 D3]
    · isplitl [D0]; · iexact D0
      isplitl [D1]; · iexact D1
      isplitl [D2]; · iexact D2
      iexact D3
    isplitl [A0 A1 A2 A3]
    · isplitl [A0]; · iexact A0
      isplitl [A1]; · iexact A1
      isplitl [A2]; · iexact A2
      iexact A3
    isplitl [S1]; · iexact S1
    isplitl [S2]; · iexact S2
    isplitl [S3]; · iexact S3
    iexact S0
  isplitl [HO]; · iexact HO
  isplitl [HE]; · iexact HE
  isplitl [HL]; · iexact HL
  iexact HC

end Cert.Kernel.Hand

end
-- ==== Proof.Run.Lhs.lean ====
module

public import proofs.«01_k».proof.Proof.Run.Tile

/-! Preparing the activations: 64 blocks of 128 columns, alternately in the upper and the lower eight rows. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- The activations as they came, in the core's memory. -/
abbrev xL (c : Dev nD) : Loc nD τ sig := (Memref.whole cc0_scratch3).view.loc (c : Thread nD τ)

/-- 128 columns of the activations, from column `j`. -/
def xblk (X : S6x8192.Idx → Elt F .fp8e4m3) (j : ℕ) : Vec F S6x128 .fp8e4m3 :=
  fun x => X (ix2 ⟨(x 0).val % 6, Nat.mod_lt _ (by decide)⟩ ⟨(j + (x 1).val) % 8192, Nat.mod_lt _ (by decide)⟩)

/-- The 128 prepared columns from column `n` on: the activations over zeros, or under zeros. -/
def lcol (X : S6x8192.Idx → Elt F .fp8e4m3) (n : ℕ) : Vec F S16x128 .bf16 :=
  if n / 128 % 2 = 0 then k0_pay123 (xblk X n) else k0_pay124 (xblk X n)

/-- The prepared activations. -/
def Lfin (X : S6x8192.Idx → Elt F .fp8e4m3) : S16x8192.Idx → Elt F .bf16 :=
  fun y => lcol X (128 * ((y 1).val / 128)) (ix2 ⟨(y 0).val % 16, Nat.mod_lt _ (by decide)⟩ ⟨(y 1).val % 128, Nat.mod_lt _ (by decide)⟩)

/-- Columns before `n` are prepared. -/
def Lh (c : Dev nD) (X : S6x8192.Idx → Elt F .fp8e4m3) (n : ℕ) : sProp 𝕄 :=
  iprop(∃ f : Buf (Elt F) (lhsL c), (lhsL c ↦{fullShare} f) ∗ ⌜∀ y : S16x8192.Idx, (y 1).val < n → f y = Lfin X y⌝)

theorem x_load (c : Dev nD) {α : Type} {q : PosShare TreeShare} {X : Buf (Elt F) (xL c)} {j : ℕ}
    {h : ∀ a, (![0, j] : Fin 2 → ℕ) a + S6x128.size a ≤ S6x8192.size a} {hl}
    {k : Vec F S6x128 .fp8e4m3 → Prog (TpuEff nD τ sig (Elt F) Λ₀ .tc) α} {Q : α → sProp 𝕄} :
    (xL c ↦{q} X)
      ⊢ iprop(((xL c ↦{q} X) -∗ WP c (k (xblk X j)) Q)
        -∗ WP c (Prog.lift (.load (Memref.whole cc0_scratch3) (Rect.unit (s := S6x8192) ![0, j] S6x128.size h).toLoadRect hl) >>= k) Q) := by
  have hv : (Memref.whole cc0_scratch3).view.readAt (Elt F) (Rect.unit (s := S6x8192) ![0, j] S6x128.size h).toLoadRect X = xblk X j := by
    funext x
    show X _ = X _
    congr 1
    have h1 : j + 128 ≤ 8192 := h 1
    have hx0 : (x 0).val < 6 := (x 0).isLt
    have hx1 : (x 1).val < 128 := (x 1).isLt
    funext i
    apply Fin.ext
    fin_cases i
    · show 0 + 1 * (x 0).val = (x 0).val % 6; omega
    · show j + 1 * (x 1).val = (j + (x 1).val) % 8192; omega
  rw [← hv]
  exact ld c

/-- A load of prepared columns whose value is not used. -/
theorem lh_load (c : Dev nD) {α : Type} {X : S6x8192.Idx → Elt F .fp8e4m3} {n : ℕ} {r : LoadRect S16x8192} {hl}
    {k : (r.shape.Idx → Elt F .bf16) → Prog (TpuEff nD τ sig (Elt F) Λ₀ .tc) α} {Q : α → sProp 𝕄} :
    Lh c X n
      ⊢ iprop((∀ v, Lh c X n -∗ WP c (k v) Q)
        -∗ WP c (Prog.lift (.load (Memref.whole cc0_scratch2) r hl) >>= k) Q) := by
  unfold Lh
  iintro ⟨%f, Hf, %hf⟩ Hk
  iapply (ld c) $$ Hf
  iintro Hf
  iapply Hk
  iexists f
  isplitl [Hf]; · iexact Hf
  ipureintro; exact hf

theorem lrect_mem {n : ℕ} (h : ∀ a, (![0, n] : Fin 2 → ℕ) a + S16x128.size a ≤ S16x8192.size a) (y : S16x8192.Idx)
    (ha : n ≤ (y 1).val) (hb : (y 1).val < n + 128) : y ∈ (Rect.unit (s := S16x8192) ![0, n] S16x128.size h).set := by
  rw [← Rect.map_emb_univ]
  refine Finset.mem_map.mpr ⟨ix2 (y 0) ⟨(y 1).val - n, by omega⟩, Finset.mem_univ _, ?_⟩
  funext i
  apply Fin.ext
  rw [Rect.emb_apply]
  fin_cases i
  · show 0 + 1 * (y 0).val = (y 0).val; omega
  · show n + 1 * ((y 1).val - n) = (y 1).val; omega

theorem Lfin_at (X : S6x8192.Idx → Elt F .fp8e4m3) {n : ℕ} (hn : n % 128 = 0) {y : S16x8192.Idx} {x : S16x128.Idx}
    (e0 : (y 0).val = (x 0).val) (e1 : (y 1).val = n + (x 1).val) : Lfin X y = lcol X n x := by
  have hx0 : (x 0).val < 16 := (x 0).isLt
  have hx1 : (x 1).val < 128 := (x 1).isLt
  unfold Lfin
  have hb : 128 * ((y 1).val / 128) = n := by omega
  rw [hb]
  congr 1
  funext i
  apply Fin.ext
  fin_cases i
  · show (y 0).val % 16 = (x 0).val
    omega
  · show (y 1).val % 128 = (x 1).val
    omega

/-- Storing the next 128 prepared columns. -/
theorem lh_store (c : Dev nD) {α : Type} {X : S6x8192.Idx → Elt F .fp8e4m3} {n : ℕ} (hn : n % 128 = 0)
    {h : ∀ a, (![0, n] : Fin 2 → ℕ) a + S16x128.size a ≤ S16x8192.size a}
    {w : S16x128.Idx → Elt F .bf16} (hw : w = lcol X n) {hx} {hm}
    {k : PUnit → Prog (TpuEff nD τ sig (Elt F) Λ₀ .tc) α} {Q : α → sProp 𝕄} :
    Lh c X n
      ⊢ iprop((Lh c X (n + 128) -∗ WP c (k ⟨⟩) Q)
        -∗ WP c (Prog.lift (.store (Memref.whole cc0_scratch2) (Rect.unit (s := S16x8192) ![0, n] S16x128.size h) w Finset.univ hx hm) >>= k) Q) := by
  subst hw
  unfold Lh
  iintro ⟨%f, Hf, %hf⟩ Hk
  iapply (st c (m := Memref.whole cc0_scratch2) (r := Rect.unit (s := S16x8192) ![0, n] S16x128.size h)) $$ Hf
  iintro Hf
  iapply Hk
  iexists _
  isplitl [Hf]; · iexact Hf
  ipureintro
  intro y hy
  by_cases hin : y ∈ ((Memref.whole cc0_scratch2).access (Rect.unit (s := S16x8192) ![0, n] S16x128.size h)).set
  · obtain ⟨x, -, rfl⟩ := Finset.mem_map.mp hin
    rw [View.write_emb, if_pos (Finset.mem_univ _)]
    have hx0 : (x 0).val < 16 := (x 0).isLt
    have hx1 : (x 1).val < 128 := (x 1).isLt
    have e0 : ((((Memref.whole cc0_scratch2).access (Rect.unit (s := S16x8192) ![0, n] S16x128.size h)).emb x : S16x8192.Idx) 0).val = (x 0).val := by
      show ((Rect.unit (s := S16x8192) ![0, n] S16x128.size h).emb x 0).val = _
      rw [Rect.emb_apply]; show 0 + 1 * (x 0).val = _; omega
    have e1 : ((((Memref.whole cc0_scratch2).access (Rect.unit (s := S16x8192) ![0, n] S16x128.size h)).emb x : S16x8192.Idx) 1).val = n + (x 1).val := by
      show ((Rect.unit (s := S16x8192) ![0, n] S16x128.size h).emb x 1).val = _
      rw [Rect.emb_apply]; show n + 1 * (x 1).val = _; omega
    exact (Lfin_at X hn e0 e1).symm
  · rw [View.write_of_not_mem (h := hin)]
    apply hf
    by_contra hge
    apply hin
    show y ∈ ((View.whole cc0_scratch2).slice (Rect.unit (s := S16x8192) ![0, n] S16x128.size h)).set
    rw [View.set_slice_whole]
    exact lrect_mem h y (by omega) hy

variable (c : Dev nD) (X : S6x8192.Idx → Elt F .fp8e4m3)

theorem run_part35 {α : Type} {kk : _ → Prog (TpuEff nD τ sig (Elt F) Λ₀ .tc) α} {Q : α → sProp 𝕄} :
    iprop(Fly c (cell 20) (Memref.whole cc0_scratch3).view.dmaCredit (xL c) Finset.univ (fun f => f = X) ((Memref.whole main_arg0).view.loc (c : Thread nD τ)) fullShare X ∗ Ow (F := F) c ∗ Lh c X 0) ⊢ iprop((iprop(semVal ((c : Thread nD τ), cell 20) 0 ∗ ((Memref.whole main_arg0).view.loc (c : Thread nD τ) ↦{fullShare} X) ∗ Ow (F := F) c ∗ (xL c ↦{fullShare} X) ∗ Lh c X 512) -∗ WP c (kk ⟨k0_pay121 (F := F), k0_pay122 (F := F)⟩) Q)
      -∗ WP c (k0_part35 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19  >>= kk) Q) := by
  rw [k0_part35_eq_skeleton]
  unfold k0_part35_skel
  simp only [Prog.bind_assoc, Prog.bind_ret, Prog.pure_eq_ret]
  iintro ⟨HF, HO, HL⟩ HK
  iapply (await c (N := (Memref.whole cc0_scratch3).view.dmaCredit) rfl (sem_slice _ inb_S2_S1_0 _ rfl)) $$ [HF HO]
  · isplitl [HF]; · iexact HF
    iexact HO
  unfold Land
  iintro ⟨⟨⟨%X', HX, %hX⟩, Hs, Ha⟩, HO⟩
  rw [hX]
  iapply (x_load c) $$ HX; iintro HX
  iapply (lh_load c) $$ HL; iintro %v179 HL
  iapply (lh_store c (X := X) (n := 0) rfl rfl) $$ HL; iintro HL
  iapply (x_load c) $$ HX; iintro HX
  iapply (lh_load c) $$ HL; iintro %v187 HL
  iapply (lh_store c (X := X) (n := 128) rfl rfl) $$ HL; iintro HL
  iapply (x_load c) $$ HX; iintro HX
  iapply (lh_load c) $$ HL; iintro %v195 HL
  iapply (lh_store c (X := X) (n := 256) rfl rfl) $$ HL; iintro HL
  iapply (x_load c) $$ HX; iintro HX
  iapply (lh_load c) $$ HL; iintro %v203 HL
  iapply (lh_store c (X := X) (n := 384) rfl rfl) $$ HL; iintro HL
  iapply HK
  isplitl [Hs]; · iexact Hs
  isplitl [Ha]; · iexact Ha
  isplitl [HO]; · iexact HO
  isplitl [HX]; · iexact HX
  iexact HL

theorem run_part36 {α : Type} {kk : _ → Prog (TpuEff nD τ sig (Elt F) Λ₀ .tc) α} {Q : α → sProp 𝕄} :
    iprop((xL c ↦{fullShare} X) ∗ Lh c X 512) ⊢ iprop((∀ v243 : Vec F S16x128 .bf16, iprop((xL c ↦{fullShare} X) ∗ Lh c X 1024) -∗ WP c (kk ⟨k0_pay131 (k0_pay121 (F := F)) (k0_pay122 (F := F)) (xblk X 1024), v243⟩) Q)
      -∗ WP c (k0_part36 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) >>= kk) Q) := by
  rw [k0_part36_eq_skeleton]
  unfold k0_part36_skel
  simp only [Prog.bind_assoc, Prog.bind_ret, Prog.pure_eq_ret]
  iintro ⟨HX, HL⟩ HK
  iapply (x_load c) $$ HX; iintro HX
  iapply (lh_load c) $$ HL; iintro %v211 HL
  iapply (lh_store c (X := X) (n := 512) rfl rfl) $$ HL; iintro HL
  iapply (x_load c) $$ HX; iintro HX
  iapply (lh_load c) $$ HL; iintro %v219 HL
  iapply (lh_store c (X := X) (n := 640) rfl rfl) $$ HL; iintro HL
  iapply (x_load c) $$ HX; iintro HX
  iapply (lh_load c) $$ HL; iintro %v227 HL
  iapply (lh_store c (X := X) (n := 768) rfl rfl) $$ HL; iintro HL
  iapply (x_load c) $$ HX; iintro HX
  iapply (lh_load c) $$ HL; iintro %v235 HL
  iapply (lh_store c (X := X) (n := 896) rfl rfl) $$ HL; iintro HL
  iapply (x_load c) $$ HX; iintro HX
  iapply (lh_load c) $$ HL; iintro %v243 HL
  iapply HK
  isplitl [HX]; · iexact HX
  iexact HL

theorem run_part37 (v243 : Vec F S16x128 .bf16) {α : Type} {kk : _ → Prog (TpuEff nD τ sig (Elt F) Λ₀ .tc) α} {Q : α → sProp 𝕄} :
    iprop((xL c ↦{fullShare} X) ∗ Lh c X 1024) ⊢ iprop((iprop((xL c ↦{fullShare} X) ∗ Lh c X 1664) -∗ WP c (kk (k0_pay137 (k0_pay121 (F := F)) (xblk X 1664))) Q)
      -∗ WP c (k0_part37 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) (k0_pay131 (k0_pay121 (F := F)) (k0_pay122 (F := F)) (xblk X 1024)) v243 >>= kk) Q) := by
  rw [k0_part37_eq_skeleton]
  unfold k0_part37_skel
  simp only [Prog.bind_assoc, Prog.bind_ret, Prog.pure_eq_ret]
  iintro ⟨HX, HL⟩ HK
  iapply (lh_store c (X := X) (n := 1024) rfl rfl) $$ HL; iintro HL
  iapply (x_load c) $$ HX; iintro HX
  iapply (lh_load c) $$ HL; iintro %v251 HL
  iapply (lh_store c (X := X) (n := 1152) rfl rfl) $$ HL; iintro HL
  iapply (x_load c) $$ HX; iintro HX
  iapply (lh_load c) $$ HL; iintro %v259 HL
  iapply (lh_store c (X := X) (n := 1280) rfl rfl) $$ HL; iintro HL
  iapply (x_load c) $$ HX; iintro HX
  iapply (lh_load c) $$ HL; iintro %v267 HL
  iapply (lh_store c (X := X) (n := 1408) rfl rfl) $$ HL; iintro HL
  iapply (x_load c) $$ HX; iintro HX
  iapply (lh_load c) $$ HL; iintro %v275 HL
  iapply (lh_store c (X := X) (n := 1536) rfl rfl) $$ HL; iintro HL
  iapply (x_load c) $$ HX; iintro HX
  iapply HK
  isplitl [HX]; · iexact HX
  iexact HL

theorem run_part38 {α : Type} {kk : _ → Prog (TpuEff nD τ sig (Elt F) Λ₀ .tc) α} {Q : α → sProp 𝕄} :
    iprop((xL c ↦{fullShare} X) ∗ Lh c X 1664) ⊢ iprop((iprop((xL c ↦{fullShare} X) ∗ Lh c X 2304) -∗ WP c (kk ⟨⟩) Q)
      -∗ WP c (k0_part38 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay137 (k0_pay121 (F := F)) (xblk X 1664))) >>= kk) Q) := by
  rw [k0_part38_eq_skeleton]
  unfold k0_part38_skel
  simp only [Prog.bind_assoc, Prog.bind_ret, Prog.pure_eq_ret]
  iintro ⟨HX, HL⟩ HK
  iapply (lh_load c) $$ HL; iintro %v283 HL
  iapply (lh_store c (X := X) (n := 1664) rfl rfl) $$ HL; iintro HL
  iapply (x_load c) $$ HX; iintro HX
  iapply (lh_load c) $$ HL; iintro %v291 HL
  iapply (lh_store c (X := X) (n := 1792) rfl rfl) $$ HL; iintro HL
  iapply (x_load c) $$ HX; iintro HX
  iapply (lh_load c) $$ HL; iintro %v299 HL
  iapply (lh_store c (X := X) (n := 1920) rfl rfl) $$ HL; iintro HL
  iapply (x_load c) $$ HX; iintro HX
  iapply (lh_load c) $$ HL; iintro %v307 HL
  iapply (lh_store c (X := X) (n := 2048) rfl rfl) $$ HL; iintro HL
  iapply (x_load c) $$ HX; iintro HX
  iapply (lh_load c) $$ HL; iintro %v315 HL
  iapply (lh_store c (X := X) (n := 2176) rfl rfl) $$ HL; iintro HL
  iapply HK
  isplitl [HX]; · iexact HX
  iexact HL

theorem run_part39 {α : Type} {kk : _ → Prog (TpuEff nD τ sig (Elt F) Λ₀ .tc) α} {Q : α → sProp 𝕄} :
    iprop((xL c ↦{fullShare} X) ∗ Lh c X 2304) ⊢ iprop((iprop((xL c ↦{fullShare} X) ∗ Lh c X 2816) -∗ WP c (kk (k0_pay147 (k0_pay121 (F := F)) (k0_pay122 (F := F)) (xblk X 2816))) Q)
      -∗ WP c (k0_part39 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) >>= kk) Q) := by
  rw [k0_part39_eq_skeleton]
  unfold k0_part39_skel
  simp only [Prog.bind_assoc, Prog.bind_ret, Prog.pure_eq_ret]
  iintro ⟨HX, HL⟩ HK
  iapply (x_load c) $$ HX; iintro HX
  iapply (lh_load c) $$ HL; iintro %v323 HL
  iapply (lh_store c (X := X) (n := 2304) rfl rfl) $$ HL; iintro HL
  iapply (x_load c) $$ HX; iintro HX
  iapply (lh_load c) $$ HL; iintro %v331 HL
  iapply (lh_store c (X := X) (n := 2432) rfl rfl) $$ HL; iintro HL
  iapply (x_load c) $$ HX; iintro HX
  iapply (lh_load c) $$ HL; iintro %v339 HL
  iapply (lh_store c (X := X) (n := 2560) rfl rfl) $$ HL; iintro HL
  iapply (x_load c) $$ HX; iintro HX
  iapply (lh_load c) $$ HL; iintro %v347 HL
  iapply (lh_store c (X := X) (n := 2688) rfl rfl) $$ HL; iintro HL
  iapply (x_load c) $$ HX; iintro HX
  iapply HK
  isplitl [HX]; · iexact HX
  iexact HL

theorem run_part40 {α : Type} {kk : _ → Prog (TpuEff nD τ sig (Elt F) Λ₀ .tc) α} {Q : α → sProp 𝕄} :
    iprop((xL c ↦{fullShare} X) ∗ Lh c X 2816) ⊢ iprop((iprop((xL c ↦{fullShare} X) ∗ Lh c X 3456) -∗ WP c (kk (xblk X 3456)) Q)
      -∗ WP c (k0_part40 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay147 (k0_pay121 (F := F)) (k0_pay122 (F := F)) (xblk X 2816))) >>= kk) Q) := by
  rw [k0_part40_eq_skeleton]
  unfold k0_part40_skel
  simp only [Prog.bind_assoc, Prog.bind_ret, Prog.pure_eq_ret]
  iintro ⟨HX, HL⟩ HK
  iapply (lh_load c) $$ HL; iintro %v355 HL
  iapply (lh_store c (X := X) (n := 2816) rfl rfl) $$ HL; iintro HL
  iapply (x_load c) $$ HX; iintro HX
  iapply (lh_load c) $$ HL; iintro %v363 HL
  iapply (lh_store c (X := X) (n := 2944) rfl rfl) $$ HL; iintro HL
  iapply (x_load c) $$ HX; iintro HX
  iapply (lh_load c) $$ HL; iintro %v371 HL
  iapply (lh_store c (X := X) (n := 3072) rfl rfl) $$ HL; iintro HL
  iapply (x_load c) $$ HX; iintro HX
  iapply (lh_load c) $$ HL; iintro %v379 HL
  iapply (lh_store c (X := X) (n := 3200) rfl rfl) $$ HL; iintro HL
  iapply (x_load c) $$ HX; iintro HX
  iapply (lh_load c) $$ HL; iintro %v387 HL
  iapply (lh_store c (X := X) (n := 3328) rfl rfl) $$ HL; iintro HL
  iapply (x_load c) $$ HX; iintro HX
  iapply HK
  isplitl [HX]; · iexact HX
  iexact HL

theorem run_part41 {α : Type} {kk : _ → Prog (TpuEff nD τ sig (Elt F) Λ₀ .tc) α} {Q : α → sProp 𝕄} :
    iprop((xL c ↦{fullShare} X) ∗ Lh c X 3456) ⊢ iprop((iprop((xL c ↦{fullShare} X) ∗ Lh c X 3968) -∗ WP c (kk (k0_pay157 (k0_pay121 (F := F)) (k0_pay122 (F := F)) (xblk X 3968))) Q)
      -∗ WP c (k0_part41 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((xblk X 3456)) >>= kk) Q) := by
  rw [k0_part41_eq_skeleton]
  unfold k0_part41_skel
  simp only [Prog.bind_assoc, Prog.bind_ret, Prog.pure_eq_ret]
  iintro ⟨HX, HL⟩ HK
  iapply (lh_load c) $$ HL; iintro %v395 HL
  iapply (lh_store c (X := X) (n := 3456) rfl rfl) $$ HL; iintro HL
  iapply (x_load c) $$ HX; iintro HX
  iapply (lh_load c) $$ HL; iintro %v403 HL
  iapply (lh_store c (X := X) (n := 3584) rfl rfl) $$ HL; iintro HL
  iapply (x_load c) $$ HX; iintro HX
  iapply (lh_load c) $$ HL; iintro %v411 HL
  iapply (lh_store c (X := X) (n := 3712) rfl rfl) $$ HL; iintro HL
  iapply (x_load c) $$ HX; iintro HX
  iapply (lh_load c) $$ HL; iintro %v419 HL
  iapply (lh_store c (X := X) (n := 3840) rfl rfl) $$ HL; iintro HL
  iapply (x_load c) $$ HX; iintro HX
  iapply (lh_load c) $$ HL; iintro %v427 HL
  iapply HK
  isplitl [HX]; · iexact HX
  iexact HL

theorem run_part42 {α : Type} {kk : _ → Prog (TpuEff nD τ sig (Elt F) Λ₀ .tc) α} {Q : α → sProp 𝕄} :
    iprop((xL c ↦{fullShare} X) ∗ Lh c X 3968) ⊢ iprop((iprop((xL c ↦{fullShare} X) ∗ Lh c X 4608) -∗ WP c (kk (k0_pay163 (k0_pay121 (F := F)) (k0_pay122 (F := F)) (xblk X 4608))) Q)
      -∗ WP c (k0_part42 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay157 (k0_pay121 (F := F)) (k0_pay122 (F := F)) (xblk X 3968))) >>= kk) Q) := by
  rw [k0_part42_eq_skeleton]
  unfold k0_part42_skel
  simp only [Prog.bind_assoc, Prog.bind_ret, Prog.pure_eq_ret]
  iintro ⟨HX, HL⟩ HK
  iapply (lh_store c (X := X) (n := 3968) rfl rfl) $$ HL; iintro HL
  iapply (x_load c) $$ HX; iintro HX
  iapply (lh_load c) $$ HL; iintro %v435 HL
  iapply (lh_store c (X := X) (n := 4096) rfl rfl) $$ HL; iintro HL
  iapply (x_load c) $$ HX; iintro HX
  iapply (lh_load c) $$ HL; iintro %v443 HL
  iapply (lh_store c (X := X) (n := 4224) rfl rfl) $$ HL; iintro HL
  iapply (x_load c) $$ HX; iintro HX
  iapply (lh_load c) $$ HL; iintro %v451 HL
  iapply (lh_store c (X := X) (n := 4352) rfl rfl) $$ HL; iintro HL
  iapply (x_load c) $$ HX; iintro HX
  iapply (lh_load c) $$ HL; iintro %v459 HL
  iapply (lh_store c (X := X) (n := 4480) rfl rfl) $$ HL; iintro HL
  iapply (x_load c) $$ HX; iintro HX
  iapply HK
  isplitl [HX]; · iexact HX
  iexact HL

theorem run_part43 {α : Type} {kk : _ → Prog (TpuEff nD τ sig (Elt F) Λ₀ .tc) α} {Q : α → sProp 𝕄} :
    iprop((xL c ↦{fullShare} X) ∗ Lh c X 4608) ⊢ iprop((iprop((xL c ↦{fullShare} X) ∗ Lh c X 5248) -∗ WP c (kk ⟨⟩) Q)
      -∗ WP c (k0_part43 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay163 (k0_pay121 (F := F)) (k0_pay122 (F := F)) (xblk X 4608))) >>= kk) Q) := by
  rw [k0_part43_eq_skeleton]
  unfold k0_part43_skel
  simp only [Prog.bind_assoc, Prog.bind_ret, Prog.pure_eq_ret]
  iintro ⟨HX, HL⟩ HK
  iapply (lh_load c) $$ HL; iintro %v467 HL
  iapply (lh_store c (X := X) (n := 4608) rfl rfl) $$ HL; iintro HL
  iapply (x_load c) $$ HX; iintro HX
  iapply (lh_load c) $$ HL; iintro %v475 HL
  iapply (lh_store c (X := X) (n := 4736) rfl rfl) $$ HL; iintro HL
  iapply (x_load c) $$ HX; iintro HX
  iapply (lh_load c) $$ HL; iintro %v483 HL
  iapply (lh_store c (X := X) (n := 4864) rfl rfl) $$ HL; iintro HL
  iapply (x_load c) $$ HX; iintro HX
  iapply (lh_load c) $$ HL; iintro %v491 HL
  iapply (lh_store c (X := X) (n := 4992) rfl rfl) $$ HL; iintro HL
  iapply (x_load c) $$ HX; iintro HX
  iapply (lh_load c) $$ HL; iintro %v499 HL
  iapply (lh_store c (X := X) (n := 5120) rfl rfl) $$ HL; iintro HL
  iapply HK
  isplitl [HX]; · iexact HX
  iexact HL

theorem run_part44 {α : Type} {kk : _ → Prog (TpuEff nD τ sig (Elt F) Λ₀ .tc) α} {Q : α → sProp 𝕄} :
    iprop((xL c ↦{fullShare} X) ∗ Lh c X 5248) ⊢ iprop((iprop((xL c ↦{fullShare} X) ∗ Lh c X 5760) -∗ WP c (kk (k0_pay173 (k0_pay121 (F := F)) (k0_pay122 (F := F)) (xblk X 5760))) Q)
      -∗ WP c (k0_part44 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) >>= kk) Q) := by
  rw [k0_part44_eq_skeleton]
  unfold k0_part44_skel
  simp only [Prog.bind_assoc, Prog.bind_ret, Prog.pure_eq_ret]
  iintro ⟨HX, HL⟩ HK
  iapply (x_load c) $$ HX; iintro HX
  iapply (lh_load c) $$ HL; iintro %v507 HL
  iapply (lh_store c (X := X) (n := 5248) rfl rfl) $$ HL; iintro HL
  iapply (x_load c) $$ HX; iintro HX
  iapply (lh_load c) $$ HL; iintro %v515 HL
  iapply (lh_store c (X := X) (n := 5376) rfl rfl) $$ HL; iintro HL
  iapply (x_load c) $$ HX; iintro HX
  iapply (lh_load c) $$ HL; iintro %v523 HL
  iapply (lh_store c (X := X) (n := 5504) rfl rfl) $$ HL; iintro HL
  iapply (x_load c) $$ HX; iintro HX
  iapply (lh_load c) $$ HL; iintro %v531 HL
  iapply (lh_store c (X := X) (n := 5632) rfl rfl) $$ HL; iintro HL
  iapply (x_load c) $$ HX; iintro HX
  iapply HK
  isplitl [HX]; · iexact HX
  iexact HL

theorem run_part45 {α : Type} {kk : _ → Prog (TpuEff nD τ sig (Elt F) Λ₀ .tc) α} {Q : α → sProp 𝕄} :
    iprop((xL c ↦{fullShare} X) ∗ Lh c X 5760) ⊢ iprop((iprop((xL c ↦{fullShare} X) ∗ Lh c X 6400) -∗ WP c (kk (k0_pay179 (xblk X 6400))) Q)
      -∗ WP c (k0_part45 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay173 (k0_pay121 (F := F)) (k0_pay122 (F := F)) (xblk X 5760))) >>= kk) Q) := by
  rw [k0_part45_eq_skeleton]
  unfold k0_part45_skel
  simp only [Prog.bind_assoc, Prog.bind_ret, Prog.pure_eq_ret]
  iintro ⟨HX, HL⟩ HK
  iapply (lh_load c) $$ HL; iintro %v539 HL
  iapply (lh_store c (X := X) (n := 5760) rfl rfl) $$ HL; iintro HL
  iapply (x_load c) $$ HX; iintro HX
  iapply (lh_load c) $$ HL; iintro %v547 HL
  iapply (lh_store c (X := X) (n := 5888) rfl rfl) $$ HL; iintro HL
  iapply (x_load c) $$ HX; iintro HX
  iapply (lh_load c) $$ HL; iintro %v555 HL
  iapply (lh_store c (X := X) (n := 6016) rfl rfl) $$ HL; iintro HL
  iapply (x_load c) $$ HX; iintro HX
  iapply (lh_load c) $$ HL; iintro %v563 HL
  iapply (lh_store c (X := X) (n := 6144) rfl rfl) $$ HL; iintro HL
  iapply (x_load c) $$ HX; iintro HX
  iapply (lh_load c) $$ HL; iintro %v571 HL
  iapply (lh_store c (X := X) (n := 6272) rfl rfl) $$ HL; iintro HL
  iapply (x_load c) $$ HX; iintro HX
  iapply HK
  isplitl [HX]; · iexact HX
  iexact HL

theorem run_part46 {α : Type} {kk : _ → Prog (TpuEff nD τ sig (Elt F) Λ₀ .tc) α} {Q : α → sProp 𝕄} :
    iprop((xL c ↦{fullShare} X) ∗ Lh c X 6400) ⊢ iprop((iprop((xL c ↦{fullShare} X) ∗ Lh c X 6912) -∗ WP c (kk (k0_pay184 (k0_pay121 (F := F)) (k0_pay122 (F := F)) (xblk X 6912))) Q)
      -∗ WP c (k0_part46 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay179 (xblk X 6400))) >>= kk) Q) := by
  rw [k0_part46_eq_skeleton]
  unfold k0_part46_skel
  simp only [Prog.bind_assoc, Prog.bind_ret, Prog.pure_eq_ret]
  iintro ⟨HX, HL⟩ HK
  iapply (lh_load c) $$ HL; iintro %v579 HL
  iapply (lh_store c (X := X) (n := 6400) rfl rfl) $$ HL; iintro HL
  iapply (x_load c) $$ HX; iintro HX
  iapply (lh_load c) $$ HL; iintro %v587 HL
  iapply (lh_store c (X := X) (n := 6528) rfl rfl) $$ HL; iintro HL
  iapply (x_load c) $$ HX; iintro HX
  iapply (lh_load c) $$ HL; iintro %v595 HL
  iapply (lh_store c (X := X) (n := 6656) rfl rfl) $$ HL; iintro HL
  iapply (x_load c) $$ HX; iintro HX
  iapply (lh_load c) $$ HL; iintro %v603 HL
  iapply (lh_store c (X := X) (n := 6784) rfl rfl) $$ HL; iintro HL
  iapply (x_load c) $$ HX; iintro HX
  iapply (lh_load c) $$ HL; iintro %v611 HL
  iapply HK
  isplitl [HX]; · iexact HX
  iexact HL

theorem run_part47 {α : Type} {kk : _ → Prog (TpuEff nD τ sig (Elt F) Λ₀ .tc) α} {Q : α → sProp 𝕄} :
    iprop((xL c ↦{fullShare} X) ∗ Lh c X 6912) ⊢ iprop((iprop((xL c ↦{fullShare} X) ∗ Lh c X 7552) -∗ WP c (kk (k0_pay189 (k0_pay121 (F := F)) (k0_pay122 (F := F)) (xblk X 7552))) Q)
      -∗ WP c (k0_part47 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay184 (k0_pay121 (F := F)) (k0_pay122 (F := F)) (xblk X 6912))) >>= kk) Q) := by
  rw [k0_part47_eq_skeleton]
  unfold k0_part47_skel
  simp only [Prog.bind_assoc, Prog.bind_ret, Prog.pure_eq_ret]
  iintro ⟨HX, HL⟩ HK
  iapply (lh_store c (X := X) (n := 6912) rfl rfl) $$ HL; iintro HL
  iapply (x_load c) $$ HX; iintro HX
  iapply (lh_load c) $$ HL; iintro %v619 HL
  iapply (lh_store c (X := X) (n := 7040) rfl rfl) $$ HL; iintro HL
  iapply (x_load c) $$ HX; iintro HX
  iapply (lh_load c) $$ HL; iintro %v627 HL
  iapply (lh_store c (X := X) (n := 7168) rfl rfl) $$ HL; iintro HL
  iapply (x_load c) $$ HX; iintro HX
  iapply (lh_load c) $$ HL; iintro %v635 HL
  iapply (lh_store c (X := X) (n := 7296) rfl rfl) $$ HL; iintro HL
  iapply (x_load c) $$ HX; iintro HX
  iapply (lh_load c) $$ HL; iintro %v643 HL
  iapply (lh_store c (X := X) (n := 7424) rfl rfl) $$ HL; iintro HL
  iapply (x_load c) $$ HX; iintro HX
  iapply HK
  isplitl [HX]; · iexact HX
  iexact HL

theorem run_part48 {α : Type} {kk : _ → Prog (TpuEff nD τ sig (Elt F) Λ₀ .tc) α} {Q : α → sProp 𝕄} :
    iprop((xL c ↦{fullShare} X) ∗ Lh c X 7552) ⊢ iprop((iprop((xL c ↦{fullShare} X) ∗ Lh c X 8192) -∗ WP c (kk ⟨⟩) Q)
      -∗ WP c (k0_part48 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (k0_pay121 (F := F)) (k0_pay122 (F := F)) ((k0_pay189 (k0_pay121 (F := F)) (k0_pay122 (F := F)) (xblk X 7552))) >>= kk) Q) := by
  rw [k0_part48_eq_skeleton]
  unfold k0_part48_skel
  simp only [Prog.bind_assoc, Prog.bind_ret, Prog.pure_eq_ret]
  iintro ⟨HX, HL⟩ HK
  iapply (lh_load c) $$ HL; iintro %v651 HL
  iapply (lh_store c (X := X) (n := 7552) rfl rfl) $$ HL; iintro HL
  iapply (x_load c) $$ HX; iintro HX
  iapply (lh_load c) $$ HL; iintro %v659 HL
  iapply (lh_store c (X := X) (n := 7680) rfl rfl) $$ HL; iintro HL
  iapply (x_load c) $$ HX; iintro HX
  iapply (lh_load c) $$ HL; iintro %v667 HL
  iapply (lh_store c (X := X) (n := 7808) rfl rfl) $$ HL; iintro HL
  iapply (x_load c) $$ HX; iintro HX
  iapply (lh_load c) $$ HL; iintro %v675 HL
  iapply (lh_store c (X := X) (n := 7936) rfl rfl) $$ HL; iintro HL
  iapply (x_load c) $$ HX; iintro HX
  iapply (lh_load c) $$ HL; iintro %v683 HL
  iapply (lh_store c (X := X) (n := 8064) rfl rfl) $$ HL; iintro HL
  iapply HK
  isplitl [HX]; · iexact HX
  iexact HL

end Cert.Kernel.Hand

end
-- ==== Proof.Run.Cnt.lean ====
module

public import proofs.«01_k».proof.Proof.Run.Lhs

/-! Counting the earlier words: eight trips of 512 words for each of the six rows. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- Word `j` of a row of six words. -/
def svx {e : EltTy} (g : S6.Idx → Elt F e) (j : ℕ) : Elt F e := g (ix1 ⟨j % 6, Nat.mod_lt _ (by decide)⟩)

/-- Loading word `j` of a row of six words in scalar memory. -/
theorem sm_load (c : Dev nD) {α : Type} {e : EltTy} {m : Memref sig .tc .smem S6 e} {q : PosShare TreeShare}
    {f : Buf (Elt F) (m.view.loc (c : Thread nD τ))} (g : S6.Idx → Elt F e) (hg : ∀ y : S6.Idx, m.view.read (Elt F) f y = g y)
    {j : ℕ} {h : ∀ a, (![j] : Fin 1 → ℕ) a + S1.size a ≤ S6.size a} {hp : e.packing = 1}
    {k : Elt F e → Prog (TpuEff nD τ sig (Elt F) Λ₀ .tc) α} {Q : α → sProp 𝕄} :
    (m.view.loc (c : Thread nD τ) ↦{q} f)
      ⊢ iprop(((m.view.loc (c : Thread nD τ) ↦{q} f) -∗ WP c (k (svx g j)) Q)
        -∗ WP c (smemLoad m (Rect.unit (s := S6) ![j] S1.size h) numel1_S1 hp >>= k) Q) := by
  have hv : m.view.readAt (Elt F) (Rect.unit (s := S6) ![j] S1.size h).toLoadRect f (Shape.Idx.first (numel1_S1.symm ▸ Nat.one_pos)) = svx g j := by
    refine (show _ = m.view.read (Elt F) f ((Rect.unit (s := S6) ![j] S1.size h).emb (Shape.Idx.first (numel1_S1.symm ▸ Nat.one_pos))) from rfl).trans ?_
    rw [hg]
    unfold svx
    congr 1
    have h1 : j + 1 ≤ 6 := h 0
    funext i
    apply Fin.ext
    rw [Rect.emb_apply]
    have hz : ∀ (z : Fin 1), j + 1 * z.val = j % 6 := by intro z; omega
    fin_cases i
    exact hz _
  rw [← hv]
  exact wp_load Variants.none (c : Thread nD τ) none Set.univ (m := m) (r := (Rect.unit (s := S6) ![j] S1.size h).toLoadRect)
    (k := fun v => k (v (Shape.Idx.first (numel1_S1.symm ▸ Nat.one_pos)))) (Finset.subset_univ _)

/-- The earlier words, and their numbers, in the core's memory. -/
abbrev idL (c : Dev nD) : Loc nD τ sig := (Memref.whole cc0_scratch4).view.loc (c : Thread nD τ)
abbrev lenL (c : Dev nD) : Loc nD τ sig := (Memref.whole cc0_scratch10).view.loc (c : Thread nD τ)

/-- 512 words of row `b`, from word `512 * k`. -/
def idrow (I : S6x4096.Idx → Elt F .i32) (b k : ℕ) : Vec F S1x512 .i32 :=
  fun x => I (ix2 ⟨b % 6, Nat.mod_lt _ (by decide)⟩ ⟨(512 * k + (x 1).val) % 4096, Nat.mod_lt _ (by decide)⟩)

/-- 256 rows of the counts, from row `r`. -/
def cb (C : S2048x128.Idx → Elt F .f32) (r : ℕ) : Vec F S256x128 .f32 :=
  fun x => C (ix2 ⟨(r + (x 0).val) % 2048, Nat.mod_lt _ (by decide)⟩ ⟨(x 1).val % 128, Nat.mod_lt _ (by decide)⟩)

/-- The row and the column numbers the words are compared with. -/
abbrev i256 : IVec S256x512 32 := iota .tc S256x512 32 [0] iota_S256x512_d0_w32
abbrev i128 : IVec S128x512 32 := iota .tc S128x512 32 [0] iota_S128x512_d0_w32

/-- The counts of row `b` after trip `k`, from those before it. -/
def cupd (I : S6x4096.Idx → Elt F .i32) (Ln : S6.Idx → Elt F .i32) (k : Fin k0_t1_loop.trips) (b : ℕ) (p : Vec F S256x128 .f32) : FVec F S256x128 .f32 :=
  k0_pay2 i256 i128 0#32 1#32 k (idrow I b k.val) (svx Ln b) p

/-- The counts in trip `k` with the rows before `r` done. -/
def cmix (I : S6x4096.Idx → Elt F .i32) (Ln : S6.Idx → Elt F .i32) (k : Fin k0_t1_loop.trips) (C : S2048x128.Idx → Elt F .f32) (r : ℕ) :
    S2048x128.Idx → Elt F .f32 :=
  fun y => if (y 0).val < r then cupd I Ln k ((y 0).val / 256) (cb C (256 * ((y 0).val / 256)))
    (ix2 ⟨(y 0).val % 256, Nat.mod_lt _ (by decide)⟩ ⟨(y 1).val % 128, Nat.mod_lt _ (by decide)⟩) else C y

/-- The counts before trip `k`. -/
def cntAt (I : S6x4096.Idx → Elt F .i32) (Ln : S6.Idx → Elt F .i32) : ℕ → S2048x128.Idx → Elt F .f32
  | 0 => k0_pay195 (F := F)
  | k + 1 => if h : k < k0_t1_loop.trips then cmix I Ln ⟨k, h⟩ (cntAt I Ln k) 1536 else cntAt I Ln k

theorem id_load (c : Dev nD) {α : Type} {q : PosShare TreeShare} {I : Buf (Elt F) (idL c)} (b k : ℕ) (hb : b < 6) (hk : k < 8)
    {o : Fin 2 → ℕ} (e : o = ![b, 512 * k])
    {h : ∀ a, o a + S1x512.size a ≤ S6x4096.size a} {hl}
    {kk : Vec F S1x512 .i32 → Prog (TpuEff nD τ sig (Elt F) Λ₀ .tc) α} {Q : α → sProp 𝕄} :
    (idL c ↦{q} I)
      ⊢ iprop(((idL c ↦{q} I) -∗ WP c (kk (idrow I b k)) Q)
        -∗ WP c (Prog.lift (.load (Memref.whole cc0_scratch4) (Rect.unit (s := S6x4096) o S1x512.size h).toLoadRect hl) >>= kk) Q) := by
  subst e
  have hv : (Memref.whole cc0_scratch4).view.readAt (Elt F) (Rect.unit (s := S6x4096) ![b, 512 * k] S1x512.size h).toLoadRect I = idrow I b k := by
    funext x
    show I _ = I _
    congr 1
    have hx0 : (x 0).val < 1 := (x 0).isLt
    have hx1 : (x 1).val < 512 := (x 1).isLt
    funext i
    apply Fin.ext
    fin_cases i
    · show b + 1 * (x 0).val = b % 6; omega
    · show 512 * k + 1 * (x 1).val = (512 * k + (x 1).val) % 4096; omega
  rw [← hv]
  exact ld c

/-- Loading the counts of a row that trip `k` has not reached. -/
theorem cnt_load (c : Dev nD) {α : Type} {I : S6x4096.Idx → Elt F .i32} {Ln : S6.Idx → Elt F .i32} {k : Fin k0_t1_loop.trips} {C : S2048x128.Idx → Elt F .f32} {r : ℕ}
    {h : ∀ a, (![r, 0] : Fin 2 → ℕ) a + S256x128.size a ≤ S2048x128.size a} {hl}
    {kk : Vec F S256x128 .f32 → Prog (TpuEff nD τ sig (Elt F) Λ₀ .tc) α} {Q : α → sProp 𝕄} :
    (cntL c ↦{fullShare} (cmix I Ln k C r : Buf (Elt F) (cntL c)))
      ⊢ iprop(((cntL c ↦{fullShare} (cmix I Ln k C r : Buf (Elt F) (cntL c))) -∗ WP c (kk (cb C r)) Q)
        -∗ WP c (Prog.lift (.load (Memref.whole cc0_scratch5) (Rect.unit (s := S2048x128) ![r, 0] S256x128.size h).toLoadRect hl) >>= kk) Q) := by
  have hv : (Memref.whole cc0_scratch5).view.readAt (Elt F) (Rect.unit (s := S2048x128) ![r, 0] S256x128.size h).toLoadRect (cmix I Ln k C r) = cb C r := by
    funext x
    have h1 : r + 256 ≤ 2048 := h 0
    have hx0 : (x 0).val < 256 := (x 0).isLt
    have hx1 : (x 1).val < 128 := (x 1).isLt
    have ey : (Rect.unit (s := S2048x128) ![r, 0] S256x128.size h).emb x
        = (ix2 ⟨(r + (x 0).val) % 2048, Nat.mod_lt _ (by decide)⟩ ⟨(x 1).val % 128, Nat.mod_lt _ (by decide)⟩ : S2048x128.Idx) := by
      funext i
      apply Fin.ext
      rw [Rect.emb_apply]
      fin_cases i
      · show r + 1 * (x 0).val = (r + (x 0).val) % 2048; omega
      · show 0 + 1 * (x 1).val = (x 1).val % 128; omega
    show cmix I Ln k C r ((Rect.unit (s := S2048x128) ![r, 0] S256x128.size h).emb x) = _
    rw [ey]
    unfold cmix cb
    rw [if_neg]
    show ¬ (r + (x 0).val) % 2048 < r
    omega
  rw [← hv]
  exact ld c

theorem crect_mem {n : ℕ} (h : ∀ a, (![n, 0] : Fin 2 → ℕ) a + S256x128.size a ≤ S2048x128.size a) (y : S2048x128.Idx)
    (ha : n ≤ (y 0).val) (hb : (y 0).val < n + 256) : y ∈ (Rect.unit (s := S2048x128) ![n, 0] S256x128.size h).set := by
  rw [← Rect.map_emb_univ]
  refine Finset.mem_map.mpr ⟨ix2 ⟨(y 0).val - n, by omega⟩ (y 1), Finset.mem_univ _, ?_⟩
  funext i
  apply Fin.ext
  rw [Rect.emb_apply]
  fin_cases i
  · show n + 1 * ((y 0).val - n) = (y 0).val; omega
  · show 0 + 1 * (y 1).val = (y 1).val; omega

theorem cmix_at (I : S6x4096.Idx → Elt F .i32) (Ln : S6.Idx → Elt F .i32) (k : Fin k0_t1_loop.trips) (C : S2048x128.Idx → Elt F .f32) {r : ℕ}
    (hr : r % 256 = 0) {y : S2048x128.Idx} {x : S256x128.Idx} (e0 : (y 0).val = r + (x 0).val) (e1 : (y 1).val = (x 1).val) :
    cmix I Ln k C (r + 256) y = cupd I Ln k (r / 256) (cb C r) x := by
  have hx0 : (x 0).val < 256 := (x 0).isLt
  have hx1 : (x 1).val < 128 := (x 1).isLt
  unfold cmix
  rw [if_pos (by omega)]
  have hd : (y 0).val / 256 = r / 256 := by omega
  have hd' : 256 * (r / 256) = r := by omega
  rw [hd, hd']
  refine congrArg (cupd I Ln k (r / 256) (cb C r)) ?_
  funext i
  apply Fin.ext
  fin_cases i
  · show (y 0).val % 256 = (x 0).val; omega
  · show (y 1).val % 128 = (x 1).val; omega

theorem cmix_off (I : S6x4096.Idx → Elt F .i32) (Ln : S6.Idx → Elt F .i32) (k : Fin k0_t1_loop.trips) (C : S2048x128.Idx → Elt F .f32) {r : ℕ}
    {y : S2048x128.Idx} (hne : ¬ (r ≤ (y 0).val ∧ (y 0).val < r + 256)) : cmix I Ln k C r y = cmix I Ln k C (r + 256) y := by
  unfold cmix
  by_cases hlt : (y 0).val < r
  · rw [if_pos hlt, if_pos (by omega)]
  · rw [if_neg hlt, if_neg (by omega)]

/-- A store of 256 rows over the counts. -/
theorem cnt_write (f g : S2048x128.Idx → Elt F .f32) {r : ℕ} {h : ∀ a, (![r, 0] : Fin 2 → ℕ) a + S256x128.size a ≤ S2048x128.size a}
    {w : S256x128.Idx → Elt F .f32}
    (hw : ∀ (y : S2048x128.Idx) (x : S256x128.Idx), (y 0).val = r + (x 0).val → (y 1).val = (x 1).val → g y = w x)
    (ho : ∀ y : S2048x128.Idx, ¬ (r ≤ (y 0).val ∧ (y 0).val < r + 256) → f y = g y) :
    ((Memref.whole cc0_scratch5).access (Rect.unit (s := S2048x128) ![r, 0] S256x128.size h)).write (Elt F) f w Finset.univ = g := by
  funext y
  by_cases hin : y ∈ ((Memref.whole cc0_scratch5).access (Rect.unit (s := S2048x128) ![r, 0] S256x128.size h)).set
  · obtain ⟨x, -, rfl⟩ := Finset.mem_map.mp hin
    rw [View.write_emb, if_pos (Finset.mem_univ _)]
    refine (hw _ x ?_ ?_).symm
    · show ((Rect.unit (s := S2048x128) ![r, 0] S256x128.size h).emb x 0).val = _
      rw [Rect.emb_apply]; show r + 1 * (x 0).val = _; omega
    · show ((Rect.unit (s := S2048x128) ![r, 0] S256x128.size h).emb x 1).val = _
      rw [Rect.emb_apply]; show 0 + 1 * (x 1).val = _; omega
  · rw [View.write_of_not_mem (h := hin)]
    apply ho
    rintro ⟨ha, hb⟩
    apply hin
    show y ∈ ((View.whole cc0_scratch5).slice (Rect.unit (s := S2048x128) ![r, 0] S256x128.size h)).set
    rw [View.set_slice_whole]
    exact crect_mem h y ha hb

/-- Storing the counts of the next row. -/
theorem cnt_store (c : Dev nD) {α : Type} {I : S6x4096.Idx → Elt F .i32} {Ln : S6.Idx → Elt F .i32} {k : Fin k0_t1_loop.trips} {C : S2048x128.Idx → Elt F .f32} {r : ℕ}
    (hr : r % 256 = 0) {h : ∀ a, (![r, 0] : Fin 2 → ℕ) a + S256x128.size a ≤ S2048x128.size a}
    {w : S256x128.Idx → Elt F .f32} (hw : w = cupd I Ln k (r / 256) (cb C r)) {hx} {hm}
    {kk : PUnit → Prog (TpuEff nD τ sig (Elt F) Λ₀ .tc) α} {Q : α → sProp 𝕄} :
    (cntL c ↦{fullShare} (cmix I Ln k C r : Buf (Elt F) (cntL c)))
      ⊢ iprop(((cntL c ↦{fullShare} (cmix I Ln k C (r + 256) : Buf (Elt F) (cntL c))) -∗ WP c (kk ⟨⟩) Q)
        -∗ WP c (Prog.lift (.store (Memref.whole cc0_scratch5) (Rect.unit (s := S2048x128) ![r, 0] S256x128.size h) w Finset.univ hx hm) >>= kk) Q) := by
  have hv := cnt_write (cmix I Ln k C r) (cmix I Ln k C (r + 256)) (h := h) (w := w)
    (fun y x e0 e1 => by rw [hw]; exact cmix_at I Ln k C hr e0 e1) (fun y => cmix_off I Ln k C)
  generalize cmix I Ln k C (r + 256) = g at hv
  generalize cmix I Ln k C r = f at hv
  subst hv
  exact st c (m := Memref.whole cc0_scratch5) (r := Rect.unit (s := S2048x128) ![r, 0] S256x128.size h)

/-- A copied row of six words in scalar memory, whole. -/
abbrev CI (c : Dev nD) (I : S6x4096.Idx → Elt F .i32) (Ln : S6.Idx → Elt F .i32) (k : Fin k0_t1_loop.trips) (C : S2048x128.Idx → Elt F .f32) (r : ℕ) : sProp 𝕄 :=
  iprop((idL c ↦{fullShare} (I : Buf (Elt F) (idL c))) ∗ (lenL c ↦{fullShare} (Ln : Buf (Elt F) (lenL c))) ∗ cntL c ↦{fullShare} (cmix I Ln k C r : Buf (Elt F) (cntL c)))

variable (c : Dev nD) (I : S6x4096.Idx → Elt F .i32) (Ln : S6.Idx → Elt F .i32) (k : Fin k0_t1_loop.trips) (C : S2048x128.Idx → Elt F .f32)

theorem iv512 (k : Fin k0_t1_loop.trips) : (Scalar.indexCast (Scalar.muli (Scf.iv 0#32 1#32 k) 512#32)).toNat = 512 * k.val := by
  revert k; decide
theorem k_lt (k : Fin k0_t1_loop.trips) : k.val < 8 := k.isLt

theorem run_part1 {α : Type} {kk : _ → Prog (TpuEff nD τ sig (Elt F) Λ₀ .tc) α} {Q : α → sProp 𝕄} :
    CI c I Ln k C 0 ⊢ iprop((CI c I Ln k C 256 -∗ WP c (kk ⟨Scalar.muli (Scf.iv 0#32 1#32 k) 512#32, (k0_pay1 0#32 1#32 k), idrow I 1 k.val, k0_pay3 0#32 1#32 k (idrow I 1 k.val) (svx Ln 1), 127#32⟩) Q)
      -∗ WP c (k0_part1 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i256 i128 0#32 1#32 k >>= kk) Q) := by
  rw [k0_part1_eq_skeleton]
  unfold k0_part1_skel
  simp only [Prog.bind_assoc, Prog.bind_ret, Prog.pure_eq_ret]
  iintro ⟨HI, HN, HC⟩ HK
  iapply (id_load c 0 k.val (by decide) (k_lt k) (show _ = ![0, _] from congrArg (fun z : ℕ => ![0, z]) (iv512 k))) $$ HI; iintro HI
  iapply (sm_load c (m := Memref.whole cc0_scratch10) (f := Ln) Ln (fun _ => rfl)) $$ HN; iintro HN
  iapply (cnt_load c) $$ HC; iintro HC
  iapply (cnt_load c) $$ HC; iintro HC
  iapply (cnt_store c (I := I) (Ln := Ln) (k := k) (C := C) (r := 0) rfl rfl) $$ HC; iintro HC
  iapply (id_load c 1 k.val (by decide) (k_lt k) (show _ = ![1, _] from congrArg (fun z : ℕ => ![1, z]) (iv512 k))) $$ HI; iintro HI
  iapply (sm_load c (m := Memref.whole cc0_scratch10) (f := Ln) Ln (fun _ => rfl)) $$ HN; iintro HN
  iapply HK
  isplitl [HI]; · iexact HI
  isplitl [HN]; · iexact HN
  iexact HC

theorem run_part2 (v1365 : BitVec 32) {α : Type} {kk : _ → Prog (TpuEff nD τ sig (Elt F) Λ₀ .tc) α} {Q : α → sProp 𝕄} :
    CI c I Ln k C 256 ⊢ iprop((CI c I Ln k C 512 -∗ WP c (kk ⟨k0_pay5 i256 i128 (k0_pay1 0#32 1#32 k) (idrow I 2 k.val) (svx Ln 2) (cb C 512), cb C 512⟩) Q)
      -∗ WP c (k0_part2 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i256 i128 k v1365 (k0_pay1 0#32 1#32 k) (idrow I 1 k.val) (k0_pay3 0#32 1#32 k (idrow I 1 k.val) (svx Ln 1)) 127#32 >>= kk) Q) := by
  rw [k0_part2_eq_skeleton]
  unfold k0_part2_skel
  simp only [Prog.bind_assoc, Prog.bind_ret, Prog.pure_eq_ret]
  iintro ⟨HI, HN, HC⟩ HK
  iapply (cnt_load c) $$ HC; iintro HC
  iapply (cnt_load c) $$ HC; iintro HC
  iapply (cnt_store c (I := I) (Ln := Ln) (k := k) (C := C) (r := 256) rfl rfl) $$ HC; iintro HC
  iapply (id_load c 2 k.val (by decide) (k_lt k) (show _ = ![2, _] from congrArg (fun z : ℕ => ![2, z]) (iv512 k))) $$ HI; iintro HI
  iapply (sm_load c (m := Memref.whole cc0_scratch10) (f := Ln) Ln (fun _ => rfl)) $$ HN; iintro HN
  iapply (cnt_load c) $$ HC; iintro HC
  iapply (cnt_load c) $$ HC; iintro HC
  iapply HK
  isplitl [HI]; · iexact HI
  isplitl [HN]; · iexact HN
  iexact HC

theorem run_part3 (v1365 : BitVec 32) (v1450 : Vec F S256x128 .f32) {α : Type} {kk : _ → Prog (TpuEff nD τ sig (Elt F) Λ₀ .tc) α} {Q : α → sProp 𝕄} :
    CI c I Ln k C 512 ⊢ iprop((CI c I Ln k C 1024 -∗ WP c (kk ⟨k0_pay8 (F := F) (idrow I 4 k.val), k0_pay9 (F := F) (k0_pay1 0#32 1#32 k) (idrow I 4 k.val) (svx Ln 4)⟩) Q)
      -∗ WP c (k0_part3 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i256 i128 k v1365 (k0_pay1 0#32 1#32 k) (k0_pay5 i256 i128 (k0_pay1 0#32 1#32 k) (idrow I 2 k.val) (svx Ln 2) (cb C 512)) v1450 >>= kk) Q) := by
  rw [k0_part3_eq_skeleton]
  unfold k0_part3_skel
  simp only [Prog.bind_assoc, Prog.bind_ret, Prog.pure_eq_ret]
  iintro ⟨HI, HN, HC⟩ HK
  iapply (cnt_store c (I := I) (Ln := Ln) (k := k) (C := C) (r := 512) rfl rfl) $$ HC; iintro HC
  iapply (id_load c 3 k.val (by decide) (k_lt k) (show _ = ![3, _] from congrArg (fun z : ℕ => ![3, z]) (iv512 k))) $$ HI; iintro HI
  iapply (sm_load c (m := Memref.whole cc0_scratch10) (f := Ln) Ln (fun _ => rfl)) $$ HN; iintro HN
  iapply (cnt_load c) $$ HC; iintro HC
  iapply (cnt_load c) $$ HC; iintro HC
  iapply (cnt_store c (I := I) (Ln := Ln) (k := k) (C := C) (r := 768) rfl rfl) $$ HC; iintro HC
  iapply (id_load c 4 k.val (by decide) (k_lt k) (show _ = ![4, _] from congrArg (fun z : ℕ => ![4, z]) (iv512 k))) $$ HI; iintro HI
  iapply (sm_load c (m := Memref.whole cc0_scratch10) (f := Ln) Ln (fun _ => rfl)) $$ HN; iintro HN
  iapply HK
  isplitl [HI]; · iexact HI
  isplitl [HN]; · iexact HN
  iexact HC

theorem run_part4 (v1365 : BitVec 32) {α : Type} {kk : _ → Prog (TpuEff nD τ sig (Elt F) Λ₀ .tc) α} {Q : α → sProp 𝕄} :
    CI c I Ln k C 1024 ⊢ iprop((CI c I Ln k C 1536 -∗ WP c (kk ⟨⟩) Q)
      -∗ WP c (k0_part4 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i256 i128 k v1365 (k0_pay1 0#32 1#32 k) (k0_pay8 (F := F) (idrow I 4 k.val)) (k0_pay9 (F := F) (k0_pay1 0#32 1#32 k) (idrow I 4 k.val) (svx Ln 4)) >>= kk) Q) := by
  rw [k0_part4_eq_skeleton]
  unfold k0_part4_skel
  simp only [Prog.bind_assoc, Prog.bind_ret, Prog.pure_eq_ret]
  iintro ⟨HI, HN, HC⟩ HK
  iapply (cnt_load c) $$ HC; iintro HC
  iapply (cnt_load c) $$ HC; iintro HC
  iapply (cnt_store c (I := I) (Ln := Ln) (k := k) (C := C) (r := 1024) rfl rfl) $$ HC; iintro HC
  iapply (id_load c 5 k.val (by decide) (k_lt k) (show _ = ![5, _] from congrArg (fun z : ℕ => ![5, z]) (iv512 k))) $$ HI; iintro HI
  iapply (sm_load c (m := Memref.whole cc0_scratch10) (f := Ln) Ln (fun _ => rfl)) $$ HN; iintro HN
  iapply (cnt_load c) $$ HC; iintro HC
  iapply (cnt_load c) $$ HC; iintro HC
  iapply (cnt_store c (I := I) (Ln := Ln) (k := k) (C := C) (r := 1280) rfl rfl) $$ HC; iintro HC
  iapply HK
  isplitl [HI]; · iexact HI
  isplitl [HN]; · iexact HN
  iexact HC

/-- What holds before trip `k` of the counting loop. -/
abbrev CInv (c : Dev nD) (I : S6x4096.Idx → Elt F .i32) (Ln : S6.Idx → Elt F .i32) (k : ℕ) (_ : Unit) : sProp 𝕄 :=
  iprop((idL c ↦{fullShare} (I : Buf (Elt F) (idL c))) ∗ (lenL c ↦{fullShare} (Ln : Buf (Elt F) (lenL c))) ∗ cntL c ↦{fullShare} (cntAt I Ln k : Buf (Elt F) (cntL c)))

theorem cmix_zero : cmix I Ln k C 0 = C := by
  funext y; unfold cmix; rw [if_neg (Nat.not_lt_zero _)]

/-- One trip of the counting loop. -/
theorem ctrip (v168 : IVec S8x128 32) (u : Unit) :
    CInv c I Ln k.val u ⊢ WP c (k0_t1_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 i256 i128 k u) (CInv c I Ln (k.val + 1)) := by
  have e : cntAt I Ln (k.val + 1) = cmix I Ln k (cntAt I Ln k.val) 1536 := dif_pos k.isLt
  have e0 := cmix_zero I Ln k (cntAt I Ln k.val)
  unfold CInv
  rw [e]
  conv_lhs => rw [← e0]
  unfold k0_t1_body
  dsimp only
  iintro H
  iapply (run_part1 c I Ln k _) $$ H
  iintro H
  dsimp only
  iapply (run_part2 c I Ln k _ _) $$ H
  iintro H
  dsimp only
  iapply (run_part3 c I Ln k _ _ _) $$ H
  iintro H
  dsimp only
  iapply (run_part4 c I Ln k _ _) $$ H
  iintro H
  unfold WP
  rw [Prog.pure_eq_ret, wp_ret]
  imodintro
  iexact H

end Cert.Kernel.Hand

end
-- ==== Proof.Run.Pro.lean ====
module

public import proofs.«01_k».proof.Proof.Run.Cnt

/-! The copies in: all of them are issued before the first is waited for. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

variable (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (Cn : S4x6.Idx → Elt F .i32)
  (fw : Buf (Elt F) (whL c)) (fs : Buf (Elt F) (shL c))

abbrev Cf20 : sProp 𝕄 := Fly c (cell 20) (Memref.whole cc0_scratch3).view.dmaCredit ((Memref.whole cc0_scratch3).view.loc (c : Thread nD τ)) Finset.univ (fun f => f = X) ((Memref.whole main_arg0).view.loc (c : Thread nD τ)) fullShare X
abbrev Cl20 : sProp 𝕄 := Land c (cell 20) ((Memref.whole cc0_scratch3).view.loc (c : Thread nD τ)) Finset.univ (fun f => f = X) ((Memref.whole main_arg0).view.loc (c : Thread nD τ)) fullShare X
abbrev C020 : sProp 𝕄 := Land c (cell 20) ((Memref.whole cc0_scratch3).view.loc (c : Thread nD τ)) Finset.univ (fun _ => True) ((Memref.whole main_arg0).view.loc (c : Thread nD τ)) fullShare X
abbrev Cd20 : sProp 𝕄 := iprop(((Memref.whole cc0_scratch3).view.loc (c : Thread nD τ)) ↦{fullShare} X)
abbrev Ce20 : sProp 𝕄 := iprop(semVal ((c : Thread nD τ), cell 20) 0 ∗ (((Memref.whole main_arg0).view.loc (c : Thread nD τ)) ↦{fullShare} X))
abbrev Cf21 : sProp 𝕄 := Fly c (cell 21) (Memref.whole cc0_scratch4).view.dmaCredit ((Memref.whole cc0_scratch4).view.loc (c : Thread nD τ)) Finset.univ (fun f => f = I) ((Memref.whole main_arg4).view.loc (c : Thread nD τ)) fullShare I
abbrev Cl21 : sProp 𝕄 := Land c (cell 21) ((Memref.whole cc0_scratch4).view.loc (c : Thread nD τ)) Finset.univ (fun f => f = I) ((Memref.whole main_arg4).view.loc (c : Thread nD τ)) fullShare I
abbrev C021 : sProp 𝕄 := Land c (cell 21) ((Memref.whole cc0_scratch4).view.loc (c : Thread nD τ)) Finset.univ (fun _ => True) ((Memref.whole main_arg4).view.loc (c : Thread nD τ)) fullShare I
abbrev Cd21 : sProp 𝕄 := iprop(((Memref.whole cc0_scratch4).view.loc (c : Thread nD τ)) ↦{fullShare} I)
abbrev Ce21 : sProp 𝕄 := iprop(semVal ((c : Thread nD τ), cell 21) 0 ∗ (((Memref.whole main_arg4).view.loc (c : Thread nD τ)) ↦{fullShare} I))
abbrev Cf22 : sProp 𝕄 := Fly c (cell 22) (Memref.whole cc0_scratch9).view.dmaCredit ((Memref.whole cc0_scratch9).view.loc (c : Thread nD τ)) Finset.univ (fun f => f = Xs) ((Memref.whole main_arg1).view.loc (c : Thread nD τ)) fullShare Xs
abbrev Cl22 : sProp 𝕄 := Land c (cell 22) ((Memref.whole cc0_scratch9).view.loc (c : Thread nD τ)) Finset.univ (fun f => f = Xs) ((Memref.whole main_arg1).view.loc (c : Thread nD τ)) fullShare Xs
abbrev C022 : sProp 𝕄 := Land c (cell 22) ((Memref.whole cc0_scratch9).view.loc (c : Thread nD τ)) Finset.univ (fun _ => True) ((Memref.whole main_arg1).view.loc (c : Thread nD τ)) fullShare Xs
abbrev Cd22 : sProp 𝕄 := iprop(((Memref.whole cc0_scratch9).view.loc (c : Thread nD τ)) ↦{fullShare} Xs)
abbrev Ce22 : sProp 𝕄 := iprop(semVal ((c : Thread nD τ), cell 22) 0 ∗ (((Memref.whole main_arg1).view.loc (c : Thread nD τ)) ↦{fullShare} Xs))
abbrev Cf23 : sProp 𝕄 := Fly c (cell 23) (Memref.whole cc0_scratch10).view.dmaCredit ((Memref.whole cc0_scratch10).view.loc (c : Thread nD τ)) Finset.univ (fun f => f = Ln) ((Memref.whole main_arg5).view.loc (c : Thread nD τ)) fullShare Ln
abbrev Cl23 : sProp 𝕄 := Land c (cell 23) ((Memref.whole cc0_scratch10).view.loc (c : Thread nD τ)) Finset.univ (fun f => f = Ln) ((Memref.whole main_arg5).view.loc (c : Thread nD τ)) fullShare Ln
abbrev C023 : sProp 𝕄 := Land c (cell 23) ((Memref.whole cc0_scratch10).view.loc (c : Thread nD τ)) Finset.univ (fun _ => True) ((Memref.whole main_arg5).view.loc (c : Thread nD τ)) fullShare Ln
abbrev Cd23 : sProp 𝕄 := iprop(((Memref.whole cc0_scratch10).view.loc (c : Thread nD τ)) ↦{fullShare} Ln)
abbrev Ce23 : sProp 𝕄 := iprop(semVal ((c : Thread nD τ), cell 23) 0 ∗ (((Memref.whole main_arg5).view.loc (c : Thread nD τ)) ↦{fullShare} Ln))
abbrev Cf24 : sProp 𝕄 := Fly c (cell 24) (Memref.whole cc0_scratch11).view.dmaCredit ((Memref.whole cc0_scratch11).view.loc (c : Thread nD τ)) Finset.univ (fun f => f = Pp) ((Memref.whole main_arg6).view.loc (c : Thread nD τ)) fullShare Pp
abbrev Cl24 : sProp 𝕄 := Land c (cell 24) ((Memref.whole cc0_scratch11).view.loc (c : Thread nD τ)) Finset.univ (fun f => f = Pp) ((Memref.whole main_arg6).view.loc (c : Thread nD τ)) fullShare Pp
abbrev C024 : sProp 𝕄 := Land c (cell 24) ((Memref.whole cc0_scratch11).view.loc (c : Thread nD τ)) Finset.univ (fun _ => True) ((Memref.whole main_arg6).view.loc (c : Thread nD τ)) fullShare Pp
abbrev Cd24 : sProp 𝕄 := iprop(((Memref.whole cc0_scratch11).view.loc (c : Thread nD τ)) ↦{fullShare} Pp)
abbrev Ce24 : sProp 𝕄 := iprop(semVal ((c : Thread nD τ), cell 24) 0 ∗ (((Memref.whole main_arg6).view.loc (c : Thread nD τ)) ↦{fullShare} Pp))
abbrev Cf25 : sProp 𝕄 := Fly c (cell 25) (Memref.whole cc0_scratch12).view.dmaCredit ((Memref.whole cc0_scratch12).view.loc (c : Thread nD τ)) Finset.univ (fun f => f = Fp) ((Memref.whole main_arg7).view.loc (c : Thread nD τ)) fullShare Fp
abbrev Cl25 : sProp 𝕄 := Land c (cell 25) ((Memref.whole cc0_scratch12).view.loc (c : Thread nD τ)) Finset.univ (fun f => f = Fp) ((Memref.whole main_arg7).view.loc (c : Thread nD τ)) fullShare Fp
abbrev C025 : sProp 𝕄 := Land c (cell 25) ((Memref.whole cc0_scratch12).view.loc (c : Thread nD τ)) Finset.univ (fun _ => True) ((Memref.whole main_arg7).view.loc (c : Thread nD τ)) fullShare Fp
abbrev Cd25 : sProp 𝕄 := iprop(((Memref.whole cc0_scratch12).view.loc (c : Thread nD τ)) ↦{fullShare} Fp)
abbrev Ce25 : sProp 𝕄 := iprop(semVal ((c : Thread nD τ), cell 25) 0 ∗ (((Memref.whole main_arg7).view.loc (c : Thread nD τ)) ↦{fullShare} Fp))
abbrev Cf26 : sProp 𝕄 := Fly c (cell 26) (Memref.whole cc0_scratch13).view.dmaCredit ((Memref.whole cc0_scratch13).view.loc (c : Thread nD τ)) Finset.univ (fun f => f = Rp) ((Memref.whole main_arg8).view.loc (c : Thread nD τ)) fullShare Rp
abbrev Cl26 : sProp 𝕄 := Land c (cell 26) ((Memref.whole cc0_scratch13).view.loc (c : Thread nD τ)) Finset.univ (fun f => f = Rp) ((Memref.whole main_arg8).view.loc (c : Thread nD τ)) fullShare Rp
abbrev C026 : sProp 𝕄 := Land c (cell 26) ((Memref.whole cc0_scratch13).view.loc (c : Thread nD τ)) Finset.univ (fun _ => True) ((Memref.whole main_arg8).view.loc (c : Thread nD τ)) fullShare Rp
abbrev Cd26 : sProp 𝕄 := iprop(((Memref.whole cc0_scratch13).view.loc (c : Thread nD τ)) ↦{fullShare} Rp)
abbrev Ce26 : sProp 𝕄 := iprop(semVal ((c : Thread nD τ), cell 26) 0 ∗ (((Memref.whole main_arg8).view.loc (c : Thread nD τ)) ↦{fullShare} Rp))
abbrev Cf27 : sProp 𝕄 := Fly c (cell 27) (Memref.whole cc0_scratch14).view.dmaCredit ((Memref.whole cc0_scratch14).view.loc (c : Thread nD τ)) Finset.univ (fun f => f = Cn) ((Memref.whole main_v0).view.loc (c : Thread nD τ)) fullShare Cn
abbrev Cl27 : sProp 𝕄 := Land c (cell 27) ((Memref.whole cc0_scratch14).view.loc (c : Thread nD τ)) Finset.univ (fun f => f = Cn) ((Memref.whole main_v0).view.loc (c : Thread nD τ)) fullShare Cn
abbrev C027 : sProp 𝕄 := Land c (cell 27) ((Memref.whole cc0_scratch14).view.loc (c : Thread nD τ)) Finset.univ (fun _ => True) ((Memref.whole main_v0).view.loc (c : Thread nD τ)) fullShare Cn
abbrev Cd27 : sProp 𝕄 := iprop(((Memref.whole cc0_scratch14).view.loc (c : Thread nD τ)) ↦{fullShare} Cn)
abbrev Ce27 : sProp 𝕄 := iprop(semVal ((c : Thread nD τ), cell 27) 0 ∗ (((Memref.whole main_v0).view.loc (c : Thread nD τ)) ↦{fullShare} Cn))

/-- The row and the lane numbers of a group of columns. -/
abbrev i8r : IVec S8x128 32 := iota .tc S8x128 32 [0] iota_S8x128_d0_w32
abbrev i8l : IVec S8x128 32 := iota .tc S8x128 32 [1] iota_S8x128_d1_w32

/-- Six words put on the rows of a group of columns: the activation scales and the three penalties. -/
def xsV (g : S6.Idx → Elt F .f32) : FVec F S8x128 .f32 :=
  k0_pay198 i8r (k0_pay196 i8r (svx g 0) (svx g 1)) k0_pay197 (svx g 2) (svx g 3) (svx g 4) (svx g 5)
def prV (g : S6.Idx → Elt F .f32) : FVec F S8x128 .f32 :=
  k0_pay201 i8r (k0_pay199 i8r (svx g 0) (svx g 1) (svx g 2) (svx g 3)) (k0_pay200 i8r) (svx g 4) (svx g 5)
def frV (g : S6.Idx → Elt F .f32) : FVec F S8x128 .f32 := k0_pay202 i8r (svx g 0) (svx g 1) (svx g 2) (svx g 3) (svx g 4) (svx g 5)
def reV (g : S6.Idx → Elt F .f32) : FVec F S8x128 .f32 := k0_pay205 i8r k0_pay203 (k0_pay204 i8r) (svx g 0) (svx g 1) (svx g 2) (svx g 3) (svx g 4) (svx g 5)

theorem run_part29 {α : Type} {kk : _ → Prog (TpuEff nD τ sig (Elt F) Λ₀ .tc) α} {Q : α → sProp 𝕄} :
    iprop(C020 c X ∗ C021 c I ∗ C022 c Xs ∗ C023 c Ln ∗ C024 c Pp ∗ C025 c Fp ∗ C026 c Rp ∗ C027 c Cn ∗ SFree c fs 0) ⊢ iprop((iprop(Cf20 c X ∗ Cf21 c I ∗ Cf22 c Xs ∗ Cf23 c Ln ∗ Cf24 c Pp ∗ Cf25 c Fp ∗ Cf26 c Rp ∗ Cf27 c Cn ∗ SF c fs 0) -∗ WP c (kk ⟨⟩) Q)
      -∗ WP c (k0_part29 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 >>= kk) Q) := by
  rw [k0_part29_eq_skeleton]
  unfold k0_part29_skel
  simp only [Prog.bind_assoc, Prog.bind_ret, Prog.pure_eq_ret]
  iintro ⟨H20, H21, H22, H23, H24, H25, H26, H27, S⟩ HK
  iapply (issue c (P := fun f => f = X) (Memref.whole cc0_scratch3).view.dmaCredit rfl (View.dmaCredit_pos _ (by decide)) (sem_slice _ inb_S2_S1_0 _ rfl) (Finset.subset_univ _) (fun _ => View.write_whole_univ _ _ _)) $$ H20; iintro H20
  iapply (issue c (P := fun f => f = I) (Memref.whole cc0_scratch4).view.dmaCredit rfl (View.dmaCredit_pos _ (by decide)) (sem_slice _ inb_S2_S1_1 _ rfl) (Finset.subset_univ _) (fun _ => View.write_whole_univ _ _ _)) $$ H21; iintro H21
  iapply (issue c (P := fun f => f = Xs) (Memref.whole cc0_scratch9).view.dmaCredit rfl (View.dmaCredit_pos _ (by decide)) (sem_slice _ inb_S6_S1_0 _ rfl) (Finset.subset_univ _) (fun _ => View.write_whole_univ _ _ _)) $$ H22; iintro H22
  iapply (issue c (P := fun f => f = Ln) (Memref.whole cc0_scratch10).view.dmaCredit rfl (View.dmaCredit_pos _ (by decide)) (sem_slice _ inb_S6_S1_1 _ rfl) (Finset.subset_univ _) (fun _ => View.write_whole_univ _ _ _)) $$ H23; iintro H23
  iapply (issue c (P := fun f => f = Pp) (Memref.whole cc0_scratch11).view.dmaCredit rfl (View.dmaCredit_pos _ (by decide)) (sem_slice _ inb_S6_S1_2 _ rfl) (Finset.subset_univ _) (fun _ => View.write_whole_univ _ _ _)) $$ H24; iintro H24
  iapply (issue c (P := fun f => f = Fp) (Memref.whole cc0_scratch12).view.dmaCredit rfl (View.dmaCredit_pos _ (by decide)) (sem_slice _ inb_S6_S1_3 _ rfl) (Finset.subset_univ _) (fun _ => View.write_whole_univ _ _ _)) $$ H25; iintro H25
  iapply (issue c (P := fun f => f = Rp) (Memref.whole cc0_scratch13).view.dmaCredit rfl (View.dmaCredit_pos _ (by decide)) (sem_slice _ inb_S6_S1_4 _ rfl) (Finset.subset_univ _) (fun _ => View.write_whole_univ _ _ _)) $$ H26; iintro H26
  iapply (issue c (P := fun f => f = Cn) (Memref.whole cc0_scratch14).view.dmaCredit rfl (View.dmaCredit_pos _ (by decide)) (sem_slice _ inb_S6_S1_5 _ rfl) (Finset.subset_univ _) (fun _ => View.write_whole_univ _ _ _)) $$ H27; iintro H27
  iapply (s_issue c 0 (by decide +kernel) (by decide +kernel) (by decide +kernel)) $$ S; iintro S
  iapply HK
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact S

theorem run_part30 {α : Type} {kk : _ → Prog (TpuEff nD τ sig (Elt F) Λ₀ .tc) α} {Q : α → sProp 𝕄} :
    iprop(WFree c fw 0 0 ∗ WFree c fw 0 1 ∗ WFree c fw 0 2 ∗ WFree c fw 0 3) ⊢ iprop((iprop(WF c fw 0 0 ∗ WF c fw 0 1 ∗ WF c fw 0 2 ∗ WF c fw 0 3) -∗ WP c (kk ⟨⟩) Q)
      -∗ WP c (k0_part30 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 >>= kk) Q) := by
  rw [k0_part30_eq_skeleton]
  unfold k0_part30_skel
  simp only [Prog.bind_assoc, Prog.bind_ret, Prog.pure_eq_ret]
  iintro ⟨w00, w01, w02, w03⟩ HK
  iapply (w_issue c 0 0 (by decide +kernel) (by decide +kernel) (by decide +kernel)) $$ w00; iintro w00
  iapply (w_issue c 0 1 (by decide +kernel) (by decide +kernel) (by decide +kernel)) $$ w01; iintro w01
  iapply (w_issue c 0 2 (by decide +kernel) (by decide +kernel) (by decide +kernel)) $$ w02; iintro w02
  iapply (w_issue c 0 3 (by decide +kernel) (by decide +kernel) (by decide +kernel)) $$ w03; iintro w03
  iapply HK
  isplitl [w00]; · iexact w00
  isplitl [w01]; · iexact w01
  isplitl [w02]; · iexact w02
  iexact w03

theorem run_part31 {α : Type} {kk : _ → Prog (TpuEff nD τ sig (Elt F) Λ₀ .tc) α} {Q : α → sProp 𝕄} :
    iprop(SFree c fs 1 ∗ WFree c fw 1 0 ∗ WFree c fw 1 1 ∗ WFree c fw 1 2) ⊢ iprop((iprop(SF c fs 1 ∗ WF c fw 1 0 ∗ WF c fw 1 1 ∗ WF c fw 1 2) -∗ WP c (kk (Scalar.remsi 1#32 4#32)) Q)
      -∗ WP c (k0_part31 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 >>= kk) Q) := by
  rw [k0_part31_eq_skeleton]
  unfold k0_part31_skel
  simp only [Prog.bind_assoc, Prog.bind_ret, Prog.pure_eq_ret]
  iintro ⟨s10, w10, w11, w12⟩ HK
  iapply (s_issue c 1 (by decide +kernel) (by decide +kernel) (by decide +kernel)) $$ s10; iintro s10
  iapply (w_issue c 1 0 (by decide +kernel) (by decide +kernel) (by decide +kernel)) $$ w10; iintro w10
  iapply (w_issue c 1 1 (by decide +kernel) (by decide +kernel) (by decide +kernel)) $$ w11; iintro w11
  iapply (w_issue c 1 2 (by decide +kernel) (by decide +kernel) (by decide +kernel)) $$ w12; iintro w12
  iapply HK
  isplitl [s10]; · iexact s10
  isplitl [w10]; · iexact w10
  isplitl [w11]; · iexact w11
  iexact w12

theorem run_part32 {α : Type} {kk : _ → Prog (TpuEff nD τ sig (Elt F) Λ₀ .tc) α} {Q : α → sProp 𝕄} :
    iprop(WFree c fw 1 3 ∗ SFree c fs 2 ∗ WFree c fw 2 0) ⊢ iprop((iprop(WF c fw 1 3 ∗ SF c fs 2 ∗ WF c fw 2 0) -∗ WP c (kk ⟨⟩) Q)
      -∗ WP c (k0_part32 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 (Scalar.remsi 1#32 4#32) >>= kk) Q) := by
  rw [k0_part32_eq_skeleton]
  unfold k0_part32_skel
  simp only [Prog.bind_assoc, Prog.bind_ret, Prog.pure_eq_ret]
  iintro ⟨w13, s20, w20⟩ HK
  iapply (w_issue c 1 3 (by decide +kernel) (by decide +kernel) (by decide +kernel)) $$ w13; iintro w13
  iapply (s_issue c 2 (by decide +kernel) (by decide +kernel) (by decide +kernel)) $$ s20; iintro s20
  iapply (w_issue c 2 0 (by decide +kernel) (by decide +kernel) (by decide +kernel)) $$ w20; iintro w20
  iapply HK
  isplitl [w13]; · iexact w13
  isplitl [s20]; · iexact s20
  iexact w20

theorem run_part33 {α : Type} {kk : _ → Prog (TpuEff nD τ sig (Elt F) Λ₀ .tc) α} {Q : α → sProp 𝕄} :
    iprop(WFree c fw 2 1 ∗ WFree c fw 2 2 ∗ WFree c fw 2 3 ∗ SFree c fs 3) ⊢ iprop((iprop(WF c fw 2 1 ∗ WF c fw 2 2 ∗ WF c fw 2 3 ∗ SF c fs 3) -∗ WP c (kk ⟨⟩) Q)
      -∗ WP c (k0_part33 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 >>= kk) Q) := by
  rw [k0_part33_eq_skeleton]
  unfold k0_part33_skel
  simp only [Prog.bind_assoc, Prog.bind_ret, Prog.pure_eq_ret]
  iintro ⟨w21, w22, w23, s30⟩ HK
  iapply (w_issue c 2 1 (by decide +kernel) (by decide +kernel) (by decide +kernel)) $$ w21; iintro w21
  iapply (w_issue c 2 2 (by decide +kernel) (by decide +kernel) (by decide +kernel)) $$ w22; iintro w22
  iapply (w_issue c 2 3 (by decide +kernel) (by decide +kernel) (by decide +kernel)) $$ w23; iintro w23
  iapply (s_issue c 3 (by decide +kernel) (by decide +kernel) (by decide +kernel)) $$ s30; iintro s30
  iapply HK
  isplitl [w21]; · iexact w21
  isplitl [w22]; · iexact w22
  isplitl [w23]; · iexact w23
  iexact s30

theorem run_part34 {α : Type} {kk : _ → Prog (TpuEff nD τ sig (Elt F) Λ₀ .tc) α} {Q : α → sProp 𝕄} :
    iprop(WFree c fw 3 0 ∗ WFree c fw 3 1 ∗ WFree c fw 3 2 ∗ WFree c fw 3 3) ⊢ iprop((iprop(WF c fw 3 0 ∗ WF c fw 3 1 ∗ WF c fw 3 2 ∗ WF c fw 3 3) -∗ WP c (kk ⟨i8r, i8l⟩) Q)
      -∗ WP c (k0_part34 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 >>= kk) Q) := by
  rw [k0_part34_eq_skeleton]
  unfold k0_part34_skel
  simp only [Prog.bind_assoc, Prog.bind_ret, Prog.pure_eq_ret]
  iintro ⟨w30, w31, w32, w33⟩ HK
  iapply (w_issue c 3 0 (by decide +kernel) (by decide +kernel) (by decide +kernel)) $$ w30; iintro w30
  iapply (w_issue c 3 1 (by decide +kernel) (by decide +kernel) (by decide +kernel)) $$ w31; iintro w31
  iapply (w_issue c 3 2 (by decide +kernel) (by decide +kernel) (by decide +kernel)) $$ w32; iintro w32
  iapply (w_issue c 3 3 (by decide +kernel) (by decide +kernel) (by decide +kernel)) $$ w33; iintro w33
  iapply HK
  isplitl [w30]; · iexact w30
  isplitl [w31]; · iexact w31
  isplitl [w32]; · iexact w32
  iexact w33

end Cert.Kernel.Hand

end
-- ==== Proof.Run.Mid.lean ====
module

public import proofs.«01_k».proof.Proof.Run.Pro

/-! The small arrays arrive, the earlier words are counted, and the loop over the tiles runs. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- Clearing the counts. -/
theorem cnt_clear (c : Dev nD) (f g : S2048x128.Idx → Elt F .f32) {h : ∀ a, (![0, 0] : Fin 2 → ℕ) a + S2048x128.size a ≤ S2048x128.size a} :
    ((Memref.whole cc0_scratch5).access (Rect.unit (s := S2048x128) ![0, 0] S2048x128.size h)).write (Elt F) f g Finset.univ = g := by
  funext y
  have hy : ((Memref.whole cc0_scratch5).access (Rect.unit (s := S2048x128) ![0, 0] S2048x128.size h)).emb y = y := by
    show (Rect.unit (s := S2048x128) ![0, 0] S2048x128.size h).emb y = y
    funext i
    apply Fin.ext
    rw [Rect.emb_apply]
    fin_cases i
    · show 0 + 1 * (y 0).val = (y 0).val; omega
    · show 0 + 1 * (y 1).val = (y 1).val; omega
  conv_lhs => rw [← hy]
  rw [View.write_emb, if_pos (Finset.mem_univ _)]
  rfl

variable (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (Cn : S4x6.Idx → Elt F .i32)
  (fw : Buf (Elt F) (whL c)) (fs : Buf (Elt F) (shL c))

theorem run_part49 {α : Type} {kk : _ → Prog (TpuEff nD τ sig (Elt F) Λ₀ .tc) α} {Q : α → sProp 𝕄} :
    iprop(Cf21 c I ∗ Cf22 c Xs ∗ Cf23 c Ln ∗ Cf24 c Pp ∗ Cf25 c Fp ∗ Cf26 c Rp ∗ Cf27 c Cn ∗ (∃ f : Buf (Elt F) (cntL c), cntL c ↦{fullShare} f) ∗ Ow (F := F) c) ⊢ iprop((iprop(Cd21 c I ∗ Cd22 c Xs ∗ Cd23 c Ln ∗ Cd24 c Pp ∗ Cd25 c Fp ∗ Cd26 c Rp ∗ Cd27 c Cn ∗ Ce21 c I ∗ Ce22 c Xs ∗ Ce23 c Ln ∗ Ce24 c Pp ∗ Ce25 c Fp ∗ Ce26 c Rp ∗ Ce27 c Cn ∗ (cntL c ↦{fullShare} (cntAt I Ln 8 : Buf (Elt F) (cntL c))) ∗ Ow (F := F) c) -∗ WP c (kk ⟨k0_pay196 i8r (svx Xs 0) (svx Xs 1), k0_pay197⟩) Q)
      -∗ WP c (k0_part49 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i8r >>= kk) Q) := by
  rw [k0_part49_eq_skeleton]
  unfold k0_part49_skel
  simp only [Prog.bind_assoc, Prog.bind_ret, Prog.pure_eq_ret]
  iintro ⟨H21, H22, H23, H24, H25, H26, H27, HC, HO⟩ HK
  iapply (await c (N := (Memref.whole cc0_scratch4).view.dmaCredit) rfl (sem_slice _ inb_S2_S1_1 _ rfl)) $$ [H21 HO]
  · isplitl [H21]; · iexact H21
    iexact HO
  iintro ⟨H21, HO⟩
  iapply (await c (N := (Memref.whole cc0_scratch9).view.dmaCredit) rfl (sem_slice _ inb_S6_S1_0 _ rfl)) $$ [H22 HO]
  · isplitl [H22]; · iexact H22
    iexact HO
  iintro ⟨H22, HO⟩
  iapply (await c (N := (Memref.whole cc0_scratch10).view.dmaCredit) rfl (sem_slice _ inb_S6_S1_1 _ rfl)) $$ [H23 HO]
  · isplitl [H23]; · iexact H23
    iexact HO
  iintro ⟨H23, HO⟩
  iapply (await c (N := (Memref.whole cc0_scratch11).view.dmaCredit) rfl (sem_slice _ inb_S6_S1_2 _ rfl)) $$ [H24 HO]
  · isplitl [H24]; · iexact H24
    iexact HO
  iintro ⟨H24, HO⟩
  iapply (await c (N := (Memref.whole cc0_scratch12).view.dmaCredit) rfl (sem_slice _ inb_S6_S1_3 _ rfl)) $$ [H25 HO]
  · isplitl [H25]; · iexact H25
    iexact HO
  iintro ⟨H25, HO⟩
  iapply (await c (N := (Memref.whole cc0_scratch13).view.dmaCredit) rfl (sem_slice _ inb_S6_S1_4 _ rfl)) $$ [H26 HO]
  · isplitl [H26]; · iexact H26
    iexact HO
  iintro ⟨H26, HO⟩
  iapply (await c (N := (Memref.whole cc0_scratch14).view.dmaCredit) rfl (sem_slice _ inb_S6_S1_5 _ rfl)) $$ [H27 HO]
  · isplitl [H27]; · iexact H27
    iexact HO
  iintro ⟨H27, HO⟩
  unfold Land
  icases H21 with ⟨⟨%f21, H21, %h21⟩, G21⟩
  rw [h21]
  icases H22 with ⟨⟨%f22, H22, %h22⟩, G22⟩
  rw [h22]
  icases H23 with ⟨⟨%f23, H23, %h23⟩, G23⟩
  rw [h23]
  icases H24 with ⟨⟨%f24, H24, %h24⟩, G24⟩
  rw [h24]
  icases H25 with ⟨⟨%f25, H25, %h25⟩, G25⟩
  rw [h25]
  icases H26 with ⟨⟨%f26, H26, %h26⟩, G26⟩
  rw [h26]
  icases H27 with ⟨⟨%f27, H27, %h27⟩, G27⟩
  rw [h27]
  icases HC with ⟨%f0, HC⟩
  iapply (ld c (m := Memref.whole cc0_scratch5)) $$ HC; iintro HC
  iapply (st c (m := Memref.whole cc0_scratch5) (r := Rect.unit (s := S2048x128) ![0, 0] S2048x128.size inb_S2048x128_S2048x128_0_0)) $$ HC; iintro HC
  rw [cnt_clear c]
  dsimp only
  iapply (Scf.wp_for_bind Idealize.ShloMosaic.frame (wpE (defs₀ (F := F)) Variants.none (c : Thread nD τ) none) Set.univ _ _ _ k0_t1_ok _ _ (CInv c I Ln) (ctrip c I Ln · i8r ·)) $$ [H21 H23 HC]
  · unfold CInv
    isplitl [H21]; · iexact H21
    isplitl [H23]; · iexact H23
    iexact HC
  iintro %u HC
  unfold CInv
  icases HC with ⟨H21, H23, HC⟩
  iapply (sm_load c (m := Memref.whole cc0_scratch9) (f := Xs) Xs (fun _ => rfl)) $$ H22; iintro H22
  iapply (sm_load c (m := Memref.whole cc0_scratch9) (f := Xs) Xs (fun _ => rfl)) $$ H22; iintro H22
  iapply HK
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [G21]; · iexact G21
  isplitl [G22]; · iexact G22
  isplitl [G23]; · iexact G23
  isplitl [G24]; · iexact G24
  isplitl [G25]; · iexact G25
  isplitl [G26]; · iexact G26
  isplitl [G27]; · iexact G27
  isplitl [HC]; · iexact HC
  iexact HO

theorem run_part50 {α : Type} {kk : _ → Prog (TpuEff nD τ sig (Elt F) Λ₀ .tc) α} {Q : α → sProp 𝕄} :
    iprop(Cd22 c Xs ∗ Cd24 c Pp) ⊢ iprop((iprop(Cd22 c Xs ∗ Cd24 c Pp) -∗ WP c (kk ⟨xsV Xs, k0_pay199 i8r (svx Pp 0) (svx Pp 1) (svx Pp 2) (svx Pp 3), k0_pay200 i8r⟩) Q)
      -∗ WP c (k0_part50 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i8r (k0_pay196 i8r (svx Xs 0) (svx Xs 1)) k0_pay197 >>= kk) Q) := by
  rw [k0_part50_eq_skeleton]
  unfold k0_part50_skel
  simp only [Prog.bind_assoc, Prog.bind_ret, Prog.pure_eq_ret]
  iintro ⟨H22, H24⟩ HK
  iapply (sm_load c (m := Memref.whole cc0_scratch9) (f := Xs) Xs (fun _ => rfl)) $$ H22; iintro H22
  iapply (sm_load c (m := Memref.whole cc0_scratch9) (f := Xs) Xs (fun _ => rfl)) $$ H22; iintro H22
  iapply (sm_load c (m := Memref.whole cc0_scratch9) (f := Xs) Xs (fun _ => rfl)) $$ H22; iintro H22
  iapply (sm_load c (m := Memref.whole cc0_scratch9) (f := Xs) Xs (fun _ => rfl)) $$ H22; iintro H22
  iapply (sm_load c (m := Memref.whole cc0_scratch11) (f := Pp) Pp (fun _ => rfl)) $$ H24; iintro H24
  iapply (sm_load c (m := Memref.whole cc0_scratch11) (f := Pp) Pp (fun _ => rfl)) $$ H24; iintro H24
  iapply (sm_load c (m := Memref.whole cc0_scratch11) (f := Pp) Pp (fun _ => rfl)) $$ H24; iintro H24
  iapply (sm_load c (m := Memref.whole cc0_scratch11) (f := Pp) Pp (fun _ => rfl)) $$ H24; iintro H24
  iapply HK
  isplitl [H22]; · iexact H22
  iexact H24

theorem run_part51 {α : Type} {kk : _ → Prog (TpuEff nD τ sig (Elt F) Λ₀ .tc) α} {Q : α → sProp 𝕄} :
    iprop(Cd24 c Pp ∗ Cd25 c Fp) ⊢ iprop((iprop(Cd24 c Pp ∗ Cd25 c Fp) -∗ WP c (kk ⟨prV Pp, frV Fp, k0_pay203, k0_pay204 i8r⟩) Q)
      -∗ WP c (k0_part51 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i8r (k0_pay199 i8r (svx Pp 0) (svx Pp 1) (svx Pp 2) (svx Pp 3)) (k0_pay200 i8r) >>= kk) Q) := by
  rw [k0_part51_eq_skeleton]
  unfold k0_part51_skel
  simp only [Prog.bind_assoc, Prog.bind_ret, Prog.pure_eq_ret]
  iintro ⟨H24, H25⟩ HK
  iapply (sm_load c (m := Memref.whole cc0_scratch11) (f := Pp) Pp (fun _ => rfl)) $$ H24; iintro H24
  iapply (sm_load c (m := Memref.whole cc0_scratch11) (f := Pp) Pp (fun _ => rfl)) $$ H24; iintro H24
  iapply (sm_load c (m := Memref.whole cc0_scratch12) (f := Fp) Fp (fun _ => rfl)) $$ H25; iintro H25
  iapply (sm_load c (m := Memref.whole cc0_scratch12) (f := Fp) Fp (fun _ => rfl)) $$ H25; iintro H25
  iapply (sm_load c (m := Memref.whole cc0_scratch12) (f := Fp) Fp (fun _ => rfl)) $$ H25; iintro H25
  iapply (sm_load c (m := Memref.whole cc0_scratch12) (f := Fp) Fp (fun _ => rfl)) $$ H25; iintro H25
  iapply (sm_load c (m := Memref.whole cc0_scratch12) (f := Fp) Fp (fun _ => rfl)) $$ H25; iintro H25
  iapply (sm_load c (m := Memref.whole cc0_scratch12) (f := Fp) Fp (fun _ => rfl)) $$ H25; iintro H25
  iapply HK
  isplitl [H24]; · iexact H24
  iexact H25

theorem run_part52 (L : Buf (Elt F) (lhsL c)) (C : Buf (Elt F) (cntL c)) {α : Type} {kk : _ → Prog (TpuEff nD τ sig (Elt F) Λ₀ .tc) α} {Q : α → sProp 𝕄} :
    iprop(Cd26 c Rp ∗ Inv fw fs L C (xsV Xs) (prV Pp) (frV Fp) (reV Rp) 0 (k0_pay206, k0_pay207)) ⊢ iprop((∀ a, iprop(Cd26 c Rp ∗ Inv fw fs L C (xsV Xs) (prV Pp) (frV Fp) (reV Rp) k0_t2_loop.trips a) -∗ WP c (kk (k0_pay209 a.1 a.2)) Q)
      -∗ WP c (k0_part52 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 i8r (xsV Xs) (prV Pp) (frV Fp) k0_pay203 (k0_pay204 i8r) >>= kk) Q) := by
  rw [k0_part52_eq_skeleton]
  unfold k0_part52_skel
  simp only [Prog.bind_assoc, Prog.bind_ret, Prog.pure_eq_ret]
  iintro ⟨H26, HI⟩ HK
  iapply (sm_load c (m := Memref.whole cc0_scratch13) (f := Rp) Rp (fun _ => rfl)) $$ H26; iintro H26
  iapply (sm_load c (m := Memref.whole cc0_scratch13) (f := Rp) Rp (fun _ => rfl)) $$ H26; iintro H26
  iapply (sm_load c (m := Memref.whole cc0_scratch13) (f := Rp) Rp (fun _ => rfl)) $$ H26; iintro H26
  iapply (sm_load c (m := Memref.whole cc0_scratch13) (f := Rp) Rp (fun _ => rfl)) $$ H26; iintro H26
  iapply (sm_load c (m := Memref.whole cc0_scratch13) (f := Rp) Rp (fun _ => rfl)) $$ H26; iintro H26
  iapply (sm_load c (m := Memref.whole cc0_scratch13) (f := Rp) Rp (fun _ => rfl)) $$ H26; iintro H26
  unfold reV
  iapply (Scf.wp_for_bind Idealize.ShloMosaic.frame (wpE (defs₀ (F := F)) Variants.none (c : Thread nD τ) none) Set.univ _ _ _ k0_t2_ok _ _ (Inv fw fs L C (xsV Xs) (prV Pp) (frV Fp) (k0_pay205 i8r k0_pay203 (k0_pay204 i8r) (svx Rp 0) (svx Rp 1) (svx Rp 2) (svx Rp 3) (svx Rp 4) (svx Rp 5)))
    (trip_inv fw fs L C · · i8r (xsV Xs) (prV Pp) (frV Fp) k0_pay203 (k0_pay204 i8r) (svx Rp 0) (svx Rp 1) (svx Rp 2) (svx Rp 3) (svx Rp 4) (svx Rp 5))) $$ HI
  iintro %a HI
  iapply HK
  isplitl [H26]; · iexact H26
  iexact HI

end Cert.Kernel.Hand

end
-- ==== Proof.Run.Tail.lean ====
module

public import proofs.«01_k».proof.Proof.Run.Mid

/-! The logarithm of the sum and the candidates, and the waits for the copies out. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- The candidate words, the candidates' values and the log-sum in the core's memory, and the two results they go to. -/
abbrev candL (c : Dev nD) : Loc nD τ sig := (Memref.whole cc0_scratch14).view.loc (c : Thread nD τ)
abbrev vcL (c : Dev nD) : Loc nD τ sig := (Memref.whole cc0_scratch7).view.loc (c : Thread nD τ)
abbrev lsL (c : Dev nD) : Loc nD τ sig := (Memref.whole cc0_scratch8).view.loc (c : Thread nD τ)
abbrev lhL (c : Dev nD) : Loc nD τ sig := (Memref.whole main_v1_0).view.loc (c : Thread nD τ)
abbrev chL (c : Dev nD) : Loc nD τ sig := (Memref.whole main_v1_1).view.loc (c : Thread nD τ)

/-- A whole buffer, whatever it holds. -/
abbrev Any (ℓ : Loc nD τ sig) : sProp 𝕄 := iprop(∃ f : Buf (Elt F) ℓ, ℓ ↦{fullShare} f)

/-- What the candidate picks work over. -/
def Tl (c : Dev nD) (Cn : S4x6.Idx → Elt F .i32) (Zf : S6x32000.Idx → Elt F .f32) (G : S4x6.Idx → Elt F .f32) (n : ℕ) : sProp 𝕄 :=
  iprop((candL c ↦{fullShare} Cn) ∗ (zL c ↦{fullShare.left} Zf) ∗ ∃ f : Buf (Elt F) (vcL c), (vcL c ↦{fullShare} f) ∗ ⌜∀ y : S4x6.Idx, (y 0).val < n → f y = G y⌝)

/-- The candidate word in row `i`, column `j`; 128 columns of the logits, from the group the word lies in. -/
def wd (Cn : S4x6.Idx → Elt F .i32) (i j : ℕ) : Elt F .i32 := Cn (ix2 ⟨i % 4, Nat.mod_lt _ (by decide)⟩ ⟨j % 6, Nat.mod_lt _ (by decide)⟩)
def zbk (Zf : S6x32000.Idx → Elt F .f32) (w : BitVec 32) : Vec F S6x128 .f32 :=
  fun x => Zf (ix2 ⟨(x 0).val % 6, Nat.mod_lt _ (by decide)⟩ ⟨((w &&& 4294967168#32).toNat + (x 1).val) % 32000, Nat.mod_lt _ (by decide)⟩)

/-- All the tiles' copies out are under way and `u` of them have been waited for. -/
def ZB (c : Dev nD) (Zf : S6x32000.Idx → Elt F .f32) (u : ℕ) : sProp 𝕄 :=
  Transfers.Batch EC (c : Thread nD τ) (cell 28) () NZ (fun t : Fin 25 => OutD c Zf t.val) 25 (NZ * u)

theorem Out_end (c : Dev nD) (Zf : S6x32000.Idx → Elt F .f32) (C : ℕ) :
    Out c Zf 25 C ⊢ iprop((zL c ↦{fullShare.left} Zf) ∗ ZB c Zf 0) := by
  unfold Out ZB
  rw [zlt_all]
  iintro ⟨-, Hl, -, HB⟩
  isplitl [Hl]; · iexact Hl
  iexact HB

theorem NZ_pos : 0 < NZ := View.dmaCredit_pos _ (by decide)

theorem z_wait (c : Dev nD) {α : Type} {Zf : S6x32000.Idx → Elt F .f32} (u : ℕ) (hu : u < 24)
    {oS : Fin 1 → ℕ} {o : Fin 2 → ℕ}
    {hS : ∀ a, oS a + S1.size a ≤ S3.size a} {h h' : ∀ a, o a + S6x1280.size a ≤ S6x32000.size a}
    (eS : oS = ![0]) {hsrc} {hdst} {k : PUnit → Prog (TpuEff nD τ sig (Elt F) Λ₀ .tc) α} {Q : α → sProp 𝕄} :
    iprop(ZB c Zf u ∗ Ow (F := F) c)
      ⊢ iprop((iprop(ZB c Zf (u + 1) ∗ Ow (F := F) c) -∗ WP c (k ⟨⟩) Q)
        -∗ WP c (Prog.lift (.waitDma2 ((cc0_scratch19.slice (Rect.unit (s := S3) oS S1.size hS)).squeeze S_ squeezes_S1_S_).sem
          (zsrc h) (zdst h') hsrc hdst) >>= k) Q) := by
  have hsm : SemLoc.dma (((cc0_scratch19.slice (Rect.unit (s := S3) oS S1.size hS)).squeeze S_ squeezes_S1_S_).sem) = cell 28 := sem_slice _ hS _ eS
  rw [Prog.bind_lift]
  unfold ZB Ow
  rw [← hsm, Nat.mul_succ]
  iintro ⟨HB, %W, HW⟩ Hk
  iapply (Transfers.wp_waitBatch (nD := nD) (τ := τ) (sig := sig) (Ix := Unit) (Val := Elt F) (Name := ℕ) (U := Pipeline.UD sig nD τ)
    (Lvl := ℕ) (defs := defs₀ (F := F)) EC Variants.none (c : Thread nD τ) none (Q := Q) (srcw := zsrc h) (dstw := zdst h') () (N := NZ) rfl
    (D := fun t : Fin 25 => OutD c Zf t.val) (u := NZ * u) (by have := NZ_pos; rw [← Nat.mul_succ]; exact Nat.mul_lt_mul_of_pos_left (by omega) this)) $$ [HB HW]
  · isplitl [HB]; · iexact HB
    iexact HW
  iintro ⟨HB, HW⟩
  iapply Hk
  isplitl [HB]; · iexact HB
  iexists _; iexact HW

theorem z_last (c : Dev nD) {α : Type} {Zf : S6x32000.Idx → Elt F .f32}
    {oS : Fin 1 → ℕ} {o : Fin 2 → ℕ}
    {hS : ∀ a, oS a + S1.size a ≤ S3.size a} {h h' : ∀ a, o a + S6x1280.size a ≤ S6x32000.size a}
    (eS : oS = ![0]) {hsrc} {hdst} {k : PUnit → Prog (TpuEff nD τ sig (Elt F) Λ₀ .tc) α} {Q : α → sProp 𝕄} :
    iprop(ZB c Zf 24 ∗ Ow (F := F) c)
      ⊢ iprop((iprop(bigSep Finset.univ (fun t : Fin 25 => OutD c Zf t.val) ∗ semVal ((c : Thread nD τ), cell 28) 0 ∗ Ow (F := F) c) -∗ WP c (k ⟨⟩) Q)
        -∗ WP c (Prog.lift (.waitDma2 ((cc0_scratch19.slice (Rect.unit (s := S3) oS S1.size hS)).squeeze S_ squeezes_S1_S_).sem
          (zsrc h) (zdst h') hsrc hdst) >>= k) Q) := by
  have hsm : SemLoc.dma (((cc0_scratch19.slice (Rect.unit (s := S3) oS S1.size hS)).squeeze S_ squeezes_S1_S_).sem) = cell 28 := sem_slice _ hS _ eS
  rw [Prog.bind_lift]
  unfold ZB Ow
  rw [← hsm]
  iintro ⟨HB, %W, HW⟩ Hk
  iapply (Transfers.wp_waitBatchLast (nD := nD) (τ := τ) (sig := sig) (Ix := Unit) (Val := Elt F) (Name := ℕ) (U := Pipeline.UD sig nD τ)
    (Lvl := ℕ) (defs := defs₀ (F := F)) EC Variants.none (c : Thread nD τ) none (Q := Q) (srcw := zsrc h) (dstw := zdst h') () (N := NZ) rfl NZ_pos
    (D := fun t : Fin 25 => OutD c Zf t.val) (u := NZ * 24) (Nat.mul_succ NZ 24).symm) $$ [HB HW]
  · isplitl [HB]; · iexact HB
    iexact HW
  iintro ⟨HB, Hs, HW⟩
  iapply Hk
  isplitl [HB]; · iexact HB
  isplitl [Hs]; · iexact Hs
  iexists _; iexact HW

/-- The tiles' columns, once all of them are back, are the whole result and the whole of the logits in memory. -/
theorem zcols_join (c : Dev nD) (Zf : S6x32000.Idx → Elt F .f32) : ∀ n : ℕ,
    bigSep (Finset.range n) (fun t => OutD c Zf t) ⊢ iprop((zhL c ↦[zlt n]{fullShare} Zf) ∗ (zL c ↦[zlt n]{fullShare.right} Zf))
  | 0 => by
    rw [zlt_zero, pointsTo_empty, pointsTo_empty]
    rw [Finset.range_zero, bigSep_empty]
    exact BI.emp_sep.2
  | n + 1 => by
    rw [Finset.range_add_one, bigSep_insert Finset.notMem_range_self]
    show iprop(OutD c Zf n ∗ bigSep (Finset.range n) (fun t => OutD c Zf t)) ⊢ _
    have h1 := (pts_split (ℓ := zhL c) (q := fullShare) (f := Zf) (zlt_split n) (zlt_disj n)).2
    have h2 := (pts_split (ℓ := zL c) (q := fullShare.right) (f := Zf) (zlt_split n) (zlt_disj n)).2
    have ih := zcols_join c Zf n
    have hcg := fun (f : Buf (Elt F) (zhL c)) (h : ∀ y ∈ zcol n, f y = Zf y) => pointsTo_congr (nD := nD) (τ := τ) (sig := sig) (Ix := Unit) (Val := Elt F) (Name := ℕ)
      (U := Pipeline.UD sig nD τ) (Lvl := ℕ) (ℓ := zhL c) (q := fullShare) (I := zcol n) (f := f) (g := Zf) h
    iintro ⟨HD, HB⟩
    ihave HB := ih $$ HB
    icases HB with ⟨Ha, Hb⟩
    unfold OutD
    icases HD with ⟨⟨%f, Hf, %hf⟩, Hr⟩
    ihave Hf := (Entails.of_eq (hcg f hf)) $$ Hf
    isplitl [Ha Hf]
    · iapply h1
      isplitl [Ha]; · iexact Ha
      iexact Hf
    iapply h2
    isplitl [Hb]; · iexact Hb
    iexact Hr

/-- Loading a candidate word. -/
theorem cd_load (c : Dev nD) {α : Type} {Cn : S4x6.Idx → Elt F .i32} {Zf : S6x32000.Idx → Elt F .f32} {G : S4x6.Idx → Elt F .f32} {n : ℕ}
    {i j : ℕ} {h : ∀ a, (![i, j] : Fin 2 → ℕ) a + S1x1.size a ≤ S4x6.size a} {hp : EltTy.i32.packing = 1}
    {k : Elt F .i32 → Prog (TpuEff nD τ sig (Elt F) Λ₀ .tc) α} {Q : α → sProp 𝕄} :
    Tl c Cn Zf G n ⊢ iprop((Tl c Cn Zf G n -∗ WP c (k (wd Cn i j)) Q)
      -∗ WP c (smemLoad (Memref.whole cc0_scratch14) (Rect.unit (s := S4x6) ![i, j] S1x1.size h) numel1_S1x1 hp >>= k) Q) := by
  unfold Tl
  have hv : (Memref.whole cc0_scratch14).view.readAt (Elt F) (Rect.unit (s := S4x6) ![i, j] S1x1.size h).toLoadRect Cn (Shape.Idx.first (numel1_S1x1.symm ▸ Nat.one_pos)) = wd Cn i j := by
    show Cn _ = Cn _
    congr 1
    have h0 : i + 1 ≤ 4 := h 0
    have h1 : j + 1 ≤ 6 := h 1
    have hz : ∀ (z : Fin 1), i + 1 * z.val = i % 4 := by intro z; omega
    have hz' : ∀ (z : Fin 1), j + 1 * z.val = j % 6 := by intro z; omega
    funext a
    apply Fin.ext
    fin_cases a
    · exact hz _
    · exact hz' _
  rw [← hv]
  iintro ⟨Hc, Hz, Hv⟩ Hk
  iapply (wp_load Variants.none (c : Thread nD τ) none Set.univ (m := Memref.whole cc0_scratch14) (r := (Rect.unit (s := S4x6) ![i, j] S1x1.size h).toLoadRect)
    (k := fun v => k (v (Shape.Idx.first (numel1_S1x1.symm ▸ Nat.one_pos)))) (Finset.subset_univ _)) $$ Hc
  iintro Hc
  iapply Hk
  isplitl [Hc]; · iexact Hc
  isplitl [Hz]; · iexact Hz
  iexact Hv

/-- Loading the group of logits a candidate word lies in. -/
theorem zt_load (c : Dev nD) {α : Type} {Cn : S4x6.Idx → Elt F .i32} {Zf : S6x32000.Idx → Elt F .f32} {G : S4x6.Idx → Elt F .f32} {n : ℕ}
    (w : BitVec 32) {o : Fin 2 → ℕ} (eo : o = ![0, (w &&& 4294967168#32).toNat]) {h : ∀ a, o a + S6x128.size a ≤ S6x32000.size a}
    {hl} {k : Vec F S6x128 .f32 → Prog (TpuEff nD τ sig (Elt F) Λ₀ .tc) α} {Q : α → sProp 𝕄} :
    Tl c Cn Zf G n ⊢ iprop((Tl c Cn Zf G n -∗ WP c (k (zbk Zf w)) Q)
      -∗ WP c (Prog.lift (.load (Memref.whole cc0_scratch6) (Rect.unit (s := S6x32000) o S6x128.size h).toLoadRect hl) >>= k) Q) := by
  subst eo
  unfold Tl
  have hv : (Memref.whole cc0_scratch6).view.readAt (Elt F) (Rect.unit (s := S6x32000) ![0, (w &&& 4294967168#32).toNat] S6x128.size h).toLoadRect Zf = zbk Zf w := by
    funext x
    show Zf _ = Zf _
    congr 1
    have h1 : (w &&& 4294967168#32).toNat + 128 ≤ 32000 := h 1
    have hx0 : (x 0).val < 6 := (x 0).isLt
    have hx1 : (x 1).val < 128 := (x 1).isLt
    have e0 : ∀ z : ℕ, z < 6 → 0 + 1 * z = z % 6 := by intro z hz; omega
    have e1 : ∀ q z : ℕ, q + 128 ≤ 32000 → z < 128 → q + 1 * z = (q + z) % 32000 := by intro q z hq hz; omega
    funext i
    apply Fin.ext
    fin_cases i
    · exact e0 _ hx0
    · exact e1 _ _ h1 hx1
  rw [← hv]
  iintro ⟨Hc, Hz, Hv⟩ Hk
  iapply (ld c (m := Memref.whole cc0_scratch6)) $$ Hz; iintro Hz
  iapply Hk
  isplitl [Hc]; · iexact Hc
  isplitl [Hz]; · iexact Hz
  iexact Hv

/-- Loading from the candidates' values (what it gives is not used), and storing the next row of them. -/
theorem cv_load (c : Dev nD) {α : Type} {Cn : S4x6.Idx → Elt F .i32} {Zf : S6x32000.Idx → Elt F .f32} {G : S4x6.Idx → Elt F .f32} {n : ℕ}
    {r : LoadRect S4x6} {hl} {k : (r.shape.Idx → Elt F .f32) → Prog (TpuEff nD τ sig (Elt F) Λ₀ .tc) α} {Q : α → sProp 𝕄} :
    Tl c Cn Zf G n ⊢ iprop((∀ v, iprop(Tl c Cn Zf G n -∗ WP c (k v) Q))
      -∗ WP c (Prog.lift (.load (Memref.whole cc0_scratch7) r hl) >>= k) Q) := by
  unfold Tl
  iintro ⟨Hc, Hz, %f, Hv, %hf⟩ Hk
  iapply (ld c (m := Memref.whole cc0_scratch7)) $$ Hv; iintro Hv
  iapply Hk
  isplitl [Hc]; · iexact Hc
  isplitl [Hz]; · iexact Hz
  iexists f
  isplitl [Hv]; · iexact Hv
  ipureintro; exact hf
theorem cv_write (f G : S4x6.Idx → Elt F .f32) {n : ℕ} {h : ∀ a, (![n, 0] : Fin 2 → ℕ) a + S1x6.size a ≤ S4x6.size a}
    {w : S1x6.Idx → Elt F .f32} (hw : ∀ (x : S1x6.Idx) (y : S4x6.Idx), (y 0).val = n → (y 1).val = (x 1).val → w x = G y)
    (hf : ∀ y : S4x6.Idx, (y 0).val < n → f y = G y) (y : S4x6.Idx) (hy : (y 0).val < n + 1) :
    ((Memref.whole cc0_scratch7).access (Rect.unit (s := S4x6) ![n, 0] S1x6.size h)).write (Elt F) f w Finset.univ y = G y := by
  by_cases hin : y ∈ ((Memref.whole cc0_scratch7).access (Rect.unit (s := S4x6) ![n, 0] S1x6.size h)).set
  · obtain ⟨x, -, rfl⟩ := Finset.mem_map.mp hin
    rw [View.write_emb, if_pos (Finset.mem_univ _)]
    have hx0 : (x 0).val < 1 := (x 0).isLt
    refine hw x _ ?_ ?_
    · show ((Rect.unit (s := S4x6) ![n, 0] S1x6.size h).emb x 0).val = _
      rw [Rect.emb_apply]; show n + 1 * (x 0).val = _; omega
    · show ((Rect.unit (s := S4x6) ![n, 0] S1x6.size h).emb x 1).val = _
      rw [Rect.emb_apply]; show 0 + 1 * (x 1).val = _; omega
  · rw [View.write_of_not_mem (h := hin)]
    apply hf
    by_contra hlt
    apply hin
    show y ∈ ((View.whole cc0_scratch7).slice (Rect.unit (s := S4x6) ![n, 0] S1x6.size h)).set
    rw [View.set_slice_whole, ← Rect.map_emb_univ]
    refine Finset.mem_map.mpr ⟨ix2 ⟨0, by decide⟩ (y 1), Finset.mem_univ _, ?_⟩
    funext i
    apply Fin.ext
    rw [Rect.emb_apply]
    fin_cases i
    · show n + 1 * 0 = (y 0).val; omega
    · show 0 + 1 * (y 1).val = (y 1).val; omega
theorem cv_store (c : Dev nD) {α : Type} {Cn : S4x6.Idx → Elt F .i32} {Zf : S6x32000.Idx → Elt F .f32} {G : S4x6.Idx → Elt F .f32} (n : ℕ)
    {h : ∀ a, (![n, 0] : Fin 2 → ℕ) a + S1x6.size a ≤ S4x6.size a} {w : S1x6.Idx → Elt F .f32} {hx} {hm}
    {k : PUnit → Prog (TpuEff nD τ sig (Elt F) Λ₀ .tc) α} {Q : α → sProp 𝕄}
    (hw : ∀ (x : S1x6.Idx) (y : S4x6.Idx), (y 0).val = n → (y 1).val = (x 1).val → w x = G y) :
    Tl c Cn Zf G n ⊢ iprop((Tl c Cn Zf G (n + 1) -∗ WP c (k ⟨⟩) Q)
      -∗ WP c (Prog.lift (.store (Memref.whole cc0_scratch7) (Rect.unit (s := S4x6) ![n, 0] S1x6.size h) w Finset.univ hx hm) >>= k) Q) := by
  unfold Tl
  iintro ⟨Hc, Hz, %f, Hv, %hf⟩ Hk
  iapply (st c (m := Memref.whole cc0_scratch7) (r := Rect.unit (s := S4x6) ![n, 0] S1x6.size h)) $$ Hv; iintro Hv
  iapply Hk
  isplitl [Hc]; · iexact Hc
  isplitl [Hz]; · iexact Hz
  iexists _
  isplitl [Hv]; · iexact Hv
  ipureintro
  exact cv_write f G hw hf

/-- Storing the six log-sums. -/
theorem ls_write (f g : S6.Idx → Elt F .f32) {h : ∀ a, (![0] : Fin 1 → ℕ) a + S6.size a ≤ S6.size a} :
    ((Memref.whole cc0_scratch8).access (Rect.unit (s := S6) ![0] S6.size h)).write (Elt F) f g Finset.univ = g := by
  funext y
  have hy : ((Memref.whole cc0_scratch8).access (Rect.unit (s := S6) ![0] S6.size h)).emb y = y := by
    show (Rect.unit (s := S6) ![0] S6.size h).emb y = y
    funext i
    apply Fin.ext
    rw [Rect.emb_apply]
    fin_cases i
    show 0 + 1 * (y 0).val = (y 0).val; omega
  conv_lhs => rw [← hy]
  rw [View.write_emb, if_pos (Finset.mem_univ _)]
  rfl

/-- An assumption that holds. -/
theorem as_ok (c : Dev nD) {α : Type} {P : Prop} {d : Decidable P} {k : PLift P → Prog (TpuEff nD τ sig (Elt F) Λ₀ .tc) α} {Q : α → sProp 𝕄} (h : P) :
    WP c (k ⟨h⟩) Q ⊢ WP c (Prog.lift (.assume P d) >>= k) Q := by
  rw [Prog.bind_lift]
  exact Entails.of_eq (wp_assume_of Variants.none (c : Thread nD τ) none Set.univ h).symm

/-- Clearing the low seven bits of a word is rounding it down to a multiple of 128. -/
theorem round_128 (w : BitVec 32) : (w &&& 4294967168#32).toNat = 128 * (w.toNat / 128) := by
  rw [BitVec.toNat_and, show (4294967168#32 : BitVec 32).toNat = 33554431 <<< 7 from by decide,
    show 128 * (w.toNat / 128) = (w.toNat >>> 7) <<< 7 from by rw [Nat.shiftLeft_eq, Nat.shiftRight_eq_div_pow]; omega]
  apply Nat.eq_of_testBit_eq
  intro i
  have hw : w.toNat < 2 ^ 32 := w.isLt
  rw [Nat.testBit_and, Nat.testBit_shiftLeft, Nat.testBit_shiftLeft, Nat.testBit_shiftRight,
    show (33554431 : ℕ) = 2 ^ 25 - 1 from rfl, Nat.testBit_two_pow_sub_one]
  by_cases h7 : 7 ≤ i
  · rw [show 7 + (i - 7) = i from by omega]
    by_cases h32 : i < 32
    · simp [h7, show i - 7 < 25 from by omega]
    · rw [Nat.testBit_lt_two_pow (lt_of_lt_of_le hw (Nat.pow_le_pow_right (by decide) (by omega)))]
      simp
  · simp [h7]

theorem pick_ok (w : BitVec 32) (h : w.toNat < 32000) : k0_chk1 w := by
  have hr := round_128 w
  refine ⟨?_, ?_⟩
  · show 128 ∣ (w &&& 4294967168#32).toNat
    rw [hr]; exact Nat.dvd_mul_right _ _
  · intro a
    fin_cases a
    · exact (by decide : 0 + 6 ≤ 6)
    · show (w &&& 4294967168#32).toNat + 128 ≤ 32000
      rw [hr]; omega

variable (c : Dev nD) (Cn : S4x6.Idx → Elt F .i32) (Zf : S6x32000.Idx → Elt F .f32) (G : S4x6.Idx → Elt F .f32) (hC : ∀ y, (show BitVec 32 from Cn y).toNat < 32000)

include hC in
theorem run_part53 (v168 : IVec S8x128 32) (v169 : IVec S8x128 32) (v844 : FVec F S8x1 .f32) {α : Type} {kk : _ → Prog (TpuEff nD τ sig (Elt F) Λ₀ .tc) α} {Q : α → sProp 𝕄} :
    iprop(Out c Zf 24 32000 ∗ (candL c ↦{fullShare} Cn) ∗ Any (F := F) (vcL c) ∗ Any (F := F) (lsL c)) ⊢ iprop((iprop(Tl c Cn Zf G 0 ∗ (lsL c ↦{fullShare} (k0_pay211 v168 v169 v844 : Buf (Elt F) (lsL c))) ∗ ZB c Zf 0) -∗ WP c (kk ⟨k0_pay210 v168 v169, k0_pay212 v168 v169 (wd Cn 0 0) (zbk Zf (wd Cn 0 0)), (wd Cn 0 1), ((Scalar.andi (wd Cn 0 1) 4294967168#32)), (zbk Zf (wd Cn 0 1)), k0_pay213 v168, 1#32⟩) Q)
      -∗ WP c (k0_part53 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v844 >>= kk) Q) := by
  rw [k0_part53_eq_skeleton]
  unfold k0_part53_skel
  simp only [Prog.bind_assoc, Prog.bind_ret, Prog.pure_eq_ret]
  iintro ⟨HZ, HC, HV, HL⟩ HK
  iapply (z_issue c 24 (by decide) (by decide) rfl rfl) $$ HZ; iintro HZ
  ihave HZ := (Out_end c Zf 32000) $$ HZ
  icases HZ with ⟨HZ, HB⟩
  ihave HT : Tl c Cn Zf G 0 $$ [HC HZ HV]
  · unfold Tl
    isplitl [HC]; · iexact HC
    isplitl [HZ]; · iexact HZ
    icases HV with ⟨%fv, HV⟩
    iexists fv
    isplitl [HV]; · iexact HV
    ipureintro
    intro y hy
    exact absurd hy (Nat.not_lt_zero _)
  icases HL with ⟨%fl, HL⟩
  iapply (ld c (m := Memref.whole cc0_scratch8)) $$ HL; iintro HL
  iapply (st c (m := Memref.whole cc0_scratch8) (r := Rect.unit (s := S6) ![0] S6.size inb_S6_S6_0)) $$ HL; iintro HL
  rw [ls_write]
  iapply (cd_load c) $$ HT; iintro HT
  iapply (as_ok c (show k0_chk1 (wd Cn 0 0) from pick_ok (wd Cn 0 0) (hC _)))
  iapply (zt_load c (wd Cn 0 0) rfl) $$ HT; iintro HT
  iapply (cd_load c) $$ HT; iintro HT
  iapply (as_ok c (show k0_chk2 (wd Cn 0 1) from pick_ok (wd Cn 0 1) (hC _)))
  iapply (zt_load c (wd Cn 0 1) rfl) $$ HT; iintro HT
  iapply HK
  isplitl [HT]; · iexact HT
  isplitl [HL]; · iexact HL
  iexact HB

include hC in
theorem run_part54 (v168 : IVec S8x128 32) (v169 : IVec S8x128 32) (v875 : Vec F S6x128 .f32) (v876 : Elt F .i32) (v878 : BitVec 32) (v880 : Vec F S6x128 .f32) (v881 : IVec S6x128 32) (c1_i32_425 : BitVec 32) {α : Type} {kk : _ → Prog (TpuEff nD τ sig (Elt F) Λ₀ .tc) α} {Q : α → sProp 𝕄} :
    iprop(Tl c Cn Zf G 0) ⊢ iprop((iprop(Tl c Cn Zf G 0) -∗ WP c (kk ⟨k0_pay214 v168 v169 v875 v876 v878 v880 v881 c1_i32_425 (wd Cn 0 2) (zbk Zf (wd Cn 0 2)) (wd Cn 0 3) (zbk Zf (wd Cn 0 3)), (wd Cn 0 4), ((Scalar.andi (wd Cn 0 4) 4294967168#32)), (zbk Zf (wd Cn 0 4)), k0_pay215 v168, 4#32⟩) Q)
      -∗ WP c (k0_part54 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v875 v876 v878 v880 v881 c1_i32_425 >>= kk) Q) := by
  rw [k0_part54_eq_skeleton]
  unfold k0_part54_skel
  simp only [Prog.bind_assoc, Prog.bind_ret, Prog.pure_eq_ret]
  iintro HT HK
  iapply (cd_load c) $$ HT; iintro HT
  iapply (as_ok c (show k0_chk3 (wd Cn 0 2) from pick_ok (wd Cn 0 2) (hC _)))
  iapply (zt_load c (wd Cn 0 2) rfl) $$ HT; iintro HT
  iapply (cd_load c) $$ HT; iintro HT
  iapply (as_ok c (show k0_chk4 (wd Cn 0 3) from pick_ok (wd Cn 0 3) (hC _)))
  iapply (zt_load c (wd Cn 0 3) rfl) $$ HT; iintro HT
  iapply (cd_load c) $$ HT; iintro HT
  iapply (as_ok c (show k0_chk5 (wd Cn 0 4) from pick_ok (wd Cn 0 4) (hC _)))
  iapply (zt_load c (wd Cn 0 4) rfl) $$ HT; iintro HT
  iapply HK
  iexact HT

include hC in
theorem run_part55 (v168 : IVec S8x128 32) (v169 : IVec S8x128 32) (v844 : FVec F S8x1 .f32) (v850 : IVec S8x6 1) (v917 : Vec F S6x128 .f32) (v918 : Elt F .i32) (v920 : BitVec 32) (v922 : Vec F S6x128 .f32) (v923 : IVec S6x128 32) (c4_i32_440 : BitVec 32) (hw : ∀ (x : S1x6.Idx) (y : S4x6.Idx), (y 0).val = 0 → (y 1).val = (x 1).val → (k0_pay216 v168 v169 v844 v850 v917 v918 v920 v922 v923 c4_i32_440 (wd Cn 0 5) (zbk Zf (wd Cn 0 5))) x = G y) {α : Type} {kk : _ → Prog (TpuEff nD τ sig (Elt F) Λ₀ .tc) α} {Q : α → sProp 𝕄} :
    iprop(Tl c Cn Zf G 0) ⊢ iprop((iprop(Tl c Cn Zf G 1) -∗ WP c (kk ⟨k0_pay217 (F := F), (wd Cn 1 0), ((Scalar.andi (wd Cn 1 0) 4294967168#32)), (zbk Zf (wd Cn 1 0))⟩) Q)
      -∗ WP c (k0_part55 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v844 v850 v917 v918 v920 v922 v923 c4_i32_440 >>= kk) Q) := by
  rw [k0_part55_eq_skeleton]
  unfold k0_part55_skel
  simp only [Prog.bind_assoc, Prog.bind_ret, Prog.pure_eq_ret]
  iintro HT HK
  iapply (cd_load c) $$ HT; iintro HT
  iapply (as_ok c (show k0_chk6 (wd Cn 0 5) from pick_ok (wd Cn 0 5) (hC _)))
  iapply (zt_load c (wd Cn 0 5) rfl) $$ HT; iintro HT
  iapply (cv_load c) $$ HT; iintro %v957 HT
  iapply (cv_store c 0 hw) $$ HT; iintro HT
  iapply (cd_load c) $$ HT; iintro HT
  iapply (as_ok c (show k0_chk7 (wd Cn 1 0) from pick_ok (wd Cn 1 0) (hC _)))
  iapply (zt_load c (wd Cn 1 0) rfl) $$ HT; iintro HT
  iapply HK
  iexact HT

include hC in
theorem run_part56 (v168 : IVec S8x128 32) (v169 : IVec S8x128 32) (v960 : FVec F S6x128 .f32) (v961 : Elt F .i32) (v963 : BitVec 32) (v965 : Vec F S6x128 .f32) {α : Type} {kk : _ → Prog (TpuEff nD τ sig (Elt F) Λ₀ .tc) α} {Q : α → sProp 𝕄} :
    iprop(Tl c Cn Zf G 1) ⊢ iprop((iprop(Tl c Cn Zf G 1) -∗ WP c (kk ⟨k0_pay218 v168 v169 v960 v961 v963 v965 (wd Cn 1 1) (zbk Zf (wd Cn 1 1)) (wd Cn 1 2) (zbk Zf (wd Cn 1 2)), (wd Cn 1 3), ((Scalar.andi (wd Cn 1 3) 4294967168#32)), (zbk Zf (wd Cn 1 3))⟩) Q)
      -∗ WP c (k0_part56 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v960 v961 v963 v965 >>= kk) Q) := by
  rw [k0_part56_eq_skeleton]
  unfold k0_part56_skel
  simp only [Prog.bind_assoc, Prog.bind_ret, Prog.pure_eq_ret]
  iintro HT HK
  iapply (cd_load c) $$ HT; iintro HT
  iapply (as_ok c (show k0_chk8 (wd Cn 1 1) from pick_ok (wd Cn 1 1) (hC _)))
  iapply (zt_load c (wd Cn 1 1) rfl) $$ HT; iintro HT
  iapply (cd_load c) $$ HT; iintro HT
  iapply (as_ok c (show k0_chk9 (wd Cn 1 2) from pick_ok (wd Cn 1 2) (hC _)))
  iapply (zt_load c (wd Cn 1 2) rfl) $$ HT; iintro HT
  iapply (cd_load c) $$ HT; iintro HT
  iapply (as_ok c (show k0_chk10 (wd Cn 1 3) from pick_ok (wd Cn 1 3) (hC _)))
  iapply (zt_load c (wd Cn 1 3) rfl) $$ HT; iintro HT
  iapply HK
  iexact HT

include hC in
theorem run_part57 (v168 : IVec S8x128 32) (v169 : IVec S8x128 32) (v844 : FVec F S8x1 .f32) (v850 : IVec S8x6 1) (v1002 : Vec F S6x128 .f32) (v1003 : Elt F .i32) (v1005 : BitVec 32) (v1007 : Vec F S6x128 .f32) {α : Type} {kk : _ → Prog (TpuEff nD τ sig (Elt F) Λ₀ .tc) α} {Q : α → sProp 𝕄} :
    iprop(Tl c Cn Zf G 1) ⊢ iprop((iprop(Tl c Cn Zf G 1) -∗ WP c (kk ⟨k0_pay219 v850, k0_pay220 v168 v169 v844 v1002 v1003 v1005 v1007 (wd Cn 1 4) (zbk Zf (wd Cn 1 4)) (wd Cn 1 5) (zbk Zf (wd Cn 1 5)), k0_pay221 (F := F)⟩) Q)
      -∗ WP c (k0_part57 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v844 v850 v1002 v1003 v1005 v1007 >>= kk) Q) := by
  rw [k0_part57_eq_skeleton]
  unfold k0_part57_skel
  simp only [Prog.bind_assoc, Prog.bind_ret, Prog.pure_eq_ret]
  iintro HT HK
  iapply (cd_load c) $$ HT; iintro HT
  iapply (as_ok c (show k0_chk11 (wd Cn 1 4) from pick_ok (wd Cn 1 4) (hC _)))
  iapply (zt_load c (wd Cn 1 4) rfl) $$ HT; iintro HT
  iapply (cd_load c) $$ HT; iintro HT
  iapply (as_ok c (show k0_chk12 (wd Cn 1 5) from pick_ok (wd Cn 1 5) (hC _)))
  iapply (zt_load c (wd Cn 1 5) rfl) $$ HT; iintro HT
  iapply HK
  iexact HT

include hC in
theorem run_part58 (v168 : IVec S8x128 32) (v169 : IVec S8x128 32) (v1049 : IVec S6x6 1) (v1051 : FVec F S6x6 .f32) (v1052 : FVec F S6x6 .f32) (hw : ∀ (x : S1x6.Idx) (y : S4x6.Idx), (y 0).val = 1 → (y 1).val = (x 1).val → (k0_pay222 v1049 v1051 v1052) x = G y) {α : Type} {kk : _ → Prog (TpuEff nD τ sig (Elt F) Λ₀ .tc) α} {Q : α → sProp 𝕄} :
    iprop(Tl c Cn Zf G 1) ⊢ iprop((iprop(Tl c Cn Zf G 2) -∗ WP c (kk ⟨k0_pay223 v168 v169 (wd Cn 2 0) (zbk Zf (wd Cn 2 0)) (wd Cn 2 1) (zbk Zf (wd Cn 2 1)), (wd Cn 2 2), (show k0_chk15 (wd Cn 2 2) from pick_ok (wd Cn 2 2) (hC _)), ((Scalar.andi (wd Cn 2 2) 4294967168#32))⟩) Q)
      -∗ WP c (k0_part58 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v1049 v1051 v1052 >>= kk) Q) := by
  rw [k0_part58_eq_skeleton]
  unfold k0_part58_skel
  simp only [Prog.bind_assoc, Prog.bind_ret, Prog.pure_eq_ret]
  iintro HT HK
  iapply (cv_load c) $$ HT; iintro %v1056 HT
  iapply (cv_store c 1 hw) $$ HT; iintro HT
  iapply (cd_load c) $$ HT; iintro HT
  iapply (as_ok c (show k0_chk13 (wd Cn 2 0) from pick_ok (wd Cn 2 0) (hC _)))
  iapply (zt_load c (wd Cn 2 0) rfl) $$ HT; iintro HT
  iapply (cd_load c) $$ HT; iintro HT
  iapply (as_ok c (show k0_chk14 (wd Cn 2 1) from pick_ok (wd Cn 2 1) (hC _)))
  iapply (zt_load c (wd Cn 2 1) rfl) $$ HT; iintro HT
  iapply (cd_load c) $$ HT; iintro HT
  iapply (as_ok c (show k0_chk15 (wd Cn 2 2) from pick_ok (wd Cn 2 2) (hC _)))
  iapply HK
  iexact HT

include hC in
theorem run_part59 (v168 : IVec S8x128 32) (v169 : IVec S8x128 32) (v1087 : Vec F S6x128 .f32) (v1088 : Elt F .i32) (k0_hw15 : k0_chk15 v1088) (v1090 : BitVec 32) {α : Type} {kk : _ → Prog (TpuEff nD τ sig (Elt F) Λ₀ .tc) α} {Q : α → sProp 𝕄} :
    iprop(Tl c Cn Zf G 2) ⊢ iprop((iprop(Tl c Cn Zf G 2) -∗ WP c (kk ⟨k0_pay224 v168 v169 v1087 v1088 v1090 (zbk Zf v1088) (wd Cn 2 3) (zbk Zf (wd Cn 2 3)) (wd Cn 2 4) (zbk Zf (wd Cn 2 4)), (wd Cn 2 5), (show k0_chk18 (wd Cn 2 5) from pick_ok (wd Cn 2 5) (hC _)), ((Scalar.andi (wd Cn 2 5) 4294967168#32))⟩) Q)
      -∗ WP c (k0_part59 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v1087 v1088 k0_hw15 v1090 >>= kk) Q) := by
  rw [k0_part59_eq_skeleton]
  unfold k0_part59_skel
  simp only [Prog.bind_assoc, Prog.bind_ret, Prog.pure_eq_ret]
  iintro HT HK
  iapply (zt_load c v1088 rfl) $$ HT; iintro HT
  iapply (cd_load c) $$ HT; iintro HT
  iapply (as_ok c (show k0_chk16 (wd Cn 2 3) from pick_ok (wd Cn 2 3) (hC _)))
  iapply (zt_load c (wd Cn 2 3) rfl) $$ HT; iintro HT
  iapply (cd_load c) $$ HT; iintro HT
  iapply (as_ok c (show k0_chk17 (wd Cn 2 4) from pick_ok (wd Cn 2 4) (hC _)))
  iapply (zt_load c (wd Cn 2 4) rfl) $$ HT; iintro HT
  iapply (cd_load c) $$ HT; iintro HT
  iapply (as_ok c (show k0_chk18 (wd Cn 2 5) from pick_ok (wd Cn 2 5) (hC _)))
  iapply HK
  iexact HT

include hC in
theorem run_part60 (v168 : IVec S8x128 32) (v169 : IVec S8x128 32) (v844 : FVec F S8x1 .f32) (v850 : IVec S8x6 1) (v1129 : Vec F S6x128 .f32) (v1130 : Elt F .i32) (k0_hw18 : k0_chk18 v1130) (v1132 : BitVec 32) (hw : ∀ (x : S1x6.Idx) (y : S4x6.Idx), (y 0).val = 2 → (y 1).val = (x 1).val → (k0_pay225 v168 v169 v844 v850 v1129 v1130 v1132 (zbk Zf v1130)) x = G y) {α : Type} {kk : _ → Prog (TpuEff nD τ sig (Elt F) Λ₀ .tc) α} {Q : α → sProp 𝕄} :
    iprop(Tl c Cn Zf G 2) ⊢ iprop((iprop(Tl c Cn Zf G 3) -∗ WP c (kk ⟨k0_pay226 v168 v169 (wd Cn 3 0) (zbk Zf (wd Cn 3 0)), (wd Cn 3 1), (show k0_chk20 (wd Cn 3 1) from pick_ok (wd Cn 3 1) (hC _)), (Scalar.andi (wd Cn 3 1) 4294967168#32)⟩) Q)
      -∗ WP c (k0_part60 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v844 v850 v1129 v1130 k0_hw18 v1132 >>= kk) Q) := by
  rw [k0_part60_eq_skeleton]
  unfold k0_part60_skel
  simp only [Prog.bind_assoc, Prog.bind_ret, Prog.pure_eq_ret]
  iintro HT HK
  iapply (zt_load c v1130 rfl) $$ HT; iintro HT
  iapply (cv_load c) $$ HT; iintro %v1155 HT
  iapply (cv_store c 2 hw) $$ HT; iintro HT
  iapply (cd_load c) $$ HT; iintro HT
  iapply (as_ok c (show k0_chk19 (wd Cn 3 0) from pick_ok (wd Cn 3 0) (hC _)))
  iapply (zt_load c (wd Cn 3 0) rfl) $$ HT; iintro HT
  iapply (cd_load c) $$ HT; iintro HT
  iapply (as_ok c (show k0_chk20 (wd Cn 3 1) from pick_ok (wd Cn 3 1) (hC _)))
  iapply HK
  iexact HT

include hC in
theorem run_part61 (v168 : IVec S8x128 32) (v169 : IVec S8x128 32) (v1172 : Vec F S6x128 .f32) (v1173 : Elt F .i32) (k0_hw20 : k0_chk20 v1173) (v1174 : BitVec 32) {α : Type} {kk : _ → Prog (TpuEff nD τ sig (Elt F) Λ₀ .tc) α} {Q : α → sProp 𝕄} :
    iprop(Tl c Cn Zf G 3) ⊢ iprop((iprop(Tl c Cn Zf G 3) -∗ WP c (kk ⟨k0_pay227 v168 v169 v1172 v1173 v1174 (zbk Zf v1173) (wd Cn 3 2) (zbk Zf (wd Cn 3 2)) (wd Cn 3 3) (zbk Zf (wd Cn 3 3)), (wd Cn 3 4), (show k0_chk23 (wd Cn 3 4) from pick_ok (wd Cn 3 4) (hC _)), (Scalar.andi (wd Cn 3 4) 4294967168#32)⟩) Q)
      -∗ WP c (k0_part61 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v1172 v1173 k0_hw20 v1174 >>= kk) Q) := by
  rw [k0_part61_eq_skeleton]
  unfold k0_part61_skel
  simp only [Prog.bind_assoc, Prog.bind_ret, Prog.pure_eq_ret]
  iintro HT HK
  iapply (zt_load c v1173 rfl) $$ HT; iintro HT
  iapply (cd_load c) $$ HT; iintro HT
  iapply (as_ok c (show k0_chk21 (wd Cn 3 2) from pick_ok (wd Cn 3 2) (hC _)))
  iapply (zt_load c (wd Cn 3 2) rfl) $$ HT; iintro HT
  iapply (cd_load c) $$ HT; iintro HT
  iapply (as_ok c (show k0_chk22 (wd Cn 3 3) from pick_ok (wd Cn 3 3) (hC _)))
  iapply (zt_load c (wd Cn 3 3) rfl) $$ HT; iintro HT
  iapply (cd_load c) $$ HT; iintro HT
  iapply (as_ok c (show k0_chk23 (wd Cn 3 4) from pick_ok (wd Cn 3 4) (hC _)))
  iapply HK
  iexact HT

include hC in
theorem run_part62 (v168 : IVec S8x128 32) (v169 : IVec S8x128 32) (v844 : FVec F S8x1 .f32) (v850 : IVec S8x6 1) (v1214 : Vec F S6x128 .f32) (v1215 : Elt F .i32) (k0_hw23 : k0_chk23 v1215) (v1216 : BitVec 32) (hw : ∀ (x : S1x6.Idx) (y : S4x6.Idx), (y 0).val = 3 → (y 1).val = (x 1).val → (k0_pay228 v168 v169 v844 v850 v1214 v1215 v1216 (zbk Zf v1215) (wd Cn 3 5) (zbk Zf (wd Cn 3 5))) x = G y) (ls : S6.Idx → Elt F .f32) {α : Type} {kk : _ → Prog (TpuEff nD τ sig (Elt F) Λ₀ .tc) α} {Q : α → sProp 𝕄} :
    iprop(Tl c Cn Zf G 3 ∗ (lsL c ↦{fullShare} (ls : Buf (Elt F) (lsL c))) ∗ Any (F := F) (lhL c) ∗ semVal ((c : Thread nD τ), cell 29) 0) ⊢ iprop((iprop(Tl c Cn Zf G 4 ∗ Fly c (cell 29) (Memref.whole main_v1_0).view.dmaCredit (lhL c) Finset.univ (fun f => f = ls) (lsL c) fullShare ls) -∗ WP c (kk ⟨⟩) Q)
      -∗ WP c (k0_part62 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 v168 v169 v844 v850 v1214 v1215 k0_hw23 v1216 >>= kk) Q) := by
  rw [k0_part62_eq_skeleton]
  unfold k0_part62_skel
  simp only [Prog.bind_assoc, Prog.bind_ret, Prog.pure_eq_ret]
  iintro ⟨HT, HL, HH, HS⟩ HK
  iapply (zt_load c v1215 rfl) $$ HT; iintro HT
  iapply (cd_load c) $$ HT; iintro HT
  iapply (as_ok c (show k0_chk24 (wd Cn 3 5) from pick_ok (wd Cn 3 5) (hC _)))
  iapply (zt_load c (wd Cn 3 5) rfl) $$ HT; iintro HT
  iapply (cv_load c) $$ HT; iintro %v1254 HT
  iapply (cv_store c 3 hw) $$ HT; iintro HT
  ihave H9 : Land c (cell 29) (lhL c) Finset.univ (fun _ => True) (lsL c) fullShare ls $$ [HL HH HS]
  · unfold Land
    icases HH with ⟨%g, HH⟩
    isplitl [HH]
    · iexists g
      isplitl [HH]; · iexact HH
      ipureintro; trivial
    isplitl [HS]; · iexact HS
    iexact HL
  iapply (issue c (P := fun f => f = ls) (Memref.whole main_v1_0).view.dmaCredit rfl (View.dmaCredit_pos _ (by decide)) (sem_slice _ inb_S3_S1_1 _ rfl) (Finset.subset_univ _) (fun _ => View.write_whole_univ _ _ _)) $$ H9; iintro H9
  iapply HK
  isplitl [HT]; · iexact HT
  iexact H9

theorem run_part63  (ls : S6.Idx → Elt F .f32) {α : Type} {kk : _ → Prog (TpuEff nD τ sig (Elt F) Λ₀ .tc) α} {Q : α → sProp 𝕄} :
    iprop((∃ f : Buf (Elt F) (vcL c), (vcL c ↦{fullShare} f) ∗ ⌜∀ y : S4x6.Idx, (y 0).val < 4 → f y = G y⌝) ∗ Any (F := F) (chL c) ∗ semVal ((c : Thread nD τ), cell 30) 0 ∗ Fly c (cell 29) (Memref.whole main_v1_0).view.dmaCredit (lhL c) Finset.univ (fun f => f = ls) (lsL c) fullShare ls ∗ ZB c Zf 0 ∗ Ow (F := F) c) ⊢ iprop((iprop((lhL c ↦{fullShare} (ls : Buf (Elt F) (lhL c))) ∗ (lsL c ↦{fullShare} (ls : Buf (Elt F) (lsL c))) ∗ semVal ((c : Thread nD τ), cell 29) 0 ∗ (chL c ↦{fullShare} (G : Buf (Elt F) (chL c))) ∗ (vcL c ↦{fullShare} (G : Buf (Elt F) (vcL c))) ∗ semVal ((c : Thread nD τ), cell 30) 0 ∗ ZB c Zf 5 ∗ Ow (F := F) c) -∗ WP c (kk ⟨⟩) Q)
      -∗ WP c (k0_part63 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19  >>= kk) Q) := by
  rw [k0_part63_eq_skeleton]
  unfold k0_part63_skel
  simp only [Prog.bind_assoc, Prog.bind_ret, Prog.pure_eq_ret]
  iintro ⟨HV, HH, HS, H9, HB, HO⟩ HK
  icases HV with ⟨%fv, HV, %hfv⟩
  have hG : fv = G := funext fun y => hfv y (y 0).isLt
  rw [hG]
  ihave H30 : Land c (cell 30) (chL c) Finset.univ (fun _ => True) (vcL c) fullShare G $$ [HV HH HS]
  · unfold Land
    icases HH with ⟨%g, HH⟩
    isplitl [HH]
    · iexists g
      isplitl [HH]; · iexact HH
      ipureintro; trivial
    isplitl [HS]; · iexact HS
    iexact HV
  iapply (issue c (P := fun f => f = G) (Memref.whole main_v1_1).view.dmaCredit rfl (View.dmaCredit_pos _ (by decide)) (sem_slice _ inb_S3_S1_2 _ rfl) (Finset.subset_univ _) (fun _ => View.write_whole_univ _ _ _)) $$ H30; iintro H30
  iapply (await c (N := (Memref.whole main_v1_0).view.dmaCredit) rfl (sem_slice _ inb_S3_S1_1 _ rfl)) $$ [H9 HO]
  · isplitl [H9]; · iexact H9
    iexact HO
  iintro ⟨H9, HO⟩
  iapply (await c (N := (Memref.whole main_v1_1).view.dmaCredit) rfl (sem_slice _ inb_S3_S1_2 _ rfl)) $$ [H30 HO]
  · isplitl [H30]; · iexact H30
    iexact HO
  iintro ⟨H30, HO⟩
  unfold Land
  icases H9 with ⟨⟨%g9, H9, %h9⟩, G9, K9⟩
  rw [h9]
  icases H30 with ⟨⟨%g30, H30, %h30⟩, G30, K30⟩
  rw [h30]
  iapply (z_wait c 0 (by decide) rfl) $$ [HB HO]
  · isplitl [HB]; · iexact HB
    iexact HO
  iintro ⟨HB, HO⟩
  iapply (z_wait c 1 (by decide) rfl) $$ [HB HO]
  · isplitl [HB]; · iexact HB
    iexact HO
  iintro ⟨HB, HO⟩
  iapply (z_wait c 2 (by decide) rfl) $$ [HB HO]
  · isplitl [HB]; · iexact HB
    iexact HO
  iintro ⟨HB, HO⟩
  iapply (z_wait c 3 (by decide) rfl) $$ [HB HO]
  · isplitl [HB]; · iexact HB
    iexact HO
  iintro ⟨HB, HO⟩
  iapply (z_wait c 4 (by decide) rfl) $$ [HB HO]
  · isplitl [HB]; · iexact HB
    iexact HO
  iintro ⟨HB, HO⟩
  iapply HK
  isplitl [H9]; · iexact H9
  isplitl [K9]; · iexact K9
  isplitl [G9]; · iexact G9
  isplitl [H30]; · iexact H30
  isplitl [K30]; · iexact K30
  isplitl [G30]; · iexact G30
  isplitl [HB]; · iexact HB
  iexact HO

theorem run_part64  {α : Type} {kk : _ → Prog (TpuEff nD τ sig (Elt F) Λ₀ .tc) α} {Q : α → sProp 𝕄} :
    iprop(ZB c Zf 5 ∗ Ow (F := F) c) ⊢ iprop((iprop(ZB c Zf 11 ∗ Ow (F := F) c) -∗ WP c (kk ⟨⟩) Q)
      -∗ WP c (k0_part64 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19  >>= kk) Q) := by
  rw [k0_part64_eq_skeleton]
  unfold k0_part64_skel
  simp only [Prog.bind_assoc, Prog.bind_ret, Prog.pure_eq_ret]
  iintro ⟨HB, HO⟩ HK
  iapply (z_wait c 5 (by decide) rfl) $$ [HB HO]
  · isplitl [HB]; · iexact HB
    iexact HO
  iintro ⟨HB, HO⟩
  iapply (z_wait c 6 (by decide) rfl) $$ [HB HO]
  · isplitl [HB]; · iexact HB
    iexact HO
  iintro ⟨HB, HO⟩
  iapply (z_wait c 7 (by decide) rfl) $$ [HB HO]
  · isplitl [HB]; · iexact HB
    iexact HO
  iintro ⟨HB, HO⟩
  iapply (z_wait c 8 (by decide) rfl) $$ [HB HO]
  · isplitl [HB]; · iexact HB
    iexact HO
  iintro ⟨HB, HO⟩
  iapply (z_wait c 9 (by decide) rfl) $$ [HB HO]
  · isplitl [HB]; · iexact HB
    iexact HO
  iintro ⟨HB, HO⟩
  iapply (z_wait c 10 (by decide) rfl) $$ [HB HO]
  · isplitl [HB]; · iexact HB
    iexact HO
  iintro ⟨HB, HO⟩
  iapply HK
  isplitl [HB]; · iexact HB
  iexact HO

theorem run_part65  {α : Type} {kk : _ → Prog (TpuEff nD τ sig (Elt F) Λ₀ .tc) α} {Q : α → sProp 𝕄} :
    iprop(ZB c Zf 11 ∗ Ow (F := F) c) ⊢ iprop((iprop(ZB c Zf 17 ∗ Ow (F := F) c) -∗ WP c (kk ⟨⟩) Q)
      -∗ WP c (k0_part65 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19  >>= kk) Q) := by
  rw [k0_part65_eq_skeleton]
  unfold k0_part65_skel
  simp only [Prog.bind_assoc, Prog.bind_ret, Prog.pure_eq_ret]
  iintro ⟨HB, HO⟩ HK
  iapply (z_wait c 11 (by decide) rfl) $$ [HB HO]
  · isplitl [HB]; · iexact HB
    iexact HO
  iintro ⟨HB, HO⟩
  iapply (z_wait c 12 (by decide) rfl) $$ [HB HO]
  · isplitl [HB]; · iexact HB
    iexact HO
  iintro ⟨HB, HO⟩
  iapply (z_wait c 13 (by decide) rfl) $$ [HB HO]
  · isplitl [HB]; · iexact HB
    iexact HO
  iintro ⟨HB, HO⟩
  iapply (z_wait c 14 (by decide) rfl) $$ [HB HO]
  · isplitl [HB]; · iexact HB
    iexact HO
  iintro ⟨HB, HO⟩
  iapply (z_wait c 15 (by decide) rfl) $$ [HB HO]
  · isplitl [HB]; · iexact HB
    iexact HO
  iintro ⟨HB, HO⟩
  iapply (z_wait c 16 (by decide) rfl) $$ [HB HO]
  · isplitl [HB]; · iexact HB
    iexact HO
  iintro ⟨HB, HO⟩
  iapply HK
  isplitl [HB]; · iexact HB
  iexact HO

theorem run_part66  {α : Type} {kk : _ → Prog (TpuEff nD τ sig (Elt F) Λ₀ .tc) α} {Q : α → sProp 𝕄} :
    iprop(ZB c Zf 17 ∗ Ow (F := F) c) ⊢ iprop((iprop(ZB c Zf 23 ∗ Ow (F := F) c) -∗ WP c (kk ⟨⟩) Q)
      -∗ WP c (k0_part66 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19  >>= kk) Q) := by
  rw [k0_part66_eq_skeleton]
  unfold k0_part66_skel
  simp only [Prog.bind_assoc, Prog.bind_ret, Prog.pure_eq_ret]
  iintro ⟨HB, HO⟩ HK
  iapply (z_wait c 17 (by decide) rfl) $$ [HB HO]
  · isplitl [HB]; · iexact HB
    iexact HO
  iintro ⟨HB, HO⟩
  iapply (z_wait c 18 (by decide) rfl) $$ [HB HO]
  · isplitl [HB]; · iexact HB
    iexact HO
  iintro ⟨HB, HO⟩
  iapply (z_wait c 19 (by decide) rfl) $$ [HB HO]
  · isplitl [HB]; · iexact HB
    iexact HO
  iintro ⟨HB, HO⟩
  iapply (z_wait c 20 (by decide) rfl) $$ [HB HO]
  · isplitl [HB]; · iexact HB
    iexact HO
  iintro ⟨HB, HO⟩
  iapply (z_wait c 21 (by decide) rfl) $$ [HB HO]
  · isplitl [HB]; · iexact HB
    iexact HO
  iintro ⟨HB, HO⟩
  iapply (z_wait c 22 (by decide) rfl) $$ [HB HO]
  · isplitl [HB]; · iexact HB
    iexact HO
  iintro ⟨HB, HO⟩
  iapply HK
  isplitl [HB]; · iexact HB
  iexact HO

end Cert.Kernel.Hand

end
-- ==== Proof.Run.Slots.lean ====
module

public import proofs.«01_k».proof.Proof.Run.Tail

/-!   The buffers of slots split into their slots and joined again; the state before the first tile and after the last. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-- Some contents of each part of a buffer are some contents of all of them. -/
theorem parts_join {ℓ : Loc nD τ sig} (g : Idx ℓ → ℕ) (q : PosShare TreeShare) : ∀ n : ℕ,
    (bigSep (Finset.range n) (fun j => iprop(∃ f : Buf (Elt F) ℓ, (ℓ ↦[Finset.univ.filter fun y => g y = j]{q} f) ∗ ⌜True⌝)) : sProp 𝕄)
      ⊢ iprop(∃ f : Buf (Elt F) ℓ, ℓ ↦[Finset.univ.filter fun y => g y < n]{q} f)
  | 0 => by
    have e : (Finset.univ.filter fun y : Idx ℓ => g y < 0) = ∅ := by ext y; simp
    rw [e, Finset.range_zero, bigSep_empty]
    iintro -
    iexists (fun _ => default)
    rw [pointsTo_empty]
    iempintro
  | n + 1 => by
    rw [Finset.range_add_one, bigSep_insert Finset.notMem_range_self]
    have ih := parts_join g q n
    show iprop((∃ f : Buf (Elt F) ℓ, (ℓ ↦[Finset.univ.filter fun y => g y = n]{q} f) ∗ ⌜True⌝) ∗ bigSep (Finset.range n) _) ⊢ _
    iintro ⟨⟨%f, Hf, -⟩, HB⟩
    ihave HB := ih $$ HB
    icases HB with ⟨%f', HB⟩
    iexists (fun y => if g y = n then f y else f' y)
    iapply (pts_split (A := Finset.univ.filter fun y : Idx ℓ => g y < n + 1) (B := Finset.univ.filter fun y : Idx ℓ => g y = n) (C := Finset.univ.filter fun y : Idx ℓ => g y < n)
      (fun y => by simp only [Finset.mem_filter, Finset.mem_univ, true_and]; omega)
      (fun y => by simp only [Finset.mem_filter, Finset.mem_univ, true_and]; omega)).2
    isplitl [Hf]
    · iapply (Entails.of_eq (pointsTo_congr (f := f) (g := fun y => if g y = n then f y else f' y) (fun y hy => by
        rw [if_pos (Finset.mem_filter.mp hy).2])))
      iexact Hf
    iapply (Entails.of_eq (pointsTo_congr (f := f') (g := fun y => if g y = n then f y else f' y) (fun y hy => by
        rw [if_neg (by have := (Finset.mem_filter.mp hy).2; omega)])))
    iexact HB

/-- A buffer's contents are the contents of its parts. -/
theorem parts_split {ℓ : Loc nD τ sig} (g : Idx ℓ → ℕ) (q : PosShare TreeShare) (f : Buf (Elt F) ℓ) : ∀ n : ℕ,
    (ℓ ↦[Finset.univ.filter fun y => g y < n]{q} f : sProp 𝕄)
      ⊢ bigSep (Finset.range n) (fun j => iprop(∃ f : Buf (Elt F) ℓ, (ℓ ↦[Finset.univ.filter fun y => g y = j]{q} f) ∗ ⌜True⌝))
  | 0 => by
    rw [Finset.range_zero, bigSep_empty]
    iintro -
    iempintro
  | n + 1 => by
    rw [Finset.range_add_one, bigSep_insert Finset.notMem_range_self]
    have ih := parts_split g q f n
    show _ ⊢ iprop((∃ f : Buf (Elt F) ℓ, (ℓ ↦[Finset.univ.filter fun y => g y = n]{q} f) ∗ ⌜True⌝) ∗ bigSep (Finset.range n) _)
    refine (pts_split (A := Finset.univ.filter fun y : Idx ℓ => g y < n + 1) (B := Finset.univ.filter fun y : Idx ℓ => g y = n) (C := Finset.univ.filter fun y : Idx ℓ => g y < n)
      (fun y => by simp only [Finset.mem_filter, Finset.mem_univ, true_and]; omega)
      (fun y => by simp only [Finset.mem_filter, Finset.mem_univ, true_and]; omega)).1.trans ?_
    iintro ⟨Hf, HB⟩
    isplitl [Hf]
    · iexists f
      isplitl [Hf]; · iexact Hf
      ipureintro; trivial
    iapply ih; iexact HB

/-- Slot `j` free, whichever tile it held. -/
abbrev WJ (c : Dev nD) (fx : Buf (Elt F) (whL c)) (j : ℕ) : sProp 𝕄 := Land c (cell (j)) (wL c) (wslot c j) (fun _ => True) (whL c) (wsh j) fx

theorem wslot_all (c : Dev nD) : (Finset.univ.filter fun y : Idx (wL c) => ((show S16x2048x1280.Idx from y) 0).val < 16) = Finset.univ := by
  ext y
  simp only [Finset.mem_filter, Finset.mem_univ, true_and, iff_true]
  exact ((show S16x2048x1280.Idx from y) 0).isLt

/-- The buffer of slots, the slots' semaphores and the array the slots are filled from: the slots free, and back. -/
theorem WJ_pack (c : Dev nD) (fx : Buf (Elt F) (whL c)) :
    iprop((∃ f : Buf (Elt F) (wL c), wL c ↦{fullShare} f) ∗ bigSep (Finset.range 16) (fun j => (semVal ((c : Thread nD τ), cell (j)) 0 : sProp 𝕄)) ∗ (whL c ↦{fullShare} fx))
      ⊢ bigSep (Finset.range 16) (fun j => WJ c fx j) := by
  have hl : (whL c ↦{fullShare} fx : sProp 𝕄) = bigSep (Finset.range 16) (fun j => (whL c ↦{wsh j} fx : sProp 𝕄)) := by
    rw [ShareLeaves.pointsTo_leaves Finset.univ fx 4 fullShare]
    refine Ring.bigSep_fin_eq_range 16 _ _ (fun t ht => ?_)
    show ((whL c ↦{wsh t} fx : sProp 𝕄)) = _
    rw [wsh]
    congr 3
    exact Nat.mod_eq_of_lt ht
  rw [hl]
  iintro ⟨⟨%f, Hf⟩, Hs, Hh⟩
  ihave Hf : bigSep (Finset.range 16) (fun j => iprop(∃ f : Buf (Elt F) (wL c), (wL c ↦[wslot c j]{fullShare} f) ∗ ⌜True⌝)) $$ [Hf]
  · iapply (parts_split (ℓ := wL c) (fun y : Idx (wL c) => ((show S16x2048x1280.Idx from y) 0).val) fullShare f 16)
    rw [wslot_all]
    iexact Hf
  unfold WJ Land
  rw [bigSep_sep', bigSep_sep']
  isplitl [Hf]; · iexact Hf
  isplitl [Hs]; · iexact Hs
  iexact Hh
theorem WJ_unpack (c : Dev nD) (fx : Buf (Elt F) (whL c)) :
    bigSep (Finset.range 16) (fun j => WJ c fx j) ⊢
    iprop((∃ f : Buf (Elt F) (wL c), wL c ↦{fullShare} f) ∗ bigSep (Finset.range 16) (fun j => (semVal ((c : Thread nD τ), cell (j)) 0 : sProp 𝕄)) ∗ (whL c ↦{fullShare} fx)) := by
  have hl : (whL c ↦{fullShare} fx : sProp 𝕄) = bigSep (Finset.range 16) (fun j => (whL c ↦{wsh j} fx : sProp 𝕄)) := by
    rw [ShareLeaves.pointsTo_leaves Finset.univ fx 4 fullShare]
    refine Ring.bigSep_fin_eq_range 16 _ _ (fun t ht => ?_)
    show ((whL c ↦{wsh t} fx : sProp 𝕄)) = _
    rw [wsh]
    congr 3
    exact Nat.mod_eq_of_lt ht
  rw [hl]
  have hj := parts_join (F := F) (ℓ := wL c) (fun y : Idx (wL c) => ((show S16x2048x1280.Idx from y) 0).val) fullShare 16
  rw [wslot_all] at hj
  unfold WJ Land
  rw [bigSep_sep', bigSep_sep']
  iintro ⟨Hf, Hs, Hh⟩
  isplitl [Hf]
  · iapply hj
    iexact Hf
  isplitl [Hs]; · iexact Hs
  iexact Hh

/-- Slot `j` free, whichever tile it held. -/
abbrev SJ (c : Dev nD) (fx : Buf (Elt F) (shL c)) (j : ℕ) : sProp 𝕄 := Land c (cell (16 + j)) (sL c) (sslot c j) (fun _ => True) (shL c) (ssh j) fx

theorem sslot_all (c : Dev nD) : (Finset.univ.filter fun y : Idx (sL c) => ((show S4x64x1280.Idx from y) 0).val < 4) = Finset.univ := by
  ext y
  simp only [Finset.mem_filter, Finset.mem_univ, true_and, iff_true]
  exact ((show S4x64x1280.Idx from y) 0).isLt

/-- The buffer of slots, the slots' semaphores and the array the slots are filled from: the slots free, and back. -/
theorem SJ_pack (c : Dev nD) (fx : Buf (Elt F) (shL c)) :
    iprop((∃ f : Buf (Elt F) (sL c), sL c ↦{fullShare} f) ∗ bigSep (Finset.range 4) (fun j => (semVal ((c : Thread nD τ), cell (16 + j)) 0 : sProp 𝕄)) ∗ (shL c ↦{fullShare} fx))
      ⊢ bigSep (Finset.range 4) (fun j => SJ c fx j) := by
  have hl : (shL c ↦{fullShare} fx : sProp 𝕄) = bigSep (Finset.range 4) (fun j => (shL c ↦{ssh j} fx : sProp 𝕄)) := by
    rw [ShareLeaves.pointsTo_leaves Finset.univ fx 2 fullShare]
    refine Ring.bigSep_fin_eq_range 4 _ _ (fun t ht => ?_)
    show ((shL c ↦{ssh t} fx : sProp 𝕄)) = _
    rw [ssh]
    congr 3
    exact Nat.mod_eq_of_lt ht
  rw [hl]
  iintro ⟨⟨%f, Hf⟩, Hs, Hh⟩
  ihave Hf : bigSep (Finset.range 4) (fun j => iprop(∃ f : Buf (Elt F) (sL c), (sL c ↦[sslot c j]{fullShare} f) ∗ ⌜True⌝)) $$ [Hf]
  · iapply (parts_split (ℓ := sL c) (fun y : Idx (sL c) => ((show S4x64x1280.Idx from y) 0).val) fullShare f 4)
    rw [sslot_all]
    iexact Hf
  unfold SJ Land
  rw [bigSep_sep', bigSep_sep']
  isplitl [Hf]; · iexact Hf
  isplitl [Hs]; · iexact Hs
  iexact Hh
theorem SJ_unpack (c : Dev nD) (fx : Buf (Elt F) (shL c)) :
    bigSep (Finset.range 4) (fun j => SJ c fx j) ⊢
    iprop((∃ f : Buf (Elt F) (sL c), sL c ↦{fullShare} f) ∗ bigSep (Finset.range 4) (fun j => (semVal ((c : Thread nD τ), cell (16 + j)) 0 : sProp 𝕄)) ∗ (shL c ↦{fullShare} fx)) := by
  have hl : (shL c ↦{fullShare} fx : sProp 𝕄) = bigSep (Finset.range 4) (fun j => (shL c ↦{ssh j} fx : sProp 𝕄)) := by
    rw [ShareLeaves.pointsTo_leaves Finset.univ fx 2 fullShare]
    refine Ring.bigSep_fin_eq_range 4 _ _ (fun t ht => ?_)
    show ((shL c ↦{ssh t} fx : sProp 𝕄)) = _
    rw [ssh]
    congr 3
    exact Nat.mod_eq_of_lt ht
  rw [hl]
  have hj := parts_join (F := F) (ℓ := sL c) (fun y : Idx (sL c) => ((show S4x64x1280.Idx from y) 0).val) fullShare 4
  rw [sslot_all] at hj
  unfold SJ Land
  rw [bigSep_sep', bigSep_sep']
  iintro ⟨Hf, Hs, Hh⟩
  isplitl [Hf]
  · iapply hj
    iexact Hf
  isplitl [Hs]; · iexact Hs
  iexact Hh

theorem range16 (Φ : ℕ → sProp 𝕄) : bigSep (Finset.range 16) Φ = bigSepL [0,1,2,3,4,5,6,7,8,9,10,11,12,13,14,15] Φ :=
  BI.bigSep_eq_bigSepL_of_eq _ (by decide) (by decide) Φ
theorem range4 (Φ : ℕ → sProp 𝕄) : bigSep (Finset.range 4) Φ = bigSepL [0,1,2,3] Φ :=
  BI.bigSep_eq_bigSepL_of_eq _ (by decide) (by decide) Φ

/-- Before the first trip every slot is being filled. -/
theorem ring_start (c : Dev nD) (fw : Buf (Elt F) (whL c)) (fs : Buf (Elt F) (shL c)) :
    iprop((WF c fw 0 0 ∗ WF c fw 0 1 ∗ WF c fw 0 2 ∗ WF c fw 0 3) ∗ (WF c fw 1 0 ∗ WF c fw 1 1 ∗ WF c fw 1 2 ∗ WF c fw 1 3) ∗ (WF c fw 2 0 ∗ WF c fw 2 1 ∗ WF c fw 2 2 ∗ WF c fw 2 3) ∗ (WF c fw 3 0 ∗ WF c fw 3 1 ∗ WF c fw 3 2 ∗ WF c fw 3 3) ∗ SF c fs 0 ∗ SF c fs 1 ∗ SF c fs 2 ∗ SF c fs 3) ⊢ Ring c fw fs 0 := by
  unfold Ring L3 L3s
  rw [if_pos rfl, if_pos rfl]
  simp only [Nat.zero_add]
  rw [WFx_lt _ (by decide), WFx_lt _ (by decide), WFx_lt _ (by decide), WFx_lt _ (by decide), WFx_lt _ (by decide), WFx_lt _ (by decide), WFx_lt _ (by decide), WFx_lt _ (by decide),
    WFx_lt _ (by decide), WFx_lt _ (by decide), WFx_lt _ (by decide), WFx_lt _ (by decide), WFx_lt _ (by decide), WFx_lt _ (by decide), WFx_lt _ (by decide), WFx_lt _ (by decide),
    SFx_lt _ (by decide), SFx_lt _ (by decide), SFx_lt _ (by decide), SFx_lt _ (by decide)]

/-- After the last trip every slot is free. -/
theorem ring_end (c : Dev nD) (fw : Buf (Elt F) (whL c)) (fs : Buf (Elt F) (shL c)) :
    Ring c fw fs 25 ⊢ iprop(bigSep (Finset.range 16) (fun j => WJ c fw j) ∗ bigSep (Finset.range 4) (fun j => SJ c fs j)) := by
  unfold Ring L3 L3s
  rw [if_neg (by decide), if_neg (by decide), range16, range4]
  rw [WFx_ge _ (by decide), WFx_ge _ (by decide), WFx_ge _ (by decide), WFx_ge _ (by decide), WFx_ge _ (by decide), WFx_ge _ (by decide), WFx_ge _ (by decide), WFx_ge _ (by decide),
    WFx_ge _ (by decide), WFx_ge _ (by decide), WFx_ge _ (by decide), WFx_ge _ (by decide), WFx_ge _ (by decide), WFx_ge _ (by decide), WFx_ge _ (by decide),
    SFx_ge _ (by decide), SFx_ge _ (by decide), SFx_ge _ (by decide)]
  show iprop((WJ c fw 4 ∗ WJ c fw 5 ∗ WJ c fw 6 ∗ WJ c fw 7) ∗ (WJ c fw 8 ∗ WJ c fw 9 ∗ WJ c fw 10 ∗ WJ c fw 11) ∗ (WJ c fw 12 ∗ WJ c fw 13 ∗ WJ c fw 14 ∗ WJ c fw 15) ∗ (WJ c fw 0 ∗ WJ c fw 1 ∗ WJ c fw 2 ∗ WJ c fw 3) ∗ SJ c fs 1 ∗ SJ c fs 2 ∗ SJ c fs 3 ∗ SJ c fs 0) ⊢ iprop((WJ c fw 0 ∗ WJ c fw 1 ∗ WJ c fw 2 ∗ WJ c fw 3 ∗ WJ c fw 4 ∗ WJ c fw 5 ∗ WJ c fw 6 ∗ WJ c fw 7 ∗ WJ c fw 8 ∗ WJ c fw 9 ∗ WJ c fw 10 ∗ WJ c fw 11 ∗ WJ c fw 12 ∗ WJ c fw 13 ∗ WJ c fw 14 ∗ WJ c fw 15) ∗ (SJ c fs 0 ∗ SJ c fs 1 ∗ SJ c fs 2 ∗ SJ c fs 3))
  iintro ⟨⟨A4, A5, A6, A7⟩, ⟨A8, A9, A10, A11⟩, ⟨A12, A13, A14, A15⟩, ⟨A0, A1, A2, A3⟩, B1, B2, B3, B0⟩
  isplitl [A0 A1 A2 A3 A4 A5 A6 A7 A8 A9 A10 A11 A12 A13 A14 A15]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [B0]; · iexact B0
  isplitl [B1]; · iexact B1
  isplitl [B2]; · iexact B2
  iexact B3

/-- The free slots, tile by tile and block by block. -/
theorem w_free (c : Dev nD) (fw : Buf (Elt F) (whL c)) :
    bigSep (Finset.range 16) (fun j => WJ c fw j) ⊢ iprop((WFree c fw 0 0 ∗ WFree c fw 0 1 ∗ WFree c fw 0 2 ∗ WFree c fw 0 3) ∗ (WFree c fw 1 0 ∗ WFree c fw 1 1 ∗ WFree c fw 1 2 ∗ WFree c fw 1 3) ∗ (WFree c fw 2 0 ∗ WFree c fw 2 1 ∗ WFree c fw 2 2 ∗ WFree c fw 2 3) ∗ (WFree c fw 3 0 ∗ WFree c fw 3 1 ∗ WFree c fw 3 2 ∗ WFree c fw 3 3)) := by
  rw [range16]
  show iprop(WJ c fw 0 ∗ WJ c fw 1 ∗ WJ c fw 2 ∗ WJ c fw 3 ∗ WJ c fw 4 ∗ WJ c fw 5 ∗ WJ c fw 6 ∗ WJ c fw 7 ∗ WJ c fw 8 ∗ WJ c fw 9 ∗ WJ c fw 10 ∗ WJ c fw 11 ∗ WJ c fw 12 ∗ WJ c fw 13 ∗ WJ c fw 14 ∗ WJ c fw 15) ⊢ iprop((WJ c fw 0 ∗ WJ c fw 1 ∗ WJ c fw 2 ∗ WJ c fw 3) ∗ (WJ c fw 4 ∗ WJ c fw 5 ∗ WJ c fw 6 ∗ WJ c fw 7) ∗ (WJ c fw 8 ∗ WJ c fw 9 ∗ WJ c fw 10 ∗ WJ c fw 11) ∗ (WJ c fw 12 ∗ WJ c fw 13 ∗ WJ c fw 14 ∗ WJ c fw 15))
  iintro ⟨A0, A1, A2, A3, A4, A5, A6, A7, A8, A9, A10, A11, A12, A13, A14, A15⟩
  isplitl [A0 A1 A2 A3]
  · isplitl [A0]; · iexact A0
    isplitl [A1]; · iexact A1
    isplitl [A2]; · iexact A2
    iexact A3
  isplitl [A4 A5 A6 A7]
  · isplitl [A4]; · iexact A4
    isplitl [A5]; · iexact A5
    isplitl [A6]; · iexact A6
    iexact A7
  isplitl [A8 A9 A10 A11]
  · isplitl [A8]; · iexact A8
    isplitl [A9]; · iexact A9
    isplitl [A10]; · iexact A10
    iexact A11
  isplitl [A12]; · iexact A12
  isplitl [A13]; · iexact A13
  isplitl [A14]; · iexact A14
  iexact A15
theorem s_free (c : Dev nD) (fs : Buf (Elt F) (shL c)) :
    bigSep (Finset.range 4) (fun j => SJ c fs j) ⊢ iprop(SFree c fs 0 ∗ SFree c fs 1 ∗ SFree c fs 2 ∗ SFree c fs 3) := by
  rw [range4]
  exact (show iprop(SJ c fs 0 ∗ SJ c fs 1 ∗ SJ c fs 2 ∗ SJ c fs 3) ⊢ iprop(SJ c fs 0 ∗ SJ c fs 1 ∗ SJ c fs 2 ∗ SJ c fs 3) from .rfl)

/-- No copy out started yet. -/
theorem out_start (c : Dev nD) (Zf : S6x32000.Idx → Elt F .f32) :
    iprop(Any (F := F) (zL c) ∗ Any (F := F) (zhL c) ∗ semVal ((c : Thread nD τ), cell 28) 0) ⊢ |={Set.univ}=> Out c Zf 0 0 := by
  iintro ⟨⟨%f, Hz⟩, ⟨%g, Hg⟩, Hs⟩
  imod (Transfers.batch_alloc' EC (c := (c : Thread nD τ)) (E := Set.univ) () NZ (fun t : Fin 25 => OutD c Zf t.val)) $$ Hs with HB
  imodintro
  unfold Out
  rw [zge_zero, zlt_zero, pointsTo_empty]
  isplitl [Hz]
  · iexists f
    isplitl [Hz]; · iexact Hz
    ipureintro
    intro y hy
    exact absurd hy (Nat.not_lt_zero _)
  isplitr [Hg HB]
  · iempintro
  isplitl [Hg]
  · iexists g; iexact Hg
  iexact HB

/-- All copies out have landed. -/
theorem out_done (c : Dev nD) (Zf : S6x32000.Idx → Elt F .f32) :
    iprop(bigSep Finset.univ (fun t : Fin 25 => OutD c Zf t.val) ∗ (zL c ↦{fullShare.left} Zf))
      ⊢ iprop((zhL c ↦{fullShare} (Zf : Buf (Elt F) (zhL c))) ∗ Any (F := F) (zL c)) := by
  rw [Ring.bigSep_fin_eq_range 25 (fun t : Fin 25 => OutD c Zf t.val) (fun t => OutD c Zf t) (fun t h => rfl)]
  have hj := zcols_join c Zf 25
  rw [zlt_all] at hj
  iintro ⟨HB, Hl⟩
  ihave HB := hj $$ HB
  icases HB with ⟨Ha, Hr⟩
  isplitl [Ha]; · iexact Ha
  iexists Zf
  iapply (pointsTo_share (PosShare.mem_left_op_right fullShare)).2
  isplitl [Hl]; · iexact Hl
  iexact Hr

end Cert.Kernel.Hand

end
-- ==== Proof.Run.Body.lean ====
module

public import proofs.«01_k».proof.Proof.Run.Slots

/-!   The whole kernel: its parts one after another, from the arguments and free memory to the three results. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the proof. -/
local notation "𝕄" => MT nD τ sig Unit (Elt F) ℕ (Pipeline.UD sig nD τ) ℕ

/-! The candidates' values, row by row. -/

def t917 (Cn : S4x6.Idx → Elt F .i32) (Zf : S6x32000.Idx → Elt F .f32) (v : FVec F S8x1 .f32) : Vec F S6x128 .f32 :=
  k0_pay214 i8r i8l (k0_pay212 i8r i8l (wd Cn 0 0) (zbk Zf (wd Cn 0 0))) (wd Cn 0 1) ((Scalar.andi (wd Cn 0 1) 4294967168#32)) (zbk Zf (wd Cn 0 1)) (k0_pay213 i8r) (1#32) (wd Cn 0 2) (zbk Zf (wd Cn 0 2)) (wd Cn 0 3) (zbk Zf (wd Cn 0 3))
def row0 (Cn : S4x6.Idx → Elt F .i32) (Zf : S6x32000.Idx → Elt F .f32) (v : FVec F S8x1 .f32) : S1x6.Idx → Elt F .f32 :=
  k0_pay216 i8r i8l v (k0_pay210 i8r i8l) (t917 Cn Zf v) (wd Cn 0 4) ((Scalar.andi (wd Cn 0 4) 4294967168#32)) (zbk Zf (wd Cn 0 4)) (k0_pay215 i8r) (4#32) (wd Cn 0 5) (zbk Zf (wd Cn 0 5))
def t1002 (Cn : S4x6.Idx → Elt F .i32) (Zf : S6x32000.Idx → Elt F .f32) (v : FVec F S8x1 .f32) : Vec F S6x128 .f32 :=
  k0_pay218 i8r i8l (k0_pay217 (F := F)) (wd Cn 1 0) ((Scalar.andi (wd Cn 1 0) 4294967168#32)) (zbk Zf (wd Cn 1 0)) (wd Cn 1 1) (zbk Zf (wd Cn 1 1)) (wd Cn 1 2) (zbk Zf (wd Cn 1 2))
def t1051 (Cn : S4x6.Idx → Elt F .i32) (Zf : S6x32000.Idx → Elt F .f32) (v : FVec F S8x1 .f32) : FVec F S6x6 .f32 :=
  k0_pay220 i8r i8l v (t1002 Cn Zf v) (wd Cn 1 3) ((Scalar.andi (wd Cn 1 3) 4294967168#32)) (zbk Zf (wd Cn 1 3)) (wd Cn 1 4) (zbk Zf (wd Cn 1 4)) (wd Cn 1 5) (zbk Zf (wd Cn 1 5))
def row1 (Cn : S4x6.Idx → Elt F .i32) (Zf : S6x32000.Idx → Elt F .f32) (v : FVec F S8x1 .f32) : S1x6.Idx → Elt F .f32 :=
  k0_pay222 (k0_pay219 (k0_pay210 i8r i8l)) (t1051 Cn Zf v) (k0_pay221 (F := F))
def t1087 (Cn : S4x6.Idx → Elt F .i32) (Zf : S6x32000.Idx → Elt F .f32) (v : FVec F S8x1 .f32) : Vec F S6x128 .f32 :=
  k0_pay223 i8r i8l (wd Cn 2 0) (zbk Zf (wd Cn 2 0)) (wd Cn 2 1) (zbk Zf (wd Cn 2 1))
def t1129 (Cn : S4x6.Idx → Elt F .i32) (Zf : S6x32000.Idx → Elt F .f32) (v : FVec F S8x1 .f32) : Vec F S6x128 .f32 :=
  k0_pay224 i8r i8l (t1087 Cn Zf v) (wd Cn 2 2) ((Scalar.andi (wd Cn 2 2) 4294967168#32)) (zbk Zf (wd Cn 2 2)) (wd Cn 2 3) (zbk Zf (wd Cn 2 3)) (wd Cn 2 4) (zbk Zf (wd Cn 2 4))
def row2 (Cn : S4x6.Idx → Elt F .i32) (Zf : S6x32000.Idx → Elt F .f32) (v : FVec F S8x1 .f32) : S1x6.Idx → Elt F .f32 :=
  k0_pay225 i8r i8l v (k0_pay210 i8r i8l) (t1129 Cn Zf v) (wd Cn 2 5) ((Scalar.andi (wd Cn 2 5) 4294967168#32)) (zbk Zf (wd Cn 2 5))
def t1214 (Cn : S4x6.Idx → Elt F .i32) (Zf : S6x32000.Idx → Elt F .f32) (v : FVec F S8x1 .f32) : Vec F S6x128 .f32 :=
  k0_pay227 i8r i8l (k0_pay226 i8r i8l (wd Cn 3 0) (zbk Zf (wd Cn 3 0))) (wd Cn 3 1) (Scalar.andi (wd Cn 3 1) 4294967168#32) (zbk Zf (wd Cn 3 1)) (wd Cn 3 2) (zbk Zf (wd Cn 3 2)) (wd Cn 3 3) (zbk Zf (wd Cn 3 3))
def row3 (Cn : S4x6.Idx → Elt F .i32) (Zf : S6x32000.Idx → Elt F .f32) (v : FVec F S8x1 .f32) : S1x6.Idx → Elt F .f32 :=
  k0_pay228 i8r i8l v (k0_pay210 i8r i8l) (t1214 Cn Zf v) (wd Cn 3 4) (Scalar.andi (wd Cn 3 4) 4294967168#32) (zbk Zf (wd Cn 3 4)) (wd Cn 3 5) (zbk Zf (wd Cn 3 5))

/-- The candidates' values. -/
def candV (Cn : S4x6.Idx → Elt F .i32) (Zf : S6x32000.Idx → Elt F .f32) (v : FVec F S8x1 .f32) : S4x6.Idx → Elt F .f32 := fun y =>
  if (y 0).val = 0 then row0 Cn Zf v (ix2 0 (y 1)) else if (y 0).val = 1 then row1 Cn Zf v (ix2 0 (y 1))
  else if (y 0).val = 2 then row2 Cn Zf v (ix2 0 (y 1)) else row3 Cn Zf v (ix2 0 (y 1))

theorem ix_row (x : S1x6.Idx) (y : S4x6.Idx) (h : (y 1).val = (x 1).val) : x = ix2 0 (y 1) := by
  have h0 : (x 0).val < 1 := (x 0).isLt
  funext i
  apply Fin.ext
  fin_cases i
  · show (x 0).val = 0; omega
  · exact h.symm
theorem cand0 (Cn : S4x6.Idx → Elt F .i32) (Zf : S6x32000.Idx → Elt F .f32) (v : FVec F S8x1 .f32) (x : S1x6.Idx) (y : S4x6.Idx)
    (h : (y 0).val = 0) (h1 : (y 1).val = (x 1).val) : row0 Cn Zf v x = candV Cn Zf v y := by
  unfold candV
  rw [if_pos h]
  exact congrArg (row0 Cn Zf v) (ix_row x y h1)
theorem cand1 (Cn : S4x6.Idx → Elt F .i32) (Zf : S6x32000.Idx → Elt F .f32) (v : FVec F S8x1 .f32) (x : S1x6.Idx) (y : S4x6.Idx)
    (h : (y 0).val = 1) (h1 : (y 1).val = (x 1).val) : row1 Cn Zf v x = candV Cn Zf v y := by
  unfold candV
  rw [if_neg (by rw [h]; decide), if_pos h]
  exact congrArg (row1 Cn Zf v) (ix_row x y h1)
theorem cand2 (Cn : S4x6.Idx → Elt F .i32) (Zf : S6x32000.Idx → Elt F .f32) (v : FVec F S8x1 .f32) (x : S1x6.Idx) (y : S4x6.Idx)
    (h : (y 0).val = 2) (h1 : (y 1).val = (x 1).val) : row2 Cn Zf v x = candV Cn Zf v y := by
  unfold candV
  rw [if_neg (by rw [h]; decide), if_neg (by rw [h]; decide), if_pos h]
  exact congrArg (row2 Cn Zf v) (ix_row x y h1)
theorem cand3 (Cn : S4x6.Idx → Elt F .i32) (Zf : S6x32000.Idx → Elt F .f32) (v : FVec F S8x1 .f32) (x : S1x6.Idx) (y : S4x6.Idx)
    (h : (y 0).val = 3) (h1 : (y 1).val = (x 1).val) : row3 Cn Zf v x = candV Cn Zf v y := by
  unfold candV
  rw [if_neg (by rw [h]; decide), if_neg (by rw [h]; decide), if_neg (by rw [h]; decide)]
  exact congrArg (row3 Cn Zf v) (ix_row x y h1)

/-- What the kernel leaves: the logits, the log-sums, the candidates' values. -/
def zOut (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (fw : Buf (Elt F) (whL c)) (fs : Buf (Elt F) (shL c)) : S6x32000.Idx → Elt F .f32 :=
  Zfin fw fs (Lfin X) (cntAt I Ln 8) (xsV Xs) (prV Pp) (frV Fp) (reV Rp)
def lastV (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (fw : Buf (Elt F) (whL c)) (fs : Buf (Elt F) (shL c)) : FVec F S8x1 .f32 :=
  k0_pay209 (msAt fw fs (Lfin X) (cntAt I Ln 8) (xsV Xs) (prV Pp) (frV Fp) (reV Rp) 25).1 (msAt fw fs (Lfin X) (cntAt I Ln 8) (xsV Xs) (prV Pp) (frV Fp) (reV Rp) 25).2
def lOut (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (fw : Buf (Elt F) (whL c)) (fs : Buf (Elt F) (shL c)) : S6.Idx → Elt F .f32 := k0_pay211 i8r i8l (lastV c X I Xs Ln Pp Fp Rp fw fs)
def cOut (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (fw : Buf (Elt F) (whL c)) (fs : Buf (Elt F) (shL c)) (Cn : S4x6.Idx → Elt F .i32) : S4x6.Idx → Elt F .f32 := candV Cn (zOut c X I Xs Ln Pp Fp Rp fw fs) (lastV c X I Xs Ln Pp Fp Rp fw fs)

variable (c : Dev nD) (X : S6x8192.Idx → Elt F .fp8e4m3) (I : S6x4096.Idx → Elt F .i32) (Xs : S6.Idx → Elt F .f32) (Ln : S6.Idx → Elt F .i32) (Pp : S6.Idx → Elt F .f32) (Fp : S6.Idx → Elt F .f32) (Rp : S6.Idx → Elt F .f32) (Cn : S4x6.Idx → Elt F .i32)
  (fw : Buf (Elt F) (whL c)) (fs : Buf (Elt F) (shL c))

/-- Everything but the results: the core's memory with some contents, the semaphores at zero, the arguments as they are. -/
def Rest : sProp 𝕄 :=
  iprop((Any (F := F) ((Memref.whole cc0_scratch0).view.loc (c : Thread nD τ)) ∗ Any (F := F) ((Memref.whole cc0_scratch1).view.loc (c : Thread nD τ)) ∗ Any (F := F) ((Memref.whole cc0_scratch2).view.loc (c : Thread nD τ)) ∗ Any (F := F) ((Memref.whole cc0_scratch3).view.loc (c : Thread nD τ)) ∗ Any (F := F) ((Memref.whole cc0_scratch4).view.loc (c : Thread nD τ)) ∗ Any (F := F) ((Memref.whole cc0_scratch5).view.loc (c : Thread nD τ)) ∗ Any (F := F) ((Memref.whole cc0_scratch6).view.loc (c : Thread nD τ)) ∗ Any (F := F) ((Memref.whole cc0_scratch7).view.loc (c : Thread nD τ)) ∗ Any (F := F) ((Memref.whole cc0_scratch8).view.loc (c : Thread nD τ)) ∗ Any (F := F) ((Memref.whole cc0_scratch9).view.loc (c : Thread nD τ)) ∗ Any (F := F) ((Memref.whole cc0_scratch10).view.loc (c : Thread nD τ)) ∗ Any (F := F) ((Memref.whole cc0_scratch11).view.loc (c : Thread nD τ)) ∗ Any (F := F) ((Memref.whole cc0_scratch12).view.loc (c : Thread nD τ)) ∗ Any (F := F) ((Memref.whole cc0_scratch13).view.loc (c : Thread nD τ)) ∗ Any (F := F) ((Memref.whole cc0_scratch14).view.loc (c : Thread nD τ)))
    ∗ (bigSep (Finset.range 16) (fun j => (semVal ((c : Thread nD τ), cell j) 0 : sProp 𝕄)) ∗ bigSep (Finset.range 4) (fun j => (semVal ((c : Thread nD τ), cell (16 + j)) 0 : sProp 𝕄)) ∗ semVal ((c : Thread nD τ), cell 20) 0 ∗ semVal ((c : Thread nD τ), cell 21) 0 ∗ semVal ((c : Thread nD τ), cell 22) 0 ∗ semVal ((c : Thread nD τ), cell 23) 0 ∗ semVal ((c : Thread nD τ), cell 24) 0 ∗ semVal ((c : Thread nD τ), cell 25) 0 ∗ semVal ((c : Thread nD τ), cell 26) 0 ∗ semVal ((c : Thread nD τ), cell 27) 0 ∗ semVal ((c : Thread nD τ), cell 28) 0 ∗ semVal ((c : Thread nD τ), cell 29) 0 ∗ semVal ((c : Thread nD τ), cell 30) 0)
    ∗ ((((Memref.whole main_arg0).view.loc (c : Thread nD τ)) ↦{fullShare} (X : Buf (Elt F) ((Memref.whole main_arg0).view.loc (c : Thread nD τ)))) ∗ (((Memref.whole main_arg1).view.loc (c : Thread nD τ)) ↦{fullShare} (Xs : Buf (Elt F) ((Memref.whole main_arg1).view.loc (c : Thread nD τ)))) ∗ (((Memref.whole main_arg2).view.loc (c : Thread nD τ)) ↦{fullShare} (fw : Buf (Elt F) ((Memref.whole main_arg2).view.loc (c : Thread nD τ)))) ∗ (((Memref.whole main_arg3).view.loc (c : Thread nD τ)) ↦{fullShare} (fs : Buf (Elt F) ((Memref.whole main_arg3).view.loc (c : Thread nD τ)))) ∗ (((Memref.whole main_arg4).view.loc (c : Thread nD τ)) ↦{fullShare} (I : Buf (Elt F) ((Memref.whole main_arg4).view.loc (c : Thread nD τ)))) ∗ (((Memref.whole main_arg5).view.loc (c : Thread nD τ)) ↦{fullShare} (Ln : Buf (Elt F) ((Memref.whole main_arg5).view.loc (c : Thread nD τ)))) ∗ (((Memref.whole main_arg6).view.loc (c : Thread nD τ)) ↦{fullShare} (Pp : Buf (Elt F) ((Memref.whole main_arg6).view.loc (c : Thread nD τ)))) ∗ (((Memref.whole main_arg7).view.loc (c : Thread nD τ)) ↦{fullShare} (Fp : Buf (Elt F) ((Memref.whole main_arg7).view.loc (c : Thread nD τ)))) ∗ (((Memref.whole main_arg8).view.loc (c : Thread nD τ)) ↦{fullShare} (Rp : Buf (Elt F) ((Memref.whole main_arg8).view.loc (c : Thread nD τ)))) ∗ (((Memref.whole main_v0).view.loc (c : Thread nD τ)) ↦{fullShare} (Cn : Buf (Elt F) ((Memref.whole main_v0).view.loc (c : Thread nD τ))))))

set_option maxHeartbeats 4000000 in
theorem run_body (hC : ∀ y, (show BitVec 32 from Cn y).toNat < 32000) :
    iprop(Rest c X I Xs Ln Pp Fp Rp Cn fw fs ∗ Any (F := F) (lhL c) ∗ Any (F := F) (chL c) ∗ Any (F := F) (zhL c) ∗ Ow (F := F) c)
      ⊢ WP c (cc0_fp8_head_logits (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19)
        (fun _ => iprop(Rest c X I Xs Ln Pp Fp Rp Cn fw fs ∗ (lhL c ↦{fullShare} (lOut c X I Xs Ln Pp Fp Rp fw fs : Buf (Elt F) (lhL c))) ∗ (chL c ↦{fullShare} ((cOut c X I Xs Ln Pp Fp Rp fw fs Cn) : Buf (Elt F) (chL c)))
          ∗ (zhL c ↦{fullShare} ((zOut c X I Xs Ln Pp Fp Rp fw fs) : Buf (Elt F) (zhL c))) ∗ Ow (F := F) c)) := by
  unfold Rest cc0_fp8_head_logits
  iintro ⟨⟨⟨S0, S1, S2, S3, S4, S5, S6, S7, S8, S9, S10, S11, S12, S13, S14⟩, ⟨QW, QS, Q20, Q21, Q22, Q23, Q24, Q25, Q26, Q27, Q28, Q29, Q30⟩, ⟨H0, H1, H2, H3, H4, H5, H6, H7, H8, H9⟩⟩, RL, RC, RZ, HO⟩
  ihave HW : bigSep (Finset.range 16) (fun j => WJ c fw j) $$ [S0 QW H2]
  · iapply (WJ_pack c fw)
    isplitl [S0]; · iexact S0
    isplitl [QW]; · iexact QW
    iexact H2
  ihave HW := (w_free c fw) $$ HW
  icases HW with ⟨W0, W1, W2, W3⟩
  ihave HS : bigSep (Finset.range 4) (fun j => SJ c fs j) $$ [S1 QS H3]
  · iapply (SJ_pack c fs)
    isplitl [S1]; · iexact S1
    isplitl [QS]; · iexact QS
    iexact H3
  ihave HS := (s_free c fs) $$ HS
  icases HS with ⟨T0, T1, T2, T3⟩
  ihave D20 : C020 c X $$ [S3 Q20 H0]
  · unfold C020 Land
    icases S3 with ⟨%f, S3⟩
    isplitl [S3]
    · iexists f
      isplitl [S3]; · iexact S3
      ipureintro; trivial
    isplitl [Q20]; · iexact Q20
    iexact H0
  ihave D21 : C021 c I $$ [S4 Q21 H4]
  · unfold C021 Land
    icases S4 with ⟨%f, S4⟩
    isplitl [S4]
    · iexists f
      isplitl [S4]; · iexact S4
      ipureintro; trivial
    isplitl [Q21]; · iexact Q21
    iexact H4
  ihave D22 : C022 c Xs $$ [S9 Q22 H1]
  · unfold C022 Land
    icases S9 with ⟨%f, S9⟩
    isplitl [S9]
    · iexists f
      isplitl [S9]; · iexact S9
      ipureintro; trivial
    isplitl [Q22]; · iexact Q22
    iexact H1
  ihave D23 : C023 c Ln $$ [S10 Q23 H5]
  · unfold C023 Land
    icases S10 with ⟨%f, S10⟩
    isplitl [S10]
    · iexists f
      isplitl [S10]; · iexact S10
      ipureintro; trivial
    isplitl [Q23]; · iexact Q23
    iexact H5
  ihave D24 : C024 c Pp $$ [S11 Q24 H6]
  · unfold C024 Land
    icases S11 with ⟨%f, S11⟩
    isplitl [S11]
    · iexists f
      isplitl [S11]; · iexact S11
      ipureintro; trivial
    isplitl [Q24]; · iexact Q24
    iexact H6
  ihave D25 : C025 c Fp $$ [S12 Q25 H7]
  · unfold C025 Land
    icases S12 with ⟨%f, S12⟩
    isplitl [S12]
    · iexists f
      isplitl [S12]; · iexact S12
      ipureintro; trivial
    isplitl [Q25]; · iexact Q25
    iexact H7
  ihave D26 : C026 c Rp $$ [S13 Q26 H8]
  · unfold C026 Land
    icases S13 with ⟨%f, S13⟩
    isplitl [S13]
    · iexists f
      isplitl [S13]; · iexact S13
      ipureintro; trivial
    isplitl [Q26]; · iexact Q26
    iexact H8
  ihave D27 : C027 c Cn $$ [S14 Q27 H9]
  · unfold C027 Land
    icases S14 with ⟨%f, S14⟩
    isplitl [S14]
    · iexists f
      isplitl [S14]; · iexact S14
      ipureintro; trivial
    isplitl [Q27]; · iexact Q27
    iexact H9
  iapply (run_part29 c X I Xs Ln Pp Fp Rp Cn fs) $$ [D20 D21 D22 D23 D24 D25 D26 D27 T0]
  · isplitl [D20]; · iexact D20
    isplitl [D21]; · iexact D21
    isplitl [D22]; · iexact D22
    isplitl [D23]; · iexact D23
    isplitl [D24]; · iexact D24
    isplitl [D25]; · iexact D25
    isplitl [D26]; · iexact D26
    isplitl [D27]; · iexact D27
    iexact T0
  iintro ⟨D20, D21, D22, D23, D24, D25, D26, D27, T0⟩
  try dsimp only
  iapply (run_part30 c fw) $$ W0
  iintro W0
  try dsimp only
  icases W1 with ⟨W10, W11, W12, W13⟩
  iapply (run_part31 c fw fs) $$ [T1 W10 W11 W12]
  · isplitl [T1]; · iexact T1
    isplitl [W10]; · iexact W10
    isplitl [W11]; · iexact W11
    iexact W12
  iintro ⟨T1, W10, W11, W12⟩
  try dsimp only
  icases W2 with ⟨W20, W21, W22, W23⟩
  iapply (run_part32 c fw fs) $$ [W13 T2 W20]
  · isplitl [W13]; · iexact W13
    isplitl [T2]; · iexact T2
    iexact W20
  iintro ⟨W13, T2, W20⟩
  try dsimp only
  iapply (run_part33 c fw fs) $$ [W21 W22 W23 T3]
  · isplitl [W21]; · iexact W21
    isplitl [W22]; · iexact W22
    isplitl [W23]; · iexact W23
    iexact T3
  iintro ⟨W21, W22, W23, T3⟩
  try dsimp only
  iapply (run_part34 c fw) $$ W3
  iintro W3
  try dsimp only
  ihave HR : Ring c fw fs 0 $$ [W0 W10 W11 W12 W13 W20 W21 W22 W23 W3 T0 T1 T2 T3]
  · iapply (ring_start c fw fs)
    isplitl [W0]; · iexact W0
    isplitl [W10 W11 W12 W13]
    · isplitl [W10]; · iexact W10
      isplitl [W11]; · iexact W11
      isplitl [W12]; · iexact W12
      iexact W13
    isplitl [W20 W21 W22 W23]
    · isplitl [W20]; · iexact W20
      isplitl [W21]; · iexact W21
      isplitl [W22]; · iexact W22
      iexact W23
    isplitl [W3]; · iexact W3
    isplitl [T0]; · iexact T0
    isplitl [T1]; · iexact T1
    isplitl [T2]; · iexact T2
    iexact T3
  ihave HL : Lh c X 0 $$ [S2]
  · unfold Lh
    icases S2 with ⟨%f, S2⟩
    iexists f
    isplitl [S2]; · iexact S2
    ipureintro
    intro y hy
    exact absurd hy (Nat.not_lt_zero _)
  iapply (run_part35 c X) $$ [D20 HO HL]
  · isplitl [D20]; · iexact D20
    isplitl [HO]; · iexact HO
    iexact HL
  iintro ⟨Q20, H0, HO, HX, HL⟩
  try dsimp only
  iapply (run_part36 c X) $$ [HX HL]
  · isplitl [HX]; · iexact HX
    iexact HL
  iintro %v243 ⟨HX, HL⟩
  try dsimp only
  iapply (run_part37 c X _) $$ [HX HL]
  · isplitl [HX]; · iexact HX
    iexact HL
  iintro ⟨HX, HL⟩
  try dsimp only
  iapply (run_part38 c X) $$ [HX HL]
  · isplitl [HX]; · iexact HX
    iexact HL
  iintro ⟨HX, HL⟩
  try dsimp only
  iapply (run_part39 c X) $$ [HX HL]
  · isplitl [HX]; · iexact HX
    iexact HL
  iintro ⟨HX, HL⟩
  try dsimp only
  iapply (run_part40 c X) $$ [HX HL]
  · isplitl [HX]; · iexact HX
    iexact HL
  iintro ⟨HX, HL⟩
  try dsimp only
  iapply (run_part41 c X) $$ [HX HL]
  · isplitl [HX]; · iexact HX
    iexact HL
  iintro ⟨HX, HL⟩
  try dsimp only
  iapply (run_part42 c X) $$ [HX HL]
  · isplitl [HX]; · iexact HX
    iexact HL
  iintro ⟨HX, HL⟩
  try dsimp only
  iapply (run_part43 c X) $$ [HX HL]
  · isplitl [HX]; · iexact HX
    iexact HL
  iintro ⟨HX, HL⟩
  try dsimp only
  iapply (run_part44 c X) $$ [HX HL]
  · isplitl [HX]; · iexact HX
    iexact HL
  iintro ⟨HX, HL⟩
  try dsimp only
  iapply (run_part45 c X) $$ [HX HL]
  · isplitl [HX]; · iexact HX
    iexact HL
  iintro ⟨HX, HL⟩
  try dsimp only
  iapply (run_part46 c X) $$ [HX HL]
  · isplitl [HX]; · iexact HX
    iexact HL
  iintro ⟨HX, HL⟩
  try dsimp only
  iapply (run_part47 c X) $$ [HX HL]
  · isplitl [HX]; · iexact HX
    iexact HL
  iintro ⟨HX, HL⟩
  try dsimp only
  iapply (run_part48 c X) $$ [HX HL]
  · isplitl [HX]; · iexact HX
    iexact HL
  iintro ⟨HX, HL⟩
  try dsimp only
  iapply (run_part49 c I Xs Ln Pp Fp Rp Cn) $$ [D21 D22 D23 D24 D25 D26 D27 S5 HO]
  · isplitl [D21]; · iexact D21
    isplitl [D22]; · iexact D22
    isplitl [D23]; · iexact D23
    isplitl [D24]; · iexact D24
    isplitl [D25]; · iexact D25
    isplitl [D26]; · iexact D26
    isplitl [D27]; · iexact D27
    isplitl [S5]; · iexact S5
    iexact HO
  iintro ⟨D21, D22, D23, D24, D25, D26, D27, E21, E22, E23, E24, E25, E26, E27, HC, HO⟩
  try dsimp only
  iapply (run_part50 c Xs Pp) $$ [D22 D24]
  · isplitl [D22]; · iexact D22
    iexact D24
  iintro ⟨D22, D24⟩
  try dsimp only
  iapply (run_part51 c Pp Fp) $$ [D24 D25]
  · isplitl [D24]; · iexact D24
    iexact D25
  iintro ⟨D24, D25⟩
  try dsimp only
  iapply (fupd_wp _ _ _ _)
  imod (out_start c (zOut c X I Xs Ln Pp Fp Rp fw fs)) $$ [S6 RZ Q28] with HT
  · isplitl [S6]; · iexact S6
    isplitl [RZ]; · iexact RZ
    iexact Q28
  imodintro
  unfold Lh
  icases HL with ⟨%Lf, HL, %hL⟩
  have hLf : Lf = Lfin X := funext fun y => hL y (y 1).isLt
  rw [hLf]
  ihave HI : Inv fw fs (Lfin X) (cntAt I Ln 8) (xsV Xs) (prV Pp) (frV Fp) (reV Rp) 0 (k0_pay206, k0_pay207) $$ [HR HT HO HL HC]
  · unfold Inv
    isplitr [HR HT HO HL HC]; · ipureintro; rfl
    isplitl [HR]; · iexact HR
    isplitl [HT]; · iexact HT
    isplitl [HO]; · iexact HO
    isplitl [HL]; · iexact HL
    iexact HC
  iapply (run_part52 c Xs Pp Fp Rp fw fs (Lfin X) (cntAt I Ln 8)) $$ [D26 HI]
  · isplitl [D26]; · iexact D26
    iexact HI
  iintro %a ⟨D26, HI⟩
  try dsimp only
  rw [trips_eq]
  unfold Inv
  icases HI with ⟨%ha, HR, HT, HO, HL, HC⟩
  rw [ha]
  ihave HR := (ring_end c fw fs) $$ HR
  icases HR with ⟨HW, HS⟩
  iapply (run_part53 c Cn (zOut c X I Xs Ln Pp Fp Rp fw fs) (cOut c X I Xs Ln Pp Fp Rp fw fs Cn) hC _ _ _) $$ [HT D27 S7 S8]
  · isplitl [HT]; · iexact HT
    isplitl [D27]; · iexact D27
    isplitl [S7]; · iexact S7
    iexact S8
  iintro ⟨HV, S8, HB⟩
  try dsimp only
  iapply (run_part54 c Cn (zOut c X I Xs Ln Pp Fp Rp fw fs) (cOut c X I Xs Ln Pp Fp Rp fw fs Cn) hC _ _ _ _ _ _ _ _) $$ HV
  iintro HV
  try dsimp only
  iapply (run_part55 c Cn (zOut c X I Xs Ln Pp Fp Rp fw fs) (cOut c X I Xs Ln Pp Fp Rp fw fs Cn) hC _ _ _ _ _ _ _ _ _ _ (cand0 Cn (zOut c X I Xs Ln Pp Fp Rp fw fs) (lastV c X I Xs Ln Pp Fp Rp fw fs))) $$ HV
  iintro HV
  try dsimp only
  iapply (run_part56 c Cn (zOut c X I Xs Ln Pp Fp Rp fw fs) (cOut c X I Xs Ln Pp Fp Rp fw fs Cn) hC _ _ _ _ _ _) $$ HV
  iintro HV
  try dsimp only
  iapply (run_part57 c Cn (zOut c X I Xs Ln Pp Fp Rp fw fs) (cOut c X I Xs Ln Pp Fp Rp fw fs Cn) hC _ _ _ _ _ _ _ _) $$ HV
  iintro HV
  try dsimp only
  iapply (run_part58 c Cn (zOut c X I Xs Ln Pp Fp Rp fw fs) (cOut c X I Xs Ln Pp Fp Rp fw fs Cn) hC _ _ _ _ _ (cand1 Cn (zOut c X I Xs Ln Pp Fp Rp fw fs) (lastV c X I Xs Ln Pp Fp Rp fw fs))) $$ HV
  iintro HV
  try dsimp only
  iapply (run_part59 c Cn (zOut c X I Xs Ln Pp Fp Rp fw fs) (cOut c X I Xs Ln Pp Fp Rp fw fs Cn) hC _ _ _ _ _ _) $$ HV
  iintro HV
  try dsimp only
  iapply (run_part60 c Cn (zOut c X I Xs Ln Pp Fp Rp fw fs) (cOut c X I Xs Ln Pp Fp Rp fw fs Cn) hC _ _ _ _ _ _ _ _ (cand2 Cn (zOut c X I Xs Ln Pp Fp Rp fw fs) (lastV c X I Xs Ln Pp Fp Rp fw fs))) $$ HV
  iintro HV
  try dsimp only
  iapply (run_part61 c Cn (zOut c X I Xs Ln Pp Fp Rp fw fs) (cOut c X I Xs Ln Pp Fp Rp fw fs Cn) hC _ _ _ _ _ _) $$ HV
  iintro HV
  try dsimp only
  iapply (run_part62 c Cn (zOut c X I Xs Ln Pp Fp Rp fw fs) (cOut c X I Xs Ln Pp Fp Rp fw fs Cn) hC _ _ _ _ _ _ _ _ (cand3 Cn (zOut c X I Xs Ln Pp Fp Rp fw fs) (lastV c X I Xs Ln Pp Fp Rp fw fs)) (lOut c X I Xs Ln Pp Fp Rp fw fs)) $$ [HV S8 RL Q29]
  · isplitl [HV]; · iexact HV
    isplitl [S8]; · iexact S8
    isplitl [RL]; · iexact RL
    iexact Q29
  iintro ⟨HV, F29⟩
  try dsimp only
  unfold Tl
  icases HV with ⟨D27, HZl, S7⟩
  iapply (run_part63 c (zOut c X I Xs Ln Pp Fp Rp fw fs) (cOut c X I Xs Ln Pp Fp Rp fw fs Cn) (lOut c X I Xs Ln Pp Fp Rp fw fs)) $$ [S7 RC Q30 F29 HB HO]
  · isplitl [S7]; · iexact S7
    isplitl [RC]; · iexact RC
    isplitl [Q30]; · iexact Q30
    isplitl [F29]; · iexact F29
    isplitl [HB]; · iexact HB
    iexact HO
  iintro ⟨RL, S8, Q29, RC, S7, Q30, HB, HO⟩
  try dsimp only
  iapply (run_part64 c (zOut c X I Xs Ln Pp Fp Rp fw fs)) $$ [HB HO]
  · isplitl [HB]; · iexact HB
    iexact HO
  iintro ⟨HB, HO⟩
  try dsimp only
  iapply (run_part65 c (zOut c X I Xs Ln Pp Fp Rp fw fs)) $$ [HB HO]
  · isplitl [HB]; · iexact HB
    iexact HO
  iintro ⟨HB, HO⟩
  try dsimp only
  iapply (run_part66 c (zOut c X I Xs Ln Pp Fp Rp fw fs)) $$ [HB HO]
  · isplitl [HB]; · iexact HB
    iexact HO
  iintro ⟨HB, HO⟩
  try dsimp only
  iapply (z_wait c 23 (by decide) rfl) $$ [HB HO]
  · isplitl [HB]; · iexact HB
    iexact HO
  iintro ⟨HB, HO⟩
  iapply (z_last c rfl) $$ [HB HO]
  · isplitl [HB]; · iexact HB
    iexact HO
  iintro ⟨HB, Q28, HO⟩
  ihave HZ : iprop((zhL c ↦{fullShare} ((zOut c X I Xs Ln Pp Fp Rp fw fs) : Buf (Elt F) (zhL c))) ∗ Any (F := F) (zL c)) $$ [HB HZl]
  · iapply (out_done c (zOut c X I Xs Ln Pp Fp Rp fw fs))
    isplitl [HB]; · iexact HB
    iexact HZl
  icases HZ with ⟨RZ, S6⟩
  unfold WP; rw [Prog.pure_eq_ret, wp_ret]; imodintro
  ihave HW := (WJ_unpack c fw) $$ HW
  icases HW with ⟨S0, QW, H2⟩
  ihave HS := (SJ_unpack c fs) $$ HS
  icases HS with ⟨S1, QS, H3⟩
  icases E21 with ⟨Q21, H4⟩
  icases E22 with ⟨Q22, H1⟩
  icases E23 with ⟨Q23, H5⟩
  icases E24 with ⟨Q24, H6⟩
  icases E25 with ⟨Q25, H7⟩
  icases E26 with ⟨Q26, H8⟩
  icases E27 with ⟨Q27, H9⟩
  isplitl [S0 S1 HL HX D21 HC S6 S7 S8 D22 D23 D24 D25 D26 D27 QW QS Q20 Q21 Q22 Q23 Q24 Q25 Q26 Q27 Q28 Q29 Q30 H0 H1 H2 H3 H4 H5 H6 H7 H8 H9]
  · isplitl [S0 S1 HL HX D21 HC S6 S7 S8 D22 D23 D24 D25 D26 D27]
    · isplitl [S0]; · iexact S0
      isplitl [S1]; · iexact S1
      isplitl [HL]; · iexists _; iexact HL
      isplitl [HX]; · iexists _; iexact HX
      isplitl [D21]; · iexists _; iexact D21
      isplitl [HC]; · iexists _; iexact HC
      isplitl [S6]; · iexact S6
      isplitl [S7]; · iexists _; iexact S7
      isplitl [S8]; · iexists _; iexact S8
      isplitl [D22]; · iexists _; iexact D22
      isplitl [D23]; · iexists _; iexact D23
      isplitl [D24]; · iexists _; iexact D24
      isplitl [D25]; · iexists _; iexact D25
      isplitl [D26]; · iexists _; iexact D26
      iexists _; iexact D27
    isplitl [QW QS Q20 Q21 Q22 Q23 Q24 Q25 Q26 Q27 Q28 Q29 Q30]
    · isplitl [QW]; · iexact QW
      isplitl [QS]; · iexact QS
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      iexact Q30
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [RL]; · iexact RL
  isplitl [RC]; · iexact RC
  isplitl [RZ]; · iexact RZ
  iexact HO

end Cert.Kernel.Hand

end
-- ==== Proof.Run.Launch.lean ====
module

public import proofs.«01_k».proof.Proof.Run.Body
public import proofs.«01_k».proof.Proof.Gen.Kernel.Frame
public import Idealize.ShloMosaic.Lib.Pipeline.FrameSuffixV

/-!   The whole program: the candidates turned, the kernel, the candidates' values turned back. -/

@[expose] public section

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the proof. -/
local notation "𝕄" => MT nD τ sig Unit (Elt F) ℕ (Pipeline.UD sig nD τ) ℕ

variable (m : (ℓ : Loc nD τ sig) → Buf (Elt F) ℓ) (ρ : Dev nD → PrngReg)

theorem sep_assoc_e (P Q R : sProp 𝕄) : iprop((P ∗ Q) ∗ R) = iprop(P ∗ Q ∗ R) :=
  equiv_iff.mp ⟨Idealize.SL.BI.sep_assoc, Idealize.SL.BI.sep_assoc'⟩

theorem assoc3 (P Q R S : sProp 𝕄) : iprop(P ∗ Q ∗ R ∗ S) = iprop((P ∗ Q ∗ R) ∗ S) := by
  rw [sep_assoc_e, sep_assoc_e]
theorem assoc31 (a : ℕ → sProp 𝕄) : iprop((a 0 ∗ a 1 ∗ a 2 ∗ a 3 ∗ a 4 ∗ a 5 ∗ a 6 ∗ a 7 ∗ a 8 ∗ a 9 ∗ a 10 ∗ a 11 ∗ a 12 ∗ a 13 ∗ a 14 ∗ a 15) ∗ (a 16 ∗ a 17 ∗ a 18 ∗ a 19) ∗ a 20 ∗ a 21 ∗ a 22 ∗ a 23 ∗ a 24 ∗ a 25 ∗ a 26 ∗ a 27 ∗ a 28 ∗ a 29 ∗ a 30) = iprop(a 0 ∗ a 1 ∗ a 2 ∗ a 3 ∗ a 4 ∗ a 5 ∗ a 6 ∗ a 7 ∗ a 8 ∗ a 9 ∗ a 10 ∗ a 11 ∗ a 12 ∗ a 13 ∗ a 14 ∗ a 15 ∗ a 16 ∗ a 17 ∗ a 18 ∗ a 19 ∗ a 20 ∗ a 21 ∗ a 22 ∗ a 23 ∗ a 24 ∗ a 25 ∗ a 26 ∗ a 27 ∗ a 28 ∗ a 29 ∗ a 30) := by
  simp only [sep_assoc_e]

/-- The kernel's copies' cells. -/
abbrev osem0 : Fin 31 → SemLoc sig := fun j => SemLoc.dma j
theorem ownSemFacts0 : Pipeline.OwnSemFacts (cfg0.spec) osem0 := by decide
/-- What the kernel reads. -/
def H0 : Finset (Ref sig .tc) := {main_arg0, main_arg1, main_arg2, main_arg3, main_arg4, main_arg5, main_arg6, main_arg7, main_arg8, main_v0}
theorem H0_sub : H0 ⊆ Pipeline.restRefs sig (cfg0.spec) := by decide
/-- What it writes. -/
def R0 : Finset (Ref sig .tc) := {main_v1_0, main_v1_1, main_v1_2}
theorem R0_sub : R0 ⊆ Pipeline.restRefs sig (cfg0.spec) \ H0 := by decide

/-- The three results of core `c` for what it finds. -/
def lV (c : Dev nD) : S6.Idx → Elt F .f32 := lOut c (V m c main_arg0) (V m c main_arg4) (V m c main_arg1) (V m c main_arg5) (V m c main_arg6) (V m c main_arg7) (V m c main_arg8) (V m c main_arg2) (V m c main_arg3)
def cV (c : Dev nD) : S4x6.Idx → Elt F .f32 := cOut c (V m c main_arg0) (V m c main_arg4) (V m c main_arg1) (V m c main_arg5) (V m c main_arg6) (V m c main_arg7) (V m c main_arg8) (V m c main_arg2) (V m c main_arg3) (V m c main_v0)
def zV (c : Dev nD) : S6x32000.Idx → Elt F .f32 := zOut c (V m c main_arg0) (V m c main_arg4) (V m c main_arg1) (V m c main_arg5) (V m c main_arg6) (V m c main_arg7) (V m c main_arg8) (V m c main_arg2) (V m c main_arg3)

/-- The buffers after the kernel. -/
def G (c : Dev nD) : (b : Ref sig .tc) → Buf (Elt F) ((c.tc : Thread nD τ).loc b) :=
  Function.update (Function.update (Function.update (V m c) main_v1_0 (lV m c)) main_v1_1 (cV m c)) main_v1_2 (zV m c)

theorem G_0 (c : Dev nD) : G m c main_v1_0 = lV m c := by
  unfold G
  rw [Function.update_of_ne (by decide), Function.update_of_ne (by decide), Function.update_self]
theorem G_1 (c : Dev nD) : G m c main_v1_1 = cV m c := by
  unfold G
  rw [Function.update_of_ne (by decide), Function.update_self]
theorem G_2 (c : Dev nD) : G m c main_v1_2 = zV m c := by
  unfold G
  rw [Function.update_self]

theorem sems_eq (c : Dev nD) :
    (Pipeline.ownSems0 (Ix := Unit) (Name := ℕ) (U := Pipeline.UD sig nD τ) (Lvl := ℕ) (Val := Elt F) (τ := τ) osem0 c : sProp 𝕄)
      = iprop(bigSep (Finset.range 16) (fun j => (semVal ((c : Thread nD τ), cell j) 0 : sProp 𝕄)) ∗ bigSep (Finset.range 4) (fun j => (semVal ((c : Thread nD τ), cell (16 + j)) 0 : sProp 𝕄)) ∗ semVal ((c : Thread nD τ), cell 20) 0 ∗ semVal ((c : Thread nD τ), cell 21) 0 ∗ semVal ((c : Thread nD τ), cell 22) 0 ∗ semVal ((c : Thread nD τ), cell 23) 0 ∗ semVal ((c : Thread nD τ), cell 24) 0 ∗ semVal ((c : Thread nD τ), cell 25) 0 ∗ semVal ((c : Thread nD τ), cell 26) 0 ∗ semVal ((c : Thread nD τ), cell 27) 0 ∗ semVal ((c : Thread nD τ), cell 28) 0 ∗ semVal ((c : Thread nD τ), cell 29) 0 ∗ semVal ((c : Thread nD τ), cell 30) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide), range16, range4]
  exact (assoc31 fun j => semVal ((c : Thread nD τ), cell j) 0).symm

theorem H_eq (c : Dev nD) :
    (bigSep H0 (fun b => ((c.tc : Thread nD τ).loc b) ↦{fullShare} V m c b) : sProp 𝕄)
      = iprop((((Memref.whole main_arg0).view.loc (c : Thread nD τ)) ↦{fullShare} (V m c main_arg0 : Buf (Elt F) ((Memref.whole main_arg0).view.loc (c : Thread nD τ)))) ∗ (((Memref.whole main_arg1).view.loc (c : Thread nD τ)) ↦{fullShare} (V m c main_arg1 : Buf (Elt F) ((Memref.whole main_arg1).view.loc (c : Thread nD τ)))) ∗ (((Memref.whole main_arg2).view.loc (c : Thread nD τ)) ↦{fullShare} (V m c main_arg2 : Buf (Elt F) ((Memref.whole main_arg2).view.loc (c : Thread nD τ)))) ∗ (((Memref.whole main_arg3).view.loc (c : Thread nD τ)) ↦{fullShare} (V m c main_arg3 : Buf (Elt F) ((Memref.whole main_arg3).view.loc (c : Thread nD τ)))) ∗ (((Memref.whole main_arg4).view.loc (c : Thread nD τ)) ↦{fullShare} (V m c main_arg4 : Buf (Elt F) ((Memref.whole main_arg4).view.loc (c : Thread nD τ)))) ∗ (((Memref.whole main_arg5).view.loc (c : Thread nD τ)) ↦{fullShare} (V m c main_arg5 : Buf (Elt F) ((Memref.whole main_arg5).view.loc (c : Thread nD τ)))) ∗ (((Memref.whole main_arg6).view.loc (c : Thread nD τ)) ↦{fullShare} (V m c main_arg6 : Buf (Elt F) ((Memref.whole main_arg6).view.loc (c : Thread nD τ)))) ∗ (((Memref.whole main_arg7).view.loc (c : Thread nD τ)) ↦{fullShare} (V m c main_arg7 : Buf (Elt F) ((Memref.whole main_arg7).view.loc (c : Thread nD τ)))) ∗ (((Memref.whole main_arg8).view.loc (c : Thread nD τ)) ↦{fullShare} (V m c main_arg8 : Buf (Elt F) ((Memref.whole main_arg8).view.loc (c : Thread nD τ)))) ∗ (((Memref.whole main_v0).view.loc (c : Thread nD τ)) ↦{fullShare} (V m c main_v0 : Buf (Elt F) ((Memref.whole main_v0).view.loc (c : Thread nD τ))))) := by
  rw [BI.bigSep_eq_bigSepL_of_eq [main_arg0, main_arg1, main_arg2, main_arg3, main_arg4, main_arg5, main_arg6, main_arg7, main_arg8, main_v0] (by decide) (by decide)]; rfl

theorem R_eq (c0 : Dev nD) (g : (b : Ref sig .tc) → Buf (Elt F) ((c0.tc : Thread nD τ).loc b)) :
    (bigSep R0 (fun b => ((c0.tc : Thread nD τ).loc b) ↦{fullShare} g b) : sProp 𝕄)
      = iprop((lhL c0 ↦{fullShare} (g main_v1_0 : Buf (Elt F) (lhL c0))) ∗ (chL c0 ↦{fullShare} (g main_v1_1 : Buf (Elt F) (chL c0))) ∗ (zhL c0 ↦{fullShare} (g main_v1_2 : Buf (Elt F) (zhL c0)))) := by
  rw [BI.bigSep_eq_bigSepL_of_eq [main_v1_0, main_v1_1, main_v1_2] (by decide) (by decide)]; rfl

/-- What the region is entered with and left with, as the kernel's own account of it. -/
theorem phi_eq (c : Dev nD) (g : (c : Dev nD) → (b : Ref sig .tc) → Buf (Elt F) ((c.tc : Thread nD τ).loc b)) :
    (Pipeline.ΦDRV osem0 (cfg0.spec) H0 R0 (V m) g c : sProp 𝕄)
      = iprop(Rest c (V m c main_arg0) (V m c main_arg4) (V m c main_arg1) (V m c main_arg5) (V m c main_arg6) (V m c main_arg7) (V m c main_arg8) (V m c main_v0) (V m c main_arg2) (V m c main_arg3) ∗ (lhL c ↦{fullShare} (g c main_v1_0 : Buf (Elt F) (lhL c))) ∗ (chL c ↦{fullShare} (g c main_v1_1 : Buf (Elt F) (chL c))) ∗ (zhL c ↦{fullShare} (g c main_v1_2 : Buf (Elt F) (zhL c)))) := by
  unfold Pipeline.ΦDRV
  rw [scopedRest0_eq, sems_eq, H_eq, R_eq]
  unfold Rest
  exact assoc3 _ _ _ _

/-- The proof data: before the kernel the buffers as found, after it the results. -/
def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Pipeline.ΦDRV osem0 (cfg0.spec) H0 R0 (V m) (V m) c else Pipeline.ΦDRV osem0 (cfg0.spec) H0 R0 (V m) (G m) c
  q _ := fullShare
  owed _ := 0

theorem phi_first (c : Dev nD) (t : Fin (cfg0.N + 1)) (h : t.val = 0) :
    (dats m 0 c).Φ t = Pipeline.ΦDRV osem0 (cfg0.spec) H0 R0 (V m) (V m) c := if_pos h
theorem phi_last (c : Dev nD) (t : Fin (cfg0.N + 1)) (h : t.val ≠ 0) :
    (dats m 0 c).Φ t = Pipeline.ΦDRV osem0 (cfg0.spec) H0 R0 (V m) (G m) c := if_neg h

theorem sound_body (c : Dev nD) (hC : ∀ y, (show BitVec 32 from V m c main_v0 y).toNat < 32000) (t : Fin cfg0.N) :
    iprop((dats m 0 c).Φ t.castSucc ∗ (dats m 0 c).owesAt () t.castSucc)
      ⊢ wp Idealize.ShloMosaic.frame (wpE (defs₀ (F := F)) Variants.none (c : Thread nD τ) none) Set.univ (bodyAt0 t) (fun _ => iprop((dats m 0 c).Φ t.succ ∗ (dats m 0 c).owesAt () t.succ)) := by
  have ht : t.val = 0 := congrArg Fin.val (fin_N0 t)
  rw [phi_first m c t.castSucc ht, phi_last m c t.succ (Nat.succ_ne_zero _), phi_eq, phi_eq, G_0, G_1, G_2]
  unfold Dat.owesAt Pipeline.owesWithin
  rw [show (dats m 0 c).owed t.castSucc = 0 from rfl, show (dats m 0 c).owed t.succ = 0 from rfl]
  refine BIBase.Entails.trans ?_ ((run_body c (V m c main_arg0) (V m c main_arg4) (V m c main_arg1) (V m c main_arg5) (V m c main_arg6) (V m c main_arg7) (V m c main_arg8) (V m c main_v0) (V m c main_arg2) (V m c main_arg3) hC).trans (wp_mono _ _ _ fun _ => ?_))
  · iintro ⟨⟨HR, HL, HC, HZ⟩, ⟨%W, -, HW⟩⟩
    isplitl [HR]; · iexact HR
    isplitl [HL]; · iexists _; iexact HL
    isplitl [HC]; · iexists _; iexact HC
    isplitl [HZ]; · iexists _; iexact HZ
    iapply (show owes (c : Thread nD τ) 0 W ⊢ Ow (F := F) c from by
      unfold Ow
      iintro H
      iexists W
      iexact H) $$ HW
  · unfold Ow lV cV zV
    iintro ⟨HR, HL, HC, HZ, ⟨%W, HW⟩⟩
    isplitr [HW]
    · isplitl [HR]; · iexact HR
      isplitl [HL]; · iexact HL
      isplitl [HC]; · iexact HC
      iexact HZ
    · iexists W
      isplitr
      · ipureintro
        exact fun _ _ => Or.inl trivial
      · iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) (hC : ∀ y, (show BitVec 32 from V m c main_v0 y).toNat < 32000) :
    BodyObligation (dats (F := F) m 0 c) (defs₀ (F := F)) Variants.none () Set.univ := fun t => by
  have hz (Φ : Fin cfg0.W → sProp 𝕄) : bigSep Finset.univ Φ = BI.emp := by
    rw [show (Finset.univ : Finset (Fin cfg0.W)) = ∅ from rfl, BI.bigSep_empty]
  rw [defs₀_row, hz, hz]
  refine triple_restated (sound_body m c hC t) rfl ?_ fun _ => ?_
  · iintro ⟨H1, H2, -⟩
    isplitl [H1]; · iexact H1
    iexact H2
  · iintro ⟨H1, H2⟩
    isplitl [H1]; · iexact H1
    isplitl [H2]; · iexact H2
    iempintro

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers after the whole program. -/
abbrev Vend (c : Dev nD) : Valuation τ sig (Elt F) :=
  StableHlo.after [hostOps1].flatten (Pipeline.withArrays (cfg0.spec) c (Pipeline.withR (V0 m c) R0 c (G m c)) fun w => (dats m 0 c).arrAt w (cfg0).N)

theorem end_keep (c : Dev nD) (b : Ref sig .tc) (h : b ≠ main_v2) :
    Vend m c (Proc.devRef .tc b) = Pipeline.withR (V0 m c) R0 c (G m c) (Proc.devRef .tc b) := by
  unfold Vend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne h)),
    Pipeline.withArrays_of_ne _ c _ _ b (fun w => w.elim0)]

theorem end_arg (c : Dev nD) (b : Ref sig .tc) (h : b ≠ main_v2) (hR : b ∉ R0) (hm : V m c b = m ((c : Thread nD τ).loc b)) :
    Vend m c (Proc.devRef .tc b) = m ((c : Thread nD τ).loc b) := by
  rw [end_keep m c b h, Pipeline.withR_of_not_mem _ _ _ _ b hR]
  exact hm

theorem end_res (c : Dev nD) (b : Ref sig .tc) (h : b ≠ main_v2) (hR : b ∈ R0) :
    Vend m c (Proc.devRef .tc b) = G m c b := by
  rw [end_keep m c b h, Pipeline.withR_of_mem _ _ _ _ b hR]

theorem end_v2 (c : Dev nD) :
    Vend m c (Proc.devRef .tc main_v2) = transpose S6x4 [1, 0] (cV m c) transposes_S4x6_S6x4_1_0 := by
  unfold Vend
  rw [show ([hostOps1] : List (List (HloOp τ sig (Elt F)))).flatten = hostOps1 from rfl, StableHlo.after_cons, StableHlo.after_nil, StableHlo.unary_result,
    Pipeline.withArrays_of_ne _ c _ _ main_v1_1 (fun w => w.elim0), Pipeline.withR_of_mem _ _ _ _ main_v1_1 (by decide), G_1]

theorem V_v0 (c : Dev nD) :
    V m c main_v0 = transpose S4x6 [1, 0] (m ((c : Thread nD τ).loc main_arg9)) transposes_S6x4_S4x6_1_0 := by
  unfold V V0
  rw [show ([hostOps0] : List (List (HloOp τ sig (Elt F)))).flatten = hostOps0 from rfl, StableHlo.after_cons, StableHlo.after_nil, StableHlo.unary_result]

/-- The run: the arguments stay, the three results are the ones named, every semaphore ends at zero. -/
theorem run_main (hC : ∀ c y, (show BitVec 32 from V m c main_v0 y).toNat < 32000) :
    θ_run defs (onTc (τ := τ) (main (F := F))) ⟨m, fun _ => 0, ρ⟩ (fun r => (∀ c : Dev nD,
      r.2.mem ((c.tc : Thread nD τ).loc main_v1_0) = lV m c
      ∧ r.2.mem ((c.tc : Thread nD τ).loc main_v2) = transpose S6x4 [1, 0] (cV m c) transposes_S4x6_S6x4_1_0
      ∧ r.2.mem ((c.tc : Thread nD τ).loc main_v1_2) = zV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c (hC c)).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := fun c w => w.elim0)
    (hin := fun c => Entails.of_eq (phi_first m c 0 rfl).symm) (hout := fun c => Entails.of_eq (phi_last m c (Fin.last cfg0.N) (by decide)))
    (Q' := _)
    (hQ' := fun r h => ⟨fun c =>
      have hr (b : Ref sig .tc) (hb : b ∈ Pipeline.restRefs sig (cfg0.spec)) : r.2.mem ((c.tc : Thread nD τ).loc b) = Vend m c (Proc.devRef .tc b) := (h.1 c).2 b hb
      ⟨(hr main_v1_0 (by decide)).trans ((end_res m c main_v1_0 (by decide) (by decide)).trans (G_0 m c)),
       (hr main_v2 (by decide)).trans (end_v2 m c),
       (hr main_v1_2 (by decide)).trans ((end_res m c main_v1_2 (by decide) (by decide)).trans (G_2 m c)),
       (hr main_arg0 (by decide)).trans (end_arg m c main_arg0 (by decide) (by decide) (V_main_arg0 m c)),
       (hr main_arg1 (by decide)).trans (end_arg m c main_arg1 (by decide) (by decide) (V_main_arg1 m c)),
       (hr main_arg2 (by decide)).trans (end_arg m c main_arg2 (by decide) (by decide) (V_main_arg2 m c)),
       (hr main_arg3 (by decide)).trans (end_arg m c main_arg3 (by decide) (by decide) (V_main_arg3 m c)),
       (hr main_arg4 (by decide)).trans (end_arg m c main_arg4 (by decide) (by decide) (V_main_arg4 m c)),
       (hr main_arg5 (by decide)).trans (end_arg m c main_arg5 (by decide) (by decide) (V_main_arg5 m c)),
       (hr main_arg6 (by decide)).trans (end_arg m c main_arg6 (by decide) (by decide) (V_main_arg6 m c)),
       (hr main_arg7 (by decide)).trans (end_arg m c main_arg7 (by decide) (by decide) (V_main_arg7 m c)),
       (hr main_arg8 (by decide)).trans (end_arg m c main_arg8 (by decide) (by decide) (V_main_arg8 m c)),
       (hr main_arg9 (by decide)).trans (end_arg m c main_arg9 (by decide) (by decide) (V_main_arg9 m c))⟩, h.2⟩)

end Cert.Kernel.Hand

end
-- ==== Proof.Value.Twin.lean ====
module

public import proofs.«01_k».proof.Proof.Gen.Kernel
public import proofs.«01_k».proof.Proof.Gen.KernelIdeal
public import Idealize.ShloMosaic.Lib.Tactic

@[expose] public section
noncomputable section
namespace Cert.Value
open Idealize.ShloMosaic Idealize.ShloMosaic.TcCoe Idealize.ShloMosaic.Tactic
open Idealize.SL Idealize.SL.Sem

variable {F : FTy → Type} [FloatOps F]

/-- The program as read for exact arithmetic is the program as printed: running the one is running the other. -/
theorem run_twin (m : (ℓ : Loc Cert.KernelIdeal.nD Cert.KernelIdeal.τ Cert.KernelIdeal.sig) → Buf (Elt F) ℓ) (ρ : Dev Cert.KernelIdeal.nD → PrngReg)
    (Q : PUnit × MemSt Cert.KernelIdeal.nD Cert.KernelIdeal.τ Cert.KernelIdeal.sig (Elt F) → Prop) :
    θ_run (Cert.KernelIdeal.defs (F := F)) (onTc (τ := Cert.KernelIdeal.τ) (Cert.KernelIdeal.main (F := F))) ⟨m, fun _ => 0, ρ⟩ Q
      = θ_run (Cert.Kernel.defs (F := F)) (onTc (τ := Cert.Kernel.τ) (Cert.Kernel.main (F := F))) ⟨m, fun _ => 0, ρ⟩ Q := by
  sl_kernel_rfl

end Cert.Value
end
-- ==== Proof.Value.Pre.lean ====
module

public import proofs.«01_k».proof.Proof.Run.Launch
public import proofs.«01_k».proof.Proof.Value.Twin
public import proofs.«01_k».proof.Pre_in_range

/-!   The precondition gives what the kernel's reads of its own logits need: each candidate is a column. -/

@[expose] public section

noncomputable section

namespace Cert.Value

open Idealize.ShloMosaic Idealize.ShloMosaic.TcCoe Idealize.SL.Sem

variable {F : FTy → Type} [FloatOps F]

theorem pre_facts : Cert.Pre_in_range.Facts where
  bcast_S_S6x4 := by decide

/-- A word that is neither negative nor at least 32000, as signed words go, is a column. -/
theorem word_lt (x : BitVec 32) (h : IntOp.andi (IntOp.cmpi .sge x 0#32) (IntOp.cmpi .slt x 32000#32) = 1#1) : x.toNat < 32000 := by
  have h1 : (0#32).sle x = true ∧ x.slt 32000#32 = true := by
    have : ∀ a b : Bool, (BitVec.ofBool a &&& BitVec.ofBool b) = 1#1 → a = true ∧ b = true := by decide
    exact this _ _ h
  obtain ⟨ha, hb⟩ := h1
  rw [BitVec.sle_iff_toInt_le] at ha
  rw [BitVec.slt_iff_toInt_lt] at hb
  have e0 : (0#32).toInt = 0 := by decide
  have e1 : (32000#32).toInt = 32000 := by decide
  rw [e0] at ha
  rw [e1] at hb
  have := BitVec.toInt_eq_toNat_cond x
  have hx := x.isLt
  split at this <;> omega

/-- The kernel's run under the precondition. -/
theorem cand_ok (m : (ℓ : Loc Cert.Kernel.nD Cert.Kernel.τ Cert.Kernel.sig) → Buf (Elt F) ℓ)
    (h : ∀ c : Dev Cert.Kernel.nD, @Cert.Pre_in_range.fn pre_facts F _ (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) = (fun _ => 1#1))
    (c : Dev Cert.Kernel.nD) (y) : (show BitVec 32 from Cert.Kernel.Gen.V m c Cert.Kernel.main_v0 y).toNat < 32000 := by
  rw [Cert.Kernel.Hand.V_v0]
  exact word_lt _ (congrFun (h c) _)

end Cert.Value
end
-- ==== Proof.Value.Rows.lean ====
module

public import proofs.«01_k».proof.Proof.Run.Pro
public import Idealize.ShloMosaic.Lib.Pointwise

/-!   Six words put on the rows of a group of columns: row `b` holds word `b`. -/

@[expose] public section

set_option maxRecDepth 16384

noncomputable section

namespace Cert.Value

open Cert.Kernel Cert.Kernel.Gen Cert.Kernel.Hand Idealize.ShloMosaic Idealize.ShloMosaic.TcCoe

theorem iota8 (b : Fin 8) (l : Fin 128) : i8r (ix2 b l) = BitVec.ofNat 32 b.val := by
  pointwise [i8r]

theorem xsV_at (g : S6.Idx → Elt Ideal .f32) (b : Fin 6) (l : Fin 128) :
    xsV (F := Ideal) g (ix2 (⟨b.val, by omega⟩ : Fin 8) l) = g (ix1 b) := by
  fin_cases b <;>
    (simp only [xsV, k0_pay196, k0_pay197, k0_pay198, select, cmpi, broadcast, iota8, svx]; rfl)

theorem prV_at (g : S6.Idx → Elt Ideal .f32) (b : Fin 6) (l : Fin 128) :
    prV (F := Ideal) g (ix2 (⟨b.val, by omega⟩ : Fin 8) l) = g (ix1 b) := by
  fin_cases b <;>
    (simp only [prV, k0_pay199, k0_pay200, k0_pay201, select, cmpi, broadcast, iota8, svx]; rfl)

theorem frV_at (g : S6.Idx → Elt Ideal .f32) (b : Fin 6) (l : Fin 128) :
    frV (F := Ideal) g (ix2 (⟨b.val, by omega⟩ : Fin 8) l) = g (ix1 b) := by
  fin_cases b <;>
    (simp only [frV, k0_pay202, select, cmpi, broadcast, iota8, svx]; rfl)

theorem reV_at (g : S6.Idx → Elt Ideal .f32) (b : Fin 6) (l : Fin 128) :
    reV (F := Ideal) g (ix2 (⟨b.val, by omega⟩ : Fin 8) l) = g (ix1 b) := by
  fin_cases b <;>
    (simp only [reV, k0_pay203, k0_pay204, k0_pay205, select, cmpi, broadcast, iota8, svx]; rfl)

end Cert.Value
end
-- ==== Proof.Value.Mat.lean ====
module

public import proofs.«01_k».proof.Proof.Run.Lhs
public import Idealize.ShloMosaic.Lib.Pointwise

/-!   The kernel's unscaled logits: the even and the odd halves of the scale blocks, each a sum over 128 rows. -/

@[expose] public section

set_option maxRecDepth 16384

noncomputable section

namespace Cert.Value

open Cert.Kernel Cert.Kernel.Gen Cert.Kernel.Hand Idealize.ShloMosaic Idealize.ShloMosaic.TcCoe

variable {c : Dev nD} (X : S6x8192.Idx → EReal)

/-- The upper half of the prepared activations holds the even scale blocks, and zeros. -/
theorem lhs_up (b : Fin 6) (j : Fin 8192) :
    Lfin (F := Ideal) X (ix2 (⟨b.val, by omega⟩ : Fin 16) j) = if j.val / 128 % 2 = 0 then X (ix2 b j) else 0 := by
  have hb := b.isLt
  have hj := j.isLt
  have e1 : (⟨b.val % 16, Nat.mod_lt _ (by decide)⟩ : Fin 16) = ⟨b.val, by omega⟩ := Fin.ext (Nat.mod_eq_of_lt (by omega))
  have e2 : 128 * (j.val / 128) / 128 = j.val / 128 := by omega
  have e3 : (⟨(128 * (j.val / 128) + j.val % 128) % 8192, Nat.mod_lt _ (by decide)⟩ : Fin 8192) = j := Fin.ext (by show (128 * (j.val / 128) + j.val % 128) % 8192 = j.val; omega)
  show lcol (F := Ideal) X (128 * (j.val / 128)) (ix2 (⟨b.val % 16, _⟩ : Fin 16) (⟨j.val % 128, _⟩ : Fin 128)) = _
  unfold lcol
  rw [e2, e1]
  split
  · pointwise [k0_pay123, k0_pay121, k0_pay122, xblk]
    rw [dif_pos (by omega), e3]
    exact congrArg X (congrArg (ix2 · j) (Fin.ext (Nat.mod_eq_of_lt hb)))
  · pointwise [k0_pay124, k0_pay121, k0_pay122, xblk]
    rw [dif_pos (by omega)]

/-- The lower half holds the odd scale blocks, and zeros. -/
theorem lhs_dn (b : Fin 6) (j : Fin 8192) :
    Lfin (F := Ideal) X (ix2 (⟨8 + b.val, by omega⟩ : Fin 16) j) = if j.val / 128 % 2 = 0 then 0 else X (ix2 b j) := by
  have hb := b.isLt
  have hj := j.isLt
  have e1 : (⟨(8 + b.val) % 16, Nat.mod_lt _ (by decide)⟩ : Fin 16) = ⟨8 + b.val, by omega⟩ := Fin.ext (Nat.mod_eq_of_lt (by omega))
  have e2 : 128 * (j.val / 128) / 128 = j.val / 128 := by omega
  have e3 : (⟨(128 * (j.val / 128) + j.val % 128) % 8192, Nat.mod_lt _ (by decide)⟩ : Fin 8192) = j := Fin.ext (by show (128 * (j.val / 128) + j.val % 128) % 8192 = j.val; omega)
  show lcol (F := Ideal) X (128 * (j.val / 128)) (ix2 (⟨(8 + b.val) % 16, _⟩ : Fin 16) (⟨j.val % 128, _⟩ : Fin 128)) = _
  unfold lcol
  rw [e2, e1]
  split
  · pointwise [k0_pay123, k0_pay121, k0_pay122, xblk]
  · pointwise [k0_pay124, k0_pay121, k0_pay122, xblk]
    rw [e3]
    exact congrArg X (congrArg (ix2 · j) (Fin.ext (Nat.mod_eq_of_lt hb)))

/-- One product at an element. -/
theorem prodB_at (fw : Buf (Elt Ideal) (whL c)) (L : S16x8192.Idx → EReal) (t n : ℕ) (r : Fin 16) (cc : Fin 1280) :
    prodB (F := Ideal) fw L t n (ix2 r cc) = ∑ k : Fin 256, HMul.hMul (α := EReal) (β := EReal) (γ := EReal)
      (L (ix2 r ⟨(256 * n + k.val) % 8192, Nat.mod_lt _ (by decide)⟩))
      (fw (ixW (2048 * (n / 8) + (256 * (n % 8) + k.val)) (1280 * t + cc.val))) := by
  have e : (⟨r.val % 16, Nat.mod_lt _ (by decide)⟩ : Fin 16) = r := Fin.ext (Nat.mod_eq_of_lt r.isLt)
  pointwise [prodB, lblk, wblk]
  simp only [e]

variable (fw : Buf (Elt Ideal) (whL c)) (fs : Buf (Elt Ideal) (shL c))

/-- A sum over 256 rows with the second half zero, or with the first half zero. -/
theorem sum_256 (f : ℕ → EReal) : ∑ k : Fin 256, f k.val = ∑ k : Fin 128, f k.val + ∑ k : Fin 128, f (128 + k.val) := by
  rw [Fin.sum_univ_add (a := 128) (b := 128) (fun k : Fin (128 + 128) => f k.val)]
  rfl

/-- The product of the even scale block `2 * n` with its rows of the weights. -/
def blockDot (b : Fin 6) (v : ℕ) (n : ℕ) : EReal :=
  ∑ k : Fin 128, HMul.hMul (α := EReal) (β := EReal) (γ := EReal) (X (ix2 b ⟨(128 * n + k.val) % 8192, Nat.mod_lt _ (by decide)⟩)) (fw (ixW (128 * n + k.val) v))

theorem prod_up (t n : ℕ) (hn : n < 32) (b : Fin 6) (cc : Fin 1280) :
    prodB (F := Ideal) fw (Lfin (F := Ideal) X) t n (ix2 (⟨b.val, by omega⟩ : Fin 16) cc) = blockDot X fw b (1280 * t + cc.val) (2 * n) := by
  rw [prodB_at]
  simp only [lhs_up]
  have h := sum_256 (fun k => HMul.hMul (α := EReal) (β := EReal) (γ := EReal)
    (if (256 * n + k) % 8192 / 128 % 2 = 0 then X (ix2 b ⟨(256 * n + k) % 8192, Nat.mod_lt _ (by decide)⟩) else 0)
    (fw (ixW (2048 * (n / 8) + (256 * (n % 8) + k)) (1280 * t + cc.val))))
  refine h.trans ?_
  have hz : ∀ (a b : EReal), b = 0 → a + b = a := fun a b h => by rw [h, add_zero]
  refine (hz _ _ (Finset.sum_eq_zero fun k _ => ?_)).trans (Finset.sum_congr rfl fun k _ => ?_)
  · have hk := k.isLt
    rw [if_neg (by omega)]
    exact zero_mul _
  · have hk := k.isLt
    have a1 : 2048 * (n / 8) + (256 * (n % 8) + k.val) = 128 * (2 * n) + k.val := by omega
    have a2 : 256 * n + k.val = 128 * (2 * n) + k.val := by omega
    rw [if_pos (by omega), a1]
    simp only [a2]

theorem prod_dn (t n : ℕ) (hn : n < 32) (b : Fin 6) (cc : Fin 1280) :
    prodB (F := Ideal) fw (Lfin (F := Ideal) X) t n (ix2 (⟨8 + b.val, by omega⟩ : Fin 16) cc) = blockDot X fw b (1280 * t + cc.val) (2 * n + 1) := by
  rw [prodB_at]
  simp only [lhs_dn]
  have h := sum_256 (fun k => HMul.hMul (α := EReal) (β := EReal) (γ := EReal)
    (if (256 * n + k) % 8192 / 128 % 2 = 0 then 0 else X (ix2 b ⟨(256 * n + k) % 8192, Nat.mod_lt _ (by decide)⟩))
    (fw (ixW (2048 * (n / 8) + (256 * (n % 8) + k)) (1280 * t + cc.val))))
  refine h.trans ?_
  have hz : ∀ (a b : EReal), a = 0 → a + b = b := fun a b h => by rw [h, zero_add]
  refine (hz _ _ (Finset.sum_eq_zero fun k _ => ?_)).trans (Finset.sum_congr rfl fun k _ => ?_)
  · have hk := k.isLt
    rw [if_pos (by omega)]
    exact zero_mul _
  · have hk := k.isLt
    have a1 : 2048 * (n / 8) + (256 * (n % 8) + (128 + k.val)) = 128 * (2 * n + 1) + k.val := by omega
    have a2 : 256 * n + (128 + k.val) = 128 * (2 * n + 1) + k.val := by omega
    rw [if_neg (by omega), a1]
    simp only [a2]

/-- The running sums at an element. -/
theorem accE_at (t n : ℕ) (hn : n ≤ 32) (b : Fin 6) (cc : Fin 1280) :
    accE (F := Ideal) fw fs (Lfin (F := Ideal) X) t n (ix2 (⟨b.val, by omega⟩ : Fin 8) cc)
      = ∑ k : Fin n, HMul.hMul (α := EReal) (β := EReal) (γ := EReal) (blockDot X fw b (1280 * t + cc.val) (2 * k.val)) (fs (ixS (2 * k.val) (1280 * t + cc.val))) := by
  induction n with
  | zero =>
    rw [Finset.univ_eq_empty, Finset.sum_empty]
    pointwise [accE, k0_pay12]
  | succ n ih =>
    rw [Fin.sum_univ_castSucc]
    have h1 := prod_up X fw t n (by omega) b cc
    have h2 := ih (by omega)
    pointwise [accE, sclB, sblk]
    rw [h1, h2]
    rfl

theorem accO_at (t n : ℕ) (hn : n ≤ 32) (b : Fin 6) (cc : Fin 1280) :
    accO (F := Ideal) fw fs (Lfin (F := Ideal) X) t n (ix2 (⟨b.val, by omega⟩ : Fin 8) cc)
      = ∑ k : Fin n, HMul.hMul (α := EReal) (β := EReal) (γ := EReal) (blockDot X fw b (1280 * t + cc.val) (2 * k.val + 1)) (fs (ixS (2 * k.val + 1) (1280 * t + cc.val))) := by
  induction n with
  | zero =>
    rw [Finset.univ_eq_empty, Finset.sum_empty]
    pointwise [accO, k0_pay13]
  | succ n ih =>
    rw [Fin.sum_univ_castSucc]
    have h1 := prod_dn X fw t n (by omega) b cc
    have h2 := ih (by omega)
    pointwise [accO, sclB, sblk]
    rw [h1, h2]
    rfl

/-- A sum over 64 blocks, the even ones and the odd ones apart. -/
theorem sum_64 (f : ℕ → EReal) : ∑ k : Fin 64, f k.val = ∑ k : Fin 32, f (2 * k.val) + ∑ k : Fin 32, f (2 * k.val + 1) := by
  have e : ∀ n : ℕ, ∑ k : Fin (2 * n), f k.val = ∑ k : Fin n, f (2 * k.val) + ∑ k : Fin n, f (2 * k.val + 1) := by
    intro n
    simp only [Fin.sum_univ_eq_sum_range f, Fin.sum_univ_eq_sum_range (fun k => f (2 * k)), Fin.sum_univ_eq_sum_range (fun k => f (2 * k + 1))]
    induction n with
    | zero => simp
    | succ n ih =>
      rw [show 2 * (n + 1) = 2 * n + 1 + 1 from by ring, Finset.sum_range_succ, Finset.sum_range_succ, ih, Finset.sum_range_succ, Finset.sum_range_succ]
      abel
  exact e 32

/-- The unscaled logits at an element. -/
theorem zraw_at (t : ℕ) (b : Fin 6) (cc : Fin 1280) :
    zraw (F := Ideal) fw fs (Lfin (F := Ideal) X) t (ix2 (⟨b.val, by omega⟩ : Fin 8) cc)
      = ∑ k : Fin 64, HMul.hMul (α := EReal) (β := EReal) (γ := EReal) (blockDot X fw b (1280 * t + cc.val) k.val) (fs (ixS k.val (1280 * t + cc.val))) := by
  refine Eq.trans ?_ (sum_64 fun k => HMul.hMul (α := EReal) (β := EReal) (γ := EReal) (blockDot X fw b (1280 * t + cc.val) k) (fs (ixS k (1280 * t + cc.val)))).symm
  rw [← accE_at X fw fs t 32 (le_refl _) b cc, ← accO_at X fw fs t 32 (le_refl _) b cc]
  rfl

end Cert.Value
end
-- ==== Proof.Value.Count.lean ====
module

public import proofs.«01_k».proof.Proof.Run.Cnt
public import Idealize.ShloMosaic.Lib.Pointwise

/-!   The kernel's counts: a product of two one-hot rows is the number of earlier words equal to a column. -/

@[expose] public section

set_option maxRecDepth 16384

noncomputable section

namespace Cert.Value

open Cert.Kernel Cert.Kernel.Gen Cert.Kernel.Hand Idealize.ShloMosaic Idealize.ShloMosaic.TcCoe

variable (I : S6x4096.Idx → BitVec 32) (Ln : S6.Idx → BitVec 32)

/-- Whether the earlier word `w`, the `h`-th of `len`, is column `v`. -/
def hit (w len : BitVec 32) (h v : ℕ) : EReal := if w = BitVec.ofNat 32 v ∧ (BitVec.ofNat 32 h).slt len = true then 1 else 0

theorem word_01 (p : Bool) : FloatOps.sitofp (F := Ideal) .f32 ((BitVec.ofBool p).setWidth 32) = (if p = true then 1 else 0 : EReal) := by
  cases p
  · show (((BitVec.setWidth 32 (BitVec.ofBool false)).toInt : ℝ) : EReal) = 0
    rw [show (BitVec.setWidth 32 (BitVec.ofBool false)).toInt = 0 from by decide]; simp
  · show (((BitVec.setWidth 32 (BitVec.ofBool true)).toInt : ℝ) : EReal) = 1
    rw [show (BitVec.setWidth 32 (BitVec.ofBool true)).toInt = 1 from by decide]; simp

/-- A word is `128 * r + l` when it divided by 128 is `r`, and `l` is what remains. -/
theorem word_split (w : BitVec 32) (r l : ℕ) (hr : r < 256) (hl : l < 128) :
    (BitVec.ofNat 32 r = w >>> (7#32) ∧ BitVec.ofNat 32 l = w &&& 127#32) ↔ w = BitVec.ofNat 32 (128 * r + l) := by
  have hw := w.isLt
  have e1 : (w >>> (7#32)).toNat = w.toNat / 128 := by
    rw [BitVec.ushiftRight_eq', BitVec.toNat_ushiftRight, Nat.shiftRight_eq_div_pow]; rfl
  have e2 : (w &&& 127#32).toNat = w.toNat % 128 := by
    rw [BitVec.toNat_and]
    exact Nat.and_two_pow_sub_one_eq_mod w.toNat 7
  rw [← BitVec.toNat_inj, ← BitVec.toNat_inj, ← BitVec.toNat_inj, e1, e2, BitVec.toNat_ofNat, BitVec.toNat_ofNat, BitVec.toNat_ofNat]
  omega

theorem hit_kernel (w len : BitVec 32) (k x r l : ℕ) (hr : r < 256) (hl : l < 128) :
    HMul.hMul (α := EReal) (β := EReal) (γ := EReal)
      (FloatOps.sitofp (F := Ideal) .f32 ((IntOp.cmpi .eq (BitVec.ofNat 32 r)
        (Scalar.select (IntOp.cmpi .slt (IntOp.addi (Scalar.muli (Scf.iv 0#32 1#32 k) 512#32) (BitVec.ofNat 32 x)) len)
          (IntOp.shrui .vector w 7#32) 4294967295#32)).setWidth 32))
      (FloatOps.sitofp (F := Ideal) .f32 ((IntOp.cmpi .eq (BitVec.ofNat 32 l) (IntOp.andi w 127#32)).setWidth 32))
    = hit w len (512 * k + x) (128 * r + l) := by
  have e1 : IntOp.addi (Scalar.muli (Scf.iv 0#32 1#32 k) 512#32) (BitVec.ofNat 32 x) = BitVec.ofNat 32 (512 * k + x) := by
    show (0#32 + BitVec.ofNat 32 k * 1#32) * 512#32 + BitVec.ofNat 32 x = _
    rw [BitVec.zero_add, BitVec.mul_one, ← BitVec.ofNat_mul, ← BitVec.ofNat_add, Nat.mul_comm]
  have e2 : IntOp.shrui .vector w 7#32 = w >>> (7#32) := rfl
  rw [e1, e2]
  unfold hit
  show HMul.hMul (α := EReal) (β := EReal) (γ := EReal)
      (FloatOps.sitofp (F := Ideal) .f32 ((BitVec.ofBool (BitVec.ofNat 32 r == Scalar.select (BitVec.ofBool ((BitVec.ofNat 32 (512 * k + x)).slt len)) (w >>> (7#32)) 4294967295#32)).setWidth 32))
      (FloatOps.sitofp (F := Ideal) .f32 ((BitVec.ofBool (BitVec.ofNat 32 l == w &&& 127#32)).setWidth 32)) = _
  rw [word_01, word_01]
  simp only [← word_split w r l hr hl]
  cases hs : (BitVec.ofNat 32 (512 * k + x)).slt len
  · have : ¬ (BitVec.ofNat 32 r = 4294967295#32) := by
      rw [← BitVec.toNat_inj, BitVec.toNat_ofNat, BitVec.toNat_ofNat]; omega
    simp [Scalar.select, this]
  · by_cases h1 : BitVec.ofNat 32 r = w >>> (7#32) <;> by_cases h2 : BitVec.ofNat 32 l = w &&& 127#32 <;>
      simp [Scalar.select, h1, h2]

/-- One trip's counts at an element. -/
theorem cupd_at (k : Fin k0_t1_loop.trips) (b : ℕ) (p : Vec Ideal S256x128 .f32) (r : Fin 256) (l : Fin 128) :
    cupd (F := Ideal) I Ln k b p (ix2 r l) = HAdd.hAdd (α := EReal) (β := EReal) (γ := EReal) (p (ix2 r l)) (∑ x : Fin 512,
      hit (I (ix2 ⟨b % 6, Nat.mod_lt _ (by decide)⟩ ⟨(512 * k.val + x.val) % 4096, Nat.mod_lt _ (by decide)⟩)) (svx (F := Ideal) (e := .i32) Ln b) (512 * k.val + x.val) (128 * r.val + l.val)) := by
  have h := fun (x : Fin 512) => hit_kernel (I (ix2 ⟨b % 6, Nat.mod_lt _ (by decide)⟩ ⟨(512 * k.val + x.val) % 4096, Nat.mod_lt _ (by decide)⟩)) (svx (F := Ideal) (e := .i32) Ln b) k.val x.val r.val l.val r.isLt l.isLt
  pointwise [cupd, k0_pay2, k0_pay1, idrow]
  exact congrArg _ (Finset.sum_congr rfl fun x _ => h x)

/-- The counts before trip `n`. -/
theorem cntAt_at (b : Fin 6) (r : Fin 256) (l : Fin 128) (n : ℕ) (hn : n ≤ 8) :
    cntAt (F := Ideal) I Ln n (ix2 (⟨256 * b.val + r.val, by omega⟩ : Fin 2048) l)
      = ∑ k : Fin n, ∑ x : Fin 512, hit (I (ix2 b ⟨(512 * k.val + x.val) % 4096, Nat.mod_lt _ (by decide)⟩)) (Ln (ix1 b)) (512 * k.val + x.val) (128 * r.val + l.val) := by
  have hb := b.isLt
  have hr := r.isLt
  have e0 : (256 * b.val + r.val) / 256 = b.val := by omega
  have e1 : (⟨(256 * b.val + r.val) % 256, Nat.mod_lt _ (by decide)⟩ : Fin 256) = r := Fin.ext (by show (256 * b.val + r.val) % 256 = r.val; omega)
  have e2 : (⟨l.val % 128, Nat.mod_lt _ (by decide)⟩ : Fin 128) = l := Fin.ext (Nat.mod_eq_of_lt l.isLt)
  have e3 : (⟨b.val % 6, Nat.mod_lt _ (by decide)⟩ : Fin 6) = b := Fin.ext (Nat.mod_eq_of_lt hb)
  have e4 : (⟨(256 * b.val + r.val) % 2048, Nat.mod_lt _ (by decide)⟩ : Fin 2048) = ⟨256 * b.val + r.val, by omega⟩ := Fin.ext (Nat.mod_eq_of_lt (by omega))
  induction n with
  | zero =>
    rw [Finset.univ_eq_empty, Finset.sum_empty]
    pointwise [cntAt, k0_pay195]
  | succ n ih =>
    rw [Fin.sum_univ_castSucc]
    have h8 : n < k0_t1_loop.trips := lt_of_lt_of_eq (by omega : n < 8) (by decide)
    have hc : cb (F := Ideal) (cntAt I Ln n) (256 * b.val) (ix2 r l) = cntAt (F := Ideal) I Ln n (ix2 (⟨256 * b.val + r.val, by omega⟩ : Fin 2048) l) := by
      show cntAt (F := Ideal) I Ln n (ix2 (⟨(256 * b.val + r.val) % 2048, _⟩ : Fin 2048) (⟨l.val % 128, _⟩ : Fin 128)) = _
      rw [e2, e4]
    have hs : svx (F := Ideal) (e := .i32) Ln b.val = Ln (ix1 b) := by
      show Ln (ix1 ⟨b.val % 6, _⟩) = _
      rw [e3]
    have hu := cupd_at I Ln ⟨n, h8⟩ b.val (cb (F := Ideal) (cntAt I Ln n) (256 * b.val)) r l
    rw [hs, e3, hc, ih (by omega) e4] at hu
    refine Eq.trans ?_ hu
    rw [show cntAt (F := Ideal) I Ln (n + 1) = cmix I Ln ⟨n, h8⟩ (cntAt I Ln n) 1536 from dif_pos h8]
    show (if 256 * b.val + r.val < 1536 then cupd (F := Ideal) I Ln ⟨n, h8⟩ ((256 * b.val + r.val) / 256) (cb (cntAt I Ln n) (256 * ((256 * b.val + r.val) / 256)))
      (ix2 (⟨(256 * b.val + r.val) % 256, _⟩ : Fin 256) (⟨l.val % 128, _⟩ : Fin 128)) else _) = _
    rw [if_pos (by omega), e0, e1, e2]

/-- A sum over 4096 words, 512 at a time. -/
theorem sum_4096 (f : ℕ → EReal) : ∑ k : Fin 8, ∑ x : Fin 512, f (512 * k.val + x.val) = ∑ h : Fin 4096, f h.val := by
  have e : ∀ n : ℕ, ∑ k : Fin n, ∑ x : Fin 512, f (512 * k.val + x.val) = ∑ h ∈ Finset.range (512 * n), f h := by
    intro n
    induction n with
    | zero => simp
    | succ n ih =>
      rw [Fin.sum_univ_castSucc, Nat.mul_succ, Finset.sum_range_add, ← Fin.sum_univ_eq_sum_range (fun x => f (512 * n + x)) 512]
      exact congrArg (· + _) ih
  rw [e 8, ← Fin.sum_univ_eq_sum_range f]

/-- The kernel's counts. -/
theorem cnt_at (b : Fin 6) (r : Fin 256) (l : Fin 128) :
    cntAt (F := Ideal) I Ln 8 (ix2 (⟨256 * b.val + r.val, by omega⟩ : Fin 2048) l)
      = ∑ h : Fin 4096, hit (I (ix2 b h)) (Ln (ix1 b)) h.val (128 * r.val + l.val) := by
  rw [cntAt_at I Ln b r l 8 (le_refl _)]
  refine (sum_4096 fun h => hit (I (ix2 b ⟨h % 4096, Nat.mod_lt _ (by decide)⟩)) (Ln (ix1 b)) h (128 * r.val + l.val)).trans ?_
  refine Finset.sum_congr rfl fun h _ => ?_
  rw [show (⟨h.val % 4096, Nat.mod_lt _ (by decide)⟩ : Fin 4096) = h from Fin.ext (Nat.mod_eq_of_lt h.isLt)]

/-- The reference's spelling of a hit. -/
theorem hit_ref (w len : BitVec 32) (h v : ℕ) :
    FloatOps.uitofp (F := Ideal) .f32 (IntOp.andi (IntOp.cmpi .eq w (BitVec.ofNat 32 v)) (IntOp.cmpi .slt (BitVec.ofNat 32 h) len)) = hit w len h v := by
  have key : ∀ p q : Bool, FloatOps.uitofp (F := Ideal) .f32 (BitVec.ofBool p &&& BitVec.ofBool q) = (if p = true ∧ q = true then 1 else 0 : EReal) := by
    intro p q
    show (((BitVec.ofBool p &&& BitVec.ofBool q).toNat : ℝ) : EReal) = _
    cases p <;> cases q <;> simp
  refine (key (w == BitVec.ofNat 32 v) ((BitVec.ofNat 32 h).slt len)).trans ?_
  unfold hit
  simp only [beq_iff_eq]

end Cert.Value
end
-- ==== Proof.Value.Ref.lean ====
module

public import proofs.«01_k».proof.Proof.Gen.ReferenceIdeal.Run
public import Idealize.ShloMosaic.Lib.Pointwise

/-!   The reference's logits, element by element. -/

@[expose] public section

set_option maxRecDepth 16384

noncomputable section

namespace Cert.Value

open Cert.ReferenceIdeal Cert.ReferenceIdeal.Gen Cert.ReferenceIdeal.Value Idealize.ShloMosaic Idealize.ShloMosaic.TcCoe

variable (V : Valuation τ sig (Elt Ideal))

/-- The unpenalized logits. -/
theorem ref_z (b : Fin 6) (v : Fin 32000) :
    res_main_v11 V (ix2 b v) =
      (∑ k : Fin 64, (∑ j : Fin 128, HMul.hMul (α := EReal) (β := EReal) (γ := EReal) (V (Proc.devRef .tc main_v0_0) (ix2 b (⟨k.val * 128 + j.val, by omega⟩ : Fin 8192)))
          (V (Proc.devRef .tc main_v0_1) (ix2 (⟨k.val * 128 + j.val, by omega⟩ : Fin 8192) v)))
        * V (Proc.devRef .tc main_arg3) (ix2 k v)) * V (Proc.devRef .tc main_arg1) (ix1 b) := by
  pointwise [res_main_v11]

/-- The counts. -/
theorem ref_c (b : Fin 6) (v : Fin 32000) :
    res_main_v28 V (ix2 b v) = ∑ h : Fin 4096,
      FloatOps.uitofp (F := Ideal) .f32 (IntOp.andi (IntOp.cmpi .eq (V (Proc.devRef .tc main_arg4) (ix2 b h)) (BitVec.ofNat 32 v.val))
        (IntOp.cmpi .slt (BitVec.ofNat 32 h.val) (V (Proc.devRef .tc main_arg5) (ix1 b)))) := by
  pointwise [res_main_v28]

/-- The logits with their penalties. -/
theorem ref_z2 (b : Fin 6) (v : Fin 32000) :
    res_main_v48 V (ix2 b v) =
      (Scalar.select (FloatOps.cmpf (F := Ideal) (φ := .f32) .ogt (res_main_v28 V (ix2 b v)) (0 : EReal))
        (Scalar.select (FloatOps.cmpf (F := Ideal) (φ := .f32) .ogt (res_main_v11 V (ix2 b v)) (0 : EReal))
          (Ideal.div (res_main_v11 V (ix2 b v)) (V (Proc.devRef .tc main_arg8) (ix1 b)))
          (HMul.hMul (α := EReal) (β := EReal) (γ := EReal) (res_main_v11 V (ix2 b v)) (V (Proc.devRef .tc main_arg8) (ix1 b))))
        (res_main_v11 V (ix2 b v)) : EReal)
      - HMul.hMul (α := EReal) (β := EReal) (γ := EReal) (res_main_v28 V (ix2 b v)) (V (Proc.devRef .tc main_arg7) (ix1 b))
      - HMul.hMul (α := EReal) (β := EReal) (γ := EReal) (FloatOps.uitofp (F := Ideal) .f32 (FloatOps.cmpf (F := Ideal) (φ := .f32) .ogt (res_main_v28 V (ix2 b v)) (0 : EReal)))
          (V (Proc.devRef .tc main_arg6) (ix1 b)) := by
  pointwise [res_main_v48, res_main_v30, res_main_v31]

end Cert.Value
end
-- ==== Proof.Value.Reg.lean ====
module

public import proofs.«01_k».proof.Proof.Gen.ReferenceIdeal.Run
public import Idealize.ShloMosaic.Lib.Pipeline.ValueKit

/-!   The reference's casts leave the activations and the weights as they are, as extended reals. -/

@[expose] public section

set_option maxRecDepth 16384

noncomputable section

namespace Cert.Value

open Cert.ReferenceIdeal Cert.ReferenceIdeal.Gen Cert.ReferenceIdeal.Value Idealize.ShloMosaic Idealize.ShloMosaic.TcCoe Idealize.SL Idealize.SL.Sem

variable (m : (ℓ : Loc nD τ sig) → Buf (Elt Ideal) ℓ)

theorem reg_x (c : Dev nD) : reg_main_v0_0 m c = m ((c.tc : Thread nD τ).loc main_arg0) := by
  unfold reg_main_v0_0
  refine (dats m 0 c).arrAt_eq_of_covers 2 _ (by decide +kernel) fun t hf y => ?_
  blk_simp
  rw [after0_2]
  frame_out
  show Gen.V m c main_arg0 _ = _
  rw [V_main_arg0]
  rfl

theorem reg_w (c : Dev nD) : reg_main_v0_1 m c = m ((c.tc : Thread nD τ).loc main_arg2) := by
  unfold reg_main_v0_1
  refine (dats m 0 c).arrAt_eq_of_covers 3 _ (by decide +kernel) fun t hf y => ?_
  blk_simp
  rw [after0_3]
  frame_out
  show Gen.V m c main_arg2 _ = _
  rw [V_main_arg2]
  rfl

end Cert.Value
end
-- ==== Proof.Value.Logits.lean ====
module

public import proofs.«01_k».proof.Proof.Run.Launch
public import proofs.«01_k».proof.Proof.Value.Rows
public import proofs.«01_k».proof.Proof.Value.Mat
public import proofs.«01_k».proof.Proof.Value.Count
public import proofs.«01_k».proof.Proof.Value.Ref
public import proofs.«01_k».proof.Proof.Value.Reg

/-!   The kernel's logits are the reference's, element by element. -/

@[expose] public section

set_option maxRecDepth 16384

noncomputable section

namespace Cert.Value

open Cert.Kernel Cert.Kernel.Gen Cert.Kernel.Hand Idealize.ShloMosaic Idealize.ShloMosaic.TcCoe

/-- The penalties on one logit `z` with its count `n`. -/
def pen (z n p f r : EReal) : EReal :=
  (Scalar.select (FloatOps.cmpf (F := Ideal) (φ := .f32) .ogt n (0 : EReal))
    (Scalar.select (FloatOps.cmpf (F := Ideal) (φ := .f32) .ogt z (0 : EReal)) (Ideal.div z r) (z * r)) z : EReal)
  - n * f - Scalar.select (FloatOps.cmpf (F := Ideal) (φ := .f32) .ogt n (0 : EReal)) p 0

theorem seen_mul (w : BitVec 1) (p : EReal) :
    HMul.hMul (α := EReal) (β := EReal) (γ := EReal) (FloatOps.uitofp (F := Ideal) .f32 w) p = Scalar.select w p 0 := by
  have h : w = 0#1 ∨ w = 1#1 := by revert w; decide
  rcases h with h | h <;> subst h
  · show (((0#1 : BitVec 1).toNat : ℝ) : EReal) * p = _
    simp [Scalar.select]
  · show (((1#1 : BitVec 1).toNat : ℝ) : EReal) * p = _
    simp [Scalar.select]

variable {c : Dev Cert.Kernel.nD} (X : S6x8192.Idx → EReal) (fw : Buf (Elt Ideal) (whL c)) (fs : Buf (Elt Ideal) (shL c))
  (I : S6x4096.Idx → BitVec 32) (Ln : S6.Idx → BitVec 32) (Xs Pp Fp Rp : S6.Idx → EReal)

/-- The logit before its penalties, and the count. -/
def zAt (b : Fin 6) (v : Fin 32000) : EReal :=
  (∑ k : Fin 64, HMul.hMul (α := EReal) (β := EReal) (γ := EReal) (blockDot X fw b v.val k.val) (fs (ixS k.val v.val))) * Xs (ix1 b)
def cAt (b : Fin 6) (v : Fin 32000) : EReal := ∑ h : Fin 4096, hit (I (ix2 b h)) (Ln (ix1 b)) h.val v.val

theorem penal_at (pr fr re z n : FVec Ideal S8x128 .f32) (b : Fin 8) (l : Fin 128) :
    penal (F := Ideal) pr fr re z n (ix2 b l) = pen (z (ix2 b l)) (n (ix2 b l)) (pr (ix2 b l)) (fr (ix2 b l)) (re (ix2 b l)) := by
  pointwise [penal, pen]

theorem grp_at (z : FVec Ideal S8x1280 .f32) (C : S2048x128.Idx → EReal) (xs pr fr re : FVec Ideal S8x128 .f32) (t : ℕ) (g : Fin 10) (b : Fin 8) (l : Fin 128) :
    zgrp' (F := Ideal) C xs pr fr re z t g (ix2 b l)
      = pen (HMul.hMul (α := EReal) (β := EReal) (γ := EReal) (z (ix2 b (⟨128 * g.val + l.val, by omega⟩ : Fin 1280))) (xs (ix2 b l)))
        (C (ix2 (⟨(10 * t + g.val + 256 * b.val) % 2048, Nat.mod_lt _ (by decide)⟩ : Fin 2048) (⟨l.val % 128, Nat.mod_lt _ (by decide)⟩ : Fin 128)))
        (pr (ix2 b l)) (fr (ix2 b l)) (re (ix2 b l)) := by
  unfold zgrp'
  rw [penal_at]
  refine congrArg (fun w : EReal => pen w _ _ _ _) ?_
  pointwise

/-- The kernel's logit at `(b, v)`, from the unscaled logits of its tile and from the counts. -/
theorem fin_at (L : S16x8192.Idx → EReal) (C : S2048x128.Idx → EReal) (xs pr fr re : FVec Ideal S8x128 .f32) (b : Fin 6) (v : Fin 32000) :
    Zfin (F := Ideal) fw fs L C xs pr fr re (ix2 b v)
      = zgrp' (F := Ideal) C xs pr fr re (zraw (F := Ideal) fw fs L (v.val / 1280)) (v.val / 1280) ⟨v.val % 1280 / 128, by omega⟩
        (ix2 (⟨b.val % 8, Nat.mod_lt _ (by decide)⟩ : Fin 8) (⟨v.val % 128, Nat.mod_lt _ (by decide)⟩ : Fin 128)) := rfl

theorem kernel_z (b : Fin 6) (v : Fin 32000) :
    Zfin (F := Ideal) fw fs (Lfin (F := Ideal) X) (cntAt (F := Ideal) I Ln 8) (xsV (F := Ideal) Xs) (prV (F := Ideal) Pp) (frV (F := Ideal) Fp) (reV (F := Ideal) Rp) (ix2 b v)
      = pen (zAt X fw fs Xs b v) (cAt I Ln b v) (Pp (ix1 b)) (Fp (ix1 b)) (Rp (ix1 b)) := by
  have hb := b.isLt
  have hv := v.isLt
  have e1 : (⟨b.val % 8, Nat.mod_lt _ (by decide)⟩ : Fin 8) = ⟨b.val, by omega⟩ := Fin.ext (Nat.mod_eq_of_lt (by omega))
  have hz := zraw_at X fw fs (v.val / 1280) b ⟨128 * (v.val % 1280 / 128) + v.val % 128, by omega⟩
  have hc := cnt_at I Ln b ⟨v.val / 128, by omega⟩ ⟨v.val % 128, Nat.mod_lt _ (by decide)⟩
  have ez : 1280 * (v.val / 1280) + (128 * (v.val % 1280 / 128) + v.val % 128) = v.val := by omega
  have ec : 128 * (v.val / 128) + v.val % 128 = v.val := by omega
  have ei : (⟨(10 * (v.val / 1280) + v.val % 1280 / 128 + 256 * b.val) % 2048, Nat.mod_lt _ (by decide)⟩ : Fin 2048) = ⟨256 * b.val + v.val / 128, by omega⟩ :=
    Fin.ext (by show (10 * (v.val / 1280) + v.val % 1280 / 128 + 256 * b.val) % 2048 = 256 * b.val + v.val / 128; omega)
  have ej : (⟨v.val % 128 % 128, Nat.mod_lt _ (by decide)⟩ : Fin 128) = ⟨v.val % 128, Nat.mod_lt _ (by decide)⟩ :=
    Fin.ext (Nat.mod_mod _ _)
  simp only [ez] at hz
  simp only [ec] at hc
  rw [fin_at, e1]
  generalize zraw (F := Ideal) fw fs (Lfin (F := Ideal) X) (v.val / 1280) = z at hz ⊢
  generalize cntAt (F := Ideal) I Ln 8 = C at hc ⊢
  rw [grp_at, prV_at, frV_at, reV_at, xsV_at]
  unfold zAt cAt
  simp only [ei, ej]
  rw [hc, hz]

/-- The reference's logits from the same arrays. -/
theorem reference_z (V : Valuation Cert.ReferenceIdeal.τ Cert.ReferenceIdeal.sig (Elt Ideal))
    (hX : V (Proc.devRef .tc Cert.ReferenceIdeal.main_v0_0) = X) (hW : V (Proc.devRef .tc Cert.ReferenceIdeal.main_v0_1) = fw)
    (hS : V (Proc.devRef .tc Cert.ReferenceIdeal.main_arg3) = fs) (hXs : V (Proc.devRef .tc Cert.ReferenceIdeal.main_arg1) = Xs)
    (hI : V (Proc.devRef .tc Cert.ReferenceIdeal.main_arg4) = I) (hLn : V (Proc.devRef .tc Cert.ReferenceIdeal.main_arg5) = Ln)
    (hP : V (Proc.devRef .tc Cert.ReferenceIdeal.main_arg6) = Pp) (hF : V (Proc.devRef .tc Cert.ReferenceIdeal.main_arg7) = Fp)
    (hR : V (Proc.devRef .tc Cert.ReferenceIdeal.main_arg8) = Rp) (b : Fin 6) (v : Fin 32000) :
    Cert.ReferenceIdeal.Value.res_main_v48 V (ix2 b v) = pen (zAt X fw fs Xs b v) (cAt I Ln b v) (Pp (ix1 b)) (Fp (ix1 b)) (Rp (ix1 b)) := by
  have hz : Cert.ReferenceIdeal.Value.res_main_v11 V (ix2 b v) = zAt X fw fs Xs b v := by
    rw [ref_z, hX, hW, hS, hXs]
    unfold zAt blockDot
    refine congrArg (· * Xs (ix1 b)) (Finset.sum_congr rfl fun k _ => ?_)
    have hk := k.isLt
    have es : ixS k.val v.val = ix2 k v := congrArg₂ ix2 (Fin.ext (Nat.mod_eq_of_lt hk)) (Fin.ext (Nat.mod_eq_of_lt v.isLt))
    rw [es]
    refine congrArg (· * _) (Finset.sum_congr rfl fun j _ => ?_)
    have hj := j.isLt
    have ex : (⟨k.val * 128 + j.val, by omega⟩ : Fin 8192) = ⟨(128 * k.val + j.val) % 8192, Nat.mod_lt _ (by decide)⟩ :=
      Fin.ext (by show k.val * 128 + j.val = (128 * k.val + j.val) % 8192; omega)
    have ew : ixW (128 * k.val + j.val) v.val = ix2 (⟨k.val * 128 + j.val, by omega⟩ : Fin 8192) v :=
      congrArg₂ ix2 (Fin.ext (by show (128 * k.val + j.val) % 8192 = k.val * 128 + j.val; omega)) (Fin.ext (Nat.mod_eq_of_lt v.isLt))
    rw [ew, ← ex]
  have hc : Cert.ReferenceIdeal.Value.res_main_v28 V (ix2 b v) = cAt I Ln b v := by
    rw [ref_c, hI, hLn]
    exact congrArg (fun f : Fin 4096 → EReal => ∑ h, f h) (funext fun h => hit_ref _ _ _ _)
  rw [ref_z2, hz, hc, hP, hF, hR, seen_mul]
  rfl

/-- The kernel's logits are the reference's. -/
theorem logits_eq (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ) (c : Dev Cert.Kernel.nD)
    (h0 : m' ((c.tc : Thread Cert.ReferenceIdeal.nD Cert.ReferenceIdeal.τ).loc Cert.ReferenceIdeal.main_arg0) = m ((c.tc : Thread Cert.Kernel.nD Cert.Kernel.τ).loc Cert.Kernel.main_arg0))
    (h1 : m' ((c.tc : Thread Cert.ReferenceIdeal.nD Cert.ReferenceIdeal.τ).loc Cert.ReferenceIdeal.main_arg1) = m ((c.tc : Thread Cert.Kernel.nD Cert.Kernel.τ).loc Cert.Kernel.main_arg1))
    (h2 : m' ((c.tc : Thread Cert.ReferenceIdeal.nD Cert.ReferenceIdeal.τ).loc Cert.ReferenceIdeal.main_arg2) = m ((c.tc : Thread Cert.Kernel.nD Cert.Kernel.τ).loc Cert.Kernel.main_arg2))
    (h3 : m' ((c.tc : Thread Cert.ReferenceIdeal.nD Cert.ReferenceIdeal.τ).loc Cert.ReferenceIdeal.main_arg3) = m ((c.tc : Thread Cert.Kernel.nD Cert.Kernel.τ).loc Cert.Kernel.main_arg3))
    (h4 : m' ((c.tc : Thread Cert.ReferenceIdeal.nD Cert.ReferenceIdeal.τ).loc Cert.ReferenceIdeal.main_arg4) = m ((c.tc : Thread Cert.Kernel.nD Cert.Kernel.τ).loc Cert.Kernel.main_arg4))
    (h5 : m' ((c.tc : Thread Cert.ReferenceIdeal.nD Cert.ReferenceIdeal.τ).loc Cert.ReferenceIdeal.main_arg5) = m ((c.tc : Thread Cert.Kernel.nD Cert.Kernel.τ).loc Cert.Kernel.main_arg5))
    (h6 : m' ((c.tc : Thread Cert.ReferenceIdeal.nD Cert.ReferenceIdeal.τ).loc Cert.ReferenceIdeal.main_arg6) = m ((c.tc : Thread Cert.Kernel.nD Cert.Kernel.τ).loc Cert.Kernel.main_arg6))
    (h7 : m' ((c.tc : Thread Cert.ReferenceIdeal.nD Cert.ReferenceIdeal.τ).loc Cert.ReferenceIdeal.main_arg7) = m ((c.tc : Thread Cert.Kernel.nD Cert.Kernel.τ).loc Cert.Kernel.main_arg7))
    (h8 : m' ((c.tc : Thread Cert.ReferenceIdeal.nD Cert.ReferenceIdeal.τ).loc Cert.ReferenceIdeal.main_arg8) = m ((c.tc : Thread Cert.Kernel.nD Cert.Kernel.τ).loc Cert.Kernel.main_arg8)) :
    zV m c = Cert.ReferenceIdeal.Value.res_main_v48 (Cert.ReferenceIdeal.Value.exitV m' c) := by
  funext y
  obtain ⟨b, v, rfl⟩ : ∃ (b : Fin 6) (v : Fin 32000), y = ix2 b v := ⟨y 0, y 1, eq_ix2 y⟩
  refine Eq.trans ?_ (reference_z (c := c) (V m c main_arg0) (V m c main_arg2) (V m c main_arg3) (V m c main_arg4) (V m c main_arg5) (V m c main_arg1) (V m c main_arg6) (V m c main_arg7) (V m c main_arg8)
    (Cert.ReferenceIdeal.Value.exitV m' c) ?_ ?_ ?_ ?_ ?_ ?_ ?_ ?_ ?_ b v).symm
  · exact kernel_z _ _ _ _ _ _ _ _ _ b v
  · exact (Cert.ReferenceIdeal.Value.exit_main_v0_0 m' c).trans ((reg_x m' c).trans (h0.trans (V_main_arg0 m c).symm))
  · exact (Cert.ReferenceIdeal.Value.exit_main_v0_1 m' c).trans ((reg_w m' c).trans (h2.trans (V_main_arg2 m c).symm))
  · exact (Cert.ReferenceIdeal.Value.exit_main_arg3 m' c).trans (h3.trans (V_main_arg3 m c).symm)
  · exact (Cert.ReferenceIdeal.Value.exit_main_arg1 m' c).trans (h1.trans (V_main_arg1 m c).symm)
  · exact (Cert.ReferenceIdeal.Value.exit_main_arg4 m' c).trans (h4.trans (V_main_arg4 m c).symm)
  · exact (Cert.ReferenceIdeal.Value.exit_main_arg5 m' c).trans (h5.trans (V_main_arg5 m c).symm)
  · exact (Cert.ReferenceIdeal.Value.exit_main_arg6 m' c).trans (h6.trans (V_main_arg6 m c).symm)
  · exact (Cert.ReferenceIdeal.Value.exit_main_arg7 m' c).trans (h7.trans (V_main_arg7 m c).symm)
  · exact (Cert.ReferenceIdeal.Value.exit_main_arg8 m' c).trans (h8.trans (V_main_arg8 m c).symm)

end Cert.Value
end
-- ==== Proof.Value.Soft.lean ====
module

public import Idealize.ShloMosaic.Lib.Pointwise

/-!   The logarithm of a sum of exponentials over the extended reals, taken with a running maximum and rescaled sums. -/

@[expose] public section

noncomputable section

namespace Cert.Value

open Idealize.ShloMosaic

/-- The exponential as a real number; of no use at `⊤`. -/
def ex (x : EReal) : ℝ := (Ideal.exp x).toReal

theorem exp_bot : Ideal.exp ⊥ = 0 := rfl
theorem ex_bot : ex ⊥ = 0 := by unfold ex; rw [exp_bot, EReal.toReal_zero]

theorem exp_sub {x : EReal} (h : x ≠ ⊤) (r : ℝ) : Ideal.exp (x - (r : EReal)) = ((ex x * Real.exp (-r) : ℝ) : EReal) := by
  induction x using EReal.rec with
  | bot => rw [EReal.bot_sub, exp_bot, ex_bot, zero_mul, EReal.coe_zero]
  | top => exact absurd rfl h
  | coe a =>
    have e : ex (a : EReal) = Real.exp a := EReal.toReal_coe _
    rw [e, ← EReal.coe_sub, ← Real.exp_add, ← sub_eq_add_neg]
    rfl

theorem exp_sub_top (x : EReal) : Ideal.exp (x - ⊤) = 0 := by
  rw [show x - (⊤ : EReal) = ⊥ from by rw [sub_eq_add_neg, EReal.neg_top, EReal.add_bot]]; rfl

/-- The logarithm of the sum of the exponentials; `⊥` when one of the numbers is `⊤`, as the usual way of taking it gives. -/
def lse {ι : Type} [Fintype ι] (f : ι → EReal) : EReal :=
  open Classical in if ∃ i, f i = ⊤ then ⊥ else Ideal.log ((∑ i, ex (f i) : ℝ) : EReal)

theorem shift (T r : ℝ) : (r : EReal) + Ideal.log ((T * Real.exp (-r) : ℝ) : EReal) = Ideal.log (T : EReal) := by
  show (r : EReal) + (if T * Real.exp (-r) ≤ 0 then ⊥ else (Real.log (T * Real.exp (-r)) : EReal)) = if T ≤ 0 then ⊥ else (Real.log T : EReal)
  have hp := Real.exp_pos (-r)
  by_cases h : T ≤ 0
  · rw [if_pos h, if_pos (mul_nonpos_of_nonpos_of_nonneg h hp.le), EReal.add_bot]
  · have hT : 0 < T := lt_of_not_ge h
    rw [if_neg h, if_neg (not_le.mpr (mul_pos hT hp)), ← EReal.coe_add, Real.log_mul hT.ne' hp.ne', Real.log_exp]
    congr 1; ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_exp_sub {ι : Type} [Fintype ι] (f : ι → EReal) (h : ∀ i, f i ≠ ⊤) (r : ℝ) :
    ∑ i, Ideal.exp (f i - (r : EReal)) = (((∑ i, ex (f i)) * Real.exp (-r) : ℝ) : EReal) := by
  rw [Finset.sum_mul, coe_sum]
  exact Finset.sum_congr rfl fun i _ => exp_sub (h i) r

/-- With the greatest number taken off and put back. -/
theorem lse_greatest {ι : Type} [Fintype ι] (f : ι → EReal) (M : EReal) (h1 : ∀ i, f i ≤ M) (h2 : M = ⊥ ∨ ∃ i, f i = M) :
    M + Ideal.log (∑ i, Ideal.exp (f i - M)) = lse f := by
  unfold lse
  by_cases ht : ∃ i, f i = ⊤
  · rw [if_pos ht]
    obtain ⟨i, hi⟩ := ht
    have hM : M = ⊤ := top_le_iff.mp (hi ▸ h1 i)
    subst hM
    simp only [exp_sub_top, Finset.sum_const_zero]
    rw [show Ideal.log 0 = ⊥ from by show (if (0 : ℝ) ≤ 0 then (⊥ : EReal) else _) = ⊥; rw [if_pos (le_refl _)], EReal.add_bot]
  · rw [if_neg ht]
    have hn : ∀ i, f i ≠ ⊤ := fun i hi => ht ⟨i, hi⟩
    induction M using EReal.rec with
    | bot =>
      have hb : ∀ i, f i = ⊥ := fun i => le_bot_iff.mp (h1 i)
      have : (∑ i, ex (f i) : ℝ) = 0 := Finset.sum_eq_zero fun i _ => by rw [hb i, ex_bot]
      rw [this, EReal.bot_add]
      show _ = if (0 : ℝ) ≤ 0 then (⊥ : EReal) else _
      rw [if_pos (le_refl _)]
    | top =>
      rcases h2 with h | ⟨i, hi⟩
      · exact absurd h (by decide)
      · exact absurd hi (hn i)
    | coe r => rw [sum_exp_sub f hn r, shift]

/-- What a running maximum `m` and a rescaled sum `s` are, when the exponentials so far add up to `T`, and `bad` says whether `⊤` has been met. -/
def Inv (bad : Prop) (T : ℝ) (m s : EReal) : Prop :=
  (bad → m = ⊤ ∧ s = 0) ∧ (¬ bad → ∃ r : ℝ, m = r ∧ s = ((T * Real.exp (-r) : ℝ) : EReal))

theorem inv_step {bad : Prop} {T : ℝ} {m s : EReal} (h : Inv bad T m s) (n : ℕ) (z : Fin n → EReal) (m' : EReal)
    (h0 : m ≤ m') (h1 : ∀ g, z g ≤ m') (h2 : m' = m ∨ ∃ g, z g = m') :
    Inv (bad ∨ ∃ g, z g = ⊤) (T + ∑ g, ex (z g)) m' (s * Ideal.exp (m - m') + ∑ g, Ideal.exp (z g - m')) := by
  by_cases hb : bad ∨ ∃ g, z g = ⊤
  · refine ⟨fun _ => ?_, fun hn => absurd hb hn⟩
    have hm : m' = ⊤ := by
      rcases hb with hb | ⟨g, hg⟩
      · exact top_le_iff.mp ((h.1 hb).1 ▸ h0)
      · exact top_le_iff.mp (hg ▸ h1 g)
    subst hm
    simp only [exp_sub_top, Finset.sum_const_zero, mul_zero, add_zero, and_self]
  · refine ⟨fun h' => absurd h' hb, fun _ => ?_⟩
    have hb1 : ¬ bad := fun h' => hb (.inl h')
    have hb2 : ∀ g, z g ≠ ⊤ := fun g h' => hb (.inr ⟨g, h'⟩)
    obtain ⟨r, rfl, rfl⟩ := h.2 hb1
    have hm : ∃ r' : ℝ, m' = r' := by
      induction m' using EReal.rec with
      | bot => exact absurd (le_bot_iff.mp h0) (EReal.coe_ne_bot r)
      | top =>
        rcases h2 with h2 | ⟨g, hg⟩
        · exact absurd h2.symm (EReal.coe_ne_top r)
        · exact absurd hg (hb2 g)
      | coe a => exact ⟨a, rfl⟩
    obtain ⟨r', rfl⟩ := hm
    refine ⟨r', rfl, ?_⟩
    rw [sum_exp_sub z hb2 r', exp_sub (EReal.coe_ne_top r) r', ← EReal.coe_mul, ← EReal.coe_add]
    have e : ex (r : EReal) = Real.exp r := EReal.toReal_coe _
    rw [e]
    congr 1
    have : Real.exp (-r) * Real.exp r = 1 := by rw [← Real.exp_add]; simp
    calc T * Real.exp (-r) * (Real.exp r * Real.exp (-r')) + (∑ g, ex (z g)) * Real.exp (-r')
        = T * (Real.exp (-r) * Real.exp r) * Real.exp (-r') + (∑ g, ex (z g)) * Real.exp (-r') := by ring
      _ = _ := by rw [this]; ring

/-- The lanes' maxima and sums put together. -/
theorem inv_end {ι : Type} [Fintype ι] [Nonempty ι] (bad : ι → Prop) (T : ι → ℝ) (m s : ι → EReal) (h : ∀ l, Inv (bad l) (T l) (m l) (s l))
    (M : EReal) (h1 : ∀ l, m l ≤ M) (h2 : M = ⊥ ∨ ∃ l, m l = M) :
    M + Ideal.log (∑ l, s l * Ideal.exp (m l - M)) = open Classical in if ∃ l, bad l then ⊥ else Ideal.log ((∑ l, T l : ℝ) : EReal) := by
  by_cases hb : ∃ l, bad l
  · rw [if_pos hb]
    obtain ⟨l, hl⟩ := hb
    have hM : M = ⊤ := top_le_iff.mp (((h l).1 hl).1 ▸ h1 l)
    subst hM
    simp only [exp_sub_top, Finset.sum_const_zero, mul_zero]
    rw [show Ideal.log 0 = ⊥ from by show (if (0 : ℝ) ≤ 0 then (⊥ : EReal) else _) = ⊥; rw [if_pos (le_refl _)], EReal.add_bot]
  · rw [if_neg hb]
    have hr : ∀ l, ∃ r : ℝ, m l = r ∧ s l = ((T l * Real.exp (-r) : ℝ) : EReal) := fun l => (h l).2 fun h' => hb ⟨l, h'⟩
    have hM : ∃ R : ℝ, M = R := by
      obtain ⟨l0⟩ := ‹Nonempty ι›
      obtain ⟨r, hr0, _⟩ := hr l0
      have h3 : ∃ l, m l = M := by
        rcases h2 with h2 | h2
        · have := h1 l0
          rw [h2, hr0] at this
          exact absurd (le_bot_iff.mp this) (EReal.coe_ne_bot r)
        · exact h2
      obtain ⟨l, hl⟩ := h3
      obtain ⟨r, hr1, _⟩ := hr l
      exact ⟨r, hl.symm.trans hr1⟩
    obtain ⟨R, rfl⟩ := hM
    have e : ∀ l, s l * Ideal.exp (m l - (R : EReal)) = ((T l * Real.exp (-R) : ℝ) : EReal) := by
      intro l
      obtain ⟨r, e1, e2⟩ := hr l
      rw [e1, e2, exp_sub (EReal.coe_ne_top r) R, ← EReal.coe_mul]
      have e : ex (r : EReal) = Real.exp r := EReal.toReal_coe _
      rw [e]
      have : Real.exp (-r) * Real.exp r = 1 := by rw [← Real.exp_add]; simp
      congr 1
      calc T l * Real.exp (-r) * (Real.exp r * Real.exp (-R)) = T l * (Real.exp (-r) * Real.exp r) * Real.exp (-R) := by ring
        _ = _ := by rw [this]; ring
    rw [Finset.sum_congr rfl fun l _ => e l, ← coe_sum, ← Finset.sum_mul, shift]

/-- The greatest of a finite family, as a fold. -/
theorem fold_greatest {ι : Type} [Fintype ι] (f : ι → EReal) :
    (∀ i, f i ≤ (Finset.univ : Finset ι).fold max ⊥ f) ∧ ((Finset.univ : Finset ι).fold max ⊥ f = ⊥ ∨ ∃ i, f i = (Finset.univ : Finset ι).fold max ⊥ f) := by
  classical
  have key : ∀ s : Finset ι, (∀ i ∈ s, f i ≤ s.fold max ⊥ f) ∧ (s.fold max ⊥ f = ⊥ ∨ ∃ i, f i = s.fold max ⊥ f) := by
    intro s
    induction s using Finset.induction_on with
    | empty => exact ⟨fun i hi => absurd hi (Finset.notMem_empty i), .inl rfl⟩
    | insert a s ha ih =>
      rw [Finset.fold_insert ha]
      refine ⟨fun i hi => ?_, ?_⟩
      · rcases Finset.mem_insert.mp hi with rfl | hi
        · exact le_max_left _ _
        · exact (ih.1 i hi).trans (le_max_right _ _)
      · rcases max_choice (f a) (s.fold max ⊥ f) with h | h
        · exact .inr ⟨a, h.symm⟩
        · rw [h]; exact ih.2
  exact ⟨fun i => (key Finset.univ).1 i (Finset.mem_univ i), (key Finset.univ).2⟩

end Cert.Value
end
-- ==== Proof.Value.Lse.lean ====
module

public import proofs.«01_k».proof.Proof.Value.Logits
public import proofs.«01_k».proof.Proof.Value.Soft

/-!   The kernel's logarithms of the sums of exponentials are the reference's. -/

@[expose] public section

set_option maxRecDepth 16384

noncomputable section

namespace Cert.Value

open Cert.Kernel Cert.Kernel.Gen Cert.Kernel.Hand Idealize.ShloMosaic Idealize.ShloMosaic.TcCoe

theorem max10 (a : EReal) (z : Fin 10 → EReal) (M : EReal)
    (hM : M = max (max (max (max (max (max (max (max (max (max a (z 0)) (z 1)) (z 2)) (z 3)) (z 4)) (z 5)) (z 6)) (z 7)) (z 8)) (z 9)) :
    a ≤ M ∧ (∀ g, z g ≤ M) ∧ (M = a ∨ ∃ g, z g = M) := by
  subst hM
  refine ⟨by simp only [le_max_iff]; simp, fun g => by fin_cases g <;> simp, ?_⟩
  have key : ∀ x y : EReal, (x = a ∨ ∃ g, z g = x) → (y = a ∨ ∃ g, z g = y) → (max x y = a ∨ ∃ g, z g = max x y) := by
    intro x y hx hy
    rcases max_choice x y with h | h <;> rw [h] <;> assumption
  exact key _ _ (key _ _ (key _ _ (key _ _ (key _ _ (key _ _ (key _ _ (key _ _ (key _ _ (key _ _ (.inl rfl) (.inr ⟨0, rfl⟩)) (.inr ⟨1, rfl⟩)) (.inr ⟨2, rfl⟩)) (.inr ⟨3, rfl⟩))
    (.inr ⟨4, rfl⟩)) (.inr ⟨5, rfl⟩)) (.inr ⟨6, rfl⟩)) (.inr ⟨7, rfl⟩)) (.inr ⟨8, rfl⟩)) (.inr ⟨9, rfl⟩)

theorem step_m (z : Fin 10 → FVec Ideal S8x128 .f32) (a : FVec Ideal S8x128 .f32 × FVec Ideal S8x128 .f32) (x : S8x128.Idx) :
    (msStep (F := Ideal) z a).1 x = (max (max (max (max (max (max (max (max (max (max (a.1 x : EReal) (z 0 x)) (z 1 x)) (z 2 x)) (z 3 x)) (z 4 x)) (z 5 x)) (z 6 x)) (z 7 x)) (z 8 x)) (z 9 x) : EReal) := rfl

theorem step_s (z : Fin 10 → FVec Ideal S8x128 .f32) (a : FVec Ideal S8x128 .f32 × FVec Ideal S8x128 .f32) (x : S8x128.Idx) (M : EReal)
    (hM : (msStep (F := Ideal) z a).1 x = M) :
    (msStep (F := Ideal) z a).2 x = HMul.hMul (α := EReal) (β := EReal) (γ := EReal) (a.2 x) (Ideal.exp (HSub.hSub (α := EReal) (β := EReal) (γ := EReal) (a.1 x) M))
      + ∑ g : Fin 10, Ideal.exp (HSub.hSub (α := EReal) (β := EReal) (γ := EReal) (z g x) M) := by
  subst hM
  simp only [Fin.sum_univ_succ, Fin.sum_univ_zero, add_zero, ← add_assoc]
  rfl

/-- The least finite number is a real number. -/
theorem least_real : ∃ r : ℝ, (Scalar.ofBits .f32 0xFF7FFFFF#32 : Ideal .f32) = (r : EReal) := by
  show ∃ r : ℝ, Ideal.ieee 8 23 0xFF7FFFFF#32 = (r : EReal)
  unfold Ideal.ieee
  simp only []
  rw [if_neg (by decide), if_neg (by decide)]
  exact ⟨_, rfl⟩

variable {c : Dev Cert.Kernel.nD} (fw : Buf (Elt Ideal) (whL c)) (fs : Buf (Elt Ideal) (shL c)) (L : S16x8192.Idx → EReal) (C : S2048x128.Idx → EReal)
  (xs pr fr re : FVec Ideal S8x128 .f32)

theorem ms_inv (x : S8x128.Idx) (t : ℕ) :
    Inv (∃ t' < t, ∃ g, (zgrp (F := Ideal) fw fs L C xs pr fr re t' g x : EReal) = ⊤) (∑ t' ∈ Finset.range t, ∑ g : Fin 10, ex (zgrp (F := Ideal) fw fs L C xs pr fr re t' g x))
      ((msAt (F := Ideal) fw fs L C xs pr fr re t).1 x) ((msAt (F := Ideal) fw fs L C xs pr fr re t).2 x) := by
  induction t with
  | zero =>
    refine ⟨fun ⟨t', h, _⟩ => absurd h (Nat.not_lt_zero _), fun _ => ?_⟩
    obtain ⟨r, hr⟩ := least_real
    refine ⟨r, hr, ?_⟩
    rw [Finset.sum_range_zero, zero_mul, EReal.coe_zero]
    exact Ideal.ofBits_zero_f32
  | succ t ih =>
    have hm := max10 ((msAt (F := Ideal) fw fs L C xs pr fr re t).1 x) (fun g => zgrp (F := Ideal) fw fs L C xs pr fr re t g x) _ (step_m (zgrp (F := Ideal) fw fs L C xs pr fr re t) (msAt (F := Ideal) fw fs L C xs pr fr re t) x)
    have hs := inv_step ih 10 (fun g => zgrp (F := Ideal) fw fs L C xs pr fr re t g x) _ hm.1 hm.2.1 hm.2.2
    have e : ((∃ t' < t, ∃ g, (zgrp (F := Ideal) fw fs L C xs pr fr re t' g x : EReal) = ⊤) ∨ ∃ g, (zgrp (F := Ideal) fw fs L C xs pr fr re t g x : EReal) = ⊤)
        = (∃ t' < t + 1, ∃ g, (zgrp (F := Ideal) fw fs L C xs pr fr re t' g x : EReal) = ⊤) := by
      refine propext ⟨?_, ?_⟩
      · rintro (⟨t', h, hg⟩ | hg)
        · exact ⟨t', Nat.lt_succ_of_lt h, hg⟩
        · exact ⟨t, Nat.lt_succ_self t, hg⟩
      · rintro ⟨t', h, hg⟩
        rcases Nat.lt_succ_iff_lt_or_eq.mp h with h | rfl
        · exact .inl ⟨t', h, hg⟩
        · exact .inr hg
    rw [Finset.sum_range_succ, ← e]
    show Inv _ _ ((msStep (F := Ideal) (zgrp (F := Ideal) fw fs L C xs pr fr re t) (msAt (F := Ideal) fw fs L C xs pr fr re t)).1 x) ((msStep (F := Ideal) (zgrp (F := Ideal) fw fs L C xs pr fr re t) (msAt (F := Ideal) fw fs L C xs pr fr re t)).2 x)
    rw [step_s _ _ _ _ rfl]
    exact hs

end Cert.Value
end
-- ==== Proof.Value.Row.lean ====
module

public import proofs.«01_k».proof.Proof.Value.Lse
public import Idealize.ShloMosaic.Lib.KernelVsHost

/-!   The end of the kernel's logarithms: the lanes put together, and the column turned into a row. -/

@[expose] public section

set_option maxRecDepth 16384

noncomputable section

namespace Cert.Value

open Cert.Kernel Cert.Kernel.Gen Cert.Kernel.Hand Idealize.ShloMosaic Idealize.ShloMosaic.TcCoe

theorem ofBits_bot : (FloatOps.ofBits .f32 0xFF800000#32 : Ideal .f32) = (⊥ : EReal) := by
  show Ideal.ieee 8 23 0xFF800000#32 = ⊥
  unfold Ideal.ieee
  simp only []
  rw [if_pos (by decide), if_pos (by decide), if_pos (by decide)]

theorem rowmax_at (m : FVec Ideal S8x128 .f32) (b : Fin 8) :
    multiReduction .maximumf [1] S8 m 0xFF800000#32 reduces_S8x128_S8 (.inl rfl) rfl (ix1 b)
      = (Finset.univ : Finset (Fin 128)).fold max (⊥ : EReal) (fun l => m (ix2 b l)) := by
  refine (Ideal.multiReduction_maximumf_single m _ reduces_S8x128_S8 (.inl rfl) rfl (ix1 b)).trans ?_
  show (Finset.univ : Finset (Fin 128)).fold max (FloatOps.ofBits .f32 0xFF800000#32 : Ideal .f32) _ = _
  rw [ofBits_bot]
  refine congrArg ((Finset.univ : Finset (Fin 128)).fold max (⊥ : EReal)) (funext fun l => congrArg m (funext fun a => ?_))
  fin_cases a <;> rfl

theorem last_at (m s : FVec Ideal S8x128 .f32) (b : Fin 8) (M : EReal) (hM : M = (Finset.univ : Finset (Fin 128)).fold max (⊥ : EReal) (fun l => m (ix2 b l))) :
    k0_pay209 (F := Ideal) m s (ix2 b (0 : Fin 1)) = M + Ideal.log (∑ l : Fin 128, HMul.hMul (α := EReal) (β := EReal) (γ := EReal) (s (ix2 b l)) (Ideal.exp (HSub.hSub (α := EReal) (β := EReal) (γ := EReal) (m (ix2 b l)) M))) := by
  rw [← rowmax_at] at hM
  subst hM
  unfold k0_pay209
  simp only []
  generalize multiReduction .maximumf [1] S8 m 0xFF800000#32 reduces_S8x128_S8 (.inl rfl) rfl = v
  pointwise

theorem diag_at (v : FVec Ideal S8x1 .f32) (b : Fin 6) :
    k0_pay211 (F := Ideal) i8r i8l v (ix1 b) = v (ix2 (⟨b.val, by omega⟩ : Fin 8) (0 : Fin 1)) := by
  have h : k0_pay211 (F := Ideal) i8r i8l v (ix1 b) = ∑ r : Fin 8, (if r.val = b.val then v (ix2 r (0 : Fin 1)) else 0 : EReal) := by
    pointwise [k0_pay211, k0_pay210]
    refine congrArg (fun f : Fin 8 → EReal => ∑ r, f r) (funext fun r => ?_)
    have key : ∀ (r : Fin 8) (b : Fin 6), IntOp.cmpi .eq (BitVec.ofNat 32 r.val) (BitVec.ofNat 32 b.val) = if r.val = b.val then 1#1 else 0#1 := by decide
    rw [key]
    by_cases hrb : r.val = b.val
    · rw [if_pos hrb, if_pos hrb]; rfl
    · rw [if_neg hrb, if_neg hrb]; rfl
  rw [h]
  refine (Finset.sum_eq_single (⟨b.val, by omega⟩ : Fin 8) (fun r _ hr => if_neg fun h => hr (Fin.ext h)) (fun h => absurd (Finset.mem_univ _) h)).trans ?_
  exact if_pos rfl

theorem sum_32000 (f : ℕ → ℝ) : ∑ v : Fin 32000, f v.val = ∑ l : Fin 128, ∑ t ∈ Finset.range 25, ∑ g : Fin 10, f (1280 * t + 128 * g.val + l.val) := by
  have e : ∀ n : ℕ, ∑ h ∈ Finset.range (1280 * n), f h = ∑ t ∈ Finset.range n, ∑ g : Fin 10, ∑ l : Fin 128, f (1280 * t + 128 * g.val + l.val) := by
    intro n
    induction n with
    | zero => simp
    | succ n ih =>
      rw [Finset.sum_range_succ, Nat.mul_succ, Finset.sum_range_add, ih]
      refine congrArg (_ + ·) ?_
      have e2 : ∀ k : ℕ, ∑ x ∈ Finset.range (128 * k), f (1280 * n + x) = ∑ g ∈ Finset.range k, ∑ l : Fin 128, f (1280 * n + 128 * g + l.val) := by
        intro k
        induction k with
        | zero => simp
        | succ k ih =>
          rw [Finset.sum_range_succ, Nat.mul_succ, Finset.sum_range_add, ih, ← Fin.sum_univ_eq_sum_range (fun x => f (1280 * n + (128 * k + x))) 128]
          refine congrArg (_ + ·) (Finset.sum_congr rfl fun l _ => ?_)
          rw [Nat.add_assoc]
      rw [show 1280 = 128 * 10 from rfl, e2 10, ← Fin.sum_univ_eq_sum_range (fun g => ∑ l : Fin 128, f (128 * 10 * n + 128 * g + l.val)) 10]
  rw [Fin.sum_univ_eq_sum_range f, show 32000 = 1280 * 25 from rfl, e 25]
  refine Eq.trans (Finset.sum_congr rfl fun t _ => Finset.sum_comm) Finset.sum_comm

end Cert.Value
end
-- ==== Proof.Value.KerLse.lean ====
module

public import proofs.«01_k».proof.Proof.Value.Row

/-!   The kernel's logarithms of the sums of exponentials, in terms of its logits. -/

@[expose] public section

set_option maxRecDepth 16384

noncomputable section

namespace Cert.Value

open Cert.Kernel Cert.Kernel.Gen Cert.Kernel.Hand Idealize.ShloMosaic Idealize.ShloMosaic.TcCoe

variable {c : Dev Cert.Kernel.nD} (fw : Buf (Elt Ideal) (whL c)) (fs : Buf (Elt Ideal) (shL c)) (L : S16x8192.Idx → EReal) (C : S2048x128.Idx → EReal)
  (xs pr fr re : FVec Ideal S8x128 .f32)

/-- A row of logits, by the column's number. -/
def colN (Z : S6x32000.Idx → EReal) (b : Fin 6) (n : ℕ) : EReal := Z (ix2 b (⟨n % 32000, Nat.mod_lt _ (by decide)⟩ : Fin 32000))

theorem ite_same {p q : Prop} (_ : Decidable p) (_ : Decidable q) {x y : EReal} (h : p = q) (hxy : x = y) : (if p then ⊥ else x) = if q then ⊥ else y := by
  subst h; subst hxy; congr

theorem grp_col (b : Fin 6) (l : Fin 128) (t : ℕ) (ht : t < 25) (g : Fin 10) :
    zgrp (F := Ideal) fw fs L C xs pr fr re t g (ix2 (⟨b.val, by omega⟩ : Fin 8) l) = colN (Zfin (F := Ideal) fw fs L C xs pr fr re) b (1280 * t + 128 * g.val + l.val) := by
  have hg := g.isLt
  have hl := l.isLt
  have hb := b.isLt
  unfold colN Zfin
  have e0 : (1280 * t + 128 * g.val + l.val) % 32000 = 1280 * t + 128 * g.val + l.val := Nat.mod_eq_of_lt (by omega)
  show _ = zgrp (F := Ideal) fw fs L C xs pr fr re ((1280 * t + 128 * g.val + l.val) % 32000 / 1280) ⟨(1280 * t + 128 * g.val + l.val) % 32000 % 1280 / 128, by omega⟩
    (ix2 (⟨b.val % 8, Nat.mod_lt _ (by decide)⟩ : Fin 8) (⟨(1280 * t + 128 * g.val + l.val) % 32000 % 128, Nat.mod_lt _ (by decide)⟩ : Fin 128))
  have e1 : (1280 * t + 128 * g.val + l.val) % 32000 / 1280 = t := by omega
  have e2 : (⟨(1280 * t + 128 * g.val + l.val) % 32000 % 1280 / 128, by omega⟩ : Fin 10) = g := Fin.ext (by show (1280 * t + 128 * g.val + l.val) % 32000 % 1280 / 128 = g.val; omega)
  have e3 : (⟨(1280 * t + 128 * g.val + l.val) % 32000 % 128, Nat.mod_lt _ (by decide)⟩ : Fin 128) = l := Fin.ext (by show (1280 * t + 128 * g.val + l.val) % 32000 % 128 = l.val; omega)
  have e4 : (⟨b.val % 8, Nat.mod_lt _ (by decide)⟩ : Fin 8) = ⟨b.val, by omega⟩ := Fin.ext (Nat.mod_eq_of_lt (by omega))
  rw [e1, e2, e3, e4]

theorem kernel_row (b : Fin 6) :
    k0_pay209 (F := Ideal) (msAt (F := Ideal) fw fs L C xs pr fr re 25).1 (msAt (F := Ideal) fw fs L C xs pr fr re 25).2 (ix2 (⟨b.val, by omega⟩ : Fin 8) (0 : Fin 1))
      = lse (fun v : Fin 32000 => (Zfin (F := Ideal) fw fs L C xs pr fr re (ix2 b v) : EReal)) := by
  classical
  have hi := fun l : Fin 128 => ms_inv fw fs L C xs pr fr re (ix2 (⟨b.val, by omega⟩ : Fin 8) l) 25
  have hc : ∀ (l : Fin 128) (t : ℕ) (ht : t < 25) (g : Fin 10), (zgrp (F := Ideal) fw fs L C xs pr fr re t g (ix2 (⟨b.val, by omega⟩ : Fin 8) l) : EReal)
      = colN (Zfin (F := Ideal) fw fs L C xs pr fr re) b (1280 * t + 128 * g.val + l.val) := fun l t ht g => grp_col fw fs L C xs pr fr re b l t ht g
  rw [last_at _ _ _ _ rfl]
  have hg := fold_greatest (fun l : Fin 128 => ((msAt (F := Ideal) fw fs L C xs pr fr re 25).1 (ix2 (⟨b.val, by omega⟩ : Fin 8) l) : EReal))
  refine (inv_end _ _ (fun l : Fin 128 => ((msAt (F := Ideal) fw fs L C xs pr fr re 25).1 (ix2 (⟨b.val, by omega⟩ : Fin 8) l) : EReal))
    (fun l : Fin 128 => ((msAt (F := Ideal) fw fs L C xs pr fr re 25).2 (ix2 (⟨b.val, by omega⟩ : Fin 8) l) : EReal)) hi _ hg.1 hg.2).trans ?_
  generalize zgrp (F := Ideal) fw fs L C xs pr fr re = zg at hc ⊢
  generalize Zfin (F := Ideal) fw fs L C xs pr fr re = Z at hc ⊢
  unfold lse
  have hv : ∀ v : Fin 32000, Z (ix2 b v) = colN Z b v.val := fun v => by
    unfold colN
    rw [show (⟨v.val % 32000, Nat.mod_lt _ (by decide)⟩ : Fin 32000) = v from Fin.ext (Nat.mod_eq_of_lt v.isLt)]
  have e1 : (∃ l : Fin 128, ∃ t' < 25, ∃ g, (zg t' g (ix2 (⟨b.val, by omega⟩ : Fin 8) l) : EReal) = ⊤) = (∃ v : Fin 32000, (Z (ix2 b v) : EReal) = ⊤) := by
    refine propext ⟨?_, ?_⟩
    · rintro ⟨l, t, ht, g, h⟩
      rw [hc l t ht g] at h
      exact ⟨_, h⟩
    · rintro ⟨v, h⟩
      have hv' := v.isLt
      refine ⟨⟨v.val % 128, Nat.mod_lt _ (by decide)⟩, v.val / 1280, by omega, ⟨v.val % 1280 / 128, by omega⟩, ?_⟩
      rw [hc _ _ (by omega) _]
      rw [hv] at h
      have e : 1280 * (v.val / 1280) + 128 * (v.val % 1280 / 128) + v.val % 128 = v.val := by omega
      show colN Z b (1280 * (v.val / 1280) + 128 * (v.val % 1280 / 128) + v.val % 128) = ⊤
      rw [e]; exact h
  have e2 : (∑ l : Fin 128, ∑ t ∈ Finset.range 25, ∑ g : Fin 10, ex (zg t g (ix2 (⟨b.val, by omega⟩ : Fin 8) l))) = ∑ v : Fin 32000, ex (Z (ix2 b v)) := by
    refine Eq.trans ?_ ((sum_32000 fun n => ex (colN Z b n)).symm.trans ?_)
    · refine Finset.sum_congr rfl fun l _ => Finset.sum_congr rfl fun t ht => Finset.sum_congr rfl fun g _ => ?_
      rw [hc l t (Finset.mem_range.mp ht) g]
    · exact Finset.sum_congr rfl fun v _ => by rw [hv v]
  exact ite_same _ _ e1 (congrArg (fun T : ℝ => Ideal.log (T : EReal)) e2)

end Cert.Value
end
-- ==== Proof.Value.RefLse.lean ====
module

public import proofs.«01_k».proof.Proof.Value.Row

/-!   The reference's logarithms of the sums of exponentials. -/

@[expose] public section

set_option maxRecDepth 16384

noncomputable section

namespace Cert.Value

open Cert.ReferenceIdeal Cert.ReferenceIdeal.Gen Cert.ReferenceIdeal.Value Idealize.ShloMosaic Idealize.ShloMosaic.TcCoe

variable (V : Valuation τ sig (Elt Ideal))

theorem red_6 : S6x32000.Reduces [1] S6 := by decide

theorem rowfold_at {n k : ℕ} (z : FVec Ideal ⟨2, ![n, k]⟩ .f32) (h : (⟨2, ![n, k]⟩ : Shape).Reduces [1] ⟨1, ![n]⟩) (b : Fin n) :
    multiReduction .maximumf [1] ⟨1, ![n]⟩ z 0xFF800000#32 h (.inl rfl) rfl (ix1 b)
      = (Finset.univ : Finset (Fin k)).fold max (⊥ : EReal) (fun l => z (ix2 b l)) := by
  refine (Ideal.multiReduction_maximumf_single z _ h (.inl rfl) rfl (ix1 b)).trans ?_
  show (Finset.univ : Finset (Fin k)).fold max (FloatOps.ofBits .f32 0xFF800000#32 : Ideal .f32) _ = _
  rw [ofBits_bot]
  refine congrArg ((Finset.univ : Finset (Fin k)).fold max (⊥ : EReal)) (funext fun l => congrArg z (funext fun a => ?_))
  fin_cases a <;> rfl

theorem hostfold_at {n k : ℕ} (z : FVec Ideal ⟨2, ![n, k]⟩ .f32) (h : (⟨2, ![n, k]⟩ : Shape).ReducesTo [1] ⟨1, ![n]⟩) (hu : 0 < S_.numel)
    (h' : (⟨2, ![n, k]⟩ : Shape).Reduces [1] ⟨1, ![n]⟩) (b : Fin n) :
    Host.reduce FloatOps.maximumf z (constant (F := Ideal) S_ .f32 0xFF800000#32) h hu (ix1 b)
      = (Finset.univ : Finset (Fin k)).fold max (⊥ : EReal) (fun l => z (ix2 b l)) := by
  rw [hostReduce_maximumf_eq_multiReduction z 0xFF800000#32 h hu h' (.inl rfl) rfl]
  exact rowfold_at z h' b

/-- The reference's first result. -/
abbrev lseV : FVec Ideal S6 .f32 :=
  addf (res_main_v49 V) (Host.log (Host.reduceAdd (Host.exp (subf (res_main_v48 V) (broadcastInDim S6x32000 ![0, 1] bcast_S6x1_S6x32000_0_1 (broadcastInDim S6x1 ![0] bcast_S6_S6x1_0 (res_main_v49 V))))) (constant S_ .f32 0x00000000#32) reducesTo_S6x32000_S6_d1 h_S_))

theorem ref_top (b : Fin 6) : res_main_v49 V (ix1 b) = (Finset.univ : Finset (Fin 32000)).fold max (⊥ : EReal) (fun v => res_main_v48 V (ix2 b v)) := by
  unfold res_main_v49
  generalize res_main_v48 V = z
  exact hostfold_at (n := 6) (k := 32000) z reducesTo_S6x32000_S6_d1 h_S_ red_6 b

theorem ref_lse (b : Fin 6) : lseV V (ix1 b) = lse (fun v : Fin 32000 => res_main_v48 V (ix2 b v)) := by
  have hM := ref_top V b
  have hg := fold_greatest (fun v : Fin 32000 => (res_main_v48 V (ix2 b v) : EReal))
  rw [← hM] at hg
  refine Eq.trans ?_ (lse_greatest (fun v : Fin 32000 => (res_main_v48 V (ix2 b v) : EReal)) (res_main_v49 V (ix1 b)) hg.1 hg.2)
  unfold lseV
  generalize res_main_v49 V = top
  generalize res_main_v48 V = z
  pointwise

end Cert.Value
end
-- ==== Proof.Value.LseEq.lean ====
module

public import proofs.«01_k».proof.Proof.Value.KerLse
public import proofs.«01_k».proof.Proof.Value.RefLse

/-!   The kernel's first result is the reference's, once the logits are. -/

@[expose] public section

set_option maxRecDepth 16384

noncomputable section

namespace Cert.Value

open Cert.Kernel Cert.Kernel.Gen Cert.Kernel.Hand Idealize.ShloMosaic Idealize.ShloMosaic.TcCoe

/-- The kernel's column of logarithms, in terms of its logits. -/
theorem last_row (m : (ℓ : Loc Cert.Kernel.nD Cert.Kernel.τ Cert.Kernel.sig) → Buf (Elt Ideal) ℓ) (c : Dev Cert.Kernel.nD) (b : Fin 6) :
    lastV (F := Ideal) c (V m c main_arg0) (V m c main_arg4) (V m c main_arg1) (V m c main_arg5) (V m c main_arg6) (V m c main_arg7) (V m c main_arg8) (V m c main_arg2) (V m c main_arg3)
      (ix2 (⟨b.val, by omega⟩ : Fin 8) (0 : Fin 1)) = lse (fun v : Fin 32000 => (zV (F := Ideal) m c (ix2 b v) : EReal)) :=
  kernel_row _ _ _ _ _ _ _ _ b

theorem lse_eq (m : (ℓ : Loc Cert.Kernel.nD Cert.Kernel.τ Cert.Kernel.sig) → Buf (Elt Ideal) ℓ) (c : Dev Cert.Kernel.nD)
    (W : Valuation Cert.ReferenceIdeal.τ Cert.ReferenceIdeal.sig (Elt Ideal)) (h : zV (F := Ideal) m c = Cert.ReferenceIdeal.Value.res_main_v48 W) :
    lV (F := Ideal) m c = lseV W := by
  funext y
  obtain ⟨b, rfl⟩ : ∃ b : Fin 6, y = ix1 b := ⟨y 0, eq_ix1 y⟩
  rw [ref_lse, ← h]
  exact (diag_at _ b).trans (last_row m c b)

end Cert.Value
end
-- ==== Proof.Value.Cand.lean ====
module

public import proofs.«01_k».proof.Proof.Value.LseEq

/-!   The kernel's candidates, element by element. -/

@[expose] public section

set_option maxRecDepth 16384

noncomputable section

namespace Cert.Value

open Cert.Kernel Cert.Kernel.Gen Cert.Kernel.Hand Idealize.ShloMosaic Idealize.ShloMosaic.TcCoe

/-- Row `j` of the picked lanes: where lane `w % 128` of block `w / 128` of that row's logits is taken, over what was picked before. -/
def pick1 (Zf : S6x32000.Idx → EReal) (j : BitVec 32) (w : BitVec 32) (p : FVec Ideal S6x128 .f32) : FVec Ideal S6x128 .f32 :=
  select (andi (cmpi .eq (extractStridedSlice S6x128 ![0, 0] i8r slices_S8x128_o0_0_S6x128) (broadcast S6x128 j))
    (cmpi .eq (extractStridedSlice S6x128 ![0, 0] i8l slices_S8x128_o0_0_S6x128) (broadcast S6x128 (Scalar.subi w (Scalar.andi w 4294967168#32)))))
    (zbk (F := Ideal) Zf w) p

def picks (Zf : S6x32000.Idx → EReal) (w : ℕ → BitVec 32) : FVec Ideal S6x128 .f32 :=
  pick1 Zf 5#32 (w 5) (pick1 Zf 4#32 (w 4) (pick1 Zf 3#32 (w 3) (pick1 Zf 2#32 (w 2) (pick1 Zf 1#32 (w 1) (pick1 Zf 0#32 (w 0)
    (broadcast S6x128 (Scalar.ofBits .f32 0x00000000#32 : Ideal .f32)))))))

/-- The picked logits less the logarithms, as a row. -/
def lessRow (p : FVec Ideal S6x128 .f32) (v : FVec Ideal S8x1 .f32) : FVec Ideal S1x6 .f32 :=
  shapeCast S1x6 (shapeCast S1x6 (multiReduction .add [0] S6
    (select (extractStridedSlice S6x6 ![0, 0] (k0_pay210 i8r i8l) slices_S8x6_o0_0_S6x6)
      (broadcastTo S6x6 (shapeCast S6x1 (subf (shapeCast S6x1 (multiReduction .add [1] S6 p 0x00000000#32 reduces_S6x128_S6 (.inl rfl) rfl) shapeCasts_S6_S6x1)
        (extractStridedSlice S6x1 ![0, 0] v slices_S8x1_o0_0_S6x1)) shapeCasts_S6x1_S6x1) broadcasts_S6x1_S6x6)
      (broadcast S6x6 (Scalar.ofBits .f32 0x00000000#32 : Ideal .f32))) 0x00000000#32 reduces_S6x6_S6 (.inl rfl) rfl) shapeCasts_S6_S1x6) shapeCasts_S1x6_S1x6

variable (Cn : S4x6.Idx → BitVec 32) (Zf : S6x32000.Idx → EReal) (v : FVec Ideal S8x1 .f32)

theorem row0_eq : row0 (F := Ideal) Cn Zf v = lessRow (picks Zf fun j => wd (F := Ideal) Cn 0 j) v := rfl
theorem row1_eq : row1 (F := Ideal) Cn Zf v = lessRow (picks Zf fun j => wd (F := Ideal) Cn 1 j) v := rfl
theorem row2_eq : row2 (F := Ideal) Cn Zf v = lessRow (picks Zf fun j => wd (F := Ideal) Cn 2 j) v := rfl
theorem row3_eq : row3 (F := Ideal) Cn Zf v = lessRow (picks Zf fun j => wd (F := Ideal) Cn 3 j) v := rfl

theorem lessRow_at (p : FVec Ideal S6x128 .f32) (b : Fin 6) :
    lessRow p v (ix2 (0 : Fin 1) b) = HSub.hSub (α := EReal) (β := EReal) (γ := EReal) (∑ l : Fin 128, (p (ix2 b l) : EReal)) (v (ix2 (⟨b.val, by omega⟩ : Fin 8) (0 : Fin 1))) := by
  have h : lessRow p v (ix2 (0 : Fin 1) b) = ∑ r : Fin 6, (if r.val = b.val then
      HSub.hSub (α := EReal) (β := EReal) (γ := EReal) (∑ l : Fin 128, (p (ix2 r l) : EReal)) (v (ix2 (⟨r.val, by omega⟩ : Fin 8) (0 : Fin 1))) else 0 : EReal) := by
    pointwise [lessRow, k0_pay210]
    refine congrArg (fun f : Fin 6 → EReal => ∑ r, f r) (funext fun r => ?_)
    have key : ∀ (r : Fin 6) (b : Fin 6), IntOp.cmpi .eq (BitVec.ofNat 32 r.val) (BitVec.ofNat 32 b.val) = if r.val = b.val then 1#1 else 0#1 := by decide
    rw [key]
    by_cases hrb : r.val = b.val
    · rw [if_pos hrb, if_pos hrb]; rfl
    · rw [if_neg hrb, if_neg hrb]; rfl
  rw [h]
  refine (Finset.sum_eq_single b (fun r _ hr => if_neg fun h => hr (Fin.ext h)) (fun h => absurd (Finset.mem_univ _) h)).trans ?_
  exact if_pos rfl

theorem pick1_at (j w : BitVec 32) (p : FVec Ideal S6x128 .f32) (r : Fin 6) (l : Fin 128) :
    pick1 Zf j w p (ix2 r l) = Scalar.select (IntOp.andi (IntOp.cmpi .eq (BitVec.ofNat 32 r.val) j) (IntOp.cmpi .eq (BitVec.ofNat 32 l.val) (Scalar.subi w (Scalar.andi w 4294967168#32))))
      (zbk (F := Ideal) Zf w (ix2 r l)) (p (ix2 r l)) := by
  pointwise [pick1]

theorem pick1_other (j w : BitVec 32) (p : FVec Ideal S6x128 .f32) (r : Fin 6) (l : Fin 128) (h : IntOp.cmpi .eq (BitVec.ofNat 32 r.val) j = 0#1) :
    pick1 Zf j w p (ix2 r l) = p (ix2 r l) := by
  rw [pick1_at, h]
  have : ∀ x : BitVec 1, IntOp.andi 0#1 x = 0#1 := by decide
  rw [this]; rfl

theorem pick1_own (j w : BitVec 32) (p : FVec Ideal S6x128 .f32) (r : Fin 6) (l : Fin 128) (h : IntOp.cmpi .eq (BitVec.ofNat 32 r.val) j = 1#1) :
    pick1 Zf j w p (ix2 r l) = Scalar.select (IntOp.cmpi .eq (BitVec.ofNat 32 l.val) (Scalar.subi w (Scalar.andi w 4294967168#32))) (zbk (F := Ideal) Zf w (ix2 r l)) (p (ix2 r l)) := by
  rw [pick1_at, h]
  have : ∀ x : BitVec 1, IntOp.andi 1#1 x = x := by decide
  rw [this]

theorem picks_at (w : ℕ → BitVec 32) (r : Fin 6) (l : Fin 128) :
    picks Zf w (ix2 r l) = Scalar.select (IntOp.cmpi .eq (BitVec.ofNat 32 l.val) (Scalar.subi (w r.val) (Scalar.andi (w r.val) 4294967168#32))) (zbk (F := Ideal) Zf (w r.val) (ix2 r l)) (0 : EReal) := by
  have h0 : (broadcast S6x128 (Scalar.ofBits .f32 0x00000000#32 : Ideal .f32)) (ix2 r l) = (0 : EReal) := Ideal.ofBits_zero_f32
  unfold picks
  fin_cases r
  · rw [pick1_other _ _ _ _ _ _ (by decide), pick1_other _ _ _ _ _ _ (by decide), pick1_other _ _ _ _ _ _ (by decide), pick1_other _ _ _ _ _ _ (by decide), pick1_other _ _ _ _ _ _ (by decide), pick1_own _ _ _ _ _ _ (by decide)]
    exact congrArg _ h0
  · rw [pick1_other _ _ _ _ _ _ (by decide), pick1_other _ _ _ _ _ _ (by decide), pick1_other _ _ _ _ _ _ (by decide), pick1_other _ _ _ _ _ _ (by decide), pick1_own _ _ _ _ _ _ (by decide), pick1_other _ _ _ _ _ _ (by decide)]
    exact congrArg _ h0
  · rw [pick1_other _ _ _ _ _ _ (by decide), pick1_other _ _ _ _ _ _ (by decide), pick1_other _ _ _ _ _ _ (by decide), pick1_own _ _ _ _ _ _ (by decide), pick1_other _ _ _ _ _ _ (by decide), pick1_other _ _ _ _ _ _ (by decide)]
    exact congrArg _ h0
  · rw [pick1_other _ _ _ _ _ _ (by decide), pick1_other _ _ _ _ _ _ (by decide), pick1_own _ _ _ _ _ _ (by decide), pick1_other _ _ _ _ _ _ (by decide), pick1_other _ _ _ _ _ _ (by decide), pick1_other _ _ _ _ _ _ (by decide)]
    exact congrArg _ h0
  · rw [pick1_other _ _ _ _ _ _ (by decide), pick1_own _ _ _ _ _ _ (by decide), pick1_other _ _ _ _ _ _ (by decide), pick1_other _ _ _ _ _ _ (by decide), pick1_other _ _ _ _ _ _ (by decide), pick1_other _ _ _ _ _ _ (by decide)]
    exact congrArg _ h0
  · rw [pick1_own _ _ _ _ _ _ (by decide), pick1_other _ _ _ _ _ _ (by decide), pick1_other _ _ _ _ _ _ (by decide), pick1_other _ _ _ _ _ _ (by decide), pick1_other _ _ _ _ _ _ (by decide), pick1_other _ _ _ _ _ _ (by decide)]
    exact congrArg _ h0

/-- A word is its multiple of 128 and its lane. -/
theorem lane_toNat (w : BitVec 32) : (w &&& 4294967168#32).toNat = 128 * (w.toNat / 128) ∧ (w - (w &&& 4294967168#32)).toNat = w.toNat % 128 := by
  have h : (w &&& 4294967168#32) = (w >>> 7) <<< 7 := by
    ext i hi
    simp only [BitVec.getElem_and, BitVec.getElem_shiftLeft, BitVec.getElem_ushiftRight]
    interval_cases i <;> simp
  have h1 : (w &&& 4294967168#32).toNat = 128 * (w.toNat / 128) := by
    rw [h, BitVec.toNat_shiftLeft, BitVec.toNat_ushiftRight, Nat.shiftRight_eq_div_pow, Nat.shiftLeft_eq]
    have := w.isLt
    rw [Nat.mod_eq_of_lt (by omega)]; omega
  refine ⟨h1, ?_⟩
  rw [BitVec.toNat_sub, h1]
  have := w.isLt
  omega

theorem sum_picks (w : ℕ → BitVec 32) (b : Fin 6) (hw : (w b.val).toNat < 32000) :
    ∑ l : Fin 128, (picks Zf w (ix2 b l) : EReal) = Zf (ix2 b (⟨(w b.val).toNat, hw⟩ : Fin 32000)) := by
  obtain ⟨e1, e2⟩ := lane_toNat (w b.val)
  refine (Finset.sum_eq_single (⟨(w b.val).toNat % 128, Nat.mod_lt _ (by decide)⟩ : Fin 128) (fun l _ hl => ?_) (fun h => absurd (Finset.mem_univ _) h)).trans ?_
  · rw [picks_at]
    have hne : BitVec.ofNat 32 l.val ≠ Scalar.subi (w b.val) (Scalar.andi (w b.val) 4294967168#32) := by
      intro h
      have h2 := congrArg BitVec.toNat h
      have hl' := l.isLt
      rw [BitVec.toNat_ofNat, Nat.mod_eq_of_lt (by omega)] at h2
      exact hl (Fin.ext (h2.trans e2))
    have : IntOp.cmpi .eq (BitVec.ofNat 32 l.val) (Scalar.subi (w b.val) (Scalar.andi (w b.val) 4294967168#32)) = 0#1 := by
      show BitVec.ofBool (_ == _) = 0#1
      rw [beq_eq_false_iff_ne.mpr hne]; rfl
    rw [this]; rfl
  · rw [picks_at]
    have heq : BitVec.ofNat 32 ((w b.val).toNat % 128) = Scalar.subi (w b.val) (Scalar.andi (w b.val) 4294967168#32) := by
      apply BitVec.eq_of_toNat_eq
      rw [BitVec.toNat_ofNat, Nat.mod_eq_of_lt (by omega)]
      exact e2.symm
    have : IntOp.cmpi .eq (BitVec.ofNat 32 ((w b.val).toNat % 128)) (Scalar.subi (w b.val) (Scalar.andi (w b.val) 4294967168#32)) = 1#1 := by
      show BitVec.ofBool (_ == _) = 1#1
      rw [beq_iff_eq.mpr heq]; rfl
    show Scalar.select (IntOp.cmpi .eq (BitVec.ofNat 32 ((w b.val).toNat % 128)) _) _ _ = _
    rw [this]
    show Zf (ix2 ⟨b.val % 6, _⟩ ⟨((w b.val &&& 4294967168#32).toNat + (w b.val).toNat % 128) % 32000, _⟩) = _
    refine congrArg Zf (congrArg₂ ix2 (Fin.ext (Nat.mod_eq_of_lt b.isLt)) (Fin.ext ?_))
    show ((w b.val &&& 4294967168#32).toNat + (w b.val).toNat % 128) % 32000 = (w b.val).toNat
    rw [e1]; omega

theorem candV_at (n : Fin 4) (b : Fin 6) (hw : (Cn (ix2 n b)).toNat < 32000) :
    candV (F := Ideal) Cn Zf v (ix2 n b) = HSub.hSub (α := EReal) (β := EReal) (γ := EReal) (Zf (ix2 b (⟨(Cn (ix2 n b)).toNat, hw⟩ : Fin 32000))) (v (ix2 (⟨b.val, by omega⟩ : Fin 8) (0 : Fin 1))) := by
  have hb := b.isLt
  have hn := n.isLt
  have ew : wd (F := Ideal) Cn n.val b.val = Cn (ix2 n b) := congrArg Cn (congrArg₂ ix2 (Fin.ext (Nat.mod_eq_of_lt hn)) (Fin.ext (Nat.mod_eq_of_lt hb)))
  have hr : candV (F := Ideal) Cn Zf v (ix2 n b) = lessRow (picks Zf fun j => wd (F := Ideal) Cn n.val j) v (ix2 (0 : Fin 1) b) := by
    fin_cases n
    · exact congrFun (row0_eq Cn Zf v) _
    · exact congrFun (row1_eq Cn Zf v) _
    · exact congrFun (row2_eq Cn Zf v) _
    · exact congrFun (row3_eq Cn Zf v) _
  have hw' : (wd (F := Ideal) Cn n.val b.val : BitVec 32).toNat < 32000 := by rw [ew]; exact hw
  rw [hr, lessRow_at, sum_picks Zf _ b hw']
  refine congrArg (fun z : EReal => z - _) (congrArg Zf (congrArg (ix2 b) (Fin.ext ?_)))
  show (wd (F := Ideal) Cn n.val b.val : BitVec 32).toNat = _
  rw [ew]

end Cert.Value
end
-- ==== Proof.Value.RefCand.lean ====
module

public import proofs.«01_k».proof.Proof.Value.RefLse

/-!   The reference's candidates, element by element. -/

@[expose] public section

set_option maxRecDepth 16384

noncomputable section

namespace Cert.Value

open Cert.ReferenceIdeal Cert.ReferenceIdeal.Gen Cert.ReferenceIdeal.Value Idealize.ShloMosaic Idealize.ShloMosaic.TcCoe

/-- A gather along axis 1 of a matrix, one column per row and place. -/
abbrev takeCols (N C B : ℕ) (wf : GatherDims.WF ⟨2, ![N, C]⟩ ⟨3, ![N, B, 1]⟩ ⟨2, ![N, B]⟩ [] [1] [0] [1] [0] 2 ![1, 1]) :
    GatherDims ⟨2, ![N, C]⟩ ⟨3, ![N, B, 1]⟩ ⟨2, ![N, B]⟩ where
  offsetDims := []
  collapsedSliceDims := [1]
  operandBatchingDims := [0]
  startIndicesBatchingDims := [0]
  startIndexMap := [1]
  indexVectorDim := 2
  sliceSizes := ![1, 1]
  wf := wf

/-- Its element at `(b, n)`: the matrix at row `b`, in the column the index names, clamped. -/
theorem takeCols_at {α : Type} {N C B w : ℕ} (hC : 0 < C) (wf : GatherDims.WF ⟨2, ![N, C]⟩ ⟨3, ![N, B, 1]⟩ ⟨2, ![N, B]⟩ [] [1] [0] [1] [0] 2 ![1, 1])
    (x : (⟨2, ![N, C]⟩ : Shape).Idx → α) (idx : IVec ⟨3, ![N, B, 1]⟩ w) (b : Fin N) (n : Fin B) :
    Host.gather (takeCols N C B wf) x idx (ix2 b n) = x (ix2 b ⟨min (idx (ix3 b n (0 : Fin 1))).toInt.toNat (C - 1), by omega⟩) := by
  unfold Host.gather
  congr 1
  funext a
  refine Fin.ext ?_
  show (takeCols N C B wf).start (ix2 b n) idx a + (takeCols N C B wf).batchCoord (ix2 b n) a
      + (takeCols N C B wf).offCoord (ix2 b n) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeCols N C B wf).startIndexMap from List.mem_singleton.mpr rfl)]
    have hsi : (takeCols N C B wf).siIdx (ix2 b n) ⟨List.idxOf (1 : Fin 2) (takeCols N C B wf).startIndexMap,
        List.idxOf_lt_length_iff.2 (List.mem_singleton.mpr rfl)⟩ = ix3 b n (0 : Fin 1) := by
      funext d; refine Fin.ext ?_
      match d with
      | ⟨0, _⟩ => rfl
      | ⟨1, _⟩ => rfl
      | ⟨2, _⟩ => rfl
    rw [hsi]
    rfl

/-- The conjunction of bits that are all set is set. -/
theorem all_one {s t u : Shape} {axes : List (Fin s.rank)} (x : s.Idx → BitVec 1) (init : u.Idx → BitVec 1) (h : s.ReducesTo axes t) (hu : 0 < u.numel) (j : t.Idx)
    (hi : ∀ i, init i = 1#1) (hx : ∀ i, x i = 1#1) : Host.reduce IntOp.andi x init h hu j = 1#1 := by
  rw [Host.reduce_eq_foldl, hi]
  generalize ((List.finRange s.numel).map s.rowMajor.symm).filter (fun i => h.drop i = j) = l
  induction l with
  | nil => rfl
  | cons a l ih =>
    rw [List.foldl_cons, hx a]
    exact ih

theorem toInt_col (x : BitVec 32) (h : x.toNat < 32000) : x.toInt = x.toNat := by
  have := BitVec.toInt_eq_toNat_cond x
  split at this <;> omega

theorem col_slt (x : BitVec 32) (h : x.toNat < 32000) : IntOp.cmpi .slt x 0#32 = 0#1 := by
  show BitVec.ofBool (x.slt 0#32) = 0#1
  have : x.slt 0#32 = false := by
    rw [Bool.eq_false_iff]
    intro hc
    rw [BitVec.slt_iff_toInt_lt, toInt_col x h] at hc
    have e0 : (0#32).toInt = 0 := by decide
    omega
  rw [this]; rfl

theorem col_sge (x : BitVec 32) (h : x.toNat < 32000) : IntOp.cmpi .sge x 0#32 = 1#1 := by
  show BitVec.ofBool ((0#32).sle x) = 1#1
  have : (0#32).sle x = true := by
    rw [BitVec.sle_iff_toInt_le, toInt_col x h]
    have e0 : (0#32).toInt = 0 := by decide
    omega
  rw [this]; rfl

theorem col_sle (x : BitVec 32) (h : x.toNat < 32000) : IntOp.cmpi .sle x 31999#32 = 1#1 := by
  show BitVec.ofBool (x.sle 31999#32) = 1#1
  have : x.sle 31999#32 = true := by
    rw [BitVec.sle_iff_toInt_le, toInt_col x h]
    have e0 : (31999#32).toInt = 31999 := by decide
    omega
  rw [this]; rfl

variable (V : Valuation τ sig (Elt Ideal))

/-- The candidates as the reference reads them, negative ones wrapped. -/
theorem wrapped_at (A : IVec S6x4 32) (b : Fin 6) (n : Fin 4) (h : (A (ix2 b n)).toNat < 32000) :
    (shapeCast S6x4x1 (select (cmpi .slt A (broadcastInDim S6x4 ![] bcast_S_S6x4 (constantI S_ 32 0#32))) (addi A (broadcastInDim S6x4 ![] bcast_S_S6x4 (constantI S_ 32 32000#32))) A) shapeCasts_S6x4_S6x4x1 : IVec S6x4x1 32) (ix3 b n (0 : Fin 1)) = A (ix2 b n) := by
  pointwise
  rw [col_slt _ h]
  rfl

/-- The reference's second result. -/
abbrev candR : FVec Ideal S6x4 .f32 :=
  subf (select (Host.reduce IntOp.andi (andi (cmpi .sge (res_main_call2_v5 V) (broadcastInDim S6x4x1 ![] bcast_S_S6x4x1 (constantI S_ 32 0#32))) (cmpi .sle (res_main_call2_v5 V) (broadcastInDim S6x4x1 ![0, 1, 2] bcast_S1x1x1_S6x4x1_0_1_2 (broadcastInDim S1x1x1 ![2] bcast_S1_S1x1x1_2 (constantI S1 32 31999#32))))) (constantI S_ 1 1#1) reducesTo_S6x4x1_S6x4_d2 h_S_) (Host.gather gather_S6x32000_S6x4x1_S6x4_n_1_0_0_1_2_11 (res_main_v48 V) (res_main_call2_v5 V)) (broadcastInDim S6x4 ![] bcast_S_S6x4 (constant S_ .f32 0x7FC00000#32))) (broadcastInDim S6x4 ![0, 1] bcast_S6x1_S6x4_0_1 (broadcastInDim S6x1 ![0] bcast_S6_S6x1_0 (lseV V)))

theorem bounds_one (I : IVec S6x4x1 32) (hI : ∀ i, (I i).toNat < 32000) (j : S6x4.Idx) :
    Host.reduce IntOp.andi (andi (cmpi .sge I (broadcastInDim S6x4x1 ![] bcast_S_S6x4x1 (constantI S_ 32 0#32))) (cmpi .sle I (broadcastInDim S6x4x1 ![0, 1, 2] bcast_S1x1x1_S6x4x1_0_1_2 (broadcastInDim S1x1x1 ![2] bcast_S1_S1x1x1_2 (constantI S1 32 31999#32))))) (constantI S_ 1 1#1) reducesTo_S6x4x1_S6x4_d2 h_S_ j = 1#1 := by
  refine all_one _ _ _ _ j (fun _ => rfl) fun i => ?_
  show IntOp.andi (IntOp.cmpi .sge (I i) 0#32) (IntOp.cmpi .sle (I i) 31999#32) = 1#1
  rw [col_sge _ (hI i), col_sle _ (hI i)]
  rfl

theorem less_at (g : IVec S6x4 1) (x q : FVec Ideal S6x4 .f32) (l : FVec Ideal S6 .f32) (b : Fin 6) (n : Fin 4) (hg : g (ix2 b n) = 1#1) :
    (subf (select g x q) (broadcastInDim S6x4 ![0, 1] bcast_S6x1_S6x4_0_1 (broadcastInDim S6x1 ![0] bcast_S6_S6x1_0 l)) : FVec Ideal S6x4 .f32) (ix2 b n)
      = HSub.hSub (α := EReal) (β := EReal) (γ := EReal) (x (ix2 b n)) (l (ix1 b)) := by
  pointwise
  rw [hg]
  rfl

theorem call_at (A : IVec S6x4 32) (hA : V (Proc.devRef .tc main_arg9) = A) (b : Fin 6) (n : Fin 4) (h : (A (ix2 b n)).toNat < 32000) :
    (res_main_call2_v5 V : IVec S6x4x1 32) (ix3 b n (0 : Fin 1)) = A (ix2 b n) := by
  unfold res_main_call2_v5
  rw [hA]
  exact wrapped_at A b n h

theorem candR_at (A : IVec S6x4 32) (hA : V (Proc.devRef .tc main_arg9) = A) (h : ∀ y, (A y).toNat < 32000) (b : Fin 6) (n : Fin 4) :
    candR V (ix2 b n) = HSub.hSub (α := EReal) (β := EReal) (γ := EReal) (res_main_v48 V (ix2 b ⟨(A (ix2 b n)).toNat, h _⟩)) (lseV V (ix1 b)) := by
  have hI : ∀ i, ((res_main_call2_v5 V : IVec S6x4x1 32) i).toNat < 32000 := fun i => by
    obtain ⟨b', n', z, rfl⟩ : ∃ (b' : Fin 6) (n' : Fin 4) (z : Fin 1), i = ix3 b' n' z := ⟨i 0, i 1, i 2, eq_ix3 i⟩
    obtain rfl : z = 0 := Subsingleton.elim _ _
    rw [call_at V A hA b' n' (h _)]
    exact h _
  refine (less_at _ _ _ (lseV V) b n (bounds_one (res_main_call2_v5 V) hI (ix2 b n))).trans ?_
  refine congrArg (fun z : EReal => HSub.hSub (α := EReal) (β := EReal) (γ := EReal) z (lseV V (ix1 b))) ?_
  refine (takeCols_at (N := 6) (C := 32000) (B := 4) (by omega) gather_S6x32000_S6x4x1_S6x4_n_1_0_0_1_2_11_wf (res_main_v48 V) (res_main_call2_v5 V) b n).trans ?_
  refine congrArg (res_main_v48 V) (congrArg (ix2 b) (Fin.ext ?_))
  show min ((res_main_call2_v5 V : IVec S6x4x1 32) (ix3 b n (0 : Fin 1))).toInt.toNat (32000 - 1) = _
  rw [call_at V A hA b n (h _), toInt_col _ (h _)]
  have := h (ix2 b n)
  show min ((A (ix2 b n)).toNat : ℤ).toNat (32000 - 1) = (A (ix2 b n)).toNat
  rw [Int.toNat_natCast]
  omega

end Cert.Value
-- ==== Proof.Value.CandEq.lean ====
module

public import proofs.«01_k».proof.Proof.Value.Cand
public import proofs.«01_k».proof.Proof.Value.RefCand

/-!   The kernel's second result is the reference's, once the logits are. -/

@[expose] public section

set_option maxRecDepth 16384

noncomputable section

namespace Cert.Value

open Cert.Kernel Cert.Kernel.Gen Cert.Kernel.Hand Idealize.ShloMosaic Idealize.ShloMosaic.TcCoe

theorem turned_at {α : Type} (x : S4x6.Idx → α) (b : Fin 6) (n : Fin 4) :
    transpose S6x4 [1, 0] x transposes_S4x6_S6x4_1_0 (ix2 b n) = x (ix2 n b) := by
  pointwise

theorem given_at {α : Type} (x : S6x4.Idx → α) (b : Fin 6) (n : Fin 4) :
    transpose S4x6 [1, 0] x transposes_S6x4_S4x6_1_0 (ix2 n b) = x (ix2 b n) := by
  pointwise

theorem cand_eq (m : (ℓ : Loc Cert.Kernel.nD Cert.Kernel.τ Cert.Kernel.sig) → Buf (Elt Ideal) ℓ) (c : Dev Cert.Kernel.nD)
    (W : Valuation Cert.ReferenceIdeal.τ Cert.ReferenceIdeal.sig (Elt Ideal)) (A : IVec S6x4 32)
    (hA : m ((c : Thread Cert.Kernel.nD Cert.Kernel.τ).loc main_arg9) = A) (hW : W (Proc.devRef .tc Cert.ReferenceIdeal.main_arg9) = A)
    (hr : ∀ y, (show BitVec 32 from V m c main_v0 y).toNat < 32000)
    (h : zV (F := Ideal) m c = Cert.ReferenceIdeal.Value.res_main_v48 W) :
    transpose S6x4 [1, 0] (cV (F := Ideal) m c) transposes_S4x6_S6x4_1_0 = candR W := by
  have e : ∀ (b : Fin 6) (n : Fin 4), (V m c main_v0 : IVec S4x6 32) (ix2 n b) = A (ix2 b n) := fun b n => by
    rw [V_v0, hA]
    exact given_at A b n
  have hAr : ∀ y, (A y).toNat < 32000 := fun y => by
    obtain ⟨b, n, rfl⟩ : ∃ (b : Fin 6) (n : Fin 4), y = ix2 b n := ⟨y 0, y 1, eq_ix2 y⟩
    rw [← e b n]
    exact hr _
  funext y
  obtain ⟨b, n, rfl⟩ : ∃ (b : Fin 6) (n : Fin 4), y = ix2 b n := ⟨y 0, y 1, eq_ix2 y⟩
  refine (turned_at _ b n).trans ?_
  refine (candV_at _ _ _ n b (hr _)).trans ?_
  refine Eq.trans ?_ (candR_at W A hW hAr b n).symm
  rw [ref_lse, ← h]
  refine congrArg₂ (fun a l : EReal => a - l) ?_ (last_row m c b)
  exact congrArg (zV (F := Ideal) m c) (congrArg (ix2 b) (Fin.ext (congrArg BitVec.toNat (e b n))))

end Cert.Value
end
-- ==== Proof.lean ====
module

public import proofs.«01_k».proof.Defs
public import proofs.«01_k».proof.Proof.Gen.ReferenceIdeal.Run
public import proofs.«01_k».proof.Proof.Value.Pre
public import proofs.«01_k».proof.Proof.Value.Logits
public import proofs.«01_k».proof.Proof.Value.CandEq

@[expose] public section

noncomputable section

namespace Cert.Proof

open Idealize.ShloMosaic Idealize.ShloMosaic.TcCoe Idealize.SL.Sem

theorem frame_kernel : @Cert.quiescent_Kernel Cert.Kernel.Gen.facts Cert.Value.pre_facts := fun m g h =>
  (θ_run _ _ _).mono (fun _ r => ⟨fun c => (r.1 c).2.2.2, r.2⟩)
    (Cert.Kernel.Hand.run_main (F := Bits) m g (Cert.Value.cand_ok (F := Bits) m h))

theorem frame_kernelIdeal : @Cert.quiescent_KernelIdeal Cert.KernelIdeal.Gen.facts Cert.Value.pre_facts := fun m g h =>
  (Cert.Value.run_twin (F := Ideal) m g _).mpr
    ((θ_run _ _ _).mono (fun _ r => ⟨fun c => (r.1 c).2.2.2, r.2⟩)
      (Cert.Kernel.Hand.run_main (F := Ideal) m g (Cert.Value.cand_ok (F := Ideal) m h)))

theorem frame_referenceIdeal : @Cert.quiescent_ReferenceIdeal Cert.ReferenceIdeal.Gen.facts := fun m g _ =>
  Cert.ReferenceIdeal.Gen.frame (F := Ideal) m g

theorem frame_referenceIdeal_pre : @Cert.quiescent_ReferenceIdeal_pre_in_range Cert.ReferenceIdeal.Gen.facts Cert.Value.pre_facts := fun m g _ =>
  Cert.ReferenceIdeal.Gen.frame (F := Ideal) m g

theorem algebraic : @Cert.algebraic_KernelIdeal_ReferenceIdeal Cert.KernelIdeal.Gen.facts Cert.ReferenceIdeal.Gen.facts Cert.Value.pre_facts := fun m g m' g' hpre hag =>
  have hz := fun c => Cert.Value.logits_eq m m' c (hag c).1 (hag c).2.1 (hag c).2.2.1 (hag c).2.2.2.1 (hag c).2.2.2.2.1
    (hag c).2.2.2.2.2.1 (hag c).2.2.2.2.2.2.1 (hag c).2.2.2.2.2.2.2.1 (hag c).2.2.2.2.2.2.2.2.1
  have hc := fun c => Cert.Value.cand_eq m c (Cert.ReferenceIdeal.Value.exitV m' c) _ rfl
    ((Cert.ReferenceIdeal.Value.exit_main_arg9 m' c).trans (hag c).2.2.2.2.2.2.2.2.2) (Cert.Value.cand_ok (F := Ideal) m hpre c) (hz c)
  ⟨fun c => Cert.Kernel.Hand.lV (F := Ideal) m c,
    fun c => transpose Cert.Kernel.S6x4 [1, 0] (Cert.Kernel.Hand.cV (F := Ideal) m c) Cert.Kernel.Gen.transposes_S4x6_S6x4_1_0,
    fun c => Cert.Kernel.Hand.zV (F := Ideal) m c,
    (Cert.Value.run_twin (F := Ideal) m g _).mpr
      (Cert.Kernel.Hand.run_main (F := Ideal) m g (Cert.Value.cand_ok (F := Ideal) m hpre) |> (θ_run _ _ _).mono (fun _ r => r.1)),
    (θ_run _ _ _).mono (fun _ r c => ⟨(r c).1.trans (Cert.Value.lse_eq m c _ (hz c)).symm, (r c).2.1.trans (hc c).symm,
        (r c).2.2.1.trans (hz c).symm, (r c).2.2.2⟩)
      (Cert.ReferenceIdeal.Value.run (F := Ideal) m' g')⟩

theorem claim : Cert.Claim :=
  ⟨Cert.Kernel.Gen.facts, Cert.KernelIdeal.Gen.facts, Cert.ReferenceIdeal.Gen.facts, Cert.Value.pre_facts,
    frame_kernel, frame_kernelIdeal, frame_referenceIdeal, frame_referenceIdeal_pre, trivial, algebraic⟩

end Cert.Proof

end
